-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v25)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v25) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S12x2048x16x128 : Shape := ⟨4, ![12, 2048, 16, 128]⟩
abbrev S_ : Shape := ⟨0, ![]⟩

class Facts : Prop where
  bcast_S_S12x2048x16x128 : S_.BroadcastsInDim S12x2048x16x128 (![] : Fin 0 → Fin S12x2048x16x128.rank)
  reducesTo_S12x2048x16x128_S_d0_1_2_3 : S12x2048x16x128.ReducesTo [0, 1, 2, 3] S_
  h_S_ : 0 < S_.numel

variable [Facts]

def fn {F : FTy → Type} [FloatOps F] (main_arg0 : FVec F S12x2048x16x128 .f32) (main_arg1 : FVec F S12x2048x16x128 .f32) (main_arg2 : FVec F S12x2048x16x128 .f32) : IVec S_ 1 :=
  let main_v0 : FVec F S12x2048x16x128 .f32 := Host.absf main_arg0
  let main_cst : FVec F S_ .f32 := constant S_ .f32 0x7F800000#32
  let main_v1 : FVec F S12x2048x16x128 .f32 := broadcastInDim S12x2048x16x128 ![] bcast_S_S12x2048x16x128 main_cst
  let main_v2 : IVec S12x2048x16x128 1 := cmpf .olt main_v0 main_v1
  let main_c : IVec S_ 1 := constantI S_ 1 1#1
  let main_v3 : IVec S_ 1 := (fun x v => Host.reduce IntOp.andi x v reducesTo_S12x2048x16x128_S_d0_1_2_3 h_S_) main_v2 main_c
  let main_v4 : FVec F S12x2048x16x128 .f32 := Host.absf main_arg1
  let main_cst_0 : FVec F S_ .f32 := constant S_ .f32 0x7F800000#32
  let main_v5 : FVec F S12x2048x16x128 .f32 := broadcastInDim S12x2048x16x128 ![] bcast_S_S12x2048x16x128 main_cst_0
  let main_v6 : IVec S12x2048x16x128 1 := cmpf .olt main_v4 main_v5
  let main_c_1 : IVec S_ 1 := constantI S_ 1 1#1
  let main_v7 : IVec S_ 1 := (fun x v => Host.reduce IntOp.andi x v reducesTo_S12x2048x16x128_S_d0_1_2_3 h_S_) main_v6 main_c_1
  let main_v8 : IVec S_ 1 := andi main_v3 main_v7
  main_v8
-- ==== Kernel.lean ====
abbrev S12x2048x16x128 : Shape := ⟨4, ![12, 2048, 16, 128]⟩
abbrev S_ : Shape := ⟨0, ![]⟩
abbrev S12x16x2048x128 : Shape := ⟨4, ![12, 16, 2048, 128]⟩
abbrev S12x2048x2048 : Shape := ⟨3, ![12, 2048, 2048]⟩
abbrev S1x1x2048x128 : Shape := ⟨4, ![1, 1, 2048, 128]⟩
abbrev S1x2048x128 : Shape := ⟨3, ![1, 2048, 128]⟩
abbrev S2048x128 : Shape := ⟨2, ![2048, 128]⟩
abbrev S512x128 : Shape := ⟨2, ![512, 128]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S256x128 : Shape := ⟨2, ![256, 128]⟩
abbrev S256x256 : Shape := ⟨2, ![256, 256]⟩
abbrev S1x1x128x128 : Shape := ⟨4, ![1, 1, 128, 128]⟩
abbrev S1x1x256x128 : Shape := ⟨4, ![1, 1, 256, 128]⟩
abbrev S1x128x128 : Shape := ⟨3, ![1, 128, 128]⟩

abbrev nBuf : Space → Nat
  | .hbm => 18
  | .vmem => 26
  | .smem => 0
  | _ => 0

abbrev bufTy : (tb : Table) → Fin (tcTables nBuf tb) → BufTy
  | .hbm, ⟨0, _⟩ => ⟨S12x2048x16x128, .f32⟩
  | .hbm, ⟨1, _⟩ => ⟨S12x2048x16x128, .f32⟩
  | .hbm, ⟨2, _⟩ => ⟨S12x2048x16x128, .f32⟩
  | .hbm, ⟨3, _⟩ => ⟨S_, .f32⟩
  | .hbm, ⟨4, _⟩ => ⟨S12x2048x16x128, .f32⟩
  | .hbm, ⟨5, _⟩ => ⟨S12x2048x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S12x2048x16x128, .f32⟩
  | .hbm, ⟨10, _⟩ => ⟨S12x2048x16x128, .f32⟩
  | .hbm, ⟨11, _⟩ => ⟨S12x16x2048x128, .f32⟩
  | .hbm, ⟨12, _⟩ => ⟨S12x16x2048x128, .bf16⟩
  | .hbm, ⟨13, _⟩ => ⟨S12x16x2048x128, .f32⟩
  | .hbm, ⟨14, _⟩ => ⟨S12x16x2048x128, .bf16⟩
  | .hbm, ⟨15, _⟩ => ⟨S12x16x2048x128, .f32⟩
  | .hbm, ⟨16, _⟩ => ⟨S12x16x2048x128, .bf16⟩
  | .hbm, ⟨17, _⟩ => ⟨S12x2048x2048, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | _, _ => ⟨S12x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_scratch17 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12x2048x16x128 : Shape := ⟨4, ![12, 2048, 16, 128]⟩
abbrev S12x2048x1x16x128 : Shape := ⟨5, ![12, 2048, 1, 16, 128]⟩
abbrev S12x1x2048x16x128 : Shape := ⟨5, ![12, 1, 2048, 16, 128]⟩
abbrev S_ : Shape := ⟨0, ![]⟩
abbrev S12x1x32x64x16x128 : Shape := ⟨6, ![12, 1, 32, 64, 16, 128]⟩
abbrev S12x1x2176x16x128 : Shape := ⟨5, ![12, 1, 2176, 16, 128]⟩
abbrev S12x1x34x64x16x128 : Shape := ⟨6, ![12, 1, 34, 64, 16, 128]⟩
abbrev S12x1x32x192x16x128 : Shape := ⟨6, ![12, 1, 32, 192, 16, 128]⟩
abbrev S12x1x32x16x64x192 : Shape := ⟨6, ![12, 1, 32, 16, 64, 192]⟩
abbrev S32 : Shape := ⟨1, ![32]⟩
abbrev S32x1x1 : Shape := ⟨3, ![32, 1, 1]⟩
abbrev S64 : Shape := ⟨1, ![64]⟩
abbrev S1x64x1 : Shape := ⟨3, ![1, 64, 1]⟩
abbrev S32x64x1 : Shape := ⟨3, ![32, 64, 1]⟩
abbrev S192 : Shape := ⟨1, ![192]⟩
abbrev S1x1x192 : Shape := ⟨3, ![1, 1, 192]⟩
abbrev S32x1x192 : Shape := ⟨3, ![32, 1, 192]⟩
abbrev S32x64x192 : Shape := ⟨3, ![32, 64, 192]⟩
abbrev S1x1x32x1x64x192 : Shape := ⟨6, ![1, 1, 32, 1, 64, 192]⟩
abbrev S12x1x32x16x64 : Shape := ⟨5, ![12, 1, 32, 16, 64]⟩
abbrev S12x1x32x16x64x1 : Shape := ⟨6, ![12, 1, 32, 16, 64, 1]⟩
abbrev S12x1x32x16x128x64 : Shape := ⟨6, ![12, 1, 32, 16, 128, 64]⟩
abbrev S12x1x32x64x16 : Shape := ⟨5, ![12, 1, 32, 64, 16]⟩
abbrev S12x1x2048x16 : Shape := ⟨4, ![12, 1, 2048, 16]⟩
abbrev S12x2048x1x16 : Shape := ⟨4, ![12, 2048, 1, 16]⟩
abbrev S12x2048x16 : Shape := ⟨3, ![12, 2048, 16]⟩
abbrev S12x512x4x16x128 : Shape := ⟨5, ![12, 512, 4, 16, 128]⟩
abbrev S12x4x512x16x128 : Shape := ⟨5, ![12, 4, 512, 16, 128]⟩
abbrev S12x4x8x64x16x128 : Shape := ⟨6, ![12, 4, 8, 64, 16, 128]⟩
abbrev S12x4x640x16x128 : Shape := ⟨5, ![12, 4, 640, 16, 128]⟩
abbrev S12x4x10x64x16x128 : Shape := ⟨6, ![12, 4, 10, 64, 16, 128]⟩
abbrev S12x4x8x192x16x128 : Shape := ⟨6, ![12, 4, 8, 192, 16, 128]⟩
abbrev S12x4x8x16x64x192 : Shape := ⟨6, ![12, 4, 8, 16, 64, 192]⟩
abbrev S8 : Shape := ⟨1, ![8]⟩
abbrev S8x1x1 : Shape := ⟨3, ![8, 1, 1]⟩
abbrev S8x64x1 : Shape := ⟨3, ![8, 64, 1]⟩
abbrev S8x1x192 : Shape := ⟨3, ![8, 1, 192]⟩
abbrev S8x64x192 : Shape := ⟨3, ![8, 64, 192]⟩
abbrev S1x1x8x1x64x192 : Shape := ⟨6, ![1, 1, 8, 1, 64, 192]⟩
abbrev S12x4x8x16x64 : Shape := ⟨5, ![12, 4, 8, 16, 64]⟩
abbrev S12x4x8x16x64x1 : Shape := ⟨6, ![12, 4, 8, 16, 64, 1]⟩
abbrev S12x4x8x16x128x64 : Shape := ⟨6, ![12, 4, 8, 16, 128, 64]⟩
abbrev S12x4x8x64x16 : Shape := ⟨5, ![12, 4, 8, 64, 16]⟩
abbrev S12x4x512x16 : Shape := ⟨4, ![12, 4, 512, 16]⟩
abbrev S12x512x4x16 : Shape := ⟨4, ![12, 512, 4, 16]⟩
abbrev S12x128x16x16x128 : Shape := ⟨5, ![12, 128, 16, 16, 128]⟩
abbrev S12x16x128x16x128 : Shape := ⟨5, ![12, 16, 128, 16, 128]⟩
abbrev S12x16x2x64x16x128 : Shape := ⟨6, ![12, 16, 2, 64, 16, 128]⟩
abbrev S12x16x256x16x128 : Shape := ⟨5, ![12, 16, 256, 16, 128]⟩
abbrev S12x16x4x64x16x128 : Shape := ⟨6, ![12, 16, 4, 64, 16, 128]⟩
abbrev S12x16x2x192x16x128 : Shape := ⟨6, ![12, 16, 2, 192, 16, 128]⟩
abbrev S12x16x2x16x64x192 : Shape := ⟨6, ![12, 16, 2, 16, 64, 192]⟩
abbrev S2 : Shape := ⟨1, ![2]⟩
abbrev S2x1x1 : Shape := ⟨3, ![2, 1, 1]⟩
abbrev S2x64x1 : Shape := ⟨3, ![2, 64, 1]⟩
abbrev S2x1x192 : Shape := ⟨3, ![2, 1, 192]⟩
abbrev S2x64x192 : Shape := ⟨3, ![2, 64, 192]⟩
abbrev S1x1x2x1x64x192 : Shape := ⟨6, ![1, 1, 2, 1, 64, 192]⟩
abbrev S12x16x2x16x64 : Shape := ⟨5, ![12, 16, 2, 16, 64]⟩
abbrev S12x16x2x16x64x1 : Shape := ⟨6, ![12, 16, 2, 16, 64, 1]⟩
abbrev S12x16x2x16x128x64 : Shape := ⟨6, ![12, 16, 2, 16, 128, 64]⟩
abbrev S12x16x2x64x16 : Shape := ⟨5, ![12, 16, 2, 64, 16]⟩
abbrev S12x16x128x16 : Shape := ⟨4, ![12, 16, 128, 16]⟩
abbrev S12x128x16x16 : Shape := ⟨4, ![12, 128, 16, 16]⟩
abbrev S1x12x2048x16x128 : Shape := ⟨5, ![1, 12, 2048, 16, 128]⟩
abbrev S3x12x2048x16x128 : Shape := ⟨5, ![3, 12, 2048, 16, 128]⟩
abbrev S1x12x2048x16 : Shape := ⟨4, ![1, 12, 2048, 16]⟩
abbrev S3x12x2048x16 : Shape := ⟨4, ![3, 12, 2048, 16]⟩
abbrev S12x2048x2048 : Shape := ⟨3, ![12, 2048, 2048]⟩

abbrev nBuf : Space → Nat
  | .hbm => 325
  | .vmem => 0
  | .smem => 0
  | _ => 0

abbrev hbmTy0_0 (i : Nat) : BufTy := match i % 128 with
  | 0 => ⟨S12x2048x16x128, .f32⟩
  | 1 => ⟨S12x2048x16x128, .f32⟩
  | 2 => ⟨S12x2048x16x128, .f32⟩
  | 3 => ⟨S12x2048x1x16x128, .f32⟩
  | 4 => ⟨S12x1x2048x16x128, .f32⟩
  | 5 => ⟨S_, .i32⟩
  | 6 => ⟨S_, .f32⟩
  | 7 => ⟨S12x1x2048x16x128, .f32⟩
  | 8 => ⟨S12x1x32x64x16x128, .f32⟩
  | 9 => ⟨S12x2048x1x16x128, .f32⟩
  | 10 => ⟨S12x1x2048x16x128, .f32⟩
  | 11 => ⟨S_, .i32⟩
  | 12 => ⟨S_, .f32⟩
  | 13 => ⟨S12x1x2176x16x128, .f32⟩
  | 14 => ⟨S12x1x34x64x16x128, .f32⟩
  | 15 => ⟨S12x1x32x64x16x128, .f32⟩
  | 16 => ⟨S12x1x32x64x16x128, .f32⟩
  | 17 => ⟨S12x1x32x64x16x128, .f32⟩
  | 18 => ⟨S12x1x32x192x16x128, .f32⟩
  | 19 => ⟨S12x2048x1x16x128, .f32⟩
  | 20 => ⟨S12x1x2048x16x128, .f32⟩
  | 21 => ⟨S_, .i32⟩
  | 22 => ⟨S_, .f32⟩
  | 23 => ⟨S12x1x2176x16x128, .f32⟩
  | 24 => ⟨S12x1x34x64x16x128, .f32⟩
  | 25 => ⟨S12x1x32x64x16x128, .f32⟩
  | 26 => ⟨S12x1x32x64x16x128, .f32⟩
  | 27 => ⟨S12x1x32x64x16x128, .f32⟩
  | 28 => ⟨S12x1x32x192x16x128, .f32⟩
  | 29 => ⟨S12x1x32x16x64x192, .f32⟩
  | 30 => ⟨S_, .f32⟩
  | 31 => ⟨S12x1x32x16x64x192, .f32⟩
  | 32 => ⟨S12x1x32x16x64x192, .f32⟩
  | 33 => ⟨S32, .i32⟩
  | 34 => ⟨S32x1x1, .i32⟩
  | 35 => ⟨S_, .i32⟩
  | 36 => ⟨S32x1x1, .i32⟩
  | 37 => ⟨S32x1x1, .i32⟩
  | 38 => ⟨S64, .i32⟩
  | 39 => ⟨S1x64x1, .i32⟩
  | 40 => ⟨S32x64x1, .i32⟩
  | 41 => ⟨S32x64x1, .i32⟩
  | 42 => ⟨S32x64x1, .i32⟩
  | 43 => ⟨S32, .i32⟩
  | 44 => ⟨S32x1x1, .i32⟩
  | 45 => ⟨S_, .i32⟩
  | 46 => ⟨S32x1x1, .i32⟩
  | 47 => ⟨S32x1x1, .i32⟩
  | 48 => ⟨S_, .i32⟩
  | 49 => ⟨S32x1x1, .i32⟩
  | 50 => ⟨S32x1x1, .i32⟩
  | 51 => ⟨S192, .i32⟩
  | 52 => ⟨S1x1x192, .i32⟩
  | 53 => ⟨S32x1x192, .i32⟩
  | 54 => ⟨S32x1x192, .i32⟩
  | 55 => ⟨S32x1x192, .i32⟩
  | 56 => ⟨S32x64x192, .i32⟩
  | 57 => ⟨S32x64x192, .i32⟩
  | 58 => ⟨S32x64x192, .i32⟩
  | 59 => ⟨S32x64x192, .i32⟩
  | 60 => ⟨S_, .i32⟩
  | 61 => ⟨S32x64x192, .i32⟩
  | 62 => ⟨S32x64x192, .i1⟩
  | 63 => ⟨S_, .i32⟩
  | 64 => ⟨S32x1x192, .i32⟩
  | 65 => ⟨S32x1x192, .i1⟩
  | 66 => ⟨S32x64x192, .i1⟩
  | 67 => ⟨S32x64x192, .i1⟩
  | 68 => ⟨S_, .i32⟩
  | 69 => ⟨S32x1x192, .i32⟩
  | 70 => ⟨S32x1x192, .i1⟩
  | 71 => ⟨S32x64x192, .i1⟩
  | 72 => ⟨S32x64x192, .i1⟩
  | 73 => ⟨S1x1x32x1x64x192, .i1⟩
  | 74 => ⟨S_, .f32⟩
  | 75 => ⟨S_, .f32⟩
  | 76 => ⟨S12x1x32x16x64x192, .i1⟩
  | 77 => ⟨S12x1x32x16x64x192, .f32⟩
  | 78 => ⟨S12x1x32x16x64x192, .f32⟩
  | 79 => ⟨S_, .f32⟩
  | 80 => ⟨S12x1x32x16x64, .f32⟩
  | 81 => ⟨S12x1x32x16x64x1, .f32⟩
  | 82 => ⟨S12x1x32x16x64x192, .f32⟩
  | 83 => ⟨S12x1x32x16x64x192, .f32⟩
  | 84 => ⟨S12x1x32x16x64x192, .f32⟩
  | 85 => ⟨S_, .f32⟩
  | 86 => ⟨S12x1x32x16x64, .f32⟩
  | 87 => ⟨S12x1x32x16x64, .f32⟩
  | 88 => ⟨S12x1x32x16x64, .f32⟩
  | 89 => ⟨S12x1x32x16x64x1, .f32⟩
  | 90 => ⟨S12x1x32x16x64x192, .f32⟩
  | 91 => ⟨S12x1x32x16x64x192, .f32⟩
  | 92 => ⟨S12x1x32x16x64x192, .f32⟩
  | 93 => ⟨S12x1x32x16x128x64, .f32⟩
  | 94 => ⟨S12x1x32x64x16x128, .f32⟩
  | 95 => ⟨S12x1x2048x16x128, .f32⟩
  | 96 => ⟨S12x2048x1x16x128, .f32⟩
  | 97 => ⟨S12x2048x16x128, .f32⟩
  | 98 => ⟨S12x1x32x64x16, .f32⟩
  | 99 => ⟨S12x1x2048x16, .f32⟩
  | 100 => ⟨S12x2048x1x16, .f32⟩
  | 101 => ⟨S12x2048x16, .f32⟩
  | 102 => ⟨S12x512x4x16x128, .f32⟩
  | 103 => ⟨S12x4x512x16x128, .f32⟩
  | 104 => ⟨S_, .i32⟩
  | 105 => ⟨S_, .f32⟩
  | 106 => ⟨S12x4x512x16x128, .f32⟩
  | 107 => ⟨S12x4x8x64x16x128, .f32⟩
  | 108 => ⟨S12x512x4x16x128, .f32⟩
  | 109 => ⟨S12x4x512x16x128, .f32⟩
  | 110 => ⟨S_, .i32⟩
  | 111 => ⟨S_, .f32⟩
  | 112 => ⟨S12x4x640x16x128, .f32⟩
  | 113 => ⟨S12x4x10x64x16x128, .f32⟩
  | 114 => ⟨S12x4x8x64x16x128, .f32⟩
  | 115 => ⟨S12x4x8x64x16x128, .f32⟩
  | 116 => ⟨S12x4x8x64x16x128, .f32⟩
  | 117 => ⟨S12x4x8x192x16x128, .f32⟩
  | 118 => ⟨S12x512x4x16x128, .f32⟩
  | 119 => ⟨S12x4x512x16x128, .f32⟩
  | 120 => ⟨S_, .i32⟩
  | 121 => ⟨S_, .f32⟩
  | 122 => ⟨S12x4x640x16x128, .f32⟩
  | 123 => ⟨S12x4x10x64x16x128, .f32⟩
  | 124 => ⟨S12x4x8x64x16x128, .f32⟩
  | 125 => ⟨S12x4x8x64x16x128, .f32⟩
  | 126 => ⟨S12x4x8x64x16x128, .f32⟩
  | 127 => ⟨S12x4x8x192x16x128, .f32⟩
  | _ => ⟨S12x2048x16x128, .f32⟩

abbrev hbmTy0_1 (i : Nat) : BufTy := match i % 128 with
  | 0 => ⟨S12x4x8x16x64x192, .f32⟩
  | 1 => ⟨S_, .f32⟩
  | 2 => ⟨S12x4x8x16x64x192, .f32⟩
  | 3 => ⟨S12x4x8x16x64x192, .f32⟩
  | 4 => ⟨S8, .i32⟩
  | 5 => ⟨S8x1x1, .i32⟩
  | 6 => ⟨S_, .i32⟩
  | 7 => ⟨S8x1x1, .i32⟩
  | 8 => ⟨S8x1x1, .i32⟩
  | 9 => ⟨S64, .i32⟩
  | 10 => ⟨S1x64x1, .i32⟩
  | 11 => ⟨S8x64x1, .i32⟩
  | 12 => ⟨S8x64x1, .i32⟩
  | 13 => ⟨S8x64x1, .i32⟩
  | 14 => ⟨S8, .i32⟩
  | 15 => ⟨S8x1x1, .i32⟩
  | 16 => ⟨S_, .i32⟩
  | 17 => ⟨S8x1x1, .i32⟩
  | 18 => ⟨S8x1x1, .i32⟩
  | 19 => ⟨S_, .i32⟩
  | 20 => ⟨S8x1x1, .i32⟩
  | 21 => ⟨S8x1x1, .i32⟩
  | 22 => ⟨S192, .i32⟩
  | 23 => ⟨S1x1x192, .i32⟩
  | 24 => ⟨S8x1x192, .i32⟩
  | 25 => ⟨S8x1x192, .i32⟩
  | 26 => ⟨S8x1x192, .i32⟩
  | 27 => ⟨S8x64x192, .i32⟩
  | 28 => ⟨S8x64x192, .i32⟩
  | 29 => ⟨S8x64x192, .i32⟩
  | 30 => ⟨S8x64x192, .i32⟩
  | 31 => ⟨S_, .i32⟩
  | 32 => ⟨S8x64x192, .i32⟩
  | 33 => ⟨S8x64x192, .i1⟩
  | 34 => ⟨S_, .i32⟩
  | 35 => ⟨S8x1x192, .i32⟩
  | 36 => ⟨S8x1x192, .i1⟩
  | 37 => ⟨S8x64x192, .i1⟩
  | 38 => ⟨S8x64x192, .i1⟩
  | 39 => ⟨S_, .i32⟩
  | 40 => ⟨S8x1x192, .i32⟩
  | 41 => ⟨S8x1x192, .i1⟩
  | 42 => ⟨S8x64x192, .i1⟩
  | 43 => ⟨S8x64x192, .i1⟩
  | 44 => ⟨S1x1x8x1x64x192, .i1⟩
  | 45 => ⟨S_, .f32⟩
  | 46 => ⟨S_, .f32⟩
  | 47 => ⟨S12x4x8x16x64x192, .i1⟩
  | 48 => ⟨S12x4x8x16x64x192, .f32⟩
  | 49 => ⟨S12x4x8x16x64x192, .f32⟩
  | 50 => ⟨S_, .f32⟩
  | 51 => ⟨S12x4x8x16x64, .f32⟩
  | 52 => ⟨S12x4x8x16x64x1, .f32⟩
  | 53 => ⟨S12x4x8x16x64x192, .f32⟩
  | 54 => ⟨S12x4x8x16x64x192, .f32⟩
  | 55 => ⟨S12x4x8x16x64x192, .f32⟩
  | 56 => ⟨S_, .f32⟩
  | 57 => ⟨S12x4x8x16x64, .f32⟩
  | 58 => ⟨S12x4x8x16x64, .f32⟩
  | 59 => ⟨S12x4x8x16x64, .f32⟩
  | 60 => ⟨S12x4x8x16x64x1, .f32⟩
  | 61 => ⟨S12x4x8x16x64x192, .f32⟩
  | 62 => ⟨S12x4x8x16x64x192, .f32⟩
  | 63 => ⟨S12x4x8x16x64x192, .f32⟩
  | 64 => ⟨S12x4x8x16x128x64, .f32⟩
  | 65 => ⟨S12x4x8x64x16x128, .f32⟩
  | 66 => ⟨S12x4x512x16x128, .f32⟩
  | 67 => ⟨S12x512x4x16x128, .f32⟩
  | 68 => ⟨S12x2048x16x128, .f32⟩
  | 69 => ⟨S12x4x8x64x16, .f32⟩
  | 70 => ⟨S12x4x512x16, .f32⟩
  | 71 => ⟨S12x512x4x16, .f32⟩
  | 72 => ⟨S12x2048x16, .f32⟩
  | 73 => ⟨S12x128x16x16x128, .f32⟩
  | 74 => ⟨S12x16x128x16x128, .f32⟩
  | 75 => ⟨S_, .i32⟩
  | 76 => ⟨S_, .f32⟩
  | 77 => ⟨S12x16x128x16x128, .f32⟩
  | 78 => ⟨S12x16x2x64x16x128, .f32⟩
  | 79 => ⟨S12x128x16x16x128, .f32⟩
  | 80 => ⟨S12x16x128x16x128, .f32⟩
  | 81 => ⟨S_, .i32⟩
  | 82 => ⟨S_, .f32⟩
  | 83 => ⟨S12x16x256x16x128, .f32⟩
  | 84 => ⟨S12x16x4x64x16x128, .f32⟩
  | 85 => ⟨S12x16x2x64x16x128, .f32⟩
  | 86 => ⟨S12x16x2x64x16x128, .f32⟩
  | 87 => ⟨S12x16x2x64x16x128, .f32⟩
  | 88 => ⟨S12x16x2x192x16x128, .f32⟩
  | 89 => ⟨S12x128x16x16x128, .f32⟩
  | 90 => ⟨S12x16x128x16x128, .f32⟩
  | 91 => ⟨S_, .i32⟩
  | 92 => ⟨S_, .f32⟩
  | 93 => ⟨S12x16x256x16x128, .f32⟩
  | 94 => ⟨S12x16x4x64x16x128, .f32⟩
  | 95 => ⟨S12x16x2x64x16x128, .f32⟩
  | 96 => ⟨S12x16x2x64x16x128, .f32⟩
  | 97 => ⟨S12x16x2x64x16x128, .f32⟩
  | 98 => ⟨S12x16x2x192x16x128, .f32⟩
  | 99 => ⟨S12x16x2x16x64x192, .f32⟩
  | 100 => ⟨S_, .f32⟩
  | 101 => ⟨S12x16x2x16x64x192, .f32⟩
  | 102 => ⟨S12x16x2x16x64x192, .f32⟩
  | 103 => ⟨S2, .i32⟩
  | 104 => ⟨S2x1x1, .i32⟩
  | 105 => ⟨S_, .i32⟩
  | 106 => ⟨S2x1x1, .i32⟩
  | 107 => ⟨S2x1x1, .i32⟩
  | 108 => ⟨S64, .i32⟩
  | 109 => ⟨S1x64x1, .i32⟩
  | 110 => ⟨S2x64x1, .i32⟩
  | 111 => ⟨S2x64x1, .i32⟩
  | 112 => ⟨S2x64x1, .i32⟩
  | 113 => ⟨S2, .i32⟩
  | 114 => ⟨S2x1x1, .i32⟩
  | 115 => ⟨S_, .i32⟩
  | 116 => ⟨S2x1x1, .i32⟩
  | 117 => ⟨S2x1x1, .i32⟩
  | 118 => ⟨S_, .i32⟩
  | 119 => ⟨S2x1x1, .i32⟩
  | 120 => ⟨S2x1x1, .i32⟩
  | 121 => ⟨S192, .i32⟩
  | 122 => ⟨S1x1x192, .i32⟩
  | 123 => ⟨S2x1x192, .i32⟩
  | 124 => ⟨S2x1x192, .i32⟩
  | 125 => ⟨S2x1x192, .i32⟩
  | 126 => ⟨S2x64x192, .i32⟩
  | 127 => ⟨S2x64x192, .i32⟩
  | _ => ⟨S12x2048x16x128, .f32⟩

abbrev hbmTy0_2 (i : Nat) : BufTy := match i % 128 with
  | 0 => ⟨S2x64x192, .i32⟩
  | 1 => ⟨S2x64x192, .i32⟩
  | 2 => ⟨S_, .i32⟩
  | 3 => ⟨S2x64x192, .i32⟩
  | 4 => ⟨S2x64x192, .i1⟩
  | 5 => ⟨S_, .i32⟩
  | 6 => ⟨S2x1x192, .i32⟩
  | 7 => ⟨S2x1x192, .i1⟩
  | 8 => ⟨S2x64x192, .i1⟩
  | 9 => ⟨S2x64x192, .i1⟩
  | 10 => ⟨S_, .i32⟩
  | 11 => ⟨S2x1x192, .i32⟩
  | 12 => ⟨S2x1x192, .i1⟩
  | 13 => ⟨S2x64x192, .i1⟩
  | 14 => ⟨S2x64x192, .i1⟩
  | 15 => ⟨S1x1x2x1x64x192, .i1⟩
  | 16 => ⟨S_, .f32⟩
  | 17 => ⟨S_, .f32⟩
  | 18 => ⟨S12x16x2x16x64x192, .i1⟩
  | 19 => ⟨S12x16x2x16x64x192, .f32⟩
  | 20 => ⟨S12x16x2x16x64x192, .f32⟩
  | 21 => ⟨S_, .f32⟩
  | 22 => ⟨S12x16x2x16x64, .f32⟩
  | 23 => ⟨S12x16x2x16x64x1, .f32⟩
  | 24 => ⟨S12x16x2x16x64x192, .f32⟩
  | 25 => ⟨S12x16x2x16x64x192, .f32⟩
  | 26 => ⟨S12x16x2x16x64x192, .f32⟩
  | 27 => ⟨S_, .f32⟩
  | 28 => ⟨S12x16x2x16x64, .f32⟩
  | 29 => ⟨S12x16x2x16x64, .f32⟩
  | 30 => ⟨S12x16x2x16x64, .f32⟩
  | 31 => ⟨S12x16x2x16x64x1, .f32⟩
  | 32 => ⟨S12x16x2x16x64x192, .f32⟩
  | 33 => ⟨S12x16x2x16x64x192, .f32⟩
  | 34 => ⟨S12x16x2x16x64x192, .f32⟩
  | 35 => ⟨S12x16x2x16x128x64, .f32⟩
  | 36 => ⟨S12x16x2x64x16x128, .f32⟩
  | 37 => ⟨S12x16x128x16x128, .f32⟩
  | 38 => ⟨S12x128x16x16x128, .f32⟩
  | 39 => ⟨S12x2048x16x128, .f32⟩
  | 40 => ⟨S12x16x2x64x16, .f32⟩
  | 41 => ⟨S12x16x128x16, .f32⟩
  | 42 => ⟨S12x128x16x16, .f32⟩
  | 43 => ⟨S12x2048x16, .f32⟩
  | 44 => ⟨S1x12x2048x16x128, .f32⟩
  | 45 => ⟨S1x12x2048x16x128, .f32⟩
  | 46 => ⟨S1x12x2048x16x128, .f32⟩
  | 47 => ⟨S3x12x2048x16x128, .f32⟩
  | 48 => ⟨S1x12x2048x16, .f32⟩
  | 49 => ⟨S1x12x2048x16, .f32⟩
  | 50 => ⟨S1x12x2048x16, .f32⟩
  | 51 => ⟨S3x12x2048x16, .f32⟩
  | 52 => ⟨S_, .f32⟩
  | 53 => ⟨S12x2048x16, .f32⟩
  | 54 => ⟨S_, .f32⟩
  | 55 => ⟨S12x2048x16, .f32⟩
  | 56 => ⟨S12x2048x16, .f32⟩
  | 57 => ⟨S1x12x2048x16, .f32⟩
  | 58 => ⟨S3x12x2048x16, .f32⟩
  | 59 => ⟨S3x12x2048x16, .f32⟩
  | 60 => ⟨S3x12x2048x16, .f32⟩
  | 61 => ⟨S_, .f32⟩
  | 62 => ⟨S12x2048x16, .f32⟩
  | 63 => ⟨S1x12x2048x16, .f32⟩
  | 64 => ⟨S3x12x2048x16, .f32⟩
  | 65 => ⟨S3x12x2048x16, .f32⟩
  | 66 => ⟨S12x2048x16x128, .f32⟩
  | 67 => ⟨S12x2048x2048, .f32⟩
  | 68 => ⟨S12x2048x2048, .bf16⟩
  | _ => ⟨S12x2048x16x128, .f32⟩

abbrev hbmTy (i : Nat) : BufTy := match i / 128 with
  | 0 => hbmTy0_0 i
  | 1 => hbmTy0_1 i
  | 2 => hbmTy0_2 i
  | _ => ⟨S12x2048x16x128, .f32⟩

abbrev bufTy : (tb : Table) → Fin (tcTables nBuf tb) → BufTy
  | .hbm, ⟨i, _⟩ => hbmTy i
  | _, _ => ⟨S12x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_11 : Ref sig .tc := ⟨.hbm, 104, rfl⟩
abbrev main_call4_v0 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_12 : Ref sig .tc := ⟨.hbm, 110, rfl⟩
abbrev main_call5_v0 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_13 : Ref sig .tc := ⟨.hbm, 120, rfl⟩
abbrev main_call6_v0 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_14 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_15 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_16 : Ref sig .tc := ⟨.hbm, 144, rfl⟩
abbrev main_v114 : Ref sig .tc := ⟨.hbm, 145, rfl⟩
abbrev main_v115 : Ref sig .tc := ⟨.hbm, 146, rfl⟩
abbrev main_c_17 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_18 : Ref sig .tc := ⟨.hbm, 159, rfl⟩
abbrev main_v127 : Ref sig .tc := ⟨.hbm, 160, rfl⟩
abbrev main_v128 : Ref sig .tc := ⟨.hbm, 161, rfl⟩
abbrev main_c_19 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_20 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_21 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_v138 : Ref sig .tc := ⟨.hbm, 177, rfl⟩
abbrev main_cst_22 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_23 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_24 : Ref sig .tc := ⟨.hbm, 203, rfl⟩
abbrev main_call8_v0 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_c_25 : Ref sig .tc := ⟨.hbm, 209, rfl⟩
abbrev main_call9_v0 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_c_26 : Ref sig .tc := ⟨.hbm, 219, rfl⟩
abbrev main_call10_v0 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_cst_27 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_c_28 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_c_29 : Ref sig .tc := ⟨.hbm, 243, rfl⟩
abbrev main_v194 : Ref sig .tc := ⟨.hbm, 244, rfl⟩
abbrev main_v195 : Ref sig .tc := ⟨.hbm, 245, rfl⟩
abbrev main_c_30 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_c_31 : Ref sig .tc := ⟨.hbm, 258, rfl⟩
abbrev main_v207 : Ref sig .tc := ⟨.hbm, 259, rfl⟩
abbrev main_v208 : Ref sig .tc := ⟨.hbm, 260, rfl⟩
abbrev main_c_32 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_c_33 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_cst_34 : Ref sig .tc := ⟨.hbm, 272, rfl⟩
abbrev main_call11_v0 : Ref sig .tc := ⟨.hbm, 273, rfl⟩
abbrev main_call11_v1 : Ref sig .tc := ⟨.hbm, 274, rfl⟩
abbrev main_call11_v2 : Ref sig .tc := ⟨.hbm, 275, rfl⟩
abbrev main_v218 : Ref sig .tc := ⟨.hbm, 276, rfl⟩
abbrev main_cst_35 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_cst_36 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_cst_37 : Ref sig .tc := ⟨.hbm, 308, rfl⟩
abbrev main_v248 : Ref sig .tc := ⟨.hbm, 309, rfl⟩
abbrev main_cst_38 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_cst_39 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩

abbrev nD : Nat := 1
abbrev τ : Topo := Topo.v7x

variable {F : FTy → Type} [FloatOps F]
-- ==== Kernel2.lean ====
abbrev S12x2048x2048 : Shape := ⟨3, ![12, 2048, 2048]⟩
abbrev S2048 : Shape := ⟨1, ![2048]⟩
abbrev S2048x8192 : Shape := ⟨2, ![2048, 8192]⟩
abbrev S8192x2048 : Shape := ⟨2, ![8192, 2048]⟩
abbrev S24576x2048 : Shape := ⟨2, ![24576, 2048]⟩
abbrev S1x2048 : Shape := ⟨2, ![1, 2048]⟩
abbrev S1024x2048 : Shape := ⟨2, ![1024, 2048]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S12x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S24576x2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S24576x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![24, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S12x2048x2048 : Shape := ⟨3, ![12, 2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S12x2048 : Shape := ⟨2, ![12, 2048]⟩
abbrev S12x2048x1 : Shape := ⟨3, ![12, 2048, 1]⟩
abbrev S1x1x2048 : Shape := ⟨3, ![1, 1, 2048]⟩
abbrev S12x2048x8192 : Shape := ⟨3, ![12, 2048, 8192]⟩
abbrev S24576x2048 : Shape := ⟨2, ![24576, 2048]⟩

abbrev nBuf : Space → Nat
  | .hbm => 28
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S12x2048x2048, .f32⟩
  | .hbm, ⟨5, _⟩ => ⟨S_, .f32⟩
  | .hbm, ⟨6, _⟩ => ⟨S12x2048, .f32⟩
  | .hbm, ⟨7, _⟩ => ⟨S12x2048x1, .f32⟩
  | .hbm, ⟨8, _⟩ => ⟨S_, .f32⟩
  | .hbm, ⟨9, _⟩ => ⟨S12x2048x1, .f32⟩
  | .hbm, ⟨10, _⟩ => ⟨S12x2048x1, .f32⟩
  | .hbm, ⟨11, _⟩ => ⟨S_, .f32⟩
  | .hbm, ⟨12, _⟩ => ⟨S12x2048x1, .f32⟩
  | .hbm, ⟨13, _⟩ => ⟨S12x2048x1, .f32⟩
  | .hbm, ⟨14, _⟩ => ⟨S12x2048x1, .f32⟩
  | .hbm, ⟨15, _⟩ => ⟨S12x2048x2048, .f32⟩
  | .hbm, ⟨16, _⟩ => ⟨S12x2048x2048, .f32⟩
  | .hbm, ⟨17, _⟩ => ⟨S1x1x2048, .f32⟩
  | .hbm, ⟨18, _⟩ => ⟨S12x2048x2048, .f32⟩
  | .hbm, ⟨19, _⟩ => ⟨S12x2048x2048, .f32⟩
  | .hbm, ⟨20, _⟩ => ⟨S12x2048x8192, .f32⟩
  | .hbm, ⟨21, _⟩ => ⟨S_, .f32⟩
  | .hbm, ⟨22, _⟩ => ⟨S12x2048x8192, .f32⟩
  | .hbm, ⟨23, _⟩ => ⟨S12x2048x8192, .f32⟩
  | .hbm, ⟨24, _⟩ => ⟨S12x2048x8192, .f32⟩
  | .hbm, ⟨25, _⟩ => ⟨S12x2048x2048, .f32⟩
  | .hbm, ⟨26, _⟩ => ⟨S12x2048x2048, .f32⟩
  | .hbm, ⟨27, _⟩ => ⟨S24576x2048, .f32⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S12x2048x2048 : Shape := ⟨3, ![12, 2048, 2048]⟩
abbrev S8x2048x256 : Shape := ⟨3, ![8, 2048, 256]⟩
abbrev S2048 : Shape := ⟨1, ![2048]⟩
abbrev S2048x2048 : Shape := ⟨2, ![2048, 2048]⟩
abbrev S256x2048 : Shape := ⟨2, ![256, 2048]⟩
abbrev S24576x2048 : Shape := ⟨2, ![24576, 2048]⟩
abbrev S16384x256 : Shape := ⟨2, ![16384, 256]⟩
abbrev S1x2048 : Shape := ⟨2, ![1, 2048]⟩
abbrev S16384x2048 : Shape := ⟨2, ![16384, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S12x2048x2048, .f32⟩
  | .hbm, ⟨1, _⟩ => ⟨S8x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S24576x2048, .f32⟩
  | .hbm, ⟨6, _⟩ => ⟨S16384x256, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S12x2048x2048 : Shape := ⟨3, ![12, 2048, 2048]⟩
abbrev S8x2048x256 : Shape := ⟨3, ![8, 2048, 256]⟩
abbrev S2048 : Shape := ⟨1, ![2048]⟩
abbrev S2048x2048 : Shape := ⟨2, ![2048, 2048]⟩
abbrev S256x2048 : Shape := ⟨2, ![256, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S8x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S16384x2048, .f32⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S12x2048x2048 : Shape := ⟨3, ![12, 2048, 2048]⟩
abbrev S12x2048x2x2048 : Shape := ⟨4, ![12, 2048, 2, 2048]⟩
abbrev S2048x2048 : Shape := ⟨2, ![2048, 2048]⟩
abbrev S24576x2048 : Shape := ⟨2, ![24576, 2048]⟩
abbrev S24576x4096 : Shape := ⟨2, ![24576, 4096]⟩
abbrev S512x2048 : Shape := ⟨2, ![512, 2048]⟩

abbrev nBuf : Space → Nat
  | .hbm => 14
  | .vmem => 12
  | .smem => 0
  | _ => 0

abbrev bufTy : (tb : Table) → Fin (tcTables nBuf tb) → BufTy
  | .hbm, ⟨0, _⟩ => ⟨S12x2048x2048, .f32⟩
  | .hbm, ⟨1, _⟩ => ⟨S12x2048x2048, .f32⟩
  | .hbm, ⟨2, _⟩ => ⟨S12x2048x2x2048, .f32⟩
  | .hbm, ⟨3, _⟩ => ⟨S2048x2048, .f32⟩
  | .hbm, ⟨4, _⟩ => ⟨S2048x2048, .f32⟩
  | .hbm, ⟨5, _⟩ => ⟨S12x2048x2048, .bf16⟩
  | .hbm, ⟨6, _⟩ => ⟨S24576x2048, .bf16⟩
  | .hbm, ⟨7, _⟩ => ⟨S12x2048x2048, .bf16⟩
  | .hbm, ⟨8, _⟩ => ⟨S24576x2048, .bf16⟩
  | .hbm, ⟨9, _⟩ => ⟨S2048x2048, .bf16⟩
  | .hbm, ⟨10, _⟩ => ⟨S2048x2048, .bf16⟩
  | .hbm, ⟨11, _⟩ => ⟨S12x2048x2x2048, .bf16⟩
  | .hbm, ⟨12, _⟩ => ⟨S24576x4096, .bf16⟩
  | .hbm, ⟨13, _⟩ => ⟨S24576x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S12x2048x2048 : Shape := ⟨3, ![12, 2048, 2048]⟩
abbrev S12x2048x2x2048 : Shape := ⟨4, ![12, 2048, 2, 2048]⟩
abbrev S2048x2048 : Shape := ⟨2, ![2048, 2048]⟩
abbrev S12x2048x1x2048 : Shape := ⟨4, ![12, 2048, 1, 2048]⟩
abbrev S24576x2048 : Shape := ⟨2, ![24576, 2048]⟩

abbrev nBuf : Space → Nat
  | .hbm => 16
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S12x2048x2048, .f32⟩
  | .hbm, ⟨2, _⟩ => ⟨S12x2048x2x2048, .f32⟩
  | .hbm, ⟨3, _⟩ => ⟨S2048x2048, .f32⟩
  | .hbm, ⟨4, _⟩ => ⟨S2048x2048, .f32⟩
  | .hbm, ⟨5, _⟩ => ⟨S12x2048x1x2048, .f32⟩
  | .hbm, ⟨6, _⟩ => ⟨S12x2048x2048, .f32⟩
  | .hbm, ⟨7, _⟩ => ⟨S12x2048x2048, .f32⟩
  | .hbm, ⟨8, _⟩ => ⟨S12x2048x2048, .f32⟩
  | .hbm, ⟨9, _⟩ => ⟨S12x2048x1x2048, .f32⟩
  | .hbm, ⟨10, _⟩ => ⟨S12x2048x2048, .f32⟩
  | .hbm, ⟨11, _⟩ => ⟨S12x2048x2048, .f32⟩
  | .hbm, ⟨12, _⟩ => ⟨S12x2048x2048, .f32⟩
  | .hbm, ⟨13, _⟩ => ⟨S12x2048x2048, .f32⟩
  | .hbm, ⟨14, _⟩ => ⟨S12x2048x2048, .bf16⟩
  | .hbm, ⟨15, _⟩ => ⟨S24576x2048, .bf16⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S12x2048x2048 : Shape := ⟨3, ![12, 2048, 2048]⟩
abbrev S2048x2048 : Shape := ⟨2, ![2048, 2048]⟩
abbrev S4x2048x2048 : Shape := ⟨3, ![4, 2048, 2048]⟩
abbrev S8x2048x2048 : Shape := ⟨3, ![8, 2048, 2048]⟩
abbrev S24576x2048 : Shape := ⟨2, ![24576, 2048]⟩
abbrev S8192x2048 : Shape := ⟨2, ![8192, 2048]⟩
abbrev S16384x2048 : Shape := ⟨2, ![16384, 2048]⟩
abbrev S512x2048 : Shape := ⟨2, ![512, 2048]⟩

abbrev nBuf : Space → Nat
  | .hbm => 10
  | .vmem => 9
  | .smem => 0
  | _ => 0

abbrev bufTy : (tb : Table) → Fin (tcTables nBuf tb) → BufTy
  | .hbm, ⟨0, _⟩ => ⟨S12x2048x2048, .f32⟩
  | .hbm, ⟨1, _⟩ => ⟨S2048x2048, .f32⟩
  | .hbm, ⟨2, _⟩ => ⟨S4x2048x2048, .f32⟩
  | .hbm, ⟨3, _⟩ => ⟨S8x2048x2048, .f32⟩
  | .hbm, ⟨4, _⟩ => ⟨S12x2048x2048, .bf16⟩
  | .hbm, ⟨5, _⟩ => ⟨S24576x2048, .bf16⟩
  | .hbm, ⟨6, _⟩ => ⟨S2048x2048, .bf16⟩
  | .hbm, ⟨7, _⟩ => ⟨S8192x2048, .f32⟩
  | .hbm, ⟨8, _⟩ => ⟨S16384x2048, .f32⟩
  | .hbm, ⟨9, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 1], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c0_i32 : BitVec 32 := 0#32
  let v2 : BitVec 32 := Scalar.select v1 arg1 c0_i32
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 1 := Scalar.cmpi .sge arg0 c16_i32_0
  let c0_i32_1 : BitVec 32 := 0#32
  let v3 : BitVec 32 := Scalar.select v2 arg1 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S12x2048x2048 : Shape := ⟨3, ![12, 2048, 2048]⟩
abbrev S2048x2048 : Shape := ⟨2, ![2048, 2048]⟩
abbrev S4x2048x2048 : Shape := ⟨3, ![4, 2048, 2048]⟩
abbrev S8x2048x2048 : Shape := ⟨3, ![8, 2048, 2048]⟩
abbrev S24576x2048 : Shape := ⟨2, ![24576, 2048]⟩

abbrev nBuf : Space → Nat
  | .hbm => 8
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048x2048, .f32⟩
  | .hbm, ⟨2, _⟩ => ⟨S4x2048x2048, .f32⟩
  | .hbm, ⟨3, _⟩ => ⟨S8x2048x2048, .f32⟩
  | .hbm, ⟨4, _⟩ => ⟨S12x2048x2048, .f32⟩
  | .hbm, ⟨5, _⟩ => ⟨S12x2048x2048, .f32⟩
  | .hbm, ⟨6, _⟩ => ⟨S12x2048x2048, .f32⟩
  | .hbm, ⟨7, _⟩ => ⟨S24576x2048, .f32⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S12x2048x2048 : Shape := ⟨3, ![12, 2048, 2048]⟩
abbrev S2048x16384 : Shape := ⟨2, ![2048, 16384]⟩
abbrev S2x2048 : Shape := ⟨2, ![2, 2048]⟩
abbrev S1x4096 : Shape := ⟨2, ![1, 4096]⟩
abbrev S12x2048x4096 : Shape := ⟨3, ![12, 2048, 4096]⟩
abbrev S1x2048x2048 : Shape := ⟨3, ![1, 2048, 2048]⟩
abbrev S2048x1024 : Shape := ⟨2, ![2048, 1024]⟩
abbrev S1x1024 : Shape := ⟨2, ![1, 1024]⟩
abbrev S1x2048x1024 : Shape := ⟨3, ![1, 2048, 1024]⟩
abbrev S1x256x2048 : Shape := ⟨3, ![1, 256, 2048]⟩
abbrev S256x2048 : Shape := ⟨2, ![256, 2048]⟩
abbrev S256x1024 : Shape := ⟨2, ![256, 1024]⟩
abbrev S1x256x1024 : Shape := ⟨3, ![1, 256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S2x2048, .f32⟩
  | .hbm, ⟨3, _⟩ => ⟨S12x2048x2048, .bf16⟩
  | .hbm, ⟨4, _⟩ => ⟨S2048x16384, .bf16⟩
  | .hbm, ⟨5, _⟩ => ⟨S1x4096, .f32⟩
  | .hbm, ⟨6, _⟩ => ⟨S12x2048x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1x2048x1024, .bf16⟩
  | .local _ .vmem, ⟨7, _⟩ => ⟨S1x2048x1024, .bf16⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S12x2048x2048 : Shape := ⟨3, ![12, 2048, 2048]⟩
abbrev S2048x16384 : Shape := ⟨2, ![2048, 16384]⟩
abbrev S2x2048 : Shape := ⟨2, ![2, 2048]⟩
abbrev S12x2048x16384 : Shape := ⟨3, ![12, 2048, 16384]⟩
abbrev S12x2048x4096 : Shape := ⟨3, ![12, 2048, 4096]⟩
abbrev S12x2048x2x2048 : Shape := ⟨4, ![12, 2048, 2, 2048]⟩
abbrev S1x1x2x2048 : Shape := ⟨4, ![1, 1, 2, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S2x2048, .f32⟩
  | .hbm, ⟨3, _⟩ => ⟨S12x2048x16384, .f32⟩
  | .hbm, ⟨4, _⟩ => ⟨S12x2048x4096, .f32⟩
  | .hbm, ⟨5, _⟩ => ⟨S12x2048x2x2048, .f32⟩
  | .hbm, ⟨6, _⟩ => ⟨S1x1x2x2048, .f32⟩
  | .hbm, ⟨7, _⟩ => ⟨S12x2048x2x2048, .f32⟩
  | .hbm, ⟨8, _⟩ => ⟨S12x2048x2x2048, .f32⟩
  | .hbm, ⟨9, _⟩ => ⟨S12x2048x2x2048, .f32⟩
  | .hbm, ⟨10, _⟩ => ⟨S12x2048x2x2048, .f32⟩
  | .hbm, ⟨11, _⟩ => ⟨S_, .f32⟩
  | .hbm, ⟨12, _⟩ => ⟨S12x2048x2x2048, .f32⟩
  | .hbm, ⟨13, _⟩ => ⟨S12x2048x2x2048, .f32⟩
  | .hbm, ⟨14, _⟩ => ⟨S_, .f32⟩
  | .hbm, ⟨15, _⟩ => ⟨S12x2048x2x2048, .f32⟩
  | .hbm, ⟨16, _⟩ => ⟨S12x2048x2x2048, .f32⟩
  | .hbm, ⟨17, _⟩ => ⟨S12x2048x4096, .f32⟩
  | .hbm, ⟨18, _⟩ => ⟨S12x2048x4096, .bf16⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S4x2048x2048 : Shape := ⟨3, ![4, 2048, 2048]⟩
abbrev S8x2048x2048 : Shape := ⟨3, ![8, 2048, 2048]⟩
abbrev S2048 : Shape := ⟨1, ![2048]⟩
abbrev S2048x16384 : Shape := ⟨2, ![2048, 16384]⟩
abbrev S8192x2048 : Shape := ⟨2, ![8192, 2048]⟩
abbrev S16384x2048 : Shape := ⟨2, ![16384, 2048]⟩
abbrev S1x2048 : Shape := ⟨2, ![1, 2048]⟩
abbrev S24576x2048 : Shape := ⟨2, ![24576, 2048]⟩
abbrev S12x16x2048x128 : Shape := ⟨4, ![12, 16, 2048, 128]⟩
abbrev S512x2048 : Shape := ⟨2, ![512, 2048]⟩
abbrev S2048x2048 : Shape := ⟨2, ![2048, 2048]⟩
abbrev S1x16x512x128 : Shape := ⟨4, ![1, 16, 512, 128]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8x2048x2048, .f32⟩
  | .hbm, ⟨2, _⟩ => ⟨S2048, .f32⟩
  | .hbm, ⟨3, _⟩ => ⟨S2048x16384, .f32⟩
  | .hbm, ⟨4, _⟩ => ⟨S8192x2048, .f32⟩
  | .hbm, ⟨5, _⟩ => ⟨S16384x2048, .f32⟩
  | .hbm, ⟨6, _⟩ => ⟨S2048x16384, .bf16⟩
  | .hbm, ⟨7, _⟩ => ⟨S1x2048, .f32⟩
  | .hbm, ⟨8, _⟩ => ⟨S24576x2048, .bf16⟩
  | .hbm, ⟨9, _⟩ => ⟨S12x16x2048x128, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S1x16x512x128, .bf16⟩
  | .local _ .vmem, ⟨9, _⟩ => ⟨S1x16x512x128, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c16_i32 : BitVec 32 := 16#32
  let v1 : BitVec 1 := Scalar.cmpi .slt arg0 c16_i32
  let c0_i32 : BitVec 32 := 0#32
  let c0_i32_0 : BitVec 32 := 0#32
  let v2 : BitVec 32 := Scalar.select v1 c0_i32 c0_i32_0
  let c0_i32_1 : BitVec 32 := 0#32
  ![v0.toNat, v2.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 1 := Scalar.cmpi .sge arg0 c16_i32_0
  let c0_i32_1 : BitVec 32 := 0#32
  let c0_i32_2 : BitVec 32 := 0#32
  let v3 : BitVec 32 := Scalar.select v2 c0_i32_1 c0_i32_2
  let c0_i32_3 : BitVec 32 := 0#32
  ![v1.toNat, v3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x2048x2048 : Shape := ⟨3, ![4, 2048, 2048]⟩
abbrev S8x2048x2048 : Shape := ⟨3, ![8, 2048, 2048]⟩
abbrev S2048 : Shape := ⟨1, ![2048]⟩
abbrev S2048x16384 : Shape := ⟨2, ![2048, 16384]⟩
abbrev S12x2048x2048 : Shape := ⟨3, ![12, 2048, 2048]⟩
abbrev S_ : Shape := ⟨0, ![]⟩
abbrev S12x2048 : Shape := ⟨2, ![12, 2048]⟩
abbrev S12x2048x1 : Shape := ⟨3, ![12, 2048, 1]⟩
abbrev S1x1x2048 : Shape := ⟨3, ![1, 1, 2048]⟩
abbrev S12x2048x16384 : Shape := ⟨3, ![12, 2048, 16384]⟩
abbrev S12x2048x16x128 : Shape := ⟨4, ![12, 2048, 16, 128]⟩
abbrev S24576x2048 : Shape := ⟨2, ![24576, 2048]⟩
abbrev S12x16x2048x128 : Shape := ⟨4, ![12, 16, 2048, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x2048x2048, .f32⟩
  | .hbm, ⟨2, _⟩ => ⟨S2048, .f32⟩
  | .hbm, ⟨3, _⟩ => ⟨S2048x16384, .f32⟩
  | .hbm, ⟨4, _⟩ => ⟨S12x2048x2048, .f32⟩
  | .hbm, ⟨5, _⟩ => ⟨S12x2048x2048, .f32⟩
  | .hbm, ⟨6, _⟩ => ⟨S_, .f32⟩
  | .hbm, ⟨7, _⟩ => ⟨S12x2048, .f32⟩
  | .hbm, ⟨8, _⟩ => ⟨S12x2048x1, .f32⟩
  | .hbm, ⟨9, _⟩ => ⟨S_, .f32⟩
  | .hbm, ⟨10, _⟩ => ⟨S12x2048x1, .f32⟩
  | .hbm, ⟨11, _⟩ => ⟨S12x2048x1, .f32⟩
  | .hbm, ⟨12, _⟩ => ⟨S_, .f32⟩
  | .hbm, ⟨13, _⟩ => ⟨S12x2048x1, .f32⟩
  | .hbm, ⟨14, _⟩ => ⟨S12x2048x1, .f32⟩
  | .hbm, ⟨15, _⟩ => ⟨S12x2048x1, .f32⟩
  | .hbm, ⟨16, _⟩ => ⟨S12x2048x2048, .f32⟩
  | .hbm, ⟨17, _⟩ => ⟨S12x2048x2048, .f32⟩
  | .hbm, ⟨18, _⟩ => ⟨S1x1x2048, .f32⟩
  | .hbm, ⟨19, _⟩ => ⟨S12x2048x2048, .f32⟩
  | .hbm, ⟨20, _⟩ => ⟨S12x2048x2048, .f32⟩
  | .hbm, ⟨21, _⟩ => ⟨S12x2048x16384, .f32⟩
  | .hbm, ⟨22, _⟩ => ⟨S12x2048x2048, .f32⟩
  | .hbm, ⟨23, _⟩ => ⟨S12x2048x16x128, .f32⟩
  | .hbm, ⟨24, _⟩ => ⟨S24576x2048, .f32⟩
  | .hbm, ⟨25, _⟩ => ⟨S24576x2048, .bf16⟩
  | .hbm, ⟨26, _⟩ => ⟨S12x16x2048x128, .f32⟩
  | .hbm, ⟨27, _⟩ => ⟨S12x16x2048x128, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S12x2048x2048 : Shape := ⟨3, ![12, 2048, 2048]⟩
abbrev S4x2048x256 : Shape := ⟨3, ![4, 2048, 256]⟩
abbrev S2048 : Shape := ⟨1, ![2048]⟩
abbrev S2048x2048 : Shape := ⟨2, ![2048, 2048]⟩
abbrev S256x2048 : Shape := ⟨2, ![256, 2048]⟩
abbrev S24576x2048 : Shape := ⟨2, ![24576, 2048]⟩
abbrev S8192x256 : Shape := ⟨2, ![8192, 256]⟩
abbrev S1x2048 : Shape := ⟨2, ![1, 2048]⟩
abbrev S8192x2048 : Shape := ⟨2, ![8192, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S12x2048x2048, .f32⟩
  | .hbm, ⟨1, _⟩ => ⟨S4x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S24576x2048, .f32⟩
  | .hbm, ⟨6, _⟩ => ⟨S8192x256, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference8Ideal.lean ====
abbrev S12x2048x2048 : Shape := ⟨3, ![12, 2048, 2048]⟩
abbrev S4x2048x256 : Shape := ⟨3, ![4, 2048, 256]⟩
abbrev S2048 : Shape := ⟨1, ![2048]⟩
abbrev S2048x2048 : Shape := ⟨2, ![2048, 2048]⟩
abbrev S256x2048 : Shape := ⟨2, ![256, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S4x2048x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S8192x2048, .f32⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel9.lean ====
abbrev S12x2048x2048 : Shape := ⟨3, ![12, 2048, 2048]⟩
abbrev S2048x16384 : Shape := ⟨2, ![2048, 16384]⟩
abbrev S128 : Shape := ⟨1, ![128]⟩
abbrev S1x128 : Shape := ⟨2, ![1, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x112 : Shape := ⟨2, ![2048, 112]⟩
abbrev S12x16x2048x128 : Shape := ⟨4, ![12, 16, 2048, 128]⟩
abbrev S1x2048x2048 : Shape := ⟨3, ![1, 2048, 2048]⟩
abbrev S2048x1024 : Shape := ⟨2, ![2048, 1024]⟩
abbrev S1x8x2048x128 : Shape := ⟨4, ![1, 8, 2048, 128]⟩
abbrev S256x256 : Shape := ⟨2, ![256, 256]⟩
abbrev S1x256x2048 : Shape := ⟨3, ![1, 256, 2048]⟩
abbrev S256x2048 : Shape := ⟨2, ![256, 2048]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 35
  | .vmem => 10
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S128, .f32⟩
  | .hbm, ⟨3, _⟩ => ⟨S12x2048x2048, .bf16⟩
  | .hbm, ⟨4, _⟩ => ⟨S2048x16384, .bf16⟩
  | .hbm, ⟨5, _⟩ => ⟨S1x128, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S2048x128, .f32⟩
  | .hbm, ⟨25, _⟩ => ⟨S2048x16, .f32⟩
  | .hbm, ⟨26, _⟩ => ⟨S_, .f32⟩
  | .hbm, ⟨27, _⟩ => ⟨S2048x112, .f32⟩
  | .hbm, ⟨28, _⟩ => ⟨S2048x128, .f32⟩
  | .hbm, ⟨29, _⟩ => ⟨S_, .f32⟩
  | .hbm, ⟨30, _⟩ => ⟨S2048x16, .f32⟩
  | .hbm, ⟨31, _⟩ => ⟨S_, .f32⟩
  | .hbm, ⟨32, _⟩ => ⟨S2048x96, .f32⟩
  | .hbm, ⟨33, _⟩ => ⟨S2048x128, .f32⟩
  | .hbm, ⟨34, _⟩ => ⟨S12x16x2048x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x8x2048x128, .bf16⟩
  | .local _ .vmem, ⟨9, _⟩ => ⟨S1x8x2048x128, .bf16⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![12, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S12x2048x2048 : Shape := ⟨3, ![12, 2048, 2048]⟩
abbrev S2048x16384 : Shape := ⟨2, ![2048, 16384]⟩
abbrev S128 : Shape := ⟨1, ![128]⟩
abbrev S12x2048x16384 : Shape := ⟨3, ![12, 2048, 16384]⟩
abbrev S12x2048x16x128 : Shape := ⟨4, ![12, 2048, 16, 128]⟩
abbrev S_ : Shape := ⟨0, ![]⟩
abbrev S12x2048x16 : Shape := ⟨3, ![12, 2048, 16]⟩
abbrev S12x2048x16x1 : Shape := ⟨4, ![12, 2048, 16, 1]⟩
abbrev S1x1x1x128 : Shape := ⟨4, ![1, 1, 1, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S12x2048x16x16 : Shape := ⟨4, ![12, 2048, 16, 16]⟩
abbrev S12x2048x16x96 : Shape := ⟨4, ![12, 2048, 16, 96]⟩
abbrev S12x16x2048x128 : Shape := ⟨4, ![12, 16, 2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S128, .f32⟩
  | .hbm, ⟨3, _⟩ => ⟨S12x2048x16384, .f32⟩
  | .hbm, ⟨4, _⟩ => ⟨S12x2048x2048, .f32⟩
  | .hbm, ⟨5, _⟩ => ⟨S12x2048x16x128, .f32⟩
  | .hbm, ⟨6, _⟩ => ⟨S12x2048x16x128, .f32⟩
  | .hbm, ⟨7, _⟩ => ⟨S_, .f32⟩
  | .hbm, ⟨8, _⟩ => ⟨S12x2048x16, .f32⟩
  | .hbm, ⟨9, _⟩ => ⟨S12x2048x16x1, .f32⟩
  | .hbm, ⟨10, _⟩ => ⟨S_, .f32⟩
  | .hbm, ⟨11, _⟩ => ⟨S12x2048x16x1, .f32⟩
  | .hbm, ⟨12, _⟩ => ⟨S12x2048x16x1, .f32⟩
  | .hbm, ⟨13, _⟩ => ⟨S_, .f32⟩
  | .hbm, ⟨14, _⟩ => ⟨S12x2048x16x1, .f32⟩
  | .hbm, ⟨15, _⟩ => ⟨S12x2048x16x1, .f32⟩
  | .hbm, ⟨16, _⟩ => ⟨S12x2048x16x1, .f32⟩
  | .hbm, ⟨17, _⟩ => ⟨S12x2048x16x128, .f32⟩
  | .hbm, ⟨18, _⟩ => ⟨S12x2048x16x128, .f32⟩
  | .hbm, ⟨19, _⟩ => ⟨S1x1x1x128, .f32⟩
  | .hbm, ⟨20, _⟩ => ⟨S12x2048x16x128, .f32⟩
  | .hbm, ⟨21, _⟩ => ⟨S12x2048x16x128, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S2048, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S1x2048x1x16, .f32⟩
  | .hbm, ⟨38, _⟩ => ⟨S2048x16, .f32⟩
  | .hbm, ⟨39, _⟩ => ⟨S1x2048x1x16, .f32⟩
  | .hbm, ⟨40, _⟩ => ⟨S12x2048x16x16, .f32⟩
  | .hbm, ⟨41, _⟩ => ⟨S12x2048x16x16, .f32⟩
  | .hbm, ⟨42, _⟩ => ⟨S12x2048x16x16, .f32⟩
  | .hbm, ⟨43, _⟩ => ⟨S12x2048x16x16, .f32⟩
  | .hbm, ⟨44, _⟩ => ⟨S12x2048x16x16, .f32⟩
  | .hbm, ⟨45, _⟩ => ⟨S12x2048x16x16, .f32⟩
  | .hbm, ⟨46, _⟩ => ⟨S12x2048x16x16, .f32⟩
  | .hbm, ⟨47, _⟩ => ⟨S12x2048x16x16, .f32⟩
  | .hbm, ⟨48, _⟩ => ⟨S12x2048x16x16, .f32⟩
  | .hbm, ⟨49, _⟩ => ⟨S12x2048x16x16, .f32⟩
  | .hbm, ⟨50, _⟩ => ⟨S12x2048x16x16, .f32⟩
  | .hbm, ⟨51, _⟩ => ⟨S12x2048x16x16, .f32⟩
  | .hbm, ⟨52, _⟩ => ⟨S12x2048x16x96, .f32⟩
  | .hbm, ⟨53, _⟩ => ⟨S12x2048x16x128, .f32⟩
  | .hbm, ⟨54, _⟩ => ⟨S12x16x2048x128, .f32⟩
  | .hbm, ⟨55, _⟩ => ⟨S12x16x2048x128, .bf16⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Kernel10.lean ====
abbrev S12x2048x2048 : Shape := ⟨3, ![12, 2048, 2048]⟩
abbrev S2048x16384 : Shape := ⟨2, ![2048, 16384]⟩
abbrev S128 : Shape := ⟨1, ![128]⟩
abbrev S1x128 : Shape := ⟨2, ![1, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2048x112 : Shape := ⟨2, ![2048, 112]⟩
abbrev S12x16x2048x128 : Shape := ⟨4, ![12, 16, 2048, 128]⟩
abbrev S1x2048x2048 : Shape := ⟨3, ![1, 2048, 2048]⟩
abbrev S2048x1024 : Shape := ⟨2, ![2048, 1024]⟩
abbrev S1x8x2048x128 : Shape := ⟨4, ![1, 8, 2048, 128]⟩
abbrev S256x256 : Shape := ⟨2, ![256, 256]⟩
abbrev S1x256x2048 : Shape := ⟨3, ![1, 256, 2048]⟩
abbrev S256x2048 : Shape := ⟨2, ![256, 2048]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 35
  | .vmem => 10
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S128, .f32⟩
  | .hbm, ⟨3, _⟩ => ⟨S12x2048x2048, .bf16⟩
  | .hbm, ⟨4, _⟩ => ⟨S2048x16384, .bf16⟩
  | .hbm, ⟨5, _⟩ => ⟨S1x128, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S2048, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S2048x128, .f32⟩
  | .hbm, ⟨25, _⟩ => ⟨S2048x16, .f32⟩
  | .hbm, ⟨26, _⟩ => ⟨S_, .f32⟩
  | .hbm, ⟨27, _⟩ => ⟨S2048x112, .f32⟩
  | .hbm, ⟨28, _⟩ => ⟨S2048x128, .f32⟩
  | .hbm, ⟨29, _⟩ => ⟨S_, .f32⟩
  | .hbm, ⟨30, _⟩ => ⟨S2048x16, .f32⟩
  | .hbm, ⟨31, _⟩ => ⟨S_, .f32⟩
  | .hbm, ⟨32, _⟩ => ⟨S2048x96, .f32⟩
  | .hbm, ⟨33, _⟩ => ⟨S2048x128, .f32⟩
  | .hbm, ⟨34, _⟩ => ⟨S12x16x2048x128, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x8x2048x128, .bf16⟩
  | .local _ .vmem, ⟨9, _⟩ => ⟨S1x8x2048x128, .bf16⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![12, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S12x2048x2048 : Shape := ⟨3, ![12, 2048, 2048]⟩
abbrev S2048x16384 : Shape := ⟨2, ![2048, 16384]⟩
abbrev S128 : Shape := ⟨1, ![128]⟩
abbrev S12x2048x16384 : Shape := ⟨3, ![12, 2048, 16384]⟩
abbrev S12x2048x16x128 : Shape := ⟨4, ![12, 2048, 16, 128]⟩
abbrev S_ : Shape := ⟨0, ![]⟩
abbrev S12x2048x16 : Shape := ⟨3, ![12, 2048, 16]⟩
abbrev S12x2048x16x1 : Shape := ⟨4, ![12, 2048, 16, 1]⟩
abbrev S1x1x1x128 : Shape := ⟨4, ![1, 1, 1, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S12x2048x16x16 : Shape := ⟨4, ![12, 2048, 16, 16]⟩
abbrev S12x2048x16x96 : Shape := ⟨4, ![12, 2048, 16, 96]⟩
abbrev S12x16x2048x128 : Shape := ⟨4, ![12, 16, 2048, 128]⟩

abbrev nBuf : Space → Nat
  | .hbm => 59
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S128, .f32⟩
  | .hbm, ⟨3, _⟩ => ⟨S12x2048x16384, .f32⟩
  | .hbm, ⟨4, _⟩ => ⟨S12x2048x2048, .f32⟩
  | .hbm, ⟨5, _⟩ => ⟨S12x2048x16x128, .f32⟩
  | .hbm, ⟨6, _⟩ => ⟨S12x2048x16x128, .f32⟩
  | .hbm, ⟨7, _⟩ => ⟨S_, .f32⟩
  | .hbm, ⟨8, _⟩ => ⟨S12x2048x16, .f32⟩
  | .hbm, ⟨9, _⟩ => ⟨S12x2048x16x1, .f32⟩
  | .hbm, ⟨10, _⟩ => ⟨S_, .f32⟩
  | .hbm, ⟨11, _⟩ => ⟨S12x2048x16x1, .f32⟩
  | .hbm, ⟨12, _⟩ => ⟨S12x2048x16x1, .f32⟩
  | .hbm, ⟨13, _⟩ => ⟨S_, .f32⟩
  | .hbm, ⟨14, _⟩ => ⟨S12x2048x16x1, .f32⟩
  | .hbm, ⟨15, _⟩ => ⟨S12x2048x16x1, .f32⟩
  | .hbm, ⟨16, _⟩ => ⟨S12x2048x16x1, .f32⟩
  | .hbm, ⟨17, _⟩ => ⟨S12x2048x16x128, .f32⟩
  | .hbm, ⟨18, _⟩ => ⟨S12x2048x16x128, .f32⟩
  | .hbm, ⟨19, _⟩ => ⟨S1x1x1x128, .f32⟩
  | .hbm, ⟨20, _⟩ => ⟨S12x2048x16x128, .f32⟩
  | .hbm, ⟨21, _⟩ => ⟨S12x2048x16x128, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S2048, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S1x2048x1x16, .f32⟩
  | .hbm, ⟨38, _⟩ => ⟨S2048x16, .f32⟩
  | .hbm, ⟨39, _⟩ => ⟨S1x2048x1x16, .f32⟩
  | .hbm, ⟨40, _⟩ => ⟨S12x2048x16x16, .f32⟩
  | .hbm, ⟨41, _⟩ => ⟨S12x2048x16x16, .f32⟩
  | .hbm, ⟨42, _⟩ => ⟨S12x2048x16x16, .f32⟩
  | .hbm, ⟨43, _⟩ => ⟨S12x2048x16x16, .f32⟩
  | .hbm, ⟨44, _⟩ => ⟨S12x2048x16x16, .f32⟩
  | .hbm, ⟨45, _⟩ => ⟨S12x2048x16x16, .f32⟩
  | .hbm, ⟨46, _⟩ => ⟨S12x2048x16x16, .f32⟩
  | .hbm, ⟨47, _⟩ => ⟨S12x2048x16x16, .f32⟩
  | .hbm, ⟨48, _⟩ => ⟨S12x2048x16x16, .f32⟩
  | .hbm, ⟨49, _⟩ => ⟨S12x2048x16x16, .f32⟩
  | .hbm, ⟨50, _⟩ => ⟨S12x2048x16x16, .f32⟩
  | .hbm, ⟨51, _⟩ => ⟨S12x2048x16x16, .f32⟩
  | .hbm, ⟨52, _⟩ => ⟨S12x2048x16x96, .f32⟩
  | .hbm, ⟨53, _⟩ => ⟨S12x2048x16x128, .f32⟩
  | .hbm, ⟨54, _⟩ => ⟨S_, .f32⟩
  | .hbm, ⟨55, _⟩ => ⟨S12x2048x16x128, .f32⟩
  | .hbm, ⟨56, _⟩ => ⟨S12x2048x16x128, .f32⟩
  | .hbm, ⟨57, _⟩ => ⟨S12x16x2048x128, .f32⟩
  | .hbm, ⟨58, _⟩ => ⟨S12x16x2048x128, .bf16⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel11.lean ====
abbrev S12x2048x2048 : Shape := ⟨3, ![12, 2048, 2048]⟩
abbrev S2048x16384 : Shape := ⟨2, ![2048, 16384]⟩
abbrev S3x6144 : Shape := ⟨2, ![3, 6144]⟩
abbrev S6144 : Shape := ⟨1, ![6144]⟩
abbrev S1x6144 : Shape := ⟨2, ![1, 6144]⟩
abbrev S12x2048x6144 : Shape := ⟨3, ![12, 2048, 6144]⟩
abbrev S1x2048x2048 : Shape := ⟨3, ![1, 2048, 2048]⟩
abbrev S2048x1024 : Shape := ⟨2, ![2048, 1024]⟩
abbrev S3x1024 : Shape := ⟨2, ![3, 1024]⟩
abbrev S1x1024 : Shape := ⟨2, ![1, 1024]⟩
abbrev S1x2048x1024 : Shape := ⟨3, ![1, 2048, 1024]⟩
abbrev S8x2080x128 : Shape := ⟨3, ![8, 2080, 128]⟩
abbrev S16x128 : Shape := ⟨2, ![16, 128]⟩
abbrev S1x16x128 : Shape := ⟨3, ![1, 16, 128]⟩
abbrev S1x1024x2048 : Shape := ⟨3, ![1, 1024, 2048]⟩
abbrev S1024x2048 : Shape := ⟨2, ![1024, 2048]⟩
abbrev S1024x1024 : Shape := ⟨2, ![1024, 1024]⟩
abbrev S1024x128 : Shape := ⟨2, ![1024, 128]⟩
abbrev S1x1024x128 : Shape := ⟨3, ![1, 1024, 128]⟩
abbrev S1x128 : Shape := ⟨2, ![1, 128]⟩
abbrev S1x256x128 : Shape := ⟨3, ![1, 256, 128]⟩
abbrev S256x128 : Shape := ⟨2, ![256, 128]⟩

abbrev nBuf : Space → Nat
  | .hbm => 8
  | .vmem => 11
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S3x6144, .f32⟩
  | .hbm, ⟨3, _⟩ => ⟨S6144, .f32⟩
  | .hbm, ⟨4, _⟩ => ⟨S12x2048x2048, .bf16⟩
  | .hbm, ⟨5, _⟩ => ⟨S2048x16384, .bf16⟩
  | .hbm, ⟨6, _⟩ => ⟨S1x6144, .f32⟩
  | .hbm, ⟨7, _⟩ => ⟨S12x2048x6144, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S3x1024, .f32⟩
  | .local _ .vmem, ⟨5, _⟩ => ⟨S3x1024, .f32⟩
  | .local _ .vmem, ⟨6, _⟩ => ⟨S1x1024, .f32⟩
  | .local _ .vmem, ⟨7, _⟩ => ⟨S1x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S8x2080x128, .f32⟩
  | _, _ => ⟨S12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S12x2048x2048 : Shape := ⟨3, ![12, 2048, 2048]⟩
abbrev S2048x16384 : Shape := ⟨2, ![2048, 16384]⟩
abbrev S3x6144 : Shape := ⟨2, ![3, 6144]⟩
abbrev S6144 : Shape := ⟨1, ![6144]⟩
abbrev S12x2048x16384 : Shape := ⟨3, ![12, 2048, 16384]⟩
abbrev S12x2048x6144 : Shape := ⟨3, ![12, 2048, 6144]⟩
abbrev S_ : Shape := ⟨0, ![]⟩
abbrev S12x2050x6144 : Shape := ⟨3, ![12, 2050, 6144]⟩
abbrev S1x6144 : Shape := ⟨2, ![1, 6144]⟩
abbrev S1x1x6144 : Shape := ⟨3, ![1, 1, 6144]⟩
abbrev S12x512x4x6144 : Shape := ⟨4, ![12, 512, 4, 6144]⟩
abbrev S12x4x512x6144 : Shape := ⟨4, ![12, 4, 512, 6144]⟩

abbrev nBuf : Space → Nat
  | .hbm => 36
  | .vmem => 0
  | .smem => 0
  | _ => 0

abbrev bufTy : (tb : Table) → Fin (tcTables nBuf tb) → BufTy
  | .hbm, ⟨0, _⟩ => ⟨S12x2048x2048, .f32⟩
  | .hbm, ⟨1, _⟩ => ⟨S2048x16384, .f32⟩
  | .hbm, ⟨2, _⟩ => ⟨S3x6144, .f32⟩
  | .hbm, ⟨3, _⟩ => ⟨S6144, .f32⟩
  | .hbm, ⟨4, _⟩ => ⟨S12x2048x16384, .f32⟩
  | .hbm, ⟨5, _⟩ => ⟨S12x2048x6144, .f32⟩
  | .hbm, ⟨6, _⟩ => ⟨S_, .i32⟩
  | .hbm, ⟨7, _⟩ => ⟨S_, .f32⟩
  | .hbm, ⟨8, _⟩ => ⟨S12x2050x6144, .f32⟩
  | .hbm, ⟨9, _⟩ => ⟨S12x2048x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S12x2048x6144, .f32⟩
  | .hbm, ⟨14, _⟩ => ⟨S12x2048x6144, .f32⟩
  | .hbm, ⟨15, _⟩ => ⟨S12x2048x6144, .f32⟩
  | .hbm, ⟨16, _⟩ => ⟨S1x6144, .f32⟩
  | .hbm, ⟨17, _⟩ => ⟨S6144, .f32⟩
  | .hbm, ⟨18, _⟩ => ⟨S1x1x6144, .f32⟩
  | .hbm, ⟨19, _⟩ => ⟨S12x2048x6144, .f32⟩
  | .hbm, ⟨20, _⟩ => ⟨S12x2048x6144, .f32⟩
  | .hbm, ⟨21, _⟩ => ⟨S12x2048x6144, .f32⟩
  | .hbm, ⟨22, _⟩ => ⟨S12x2048x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S12x2048x6144, .f32⟩
  | .hbm, ⟨27, _⟩ => ⟨S12x2048x6144, .f32⟩
  | .hbm, ⟨28, _⟩ => ⟨S12x2048x6144, .f32⟩
  | .hbm, ⟨29, _⟩ => ⟨S1x1x6144, .f32⟩
  | .hbm, ⟨30, _⟩ => ⟨S12x2048x6144, .f32⟩
  | .hbm, ⟨31, _⟩ => ⟨S12x2048x6144, .f32⟩
  | .hbm, ⟨32, _⟩ => ⟨S12x512x4x6144, .f32⟩
  | .hbm, ⟨33, _⟩ => ⟨S12x4x512x6144, .f32⟩
  | .hbm, ⟨34, _⟩ => ⟨S12x2048x6144, .f32⟩
  | .hbm, ⟨35, _⟩ => ⟨S12x2048x6144, .bf16⟩
  | _, _ => ⟨S12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.Items.lean ====
/- What one attention item of the kernel computes, read at an index: a block of 128 query rows against a
   block of 128 or 256 key rows, masked to the band of 64 positions either side, as the weighted sum of the
   value rows, the sum of the weights and the row's largest score. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Att

open Cert.KernelIdeal Cert.KernelIdeal.Gen Idealize.ShloMosaic Idealize.ShloMosaic.TcCoe

/-- A matrix of extended reals by row and column number. -/
abbrev Rows := ℕ → ℕ → EReal

/-- Two positions of a pass at most 64 apart. -/
def near (a b : ℕ) : Prop := a ≤ b + 64 ∧ b ≤ a + 64

instance (a b : ℕ) : Decidable (near a b) := inferInstanceAs (Decidable (_ ∧ _))

/-- The product of row `t` of `Q` and row `u` of `K`. -/
def dotp (Q K : Rows) (t u : ℕ) : EReal := ∑ c : Fin 128, Q t c * K u c

/-- The masked score of row `t` against key `k` of the window that starts at position `w` of the pass with spacing `d`. -/
def winS (Q K : Rows) (d w t k : ℕ) : EReal :=
  dotp Q K t ((w + k) * d + t % d) + if near (w + k) (t / d) then 0 else ⊥

/-- The largest masked score of row `t` over the window's `n` keys. -/
def winM (Q K : Rows) (n d w t : ℕ) : EReal :=
  (Finset.univ : Finset (Fin n)).fold max ⊥ fun k : Fin n => winS Q K d w t k

/-- The weighted sum of the value rows of the window, column `c`. -/
def winO (Q K V : Rows) (n d w t c : ℕ) : EReal :=
  ∑ k : Fin n, Ideal.exp2 (winS Q K d w t k - winM Q K n d w t) * V ((w + k) * d + t % d) c

/-- The sum of the weights of the window. -/
def winL (Q K : Rows) (n d w t : ℕ) : EReal :=
  ∑ k : Fin n, Ideal.exp2 (winS Q K d w t k - winM Q K n d w t)

/-- Where the window of row `t` starts, for windows of `n` keys. -/
def start (n d t : ℕ) : ℕ := min (t / d / 128 * 128 - 64) (2048 / d - n)

/-! ## The mask -/

theorem mask_word (z : ℤ) (h0 : -1024 ≤ z) (h1 : z ≤ 1024) :
    IntOp.cmpi .sle (IntOp.absi (BitVec.ofInt 32 z)) 64#32 = BitVec.ofBool (decide (-64 ≤ z ∧ z ≤ 64)) := by
  have ht : (BitVec.ofInt 32 z).toInt = z := by
    rw [BitVec.toInt_ofInt, Int.bmod_def]; split <;> omega
  have hm : (BitVec.ofInt 32 z).msb = decide (z < 0) := by
    rw [BitVec.msb_eq_toInt, ht]
  have ha : (IntOp.absi (BitVec.ofInt 32 z)).toInt = |z| := by
    unfold IntOp.absi
    rw [hm]
    by_cases hz : z < 0
    · rw [if_pos (by simpa using hz), BitVec.toInt_neg, ht, Int.bmod_def, abs_of_neg hz]; split <;> omega
    · rw [if_neg (by simpa using hz), ht, abs_of_nonneg (by omega)]
  unfold IntOp.cmpi
  simp only [BitVec.sle, ha]
  congr 1
  rw [decide_eq_decide, show (64#32).toInt = 64 from rfl, abs_le]

theorem ofInt_sub_nat (a b : ℕ) : BitVec.ofInt 32 ((a : ℤ) - b) = BitVec.ofNat 32 a - BitVec.ofNat 32 b := by
  refine (BitVec.sub_eq_iff_eq_add.2 ?_).symm
  rw [← BitVec.ofInt_natCast, ← BitVec.ofInt_natCast, ← BitVec.ofInt_add, sub_add_cancel]

theorem select_mask (w k p : ℕ) (off : BitVec 32) (x : BitVec 32) (q0 r : ℕ) (hoff : off = BitVec.ofInt 32 ((w : ℤ) - q0))
    (hx : x = IntOp.addi (IntOp.subi (BitVec.ofNat 32 k) (BitVec.ofNat 32 r)) off) (hp : p = q0 + r)
    (hk : k < 256) (hr : r < 128) (h0 : w ≤ q0) (h1 : q0 ≤ w + 128) :
    Scalar.select (IntOp.cmpi .sle (IntOp.absi x) 64#32) (0 : EReal) (Named.named (F := Ideal) κ "mask" (φ := .f32) 0xF149F2CA#32)
      = if near (w + k) p then 0 else ⊥ := by
  have e : x = BitVec.ofInt 32 ((k : ℤ) - r + (w - q0)) := by
    rw [hx, hoff]
    unfold IntOp.addi IntOp.subi
    rw [BitVec.ofInt_add, ofInt_sub_nat, ofInt_sub_nat]
  rw [e, mask_word _ (by omega) (by omega)]
  by_cases hn : near (w + k) p
  · rw [if_pos hn]
    unfold near at hn
    rw [show decide (-64 ≤ (k : ℤ) - r + (w - q0) ∧ (k : ℤ) - r + (w - q0) ≤ 64) = true from by
      rw [decide_eq_true_eq]; omega]
    rfl
  · rw [if_neg hn]
    unfold near at hn
    rw [show decide (-64 ≤ (k : ℤ) - r + (w - q0) ∧ (k : ℤ) - r + (w - q0) ≤ 64) = false from by
      rw [decide_eq_false_iff_not]; omega]
    rfl

theorem ofBits_neg_inf : Ideal.ofBits .f32 0xFF800000#32 = ⊥ := by
  simp [Ideal.ofBits, Ideal.ieee]

/-- The window of a row of the block that starts at position `q0` starts at `w0`. -/
theorem start_eq (d ρ q0 w0 : ℕ) (hρ : ρ < d) (hq0 : q0 % 128 = 0) (n : ℕ) (hn : w0 = min (q0 - 64) (2048 / d - n)) (r : Fin 128) : start n d ((q0 + r) * d + ρ) = w0 := by
  have hd : 0 < d := by omega
  have e : ((q0 + r) * d + ρ) / d = q0 + r := by
    rw [Nat.add_comm, Nat.add_mul_div_right _ _ hd, Nat.div_eq_of_lt hρ, Nat.zero_add]
  unfold start
  rw [e, hn, show (q0 + r.val) / 128 * 128 = q0 by omega]

/-! ## An item with 256 keys -/

abbrev bias256 (w : BitVec 32) : FVec Ideal S128x256 .f32 :=
  select (cmpi .sle (absi (addi (subi (iota .tc S128x256 32 [1] iota_S128x256_d1_w32) (iota .tc S128x256 32 [0] iota_S128x256_d0_w32))
      (broadcast S128x256 w))) (broadcast S128x256 64#32))
    (broadcast S128x256 (FloatOps.ofBits .f32 0#32)) (broadcast S128x256 (Named.named κ "mask" 0xF149F2CA#32))
abbrev s256 (q : FVec Ideal S128x128 .bf16) (k : FVec Ideal S256x128 .bf16) (w : BitVec 32) : FVec Ideal S128x256 .f32 :=
  addf (matmul dot_S128x128_S256x128_S128x256_1_1_0_0_n_n none q k (constant S128x256 .f32 0#32)) (bias256 w)
abbrev m256 (s : FVec Ideal S128x256 .f32) : FVec Ideal S128x1 .f32 :=
  shapeCast S128x1 (multiReduction .maximumf [1] S128 s 0xFF800000#32 reduces_S128x256_S128 (.inl rfl) rfl) shapeCasts_S128_S128x1
abbrev oa256 (s : FVec Ideal S128x256 .f32) (v : FVec Ideal S256x128 .bf16) : FVec Ideal S128x256 .f32 :=
  matmul dot_S128x256_S256x256_S128x256_1_0_0_1_n_n none (truncf .bf16 (exp2 (subf s (broadcastTo S128x256 (m256 s) broadcasts_S128x1_S128x256))) bitsLt_bf16_f32)
    (concatenate S256x256 1 [⟨S256x128, v⟩, ⟨S256x128, broadcast S256x128 (FloatOps.ofBits .bf16 0x3F80#16)⟩] concatenates_S256x128_S256x128_S256x256_d1)
    (constant S128x256 .f32 0#32)
abbrev io256 (s : FVec Ideal S128x256 .f32) (v : FVec Ideal S256x128 .bf16) : FVec Ideal S128x128 .f32 :=
  extractStridedSlice S128x128 ![0, 0] (oa256 s v) slices_S128x256_o0_0_S128x128
abbrev il256 (s : FVec Ideal S128x256 .f32) (v : FVec Ideal S256x128 .bf16) : FVec Ideal S128x128 .f32 :=
  extractStridedSlice S128x128 ![0, 128] (oa256 s v) slices_S128x256_o0_128_S128x128
abbrev im256 (s : FVec Ideal S128x256 .f32) : FVec Ideal S128x128 .f32 :=
  broadcastTo S128x128 (m256 s) broadcasts_S128x1_S128x128

section
variable (Q K V : Rows) (d ρ q0 w0 : ℕ) (w : BitVec 32) (hρ : ρ < d) (hq0 : q0 % 128 = 0)
  (hw0 : w0 = min (q0 - 64) (2048 / d - 256)) (hq0' : q0 ≤ w0 + 128) (hw : w = BitVec.ofInt 32 ((w0 : ℤ) - q0))
  (q : FVec Ideal S128x128 .bf16) (k : FVec Ideal S256x128 .bf16) (v : FVec Ideal S256x128 .bf16)
  (hq : ∀ r c : Fin 128, q (ix2 r c) = Q ((q0 + r) * d + ρ) c)
  (hk : ∀ (r : Fin 256) (c : Fin 128), k (ix2 r c) = K ((w0 + r) * d + ρ) c)
  (hv : ∀ (r : Fin 256) (c : Fin 128), v (ix2 r c) = V ((w0 + r) * d + ρ) c)

include hρ hq0 hw0 hq0' hw hq hk in
theorem s256_apply (r : Fin 128) (x : Fin 256) :
    s256 q k w (ix2 r x) = winS Q K d (start 256 d ((q0 + r) * d + ρ)) ((q0 + r) * d + ρ) x := by
  have hd : 0 < d := by omega
  rw [start_eq d ρ q0 w0 hρ hq0 256 hw0 r]
  have e : ((q0 + r) * d + ρ) / d = q0 + r := by
    rw [Nat.add_comm, Nat.add_mul_div_right _ _ hd, Nat.div_eq_of_lt hρ, Nat.zero_add]
  have e' : ((q0 + r) * d + ρ) % d = ρ := by
    rw [Nat.add_comm, Nat.add_mul_mod_self_right, Nat.mod_eq_of_lt hρ]
  unfold winS dotp
  rw [e, e']
  pointwise
  rw [select_mask w0 x (q0 + r) w _ q0 r hw rfl rfl x.isLt r.isLt (by omega) hq0']
  congr 1
  exact Finset.sum_congr rfl fun c _ => by rw [hq, hk]

include hρ hq0 hw0 hq0' hw hq hk in
theorem m256_apply (r : Fin 128) :
    m256 (s256 q k w) (ix2 r 0) = winM Q K 256 d (start 256 d ((q0 + r) * d + ρ)) ((q0 + r) * d + ρ) := by
  have h : m256 (s256 q k w) (ix2 r 0) = (Finset.univ : Finset (Fin 256)).fold max ⊥ fun x => s256 q k w (ix2 r x) := by
    pointwise
    rw [ofBits_neg_inf]
  rw [h]
  unfold winM
  exact congrArg (fun f => (Finset.univ : Finset (Fin 256)).fold max ⊥ f)
    (funext fun x => s256_apply Q K d ρ q0 w0 w hρ hq0 hw0 hq0' hw q k hq hk r x)

include hρ hq0 hw0 hq0' hw hq hk in
theorem im256_apply (r c : Fin 128) :
    im256 (s256 q k w) (ix2 r c) = winM Q K 256 d (start 256 d ((q0 + r) * d + ρ)) ((q0 + r) * d + ρ) := by
  rw [← m256_apply Q K d ρ q0 w0 w hρ hq0 hw0 hq0' hw q k hq hk r]
  generalize s256 q k w = s
  generalize hm : m256 s = m
  show broadcastTo S128x128 (m256 s) _ _ = _
  rw [hm]
  pointwise

include hρ hq0 hw0 hq0' hw hq hk hv in
theorem io256_apply (r c : Fin 128) :
    io256 (s256 q k w) v (ix2 r c) = winO Q K V 256 d (start 256 d ((q0 + r) * d + ρ)) ((q0 + r) * d + ρ) c := by
  have h : io256 (s256 q k w) v (ix2 r c) = ∑ x : Fin 256, Ideal.exp2 (s256 q k w (ix2 r x) - m256 (s256 q k w) (ix2 r 0)) * v (ix2 x c) := by
    generalize s256 q k w = s
    pointwise
    rfl
  rw [h, m256_apply Q K d ρ q0 w0 w hρ hq0 hw0 hq0' hw q k hq hk r]
  unfold winO
  refine Finset.sum_congr rfl fun x _ => ?_
  rw [s256_apply Q K d ρ q0 w0 w hρ hq0 hw0 hq0' hw q k hq hk r x, hv,
    start_eq d ρ q0 w0 hρ hq0 256 hw0 r, Nat.add_comm (_ * d) ρ, Nat.add_mul_mod_self_right, Nat.mod_eq_of_lt hρ, Nat.add_comm ρ]

include hρ hq0 hw0 hq0' hw hq hk in
theorem il256_apply (r c : Fin 128) :
    il256 (s256 q k w) v (ix2 r c) = winL Q K 256 d (start 256 d ((q0 + r) * d + ρ)) ((q0 + r) * d + ρ) := by
  have h : il256 (s256 q k w) v (ix2 r c) = ∑ x : Fin 256, Ideal.exp2 (s256 q k w (ix2 r x) - m256 (s256 q k w) (ix2 r 0)) := by
    generalize s256 q k w = s
    pointwise
    rfl
  rw [h, m256_apply Q K d ρ q0 w0 w hρ hq0 hw0 hq0' hw q k hq hk r]
  unfold winL
  refine Finset.sum_congr rfl fun x _ => ?_
  rw [s256_apply Q K d ρ q0 w0 w hρ hq0 hw0 hq0' hw q k hq hk r x]
end

/-! ## An item with 128 keys -/

abbrev bias128 (w : BitVec 32) : FVec Ideal S128x128 .f32 :=
  select (cmpi .sle (absi (addi (subi (iota .tc S128x128 32 [1] iota_S128x128_d1_w32) (iota .tc S128x128 32 [0] iota_S128x128_d0_w32))
      (broadcast S128x128 w))) (broadcast S128x128 64#32))
    (broadcast S128x128 (FloatOps.ofBits .f32 0#32)) (broadcast S128x128 (Named.named κ "mask" 0xF149F2CA#32))
abbrev s128 (q : FVec Ideal S128x128 .bf16) (k : FVec Ideal S128x128 .bf16) (w : BitVec 32) : FVec Ideal S128x128 .f32 :=
  addf (matmul dot_S128x128_S128x128_S128x128_1_1_0_0_n_n none q k (constant S128x128 .f32 0#32)) (bias128 w)
abbrev m128 (s : FVec Ideal S128x128 .f32) : FVec Ideal S128x1 .f32 :=
  shapeCast S128x1 (multiReduction .maximumf [1] S128 s 0xFF800000#32 reduces_S128x128_S128 (.inl rfl) rfl) shapeCasts_S128_S128x1
abbrev oa128 (s : FVec Ideal S128x128 .f32) (v : FVec Ideal S128x128 .bf16) : FVec Ideal S128x256 .f32 :=
  matmul dot_S128x128_S128x256_S128x256_1_0_0_1_n_n none (truncf .bf16 (exp2 (subf s (broadcastTo S128x128 (m128 s) broadcasts_S128x1_S128x128))) bitsLt_bf16_f32)
    (concatenate S128x256 1 [⟨S128x128, v⟩, ⟨S128x128, broadcast S128x128 (FloatOps.ofBits .bf16 0x3F80#16)⟩] concatenates_S128x128_S128x128_S128x256_d1)
    (constant S128x256 .f32 0#32)
abbrev io128 (s : FVec Ideal S128x128 .f32) (v : FVec Ideal S128x128 .bf16) : FVec Ideal S128x128 .f32 :=
  extractStridedSlice S128x128 ![0, 0] (oa128 s v) slices_S128x256_o0_0_S128x128
abbrev il128 (s : FVec Ideal S128x128 .f32) (v : FVec Ideal S128x128 .bf16) : FVec Ideal S128x128 .f32 :=
  extractStridedSlice S128x128 ![0, 128] (oa128 s v) slices_S128x256_o0_128_S128x128
abbrev im128 (s : FVec Ideal S128x128 .f32) : FVec Ideal S128x128 .f32 :=
  broadcastTo S128x128 (m128 s) broadcasts_S128x1_S128x128

section
variable (Q K V : Rows) (d ρ q0 w0 : ℕ) (w : BitVec 32) (hρ : ρ < d) (hq0 : q0 % 128 = 0)
  (hw0 : w0 = min (q0 - 64) (2048 / d - 128)) (hq0' : q0 ≤ w0 + 128) (hw : w = BitVec.ofInt 32 ((w0 : ℤ) - q0))
  (q : FVec Ideal S128x128 .bf16) (k : FVec Ideal S128x128 .bf16) (v : FVec Ideal S128x128 .bf16)
  (hq : ∀ r c : Fin 128, q (ix2 r c) = Q ((q0 + r) * d + ρ) c)
  (hk : ∀ (r : Fin 128) (c : Fin 128), k (ix2 r c) = K ((w0 + r) * d + ρ) c)
  (hv : ∀ (r : Fin 128) (c : Fin 128), v (ix2 r c) = V ((w0 + r) * d + ρ) c)

include hρ hq0 hw0 hq0' hw hq hk in
theorem s128_apply (r : Fin 128) (x : Fin 128) :
    s128 q k w (ix2 r x) = winS Q K d (start 128 d ((q0 + r) * d + ρ)) ((q0 + r) * d + ρ) x := by
  have hd : 0 < d := by omega
  rw [start_eq d ρ q0 w0 hρ hq0 128 hw0 r]
  have e : ((q0 + r) * d + ρ) / d = q0 + r := by
    rw [Nat.add_comm, Nat.add_mul_div_right _ _ hd, Nat.div_eq_of_lt hρ, Nat.zero_add]
  have e' : ((q0 + r) * d + ρ) % d = ρ := by
    rw [Nat.add_comm, Nat.add_mul_mod_self_right, Nat.mod_eq_of_lt hρ]
  unfold winS dotp
  rw [e, e']
  pointwise
  rw [select_mask w0 x (q0 + r) w _ q0 r hw rfl rfl (by omega) r.isLt (by omega) hq0']
  congr 1
  exact Finset.sum_congr rfl fun c _ => by rw [hq, hk]

include hρ hq0 hw0 hq0' hw hq hk in
theorem m128_apply (r : Fin 128) :
    m128 (s128 q k w) (ix2 r 0) = winM Q K 128 d (start 128 d ((q0 + r) * d + ρ)) ((q0 + r) * d + ρ) := by
  have h : m128 (s128 q k w) (ix2 r 0) = (Finset.univ : Finset (Fin 128)).fold max ⊥ fun x => s128 q k w (ix2 r x) := by
    pointwise
    rw [ofBits_neg_inf]
  rw [h]
  unfold winM
  exact congrArg (fun f => (Finset.univ : Finset (Fin 128)).fold max ⊥ f)
    (funext fun x => s128_apply Q K d ρ q0 w0 w hρ hq0 hw0 hq0' hw q k hq hk r x)

include hρ hq0 hw0 hq0' hw hq hk in
theorem im128_apply (r c : Fin 128) :
    im128 (s128 q k w) (ix2 r c) = winM Q K 128 d (start 128 d ((q0 + r) * d + ρ)) ((q0 + r) * d + ρ) := by
  rw [← m128_apply Q K d ρ q0 w0 w hρ hq0 hw0 hq0' hw q k hq hk r]
  generalize s128 q k w = s
  generalize hm : m128 s = m
  show broadcastTo S128x128 (m128 s) _ _ = _
  rw [hm]
  pointwise

include hρ hq0 hw0 hq0' hw hq hk hv in
theorem io128_apply (r c : Fin 128) :
    io128 (s128 q k w) v (ix2 r c) = winO Q K V 128 d (start 128 d ((q0 + r) * d + ρ)) ((q0 + r) * d + ρ) c := by
  have h : io128 (s128 q k w) v (ix2 r c) = ∑ x : Fin 128, Ideal.exp2 (s128 q k w (ix2 r x) - m128 (s128 q k w) (ix2 r 0)) * v (ix2 x c) := by
    generalize s128 q k w = s
    pointwise
    rfl
  rw [h, m128_apply Q K d ρ q0 w0 w hρ hq0 hw0 hq0' hw q k hq hk r]
  unfold winO
  refine Finset.sum_congr rfl fun x _ => ?_
  rw [s128_apply Q K d ρ q0 w0 w hρ hq0 hw0 hq0' hw q k hq hk r x, hv,
    start_eq d ρ q0 w0 hρ hq0 128 hw0 r, Nat.add_comm (_ * d) ρ, Nat.add_mul_mod_self_right, Nat.mod_eq_of_lt hρ, Nat.add_comm ρ]

include hρ hq0 hw0 hq0' hw hq hk in
theorem il128_apply (r c : Fin 128) :
    il128 (s128 q k w) v (ix2 r c) = winL Q K 128 d (start 128 d ((q0 + r) * d + ρ)) ((q0 + r) * d + ρ) := by
  have h : il128 (s128 q k w) v (ix2 r c) = ∑ x : Fin 128, Ideal.exp2 (s128 q k w (ix2 r x) - m128 (s128 q k w) (ix2 r 0)) := by
    generalize s128 q k w = s
    pointwise
    rfl
  rw [h, m128_apply Q K d ρ q0 w0 w hρ hq0 hw0 hq0' hw q k hq hk r]
  unfold winL
  refine Finset.sum_congr rfl fun x _ => ?_
  rw [s128_apply Q K d ρ q0 w0 w hρ hq0 hw0 hq0' hw q k hq hk r x]
end

end Cert.Att
-- ==== Proof.Stages.lean ====
/- The three passes of the kernel over its scratch rows: what a filled scratch holds, a load of it, and what
   each block of a pass stores, at the row of the sequence the stored row stands for. -/
module

public import proofs.«01_k».proof.Proof.Items

@[expose] public section

set_option maxRecDepth 16384

noncomputable section

namespace Cert.Att

open Cert.KernelIdeal Cert.KernelIdeal.Gen Idealize.ShloMosaic Idealize.ShloMosaic.TcCoe

/-! ## Filled scratches -/

/-- Offset, stride and size of a piece on the two axes. -/
def cells {e : EltTy} (p : View.Piece (Elt Ideal) S2048x128 e) : ℕ × ℕ × ℕ × ℕ × ℕ × ℕ :=
  (p.1.off 0, p.1.stride 0, p.1.size 0, p.1.off 1, p.1.stride 1, p.1.size 1)

theorem covered {e : EltTy} (L : List (View.Piece (Elt Ideal) S2048x128 e)) (offs : List ℕ) (st n : ℕ)
    (h : L.map cells = offs.map fun o => (o, st, n, 0, 1, 128))
    (hc : ∀ t < 2048, ∃ o ∈ offs, o ≤ t ∧ (t - o) % st = 0 ∧ (t - o) / st < n) (y : S2048x128.Idx) :
    ∃ p ∈ L, y ∈ p.1.set := by
  have hy0 : (y 0).val < 2048 := (y 0).isLt
  have hy1 : (y 1).val < 128 := (y 1).isLt
  obtain ⟨o, ho, h1, h2, h3⟩ := hc _ hy0
  have hm : (o, st, n, 0, 1, 128) ∈ L.map cells := by
    rw [h]; exact List.mem_map.2 ⟨o, ho, rfl⟩
  obtain ⟨p, hp, e⟩ := List.mem_map.1 hm
  refine ⟨p, hp, ?_⟩
  unfold cells at e
  simp only [Prod.mk.injEq] at e
  obtain ⟨e1, e2, e3, e4, e5, e6⟩ := e
  rw [LoadRect.mem_set]
  intro a
  match a with
  | ⟨0, _⟩ =>
    refine ⟨((y 0).val - o) / st, lt_of_lt_of_eq h3 e3.symm, ?_⟩
    have := Nat.div_add_mod ((y 0).val - o) st
    show (y 0).val = p.1.off 0 + p.1.stride 0 * _
    rw [e1, e2]
    omega
  | ⟨1, _⟩ =>
    refine ⟨(y 1).val, lt_of_lt_of_eq hy1 e6.symm, ?_⟩
    show (y 1).val = p.1.off 1 + p.1.stride 1 * _
    rw [e4, e5]
    omega

/-- The writes `L` leave `G` at every row and column. -/
def Holds {e : EltTy} (L : List (View.Piece (Elt Ideal) S2048x128 e)) (G : ℕ → ℕ → Elt Ideal e) : Prop :=
  ∀ y, View.canon L y = G (y 0).val (y 1).val

theorem holds_of_pieces {e : EltTy} {L : List (View.Piece (Elt Ideal) S2048x128 e)}
    {G : ℕ → ℕ → Elt Ideal e} (offs : List ℕ) (st n : ℕ)
    (h : L.map cells = offs.map fun o => (o, st, n, 0, 1, 128))
    (hc : ∀ t < 2048, ∃ o ∈ offs, o ≤ t ∧ (t - o) % st = 0 ∧ (t - o) / st < n)
    (hp : ∀ p ∈ L, ∀ x : p.1.shape.Idx, p.2 x = G (p.1.emb x 0).val (p.1.emb x 1).val) : Holds L G :=
  fun y => View.canon_apply_of_pieces (fun y => G (y 0).val (y 1).val) L hp y (covered L offs st n h hc _)

theorem Holds.load {sp : Space} {e : EltTy} {L : List (View.Piece (Elt Ideal) S2048x128 e)} {G : ℕ → ℕ → Elt Ideal e}
    (h : Holds L G) (v : View sig .tc sp S2048x128 e) (B : LoadRect S2048x128) (x : B.shape.Idx) :
    v.readCov L B x = G (B.idx x 0).val (B.idx x 1).val := by
  rw [View.readCov_eq_canon']
  exact h _

/-- A copy of strided rows of a filled scratch. -/
theorem Holds.copy {sp : Space} {e : EltTy} {L : List (View.Piece (Elt Ideal) S2048x128 e)} {G : ℕ → ℕ → Elt Ideal e}
    (h : Holds L G) (v : View sig .tc sp S2048x128 e) {o n o' : ℕ}
    (inb : ∀ a, (![n, 128] : Fin 2 → ℕ) a = 0 ∨ (![o, 0] : Fin 2 → ℕ) a + (![4, 1] : Fin 2 → ℕ) a * ((![n, 128] : Fin 2 → ℕ) a - 1) < S2048x128.size a)
    (inb' : ∀ a, (![o', 0] : Fin 2 → ℕ) a + (![n, 128] : Fin 2 → ℕ) a ≤ S2048x128.size a)
    (G' : ℕ → ℕ → Elt Ideal e) (hG : ∀ r < n, ∀ c, G (o + 4 * r) c = G' (o' + r) c)
    (x : (Rect.unit (s := S2048x128) ![o', 0] ![n, 128] inb').shape.Idx) :
    v.readCov L ⟨![o, 0], ![n, 128], ![4, 1], inb⟩ x
      = G' ((Rect.unit (s := S2048x128) ![o', 0] ![n, 128] inb').emb x 0).val ((Rect.unit (s := S2048x128) ![o', 0] ![n, 128] inb').emb x 1).val := by
  have hx : (x 0).val < n := (x 0).isLt
  refine (h.load v ⟨![o, 0], ![n, 128], ![4, 1], inb⟩ x).trans ?_
  show G (o + 4 * (x 0).val) (0 + 1 * (x 1).val) = G' (o' + 1 * (x 0).val) (0 + 1 * (x 1).val)
  rw [hG _ hx, Nat.one_mul, Nat.one_mul]

/-- A load of consecutive rows of a filled scratch. -/
theorem Holds.rows {sp : Space} {e : EltTy} {L : List (View.Piece (Elt Ideal) S2048x128 e)} {G : ℕ → ℕ → Elt Ideal e}
    (h : Holds L G) (v : View sig .tc sp S2048x128 e) {o n : ℕ}
    (inb : ∀ a, (![o, 0] : Fin 2 → ℕ) a + (![n, 128] : Fin 2 → ℕ) a ≤ S2048x128.size a)
    (r : Fin n) (c : Fin 128) :
    v.readCov L (Rect.unit (s := S2048x128) ![o, 0] ![n, 128] inb).toLoadRect (ix2 r c) = G (o + r) c := by
  refine (h.load v (Rect.unit (s := S2048x128) ![o, 0] ![n, 128] inb).toLoadRect (ix2 r c)).trans ?_
  show G (o + 1 * r.val) (0 + 1 * c.val) = _
  rw [Nat.one_mul, Nat.one_mul, Nat.zero_add]

/-! ## The orders of rows -/

/-- The row of the sequence that row `r` of the order by remainder modulo 4 stands for. -/
def p4 (r : ℕ) : ℕ := r % 512 * 4 + r / 512

/-- The same for the order by remainder modulo 16. -/
def p16 (r : ℕ) : ℕ := r % 128 * 16 + (r / 128 % 4 * 4 + r / 128 / 4)

theorem cover_512 : ∀ t < 2048, ∃ o ∈ [1536, 1024, 512, 0], o ≤ t ∧ (t - o) % 1 = 0 ∧ (t - o) / 1 < 512 := by
  decide +kernel

theorem cover_128 : ∀ t < 2048, ∃ o ∈ [1920, 1792, 1664, 1536, 1408, 1280, 1152, 1024, 896, 768, 640, 512, 384, 256, 128, 0],
    o ≤ t ∧ (t - o) % 1 = 0 ∧ (t - o) / 1 < 128 := by
  decide +kernel

theorem cover_4 : ∀ t < 2048, ∃ o ∈ [1539, 1538, 1537, 1536, 1027, 1026, 1025, 1024, 515, 514, 513, 512, 3, 2, 1, 0],
    o ≤ t ∧ (t - o) % 4 = 0 ∧ (t - o) / 4 < 128 := by
  decide +kernel

theorem cover_4' : ∀ t < 2048, ∃ o ∈ [1539, 1027, 515, 3, 1538, 1026, 514, 2, 1537, 1025, 513, 1, 1536, 1024, 512, 0],
    o ≤ t ∧ (t - o) % 4 = 0 ∧ (t - o) / 4 < 128 := by
  decide +kernel

/-! ## The passes -/

/-- Two weighted sums over their own largest scores, brought to the larger one and added. -/
def mrg (o1 m1 o2 m2 : EReal) : EReal :=
  Ideal.exp2 (m1 - max m1 m2) * o1 + Ideal.exp2 (m2 - max m1 m2) * o2

section
variable (Q K V : Rows)

/-- The largest score, the weighted sum and the sum of weights of the pass of spacing `d` with windows of `n` keys. -/
def passM (n d t : ℕ) : EReal := winM Q K n d (start n d t) t
def passO (n d t c : ℕ) : EReal := winO Q K V n d (start n d t) t c
def passL (n d t : ℕ) : EReal := winL Q K n d (start n d t) t

/-- After the passes of spacing 16 and 4. -/
def accM (t : ℕ) : EReal := max (passM Q K 256 4 t) (passM Q K 128 16 t)
def accO (t c : ℕ) : EReal := mrg (passO Q K V 256 4 t c) (passM Q K 256 4 t) (passO Q K V 128 16 t c) (passM Q K 128 16 t)
def accL (t : ℕ) : EReal := mrg (passL Q K 256 4 t) (passM Q K 256 4 t) (passL Q K 128 16 t) (passM Q K 128 16 t)

/-- The kernel's result. -/
def attOut (t c : ℕ) : EReal :=
  Ideal.div (mrg (passO Q K V 256 1 t c) (passM Q K 256 1 t) (accO Q K V t c) (accM Q K t))
    (mrg (passL Q K 256 1 t) (passM Q K 256 1 t) (accL Q K t) (accM Q K t))
end

section
variable {Q K V : Rows}

/-! ### The pass of spacing 16 -/

section
variable {L9 L10 L11 : List (View.Piece (Elt Ideal) S2048x128 .bf16)}
  (h9 : Holds L9 fun r c => Q (p16 r) c) (h10 : Holds L10 fun r c => K (p16 r) c) (h11 : Holds L11 fun r c => V (p16 r) c)
  {s9 s10 s11 : Space} (v9 : View sig .tc s9 S2048x128 .bf16) (v10 : View sig .tc s10 S2048x128 .bf16) (v11 : View sig .tc s11 S2048x128 .bf16)
  {o o' : ℕ} (inb9 inb10 inb11 : ∀ a, (![o, 0] : Fin 2 → ℕ) a + (![128, 128] : Fin 2 → ℕ) a ≤ S2048x128.size a)
  (g : ℕ) (hg : g < 16) (ho : o = g * 128) (ho' : o' = g / 4 * 512 + g % 4) (x : S128x128.Idx)
  (inb' : ∀ a, S128x128.size a = 0 ∨ (![o', 0] : Fin 2 → ℕ) a + (![4, 1] : Fin 2 → ℕ) a * (S128x128.size a - 1) < S2048x128.size a)
  (pos : ∀ a, 0 < (![4, 1] : Fin 2 → ℕ) a)

theorem p16_at {r : ℕ} (hr : r < 128) {g : ℕ} : p16 (g * 128 + r) = (0 + r) * 16 + (g % 4 * 4 + g / 4) := by
  unfold p16; omega

theorem p4_at {r : ℕ} (hr : r < 128) {g : ℕ} (hg : g < 16) :
    p4 (g / 4 * 512 + g % 4 + 4 * r) = (0 + r) * 16 + (g % 4 * 4 + g / 4) := by
  unfold p4; omega

theorem load16 {L9 : List (View.Piece (Elt Ideal) S2048x128 .bf16)} {Q : Rows} (h9 : Holds L9 fun r c => Q (p16 r) c) {o : ℕ} (g : ℕ) (ho : o = g * 128) {sp : Space} (v : View sig .tc sp S2048x128 .bf16) (inb : ∀ a, (![o, 0] : Fin 2 → ℕ) a + (![128, 128] : Fin 2 → ℕ) a ≤ S2048x128.size a)
    (r c : Fin 128) : v.readCov L9 (Rect.unit (s := S2048x128) ![o, 0] ![128, 128] inb).toLoadRect (ix2 r c) = Q ((0 + r) * 16 + (g % 4 * 4 + g / 4)) c := by
  rw [h9.rows v inb r c, ho, p16_at r.isLt]

include h9 h10 hg ho ho' in
/-- The largest score a block of the pass stores. -/
theorem m16_piece : im128 (s128 (v9.readCov L9 (Rect.unit (s := S2048x128) ![o, 0] ![128, 128] inb9).toLoadRect)
      (v10.readCov L10 (Rect.unit (s := S2048x128) ![o, 0] ![128, 128] inb10).toLoadRect) 0#32) x
    = passM Q K 128 16 (p4 ((⟨⟨![o', 0], S128x128.size, ![4, 1], inb'⟩, pos⟩ : Rect S2048x128).emb x 0).val) := by
  obtain ⟨r, c, rfl⟩ : ∃ (r c : Fin 128), x = ix2 r c := ⟨x 0, x 1, eq_ix2 x⟩
  refine (im128_apply Q K 16 (g % 4 * 4 + g / 4) 0 0 0#32 (by omega) rfl rfl (by decide) (by rfl) _ _
    (load16 h9 g ho v9 inb9) (load16 h10 g ho v10 inb10) r c).trans ?_
  show _ = passM Q K 128 16 (p4 (o' + 4 * r.val))
  rw [ho', p4_at r.isLt hg]
  rfl

include h9 h10 h11 hg ho ho' in
/-- The weighted sum it stores. -/
theorem o16_piece : io128 (s128 (v9.readCov L9 (Rect.unit (s := S2048x128) ![o, 0] ![128, 128] inb9).toLoadRect)
      (v10.readCov L10 (Rect.unit (s := S2048x128) ![o, 0] ![128, 128] inb10).toLoadRect) 0#32)
      (v11.readCov L11 (Rect.unit (s := S2048x128) ![o, 0] ![128, 128] inb11).toLoadRect) x
    = passO Q K V 128 16 (p4 ((⟨⟨![o', 0], S128x128.size, ![4, 1], inb'⟩, pos⟩ : Rect S2048x128).emb x 0).val)
        ((⟨⟨![o', 0], S128x128.size, ![4, 1], inb'⟩, pos⟩ : Rect S2048x128).emb x 1).val := by
  obtain ⟨r, c, rfl⟩ : ∃ (r c : Fin 128), x = ix2 r c := ⟨x 0, x 1, eq_ix2 x⟩
  refine (io128_apply Q K V 16 (g % 4 * 4 + g / 4) 0 0 0#32 (by omega) rfl rfl (by decide) (by rfl) _ _ _
    (load16 h9 g ho v9 inb9) (load16 h10 g ho v10 inb10) (load16 h11 g ho v11 inb11) r c).trans ?_
  show _ = passO Q K V 128 16 (p4 (o' + 4 * r.val)) (0 + 1 * c.val)
  rw [ho', p4_at r.isLt hg, Nat.one_mul, Nat.zero_add c.val]
  rfl

include h9 h10 hg ho ho' in
/-- The sum of weights it stores. -/
theorem l16_piece (v : FVec Ideal S128x128 .bf16) : il128 (s128 (v9.readCov L9 (Rect.unit (s := S2048x128) ![o, 0] ![128, 128] inb9).toLoadRect)
      (v10.readCov L10 (Rect.unit (s := S2048x128) ![o, 0] ![128, 128] inb10).toLoadRect) 0#32) v x
    = passL Q K 128 16 (p4 ((⟨⟨![o', 0], S128x128.size, ![4, 1], inb'⟩, pos⟩ : Rect S2048x128).emb x 0).val) := by
  obtain ⟨r, c, rfl⟩ : ∃ (r c : Fin 128), x = ix2 r c := ⟨x 0, x 1, eq_ix2 x⟩
  refine (il128_apply Q K 16 (g % 4 * 4 + g / 4) 0 0 0#32 (by omega) rfl rfl (by decide) (by rfl) _ _ v
    (load16 h9 g ho v9 inb9) (load16 h10 g ho v10 inb10) r c).trans ?_
  show _ = passL Q K 128 16 (p4 (o' + 4 * r.val))
  rw [ho', p4_at r.isLt hg]
  rfl
end

/-! ### Joining two passes -/

/-- The join of two passes, at an index. -/
abbrev jo (o1 m1 o2 m2 : FVec Ideal S128x128 .f32) : FVec Ideal S128x128 .f32 :=
  addf (mulf (exp2 (subf m1 (maximumf m1 m2))) o1) (mulf (exp2 (subf m2 (maximumf m1 m2))) o2)

theorem jo_apply (o1 m1 o2 m2 : FVec Ideal S128x128 .f32) (x : S128x128.Idx) {a b c d : EReal} (h1 : o1 x = a) (h2 : m1 x = b)
    (h3 : o2 x = c) (h4 : m2 x = d) : jo o1 m1 o2 m2 x = mrg a b c d := by
  subst h1 h2 h3 h4
  rfl

theorem max_apply' (m1 m2 : FVec Ideal S128x128 .f32) (x : S128x128.Idx) {b d : EReal} (h2 : m1 x = b)
    (h4 : m2 x = d) : maximumf m1 m2 x = max b d := by
  subst h2 h4
  rfl

/-! ### The pass of spacing 4 -/

section
variable {L6 L7 L8 : List (View.Piece (Elt Ideal) S2048x128 .bf16)} {L12 L13 L14 : List (View.Piece (Elt Ideal) S2048x128 .f32)}
  (h6 : Holds L6 fun r c => Q (p4 r) c) (h7 : Holds L7 fun r c => K (p4 r) c) (h8 : Holds L8 fun r c => V (p4 r) c)
  (h12 : Holds L12 fun r c => passO Q K V 128 16 (p4 r) c) (h13 : Holds L13 fun r _ => passL Q K 128 16 (p4 r))
  (h14 : Holds L14 fun r _ => passM Q K 128 16 (p4 r))
  {s6 s7 s8 s12 s13 s14 : Space} (v6 : View sig .tc s6 S2048x128 .bf16) (v7 : View sig .tc s7 S2048x128 .bf16) (v8 : View sig .tc s8 S2048x128 .bf16)
  (v12 : View sig .tc s12 S2048x128 .f32) (v13 : View sig .tc s13 S2048x128 .f32) (v14 : View sig .tc s14 S2048x128 .f32)
  {oq ow o' : ℕ} {w : BitVec 32}
  (inb6 inb12 inb13 inb14 : ∀ a, (![oq, 0] : Fin 2 → ℕ) a + (![128, 128] : Fin 2 → ℕ) a ≤ S2048x128.size a)
  (inb7 inb8 : ∀ a, (![ow, 0] : Fin 2 → ℕ) a + (![256, 128] : Fin 2 → ℕ) a ≤ S2048x128.size a)
  (g q0 w0 : ℕ) (hg : g < 4) (hq0 : q0 % 128 = 0) (hq1 : q0 < 512) (hw0 : w0 = min (q0 - 64) (2048 / 4 - 256)) (hw1 : q0 ≤ w0 + 128)
  (hw : w = BitVec.ofInt 32 ((w0 : ℤ) - q0)) (hoq : oq = g * 512 + q0) (how : ow = g * 512 + w0) (ho' : o' = 4 * q0 + g)
  (x : S128x128.Idx)
  (inb' : ∀ a, S128x128.size a = 0 ∨ (![o', 0] : Fin 2 → ℕ) a + (![4, 1] : Fin 2 → ℕ) a * (S128x128.size a - 1) < S2048x128.size a)
  (pos : ∀ a, 0 < (![4, 1] : Fin 2 → ℕ) a)

theorem p4_row {g q0 r : ℕ} (hr : q0 + r < 512) : p4 (g * 512 + q0 + r) = (q0 + r) * 4 + g := by
  unfold p4; omega

theorem load4q {L6 : List (View.Piece (Elt Ideal) S2048x128 .bf16)} {Q : Rows} (h6 : Holds L6 fun r c => Q (p4 r) c) {s6 : Space}
    (v6 : View sig .tc s6 S2048x128 .bf16) {n oq g q0 : ℕ} (inb6 : ∀ a, (![oq, 0] : Fin 2 → ℕ) a + (![n, 128] : Fin 2 → ℕ) a ≤ S2048x128.size a)
    (hoq : oq = g * 512 + q0) (hq1 : q0 + n ≤ 512) (r : Fin n) (c : Fin 128) :
    v6.readCov L6 (Rect.unit (s := S2048x128) ![oq, 0] ![n, 128] inb6).toLoadRect (ix2 r c) = Q ((q0 + r) * 4 + g) c := by
  rw [h6.rows v6 inb6 r c, hoq, p4_row (by omega)]

theorem load4a {L : List (View.Piece (Elt Ideal) S2048x128 .f32)} {G : Rows} (h : Holds L fun r c => G (p4 r) c) {s6 : Space}
    (v : View sig .tc s6 S2048x128 .f32) {oq g q0 : ℕ} (inb : ∀ a, (![oq, 0] : Fin 2 → ℕ) a + (![128, 128] : Fin 2 → ℕ) a ≤ S2048x128.size a)
    (hoq : oq = g * 512 + q0) (hq1 : q0 + 128 ≤ 512) (r : Fin 128) (c : Fin 128) :
    v.readCov L (Rect.unit (s := S2048x128) ![oq, 0] ![128, 128] inb).toLoadRect (ix2 r c) = G ((q0 + r) * 4 + g) c := by
  rw [h.rows v inb r c, hoq, p4_row (by omega)]

theorem row4 (g q0 r : ℕ) : 4 * q0 + g + 4 * r = (q0 + r) * 4 + g := by omega

include h6 h7 h14 hg hq0 hq1 hw0 hw1 hw hoq how ho' in
/-- The largest score a block of the pass stores. -/
theorem m4_piece : maximumf (im256 (s256 (v6.readCov L6 (Rect.unit (s := S2048x128) ![oq, 0] ![128, 128] inb6).toLoadRect)
      (v7.readCov L7 (Rect.unit (s := S2048x128) ![ow, 0] ![256, 128] inb7).toLoadRect) w))
      (v14.readCov L14 (Rect.unit (s := S2048x128) ![oq, 0] ![128, 128] inb14).toLoadRect) x
    = accM Q K ((⟨⟨![o', 0], S128x128.size, ![4, 1], inb'⟩, pos⟩ : Rect S2048x128).emb x 0).val := by
  obtain ⟨r, c, rfl⟩ : ∃ (r c : Fin 128), x = ix2 r c := ⟨x 0, x 1, eq_ix2 x⟩
  refine (max_apply' _ _ _ (im256_apply Q K 4 g q0 w0 w hg hq0 hw0 hw1 hw _ _
    (load4q h6 v6 inb6 hoq (by omega)) (load4q h7 v7 inb7 how (by omega)) r c)
    (load4a (G := fun t _ => passM Q K 128 16 t) h14 v14 inb14 hoq (by omega) r c)).trans ?_
  show _ = accM Q K (o' + 4 * r.val)
  rw [ho', row4]
  rfl

include h6 h7 h8 h12 h14 hg hq0 hq1 hw0 hw1 hw hoq how ho' in
/-- The weighted sum it stores. -/
theorem o4_piece : jo (io256 (s256 (v6.readCov L6 (Rect.unit (s := S2048x128) ![oq, 0] ![128, 128] inb6).toLoadRect)
      (v7.readCov L7 (Rect.unit (s := S2048x128) ![ow, 0] ![256, 128] inb7).toLoadRect) w)
      (v8.readCov L8 (Rect.unit (s := S2048x128) ![ow, 0] ![256, 128] inb8).toLoadRect))
      (im256 (s256 (v6.readCov L6 (Rect.unit (s := S2048x128) ![oq, 0] ![128, 128] inb6).toLoadRect)
      (v7.readCov L7 (Rect.unit (s := S2048x128) ![ow, 0] ![256, 128] inb7).toLoadRect) w))
      (v12.readCov L12 (Rect.unit (s := S2048x128) ![oq, 0] ![128, 128] inb12).toLoadRect)
      (v14.readCov L14 (Rect.unit (s := S2048x128) ![oq, 0] ![128, 128] inb14).toLoadRect) x
    = accO Q K V ((⟨⟨![o', 0], S128x128.size, ![4, 1], inb'⟩, pos⟩ : Rect S2048x128).emb x 0).val
        ((⟨⟨![o', 0], S128x128.size, ![4, 1], inb'⟩, pos⟩ : Rect S2048x128).emb x 1).val := by
  obtain ⟨r, c, rfl⟩ : ∃ (r c : Fin 128), x = ix2 r c := ⟨x 0, x 1, eq_ix2 x⟩
  refine (jo_apply _ _ _ _ _ (io256_apply Q K V 4 g q0 w0 w hg hq0 hw0 hw1 hw _ _ _
    (load4q h6 v6 inb6 hoq (by omega)) (load4q h7 v7 inb7 how (by omega)) (load4q h8 v8 inb8 how (by omega)) r c)
    (im256_apply Q K 4 g q0 w0 w hg hq0 hw0 hw1 hw _ _
    (load4q h6 v6 inb6 hoq (by omega)) (load4q h7 v7 inb7 how (by omega)) r c)
    (load4a (G := fun t c => passO Q K V 128 16 t c) h12 v12 inb12 hoq (by omega) r c)
    (load4a (G := fun t _ => passM Q K 128 16 t) h14 v14 inb14 hoq (by omega) r c)).trans ?_
  show _ = accO Q K V (o' + 4 * r.val) (0 + 1 * c.val)
  rw [ho', row4, Nat.one_mul, Nat.zero_add c.val]
  rfl

include h6 h7 h13 h14 hg hq0 hq1 hw0 hw1 hw hoq how ho' in
/-- The sum of weights it stores. -/
theorem l4_piece (v : FVec Ideal S256x128 .bf16) : jo (il256 (s256 (v6.readCov L6 (Rect.unit (s := S2048x128) ![oq, 0] ![128, 128] inb6).toLoadRect)
      (v7.readCov L7 (Rect.unit (s := S2048x128) ![ow, 0] ![256, 128] inb7).toLoadRect) w) v)
      (im256 (s256 (v6.readCov L6 (Rect.unit (s := S2048x128) ![oq, 0] ![128, 128] inb6).toLoadRect)
      (v7.readCov L7 (Rect.unit (s := S2048x128) ![ow, 0] ![256, 128] inb7).toLoadRect) w))
      (v13.readCov L13 (Rect.unit (s := S2048x128) ![oq, 0] ![128, 128] inb13).toLoadRect)
      (v14.readCov L14 (Rect.unit (s := S2048x128) ![oq, 0] ![128, 128] inb14).toLoadRect) x
    = accL Q K ((⟨⟨![o', 0], S128x128.size, ![4, 1], inb'⟩, pos⟩ : Rect S2048x128).emb x 0).val := by
  obtain ⟨r, c, rfl⟩ : ∃ (r c : Fin 128), x = ix2 r c := ⟨x 0, x 1, eq_ix2 x⟩
  refine (jo_apply _ _ _ _ _ (il256_apply Q K 4 g q0 w0 w hg hq0 hw0 hw1 hw _ _ v
    (load4q h6 v6 inb6 hoq (by omega)) (load4q h7 v7 inb7 how (by omega)) r c)
    (im256_apply Q K 4 g q0 w0 w hg hq0 hw0 hw1 hw _ _
    (load4q h6 v6 inb6 hoq (by omega)) (load4q h7 v7 inb7 how (by omega)) r c)
    (load4a (G := fun t _ => passL Q K 128 16 t) h13 v13 inb13 hoq (by omega) r c)
    (load4a (G := fun t _ => passM Q K 128 16 t) h14 v14 inb14 hoq (by omega) r c)).trans ?_
  show _ = accL Q K (o' + 4 * r.val)
  rw [ho', row4]
  rfl
end

end

/-! ## The argument blocks by rows -/

/-- The rows of a block of an argument. -/
def rows (x : Vec Ideal S1x1x2048x128 .bf16) : Rows := fun t c =>
  if h : t < 2048 ∧ c < 128 then x (ix4 (0 : Fin 1) (0 : Fin 1) (⟨t, h.1⟩ : Fin 2048) (⟨c, h.2⟩ : Fin 128)) else 0

theorem rows_apply (x : Vec Ideal S1x1x2048x128 .bf16) (t : ℕ) (ht : t < 2048) (c : Fin 128) :
    rows x t c = x (ix4 (0 : Fin 1) (0 : Fin 1) (⟨t, ht⟩ : Fin 2048) c) := by
  unfold rows
  rw [dif_pos ⟨ht, c.isLt⟩]

theorem drop128 (y : FVec Ideal S1x1x128x128 .bf16) (h : S1x1x128x128.ShapeCasts S128x128) (r : Fin 128) (c : Fin 128) :
    shapeCast S128x128 y h (ix2 r c) = y (ix4 (0 : Fin 1) (0 : Fin 1) r c) := by
  pointwise

theorem drop256 (y : FVec Ideal S1x1x256x128 .bf16) (h : S1x1x256x128.ShapeCasts S256x128) (r : Fin 256) (c : Fin 128) :
    shapeCast S256x128 y h (ix2 r c) = y (ix4 (0 : Fin 1) (0 : Fin 1) r c) := by
  pointwise

/-- A load of consecutive rows of an argument block. -/
theorem load1q (x : Vec Ideal S1x1x2048x128 .bf16) {o : ℕ} (ho : o + 128 ≤ 2048)
    (inb : ∀ a, (![0, 0, o, 0] : Fin 4 → ℕ) a + (![1, 1, 128, 128] : Fin 4 → ℕ) a ≤ S1x1x2048x128.size a)
    (h : S1x1x128x128.ShapeCasts S128x128) (r c : Fin 128) :
    shapeCast S128x128 (View.ld x (Rect.unit (s := S1x1x2048x128) ![0, 0, o, 0] ![1, 1, 128, 128] inb) : FVec Ideal S1x1x128x128 .bf16) h (ix2 r c)
      = rows x ((o + r) * 1 + 0) c := by
  rw [rows_apply x _ (by omega)]
  rw [drop128]
  refine congrArg x ?_
  funext a
  refine Fin.ext ?_
  fin_cases a
  · rfl
  · rfl
  · show o + 1 * r.val = (o + r.val) * 1 + 0
    omega
  · show 0 + 1 * c.val = c.val
    omega

theorem load1k (x : Vec Ideal S1x1x2048x128 .bf16) {o : ℕ} (ho : o + 256 ≤ 2048)
    (inb : ∀ a, (![0, 0, o, 0] : Fin 4 → ℕ) a + (![1, 1, 256, 128] : Fin 4 → ℕ) a ≤ S1x1x2048x128.size a)
    (h : S1x1x256x128.ShapeCasts S256x128) (r : Fin 256) (c : Fin 128) :
    shapeCast S256x128 (View.ld x (Rect.unit (s := S1x1x2048x128) ![0, 0, o, 0] ![1, 1, 256, 128] inb) : FVec Ideal S1x1x256x128 .bf16) h (ix2 r c)
      = rows x ((o + r) * 1 + 0) c := by
  rw [rows_apply x _ (by omega)]
  rw [drop256]
  refine congrArg x ?_
  funext a
  refine Fin.ext ?_
  fin_cases a
  · rfl
  · rfl
  · show o + 1 * r.val = (o + r.val) * 1 + 0
    omega
  · show 0 + 1 * c.val = c.val
    omega

/-- What a block of the pass of spacing 1 stores. -/
theorem out_piece {x0 x1 x2 : Vec Ideal S1x1x2048x128 .bf16} {L15 L16 L17 : List (View.Piece (Elt Ideal) S2048x128 .f32)}
    (h15 : Holds L15 fun t c => accO (rows x0) (rows x1) (rows x2) t c) (h16 : Holds L16 fun t _ => accL (rows x0) (rows x1) t)
    (h17 : Holds L17 fun t _ => accM (rows x0) (rows x1) t)
    {s15 s16 s17 : Space} (v15 : View sig .tc s15 S2048x128 .f32) (v16 : View sig .tc s16 S2048x128 .f32) (v17 : View sig .tc s17 S2048x128 .f32)
    {q0 w0 : ℕ} {w : BitVec 32} (hq0 : q0 % 128 = 0) (hq1 : q0 < 2048) (hw0 : w0 = min (q0 - 64) (2048 / 1 - 256)) (hw1 : q0 ≤ w0 + 128)
    (hw : w = BitVec.ofInt 32 ((w0 : ℤ) - q0))
    (inb15 inb16 inb17 : ∀ a, (![q0, 0] : Fin 2 → ℕ) a + (![128, 128] : Fin 2 → ℕ) a ≤ S2048x128.size a)
    (inb0 : ∀ a, (![0, 0, q0, 0] : Fin 4 → ℕ) a + (![1, 1, 128, 128] : Fin 4 → ℕ) a ≤ S1x1x2048x128.size a)
    (inb1 inb2 : ∀ a, (![0, 0, w0, 0] : Fin 4 → ℕ) a + (![1, 1, 256, 128] : Fin 4 → ℕ) a ≤ S1x1x2048x128.size a)
    (hs0 : S1x1x128x128.ShapeCasts S128x128) (hs1 hs2 : S1x1x256x128.ShapeCasts S256x128)
    (inb' : ∀ a, (![0, q0, 0] : Fin 3 → ℕ) a + S1x128x128.size a ≤ S1x2048x128.size a) (hs : S128x128.ShapeCasts S1x128x128) (x : S1x128x128.Idx) :
    shapeCast S1x128x128 (truncf .bf16 (divf
      (jo (io256 (s256 (shapeCast S128x128 (View.ld x0 (Rect.unit (s := S1x1x2048x128) ![0, 0, q0, 0] ![1, 1, 128, 128] inb0) : FVec Ideal S1x1x128x128 .bf16) hs0)
          (shapeCast S256x128 (View.ld x1 (Rect.unit (s := S1x1x2048x128) ![0, 0, w0, 0] ![1, 1, 256, 128] inb1) : FVec Ideal S1x1x256x128 .bf16) hs1) w)
          (shapeCast S256x128 (View.ld x2 (Rect.unit (s := S1x1x2048x128) ![0, 0, w0, 0] ![1, 1, 256, 128] inb2) : FVec Ideal S1x1x256x128 .bf16) hs2))
        (im256 (s256 (shapeCast S128x128 (View.ld x0 (Rect.unit (s := S1x1x2048x128) ![0, 0, q0, 0] ![1, 1, 128, 128] inb0) : FVec Ideal S1x1x128x128 .bf16) hs0)
          (shapeCast S256x128 (View.ld x1 (Rect.unit (s := S1x1x2048x128) ![0, 0, w0, 0] ![1, 1, 256, 128] inb1) : FVec Ideal S1x1x256x128 .bf16) hs1) w))
        (v15.readCov L15 (Rect.unit (s := S2048x128) ![q0, 0] ![128, 128] inb15).toLoadRect)
        (v17.readCov L17 (Rect.unit (s := S2048x128) ![q0, 0] ![128, 128] inb17).toLoadRect))
      (jo (il256 (s256 (shapeCast S128x128 (View.ld x0 (Rect.unit (s := S1x1x2048x128) ![0, 0, q0, 0] ![1, 1, 128, 128] inb0) : FVec Ideal S1x1x128x128 .bf16) hs0)
          (shapeCast S256x128 (View.ld x1 (Rect.unit (s := S1x1x2048x128) ![0, 0, w0, 0] ![1, 1, 256, 128] inb1) : FVec Ideal S1x1x256x128 .bf16) hs1) w)
          (shapeCast S256x128 (View.ld x2 (Rect.unit (s := S1x1x2048x128) ![0, 0, w0, 0] ![1, 1, 256, 128] inb2) : FVec Ideal S1x1x256x128 .bf16) hs2))
        (im256 (s256 (shapeCast S128x128 (View.ld x0 (Rect.unit (s := S1x1x2048x128) ![0, 0, q0, 0] ![1, 1, 128, 128] inb0) : FVec Ideal S1x1x128x128 .bf16) hs0)
          (shapeCast S256x128 (View.ld x1 (Rect.unit (s := S1x1x2048x128) ![0, 0, w0, 0] ![1, 1, 256, 128] inb1) : FVec Ideal S1x1x256x128 .bf16) hs1) w))
        (v16.readCov L16 (Rect.unit (s := S2048x128) ![q0, 0] ![128, 128] inb16).toLoadRect)
        (v17.readCov L17 (Rect.unit (s := S2048x128) ![q0, 0] ![128, 128] inb17).toLoadRect))) bitsLt_bf16_f32) hs x
    = attOut (rows x0) (rows x1) (rows x2) ((Rect.unit (s := S1x2048x128) ![0, q0, 0] S1x128x128.size inb').emb x 1).val
        ((Rect.unit (s := S1x2048x128) ![0, q0, 0] S1x128x128.size inb').emb x 2).val := by
  obtain ⟨z, r, c, rfl⟩ : ∃ (z : Fin 1) (r c : Fin 128), x = ix3 z r c := ⟨x 0, x 1, x 2, eq_ix3 x⟩
  have hM := im256_apply (rows x0) (rows x1) 1 0 q0 w0 w (by omega) hq0 hw0 hw1 hw _ _ (load1q x0 (by omega) inb0 hs0) (load1k x1 (by omega) inb1 hs1) r c
  have hO := io256_apply (rows x0) (rows x1) (rows x2) 1 0 q0 w0 w (by omega) hq0 hw0 hw1 hw _ _ _ (load1q x0 (by omega) inb0 hs0) (load1k x1 (by omega) inb1 hs1) (load1k x2 (by omega) inb2 hs2) r c
  have hL := il256_apply (rows x0) (rows x1) 1 0 q0 w0 w (by omega) hq0 hw0 hw1 hw _ _ (shapeCast S256x128 (View.ld x2 (Rect.unit (s := S1x1x2048x128) ![0, 0, w0, 0] ![1, 1, 256, 128] inb2) : FVec Ideal S1x1x256x128 .bf16) hs2)
    (load1q x0 (by omega) inb0 hs0) (load1k x1 (by omega) inb1 hs1) r c
  have e : (q0 + r.val) * 1 + 0 = q0 + r.val := by omega
  rw [e] at hM hO hL
  have hT := jo_apply _ _ _ _ _ hO hM (h15.rows v15 inb15 r c) (h17.rows v17 inb17 r c)
  have hB := jo_apply _ _ _ _ _ hL hM (h16.rows v16 inb16 r c) (h17.rows v17 inb17 r c)
  show _ = attOut _ _ _ (q0 + 1 * r.val) (0 + 1 * c.val)
  rw [Nat.one_mul, Nat.one_mul, Nat.zero_add]
  refine Eq.trans ?_ (congrArg₂ Ideal.div hT hB)
  generalize jo _ _ _ _ = A
  generalize jo _ _ _ _ = B
  pointwise

end Cert.Att
-- ==== Proof.Copies.lean ====
/- What the kernel copies into its scratches: the argument blocks, and their rows in the two orders. -/
module

public import proofs.«01_k».proof.Proof.Stages
public import proofs.«01_k».proof.Proof.Gen.KernelIdeal.Value
public import Idealize.ShloMosaic.Lib.Tactic.RunNames
public import Idealize.ShloMosaic.Lib.Pointwise

@[expose] public section

set_option maxRecDepth 16384

noncomputable section

namespace Cert.Att

open Cert.KernelIdeal Cert.KernelIdeal.Gen Idealize.ShloMosaic Idealize.ShloMosaic.TcCoe

theorem drop2048 (y : FVec Ideal S1x1x2048x128 .bf16) (h : S1x1x2048x128.ShapeCasts S2048x128) (r : Fin 2048) (c : Fin 128) :
    shapeCast S2048x128 y h (ix2 r c) = y (ix4 (0 : Fin 1) (0 : Fin 1) r c) := by
  pointwise

theorem p4_copy (g r : ℕ) (hr : r < 512) : p4 (g * 512 + r) = g + 4 * r := by
  unfold p4; omega

theorem p16_copy (g r : ℕ) (hg : g < 16) (hr : r < 128) : p16 (g * 128 + r) = p4 (g / 4 * 512 + g % 4 + 4 * r) := by
  exact (p16_at hr).trans (p4_at hr hg).symm

/-- A whole argument block, as a scratch holds it. -/
theorem whole_piece (x : Vec Ideal S1x1x2048x128 .bf16)
    (inb0 : ∀ a, (![0, 0, 0, 0] : Fin 4 → ℕ) a + (![1, 1, 2048, 128] : Fin 4 → ℕ) a ≤ S1x1x2048x128.size a)
    (h : S1x1x2048x128.ShapeCasts S2048x128)
    (inb : ∀ a, (![0, 0] : Fin 2 → ℕ) a + S2048x128.size a ≤ S2048x128.size a) (y : S2048x128.Idx) :
    extf (F := Ideal) .f32 (shapeCast S2048x128 (View.ld x (Rect.unit (s := S1x1x2048x128) ![0, 0, 0, 0] ![1, 1, 2048, 128] inb0) : FVec Ideal S1x1x2048x128 .bf16) h) bitsLt_bf16_f32 y
      = rows x ((Rect.unit (s := S2048x128) ![0, 0] S2048x128.size inb).emb y 0).val ((Rect.unit (s := S2048x128) ![0, 0] S2048x128.size inb).emb y 1).val := by
  obtain ⟨r, c, rfl⟩ : ∃ (r : Fin 2048) (c : Fin 128), y = ix2 r c := ⟨y 0, y 1, eq_ix2 y⟩
  show _ = rows x (0 + 1 * r.val) (0 + 1 * c.val)
  rw [Nat.zero_add, Nat.zero_add, Nat.one_mul, Nat.one_mul, rows_apply x r r.isLt]
  generalize hz : (View.ld x (Rect.unit (s := S1x1x2048x128) ![0, 0, 0, 0] ![1, 1, 2048, 128] inb0) : FVec Ideal S1x1x2048x128 .bf16) = z
  refine (drop2048 z h r c).trans ?_
  rw [← hz]
  refine congrArg x ?_
  funext a
  refine Fin.ext ?_
  fin_cases a
  · rfl
  · rfl
  · show 0 + 1 * r.val = r.val
    omega
  · show 0 + 1 * c.val = c.val
    omega

theorem hs0_holds (c : Dev nD) (arg2 : Memref sig .tc .vmem S1x1x2048x128 .bf16) (harg2 : arg2.IsWhole) (x0 : Vec Ideal S1x1x2048x128 .bf16) :
    Holds (kernelRun0_A.sl.HS0_1 (F := Ideal) c arg2 harg2 x0) (rows x0) := by
  refine holds_of_pieces [0] 1 2048 rfl (by decide +kernel) ?_
  unfold kernelRun0_A.sl.HS0_1
  sl_unfold_run_values
  simp only [shapeCast_self, View.readAt_eq_ld, Memref.IsWhole.read_unread, List.forall_mem_cons]
  refine ⟨fun x => whole_piece x0 _ _ _ x,
    fun _ h => absurd h List.not_mem_nil⟩

theorem hs1_holds (c : Dev nD) (arg3 : Memref sig .tc .vmem S1x1x2048x128 .bf16) (harg3 : arg3.IsWhole) (x1 : Vec Ideal S1x1x2048x128 .bf16) :
    Holds (kernelRun0_A.sl.HS1_1 (F := Ideal) c arg3 harg3 x1) (rows x1) := by
  refine holds_of_pieces [0] 1 2048 rfl (by decide +kernel) ?_
  unfold kernelRun0_A.sl.HS1_1
  sl_unfold_run_values
  simp only [shapeCast_self, View.readAt_eq_ld, Memref.IsWhole.read_unread, List.forall_mem_cons]
  refine ⟨fun x => whole_piece x1 _ _ _ x,
    fun _ h => absurd h List.not_mem_nil⟩

theorem hs2_holds (c : Dev nD) (arg4 : Memref sig .tc .vmem S1x1x2048x128 .bf16) (harg4 : arg4.IsWhole) (x2 : Vec Ideal S1x1x2048x128 .bf16) :
    Holds (kernelRun0_A.sl.HS2_1 (F := Ideal) c arg4 harg4 x2) (rows x2) := by
  refine holds_of_pieces [0] 1 2048 rfl (by decide +kernel) ?_
  unfold kernelRun0_A.sl.HS2_1
  sl_unfold_run_values
  simp only [shapeCast_self, View.readAt_eq_ld, Memref.IsWhole.read_unread, List.forall_mem_cons]
  refine ⟨fun x => whole_piece x2 _ _ _ x,
    fun _ h => absurd h List.not_mem_nil⟩

theorem hs3_holds (c : Dev nD) (arg2 : Memref sig .tc .vmem S1x1x2048x128 .bf16) (harg2 : arg2.IsWhole) (arg6 : Memref sig .tc .vmem S2048x128 .f32) (x0 : Vec Ideal S1x1x2048x128 .bf16) :
    Holds (kernelRun0_A.sl.HS3_4 (F := Ideal) c arg2 harg2 arg6 x0) (fun r c => rows x0 (p4 r) c) := by
  have h := hs0_holds c arg2 harg2 x0
  refine holds_of_pieces [1536, 1024, 512, 0] 1 512 rfl cover_512 ?_
  unfold kernelRun0_A.sl.HS3_4
  sl_unfold_run_values
  simp only [shapeCast_self, View.readAt_eq_ld, Memref.IsWhole.read_unread, List.forall_mem_cons]
  refine ⟨fun x => h.copy _ _ _ (fun r c => rows x0 (p4 r) c) (fun r hr c => congrArg (fun t => rows x0 t c) (p4_copy 3 r hr).symm) x,
    fun x => h.copy _ _ _ (fun r c => rows x0 (p4 r) c) (fun r hr c => congrArg (fun t => rows x0 t c) (p4_copy 2 r hr).symm) x,
    fun x => h.copy _ _ _ (fun r c => rows x0 (p4 r) c) (fun r hr c => congrArg (fun t => rows x0 t c) (p4_copy 1 r hr).symm) x,
    fun x => h.copy _ _ _ (fun r c => rows x0 (p4 r) c) (fun r hr c => congrArg (fun t => rows x0 t c) (p4_copy 0 r hr).symm) x,
    fun _ h => absurd h List.not_mem_nil⟩

theorem hs4_holds (c : Dev nD) (arg3 : Memref sig .tc .vmem S1x1x2048x128 .bf16) (harg3 : arg3.IsWhole) (arg7 : Memref sig .tc .vmem S2048x128 .f32) (x1 : Vec Ideal S1x1x2048x128 .bf16) :
    Holds (kernelRun0_A.sl.HS4_4 (F := Ideal) c arg3 harg3 arg7 x1) (fun r c => rows x1 (p4 r) c) := by
  have h := hs1_holds c arg3 harg3 x1
  refine holds_of_pieces [1536, 1024, 512, 0] 1 512 rfl cover_512 ?_
  unfold kernelRun0_A.sl.HS4_4
  sl_unfold_run_values
  simp only [shapeCast_self, View.readAt_eq_ld, Memref.IsWhole.read_unread, List.forall_mem_cons]
  refine ⟨fun x => h.copy _ _ _ (fun r c => rows x1 (p4 r) c) (fun r hr c => congrArg (fun t => rows x1 t c) (p4_copy 3 r hr).symm) x,
    fun x => h.copy _ _ _ (fun r c => rows x1 (p4 r) c) (fun r hr c => congrArg (fun t => rows x1 t c) (p4_copy 2 r hr).symm) x,
    fun x => h.copy _ _ _ (fun r c => rows x1 (p4 r) c) (fun r hr c => congrArg (fun t => rows x1 t c) (p4_copy 1 r hr).symm) x,
    fun x => h.copy _ _ _ (fun r c => rows x1 (p4 r) c) (fun r hr c => congrArg (fun t => rows x1 t c) (p4_copy 0 r hr).symm) x,
    fun _ h => absurd h List.not_mem_nil⟩

theorem hs5_holds (c : Dev nD) (arg4 : Memref sig .tc .vmem S1x1x2048x128 .bf16) (harg4 : arg4.IsWhole) (arg8 : Memref sig .tc .vmem S2048x128 .f32) (x2 : Vec Ideal S1x1x2048x128 .bf16) :
    Holds (kernelRun0_A.sl.HS5_4 (F := Ideal) c arg4 harg4 arg8 x2) (fun r c => rows x2 (p4 r) c) := by
  have h := hs2_holds c arg4 harg4 x2
  refine holds_of_pieces [1536, 1024, 512, 0] 1 512 rfl cover_512 ?_
  unfold kernelRun0_A.sl.HS5_4
  sl_unfold_run_values
  simp only [shapeCast_self, View.readAt_eq_ld, Memref.IsWhole.read_unread, List.forall_mem_cons]
  refine ⟨fun x => h.copy _ _ _ (fun r c => rows x2 (p4 r) c) (fun r hr c => congrArg (fun t => rows x2 t c) (p4_copy 3 r hr).symm) x,
    fun x => h.copy _ _ _ (fun r c => rows x2 (p4 r) c) (fun r hr c => congrArg (fun t => rows x2 t c) (p4_copy 2 r hr).symm) x,
    fun x => h.copy _ _ _ (fun r c => rows x2 (p4 r) c) (fun r hr c => congrArg (fun t => rows x2 t c) (p4_copy 1 r hr).symm) x,
    fun x => h.copy _ _ _ (fun r c => rows x2 (p4 r) c) (fun r hr c => congrArg (fun t => rows x2 t c) (p4_copy 0 r hr).symm) x,
    fun _ h => absurd h List.not_mem_nil⟩

theorem hs6_holds (c : Dev nD) (arg2 : Memref sig .tc .vmem S1x1x2048x128 .bf16) (harg2 : arg2.IsWhole) (arg6 : Memref sig .tc .vmem S2048x128 .f32) (x0 : Vec Ideal S1x1x2048x128 .bf16) :
    Holds (kernelRun0_A.sl.HS6_4 (F := Ideal) c arg2 harg2 arg6 x0) (fun r c => rows x0 (p4 r) c) := by
  have h := hs0_holds c arg2 harg2 x0
  refine holds_of_pieces [1536, 1024, 512, 0] 1 512 rfl cover_512 ?_
  unfold kernelRun0_A.sl.HS6_4
  sl_unfold_run_values
  simp only [shapeCast_self, View.readAt_eq_ld, Memref.IsWhole.read_unread, List.forall_mem_cons]
  refine ⟨fun x => h.copy _ _ _ (fun r c => rows x0 (p4 r) c) (fun r hr c => congrArg (fun t => rows x0 t c) (p4_copy 3 r hr).symm) x,
    fun x => h.copy _ _ _ (fun r c => rows x0 (p4 r) c) (fun r hr c => congrArg (fun t => rows x0 t c) (p4_copy 2 r hr).symm) x,
    fun x => h.copy _ _ _ (fun r c => rows x0 (p4 r) c) (fun r hr c => congrArg (fun t => rows x0 t c) (p4_copy 1 r hr).symm) x,
    fun x => h.copy _ _ _ (fun r c => rows x0 (p4 r) c) (fun r hr c => congrArg (fun t => rows x0 t c) (p4_copy 0 r hr).symm) x,
    fun _ h => absurd h List.not_mem_nil⟩

theorem hs7_holds (c : Dev nD) (arg3 : Memref sig .tc .vmem S1x1x2048x128 .bf16) (harg3 : arg3.IsWhole) (arg7 : Memref sig .tc .vmem S2048x128 .f32) (x1 : Vec Ideal S1x1x2048x128 .bf16) :
    Holds (kernelRun0_A.sl.HS7_4 (F := Ideal) c arg3 harg3 arg7 x1) (fun r c => rows x1 (p4 r) c) := by
  have h := hs1_holds c arg3 harg3 x1
  refine holds_of_pieces [1536, 1024, 512, 0] 1 512 rfl cover_512 ?_
  unfold kernelRun0_A.sl.HS7_4
  sl_unfold_run_values
  simp only [shapeCast_self, View.readAt_eq_ld, Memref.IsWhole.read_unread, List.forall_mem_cons]
  refine ⟨fun x => h.copy _ _ _ (fun r c => rows x1 (p4 r) c) (fun r hr c => congrArg (fun t => rows x1 t c) (p4_copy 3 r hr).symm) x,
    fun x => h.copy _ _ _ (fun r c => rows x1 (p4 r) c) (fun r hr c => congrArg (fun t => rows x1 t c) (p4_copy 2 r hr).symm) x,
    fun x => h.copy _ _ _ (fun r c => rows x1 (p4 r) c) (fun r hr c => congrArg (fun t => rows x1 t c) (p4_copy 1 r hr).symm) x,
    fun x => h.copy _ _ _ (fun r c => rows x1 (p4 r) c) (fun r hr c => congrArg (fun t => rows x1 t c) (p4_copy 0 r hr).symm) x,
    fun _ h => absurd h List.not_mem_nil⟩

theorem hs8_holds (c : Dev nD) (arg4 : Memref sig .tc .vmem S1x1x2048x128 .bf16) (harg4 : arg4.IsWhole) (arg8 : Memref sig .tc .vmem S2048x128 .f32) (x2 : Vec Ideal S1x1x2048x128 .bf16) :
    Holds (kernelRun0_A.sl.HS8_4 (F := Ideal) c arg4 harg4 arg8 x2) (fun r c => rows x2 (p4 r) c) := by
  have h := hs2_holds c arg4 harg4 x2
  refine holds_of_pieces [1536, 1024, 512, 0] 1 512 rfl cover_512 ?_
  unfold kernelRun0_A.sl.HS8_4
  sl_unfold_run_values
  simp only [shapeCast_self, View.readAt_eq_ld, Memref.IsWhole.read_unread, List.forall_mem_cons]
  refine ⟨fun x => h.copy _ _ _ (fun r c => rows x2 (p4 r) c) (fun r hr c => congrArg (fun t => rows x2 t c) (p4_copy 3 r hr).symm) x,
    fun x => h.copy _ _ _ (fun r c => rows x2 (p4 r) c) (fun r hr c => congrArg (fun t => rows x2 t c) (p4_copy 2 r hr).symm) x,
    fun x => h.copy _ _ _ (fun r c => rows x2 (p4 r) c) (fun r hr c => congrArg (fun t => rows x2 t c) (p4_copy 1 r hr).symm) x,
    fun x => h.copy _ _ _ (fun r c => rows x2 (p4 r) c) (fun r hr c => congrArg (fun t => rows x2 t c) (p4_copy 0 r hr).symm) x,
    fun _ h => absurd h List.not_mem_nil⟩

theorem hs9_holds (c : Dev nD) (arg2 : Memref sig .tc .vmem S1x1x2048x128 .bf16) (harg2 : arg2.IsWhole) (arg6 : Memref sig .tc .vmem S2048x128 .f32) (arg9 : Memref sig .tc .vmem S2048x128 .f32) (x0 : Vec Ideal S1x1x2048x128 .bf16) :
    Holds (kernelRun0_A.sl.HS9_16 (F := Ideal) c arg2 harg2 arg6 arg9 x0) (fun r c => rows x0 (p16 r) c) := by
  have h := hs3_holds c arg2 harg2 arg6 x0
  refine holds_of_pieces [1920, 1792, 1664, 1536, 1408, 1280, 1152, 1024, 896, 768, 640, 512, 384, 256, 128, 0] 1 128 rfl cover_128 ?_
  unfold kernelRun0_A.sl.HS9_16
  sl_unfold_run_values
  simp only [shapeCast_self, View.readAt_eq_ld, Memref.IsWhole.read_unread, List.forall_mem_cons]
  refine ⟨fun x => h.copy _ _ _ (fun r c => rows x0 (p16 r) c) (fun r hr c => congrArg (fun t => rows x0 t c) (p16_copy 15 r (by decide) hr).symm) x,
    fun x => h.copy _ _ _ (fun r c => rows x0 (p16 r) c) (fun r hr c => congrArg (fun t => rows x0 t c) (p16_copy 14 r (by decide) hr).symm) x,
    fun x => h.copy _ _ _ (fun r c => rows x0 (p16 r) c) (fun r hr c => congrArg (fun t => rows x0 t c) (p16_copy 13 r (by decide) hr).symm) x,
    fun x => h.copy _ _ _ (fun r c => rows x0 (p16 r) c) (fun r hr c => congrArg (fun t => rows x0 t c) (p16_copy 12 r (by decide) hr).symm) x,
    fun x => h.copy _ _ _ (fun r c => rows x0 (p16 r) c) (fun r hr c => congrArg (fun t => rows x0 t c) (p16_copy 11 r (by decide) hr).symm) x,
    fun x => h.copy _ _ _ (fun r c => rows x0 (p16 r) c) (fun r hr c => congrArg (fun t => rows x0 t c) (p16_copy 10 r (by decide) hr).symm) x,
    fun x => h.copy _ _ _ (fun r c => rows x0 (p16 r) c) (fun r hr c => congrArg (fun t => rows x0 t c) (p16_copy 9 r (by decide) hr).symm) x,
    fun x => h.copy _ _ _ (fun r c => rows x0 (p16 r) c) (fun r hr c => congrArg (fun t => rows x0 t c) (p16_copy 8 r (by decide) hr).symm) x,
    fun x => h.copy _ _ _ (fun r c => rows x0 (p16 r) c) (fun r hr c => congrArg (fun t => rows x0 t c) (p16_copy 7 r (by decide) hr).symm) x,
    fun x => h.copy _ _ _ (fun r c => rows x0 (p16 r) c) (fun r hr c => congrArg (fun t => rows x0 t c) (p16_copy 6 r (by decide) hr).symm) x,
    fun x => h.copy _ _ _ (fun r c => rows x0 (p16 r) c) (fun r hr c => congrArg (fun t => rows x0 t c) (p16_copy 5 r (by decide) hr).symm) x,
    fun x => h.copy _ _ _ (fun r c => rows x0 (p16 r) c) (fun r hr c => congrArg (fun t => rows x0 t c) (p16_copy 4 r (by decide) hr).symm) x,
    fun x => h.copy _ _ _ (fun r c => rows x0 (p16 r) c) (fun r hr c => congrArg (fun t => rows x0 t c) (p16_copy 3 r (by decide) hr).symm) x,
    fun x => h.copy _ _ _ (fun r c => rows x0 (p16 r) c) (fun r hr c => congrArg (fun t => rows x0 t c) (p16_copy 2 r (by decide) hr).symm) x,
    fun x => h.copy _ _ _ (fun r c => rows x0 (p16 r) c) (fun r hr c => congrArg (fun t => rows x0 t c) (p16_copy 1 r (by decide) hr).symm) x,
    fun x => h.copy _ _ _ (fun r c => rows x0 (p16 r) c) (fun r hr c => congrArg (fun t => rows x0 t c) (p16_copy 0 r (by decide) hr).symm) x,
    fun _ h => absurd h List.not_mem_nil⟩

theorem hs10_holds (c : Dev nD) (arg3 : Memref sig .tc .vmem S1x1x2048x128 .bf16) (harg3 : arg3.IsWhole) (arg7 : Memref sig .tc .vmem S2048x128 .f32) (arg10 : Memref sig .tc .vmem S2048x128 .f32) (x1 : Vec Ideal S1x1x2048x128 .bf16) :
    Holds (kernelRun0_A.sl.HS10_16 (F := Ideal) c arg3 harg3 arg7 arg10 x1) (fun r c => rows x1 (p16 r) c) := by
  have h := hs4_holds c arg3 harg3 arg7 x1
  refine holds_of_pieces [1920, 1792, 1664, 1536, 1408, 1280, 1152, 1024, 896, 768, 640, 512, 384, 256, 128, 0] 1 128 rfl cover_128 ?_
  unfold kernelRun0_A.sl.HS10_16
  sl_unfold_run_values
  simp only [shapeCast_self, View.readAt_eq_ld, Memref.IsWhole.read_unread, List.forall_mem_cons]
  refine ⟨fun x => h.copy _ _ _ (fun r c => rows x1 (p16 r) c) (fun r hr c => congrArg (fun t => rows x1 t c) (p16_copy 15 r (by decide) hr).symm) x,
    fun x => h.copy _ _ _ (fun r c => rows x1 (p16 r) c) (fun r hr c => congrArg (fun t => rows x1 t c) (p16_copy 14 r (by decide) hr).symm) x,
    fun x => h.copy _ _ _ (fun r c => rows x1 (p16 r) c) (fun r hr c => congrArg (fun t => rows x1 t c) (p16_copy 13 r (by decide) hr).symm) x,
    fun x => h.copy _ _ _ (fun r c => rows x1 (p16 r) c) (fun r hr c => congrArg (fun t => rows x1 t c) (p16_copy 12 r (by decide) hr).symm) x,
    fun x => h.copy _ _ _ (fun r c => rows x1 (p16 r) c) (fun r hr c => congrArg (fun t => rows x1 t c) (p16_copy 11 r (by decide) hr).symm) x,
    fun x => h.copy _ _ _ (fun r c => rows x1 (p16 r) c) (fun r hr c => congrArg (fun t => rows x1 t c) (p16_copy 10 r (by decide) hr).symm) x,
    fun x => h.copy _ _ _ (fun r c => rows x1 (p16 r) c) (fun r hr c => congrArg (fun t => rows x1 t c) (p16_copy 9 r (by decide) hr).symm) x,
    fun x => h.copy _ _ _ (fun r c => rows x1 (p16 r) c) (fun r hr c => congrArg (fun t => rows x1 t c) (p16_copy 8 r (by decide) hr).symm) x,
    fun x => h.copy _ _ _ (fun r c => rows x1 (p16 r) c) (fun r hr c => congrArg (fun t => rows x1 t c) (p16_copy 7 r (by decide) hr).symm) x,
    fun x => h.copy _ _ _ (fun r c => rows x1 (p16 r) c) (fun r hr c => congrArg (fun t => rows x1 t c) (p16_copy 6 r (by decide) hr).symm) x,
    fun x => h.copy _ _ _ (fun r c => rows x1 (p16 r) c) (fun r hr c => congrArg (fun t => rows x1 t c) (p16_copy 5 r (by decide) hr).symm) x,
    fun x => h.copy _ _ _ (fun r c => rows x1 (p16 r) c) (fun r hr c => congrArg (fun t => rows x1 t c) (p16_copy 4 r (by decide) hr).symm) x,
    fun x => h.copy _ _ _ (fun r c => rows x1 (p16 r) c) (fun r hr c => congrArg (fun t => rows x1 t c) (p16_copy 3 r (by decide) hr).symm) x,
    fun x => h.copy _ _ _ (fun r c => rows x1 (p16 r) c) (fun r hr c => congrArg (fun t => rows x1 t c) (p16_copy 2 r (by decide) hr).symm) x,
    fun x => h.copy _ _ _ (fun r c => rows x1 (p16 r) c) (fun r hr c => congrArg (fun t => rows x1 t c) (p16_copy 1 r (by decide) hr).symm) x,
    fun x => h.copy _ _ _ (fun r c => rows x1 (p16 r) c) (fun r hr c => congrArg (fun t => rows x1 t c) (p16_copy 0 r (by decide) hr).symm) x,
    fun _ h => absurd h List.not_mem_nil⟩

theorem hs11_holds (c : Dev nD) (arg4 : Memref sig .tc .vmem S1x1x2048x128 .bf16) (harg4 : arg4.IsWhole) (arg8 : Memref sig .tc .vmem S2048x128 .f32) (arg11 : Memref sig .tc .vmem S2048x128 .f32) (x2 : Vec Ideal S1x1x2048x128 .bf16) :
    Holds (kernelRun0_A.sl.HS11_16 (F := Ideal) c arg4 harg4 arg8 arg11 x2) (fun r c => rows x2 (p16 r) c) := by
  have h := hs5_holds c arg4 harg4 arg8 x2
  refine holds_of_pieces [1920, 1792, 1664, 1536, 1408, 1280, 1152, 1024, 896, 768, 640, 512, 384, 256, 128, 0] 1 128 rfl cover_128 ?_
  unfold kernelRun0_A.sl.HS11_16
  sl_unfold_run_values
  simp only [shapeCast_self, View.readAt_eq_ld, Memref.IsWhole.read_unread, List.forall_mem_cons]
  refine ⟨fun x => h.copy _ _ _ (fun r c => rows x2 (p16 r) c) (fun r hr c => congrArg (fun t => rows x2 t c) (p16_copy 15 r (by decide) hr).symm) x,
    fun x => h.copy _ _ _ (fun r c => rows x2 (p16 r) c) (fun r hr c => congrArg (fun t => rows x2 t c) (p16_copy 14 r (by decide) hr).symm) x,
    fun x => h.copy _ _ _ (fun r c => rows x2 (p16 r) c) (fun r hr c => congrArg (fun t => rows x2 t c) (p16_copy 13 r (by decide) hr).symm) x,
    fun x => h.copy _ _ _ (fun r c => rows x2 (p16 r) c) (fun r hr c => congrArg (fun t => rows x2 t c) (p16_copy 12 r (by decide) hr).symm) x,
    fun x => h.copy _ _ _ (fun r c => rows x2 (p16 r) c) (fun r hr c => congrArg (fun t => rows x2 t c) (p16_copy 11 r (by decide) hr).symm) x,
    fun x => h.copy _ _ _ (fun r c => rows x2 (p16 r) c) (fun r hr c => congrArg (fun t => rows x2 t c) (p16_copy 10 r (by decide) hr).symm) x,
    fun x => h.copy _ _ _ (fun r c => rows x2 (p16 r) c) (fun r hr c => congrArg (fun t => rows x2 t c) (p16_copy 9 r (by decide) hr).symm) x,
    fun x => h.copy _ _ _ (fun r c => rows x2 (p16 r) c) (fun r hr c => congrArg (fun t => rows x2 t c) (p16_copy 8 r (by decide) hr).symm) x,
    fun x => h.copy _ _ _ (fun r c => rows x2 (p16 r) c) (fun r hr c => congrArg (fun t => rows x2 t c) (p16_copy 7 r (by decide) hr).symm) x,
    fun x => h.copy _ _ _ (fun r c => rows x2 (p16 r) c) (fun r hr c => congrArg (fun t => rows x2 t c) (p16_copy 6 r (by decide) hr).symm) x,
    fun x => h.copy _ _ _ (fun r c => rows x2 (p16 r) c) (fun r hr c => congrArg (fun t => rows x2 t c) (p16_copy 5 r (by decide) hr).symm) x,
    fun x => h.copy _ _ _ (fun r c => rows x2 (p16 r) c) (fun r hr c => congrArg (fun t => rows x2 t c) (p16_copy 4 r (by decide) hr).symm) x,
    fun x => h.copy _ _ _ (fun r c => rows x2 (p16 r) c) (fun r hr c => congrArg (fun t => rows x2 t c) (p16_copy 3 r (by decide) hr).symm) x,
    fun x => h.copy _ _ _ (fun r c => rows x2 (p16 r) c) (fun r hr c => congrArg (fun t => rows x2 t c) (p16_copy 2 r (by decide) hr).symm) x,
    fun x => h.copy _ _ _ (fun r c => rows x2 (p16 r) c) (fun r hr c => congrArg (fun t => rows x2 t c) (p16_copy 1 r (by decide) hr).symm) x,
    fun x => h.copy _ _ _ (fun r c => rows x2 (p16 r) c) (fun r hr c => congrArg (fun t => rows x2 t c) (p16_copy 0 r (by decide) hr).symm) x,
    fun _ h => absurd h List.not_mem_nil⟩

end Cert.Att
-- ==== Proof.Reads16.lean ====
/- What the pass of spacing 16 leaves in its scratches. -/
module

public import proofs.«01_k».proof.Proof.Copies
public import proofs.«01_k».proof.Proof.Gen.KernelIdeal.Value
public import Idealize.ShloMosaic.Lib.Tactic.RunNames
public import Idealize.ShloMosaic.Lib.Pointwise

@[expose] public section

set_option maxRecDepth 16384

noncomputable section

namespace Cert.Att

open Cert.KernelIdeal Cert.KernelIdeal.Gen Idealize.ShloMosaic Idealize.ShloMosaic.TcCoe

theorem hs14_holds (c : Dev nD) (arg2 : Memref sig .tc .vmem S1x1x2048x128 .bf16) (harg2 : arg2.IsWhole) (arg3 : Memref sig .tc .vmem S1x1x2048x128 .bf16) (harg3 : arg3.IsWhole) (arg6 : Memref sig .tc .vmem S2048x128 .f32) (arg7 : Memref sig .tc .vmem S2048x128 .f32) (arg9 : Memref sig .tc .vmem S2048x128 .f32) (arg10 : Memref sig .tc .vmem S2048x128 .f32) (arg15 : Memref sig .tc .vmem S2048x128 .bf16) (arg16 : Memref sig .tc .vmem S2048x128 .bf16) (x0 : Vec Ideal S1x1x2048x128 .bf16) (x1 : Vec Ideal S1x1x2048x128 .bf16) :
    Holds (kernelRun0_A.sl.HS14_16 (F := Ideal) c arg2 harg2 arg3 harg3 arg6 arg7 arg9 arg10 arg15 arg16 x0 x1) (fun r _ => passM (rows x0) (rows x1) 128 16 (p4 r)) := by
  have h9 := hs9_holds c arg2 harg2 arg6 arg9 x0
  have h10 := hs10_holds c arg3 harg3 arg7 arg10 x1
  refine holds_of_pieces [1539, 1538, 1537, 1536, 1027, 1026, 1025, 1024, 515, 514, 513, 512, 3, 2, 1, 0] 4 128 rfl cover_4 ?_
  unfold kernelRun0_A.sl.HS14_16 kernelRun0_A.sl.HS14_14 kernelRun0_A.sl.HS14_13 kernelRun0_A.sl.HS14_11 kernelRun0_A.sl.HS14_10 kernelRun0_A.sl.HS14_9 kernelRun0_A.sl.HS14_7 kernelRun0_A.sl.HS14_6 kernelRun0_A.sl.HS14_5 kernelRun0_A.sl.HS14_3 kernelRun0_A.sl.HS14_2 kernelRun0_A.sl.HS14_1
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => m16_piece h9 h10 _ _ _ _ 15 (by decide) rfl rfl x _ _,
    fun x => m16_piece h9 h10 _ _ _ _ 14 (by decide) rfl rfl x _ _,
    fun x => m16_piece h9 h10 _ _ _ _ 13 (by decide) rfl rfl x _ _,
    fun x => m16_piece h9 h10 _ _ _ _ 12 (by decide) rfl rfl x _ _,
    fun x => m16_piece h9 h10 _ _ _ _ 11 (by decide) rfl rfl x _ _,
    fun x => m16_piece h9 h10 _ _ _ _ 10 (by decide) rfl rfl x _ _,
    fun x => m16_piece h9 h10 _ _ _ _ 9 (by decide) rfl rfl x _ _,
    fun x => m16_piece h9 h10 _ _ _ _ 8 (by decide) rfl rfl x _ _,
    fun x => m16_piece h9 h10 _ _ _ _ 7 (by decide) rfl rfl x _ _,
    fun x => m16_piece h9 h10 _ _ _ _ 6 (by decide) rfl rfl x _ _,
    fun x => m16_piece h9 h10 _ _ _ _ 5 (by decide) rfl rfl x _ _,
    fun x => m16_piece h9 h10 _ _ _ _ 4 (by decide) rfl rfl x _ _,
    fun x => m16_piece h9 h10 _ _ _ _ 3 (by decide) rfl rfl x _ _,
    fun x => m16_piece h9 h10 _ _ _ _ 2 (by decide) rfl rfl x _ _,
    fun x => m16_piece h9 h10 _ _ _ _ 1 (by decide) rfl rfl x _ _,
    fun x => m16_piece h9 h10 _ _ _ _ 0 (by decide) rfl rfl x _ _,
    fun _ h => absurd h List.not_mem_nil⟩

theorem hs12_holds (c : Dev nD) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg6 : Memref sig .tc .vmem S2048x128 .f32) (arg7 : Memref sig .tc .vmem S2048x128 .f32) (arg8 : Memref sig .tc .vmem S2048x128 .f32) (arg9 : Memref sig .tc .vmem S2048x128 .f32) (arg10 : Memref sig .tc .vmem S2048x128 .f32) (arg11 : Memref sig .tc .vmem S2048x128 .f32) (arg15 : Memref sig .tc .vmem S2048x128 .bf16) (arg16 : Memref sig .tc .vmem S2048x128 .bf16) (arg17 : Memref sig .tc .vmem S2048x128 .bf16) (x0 : Vec Ideal S1x1x2048x128 .bf16) (x1 : Vec Ideal S1x1x2048x128 .bf16) (x2 : Vec Ideal S1x1x2048x128 .bf16) :
    Holds (kernelRun0_A.sl.HS12_16 (F := Ideal) c arg2 harg2 arg3 harg3 arg4 harg4 arg6 arg7 arg8 arg9 arg10 arg11 arg15 arg16 arg17 x0 x1 x2) (fun r c => passO (rows x0) (rows x1) (rows x2) 128 16 (p4 r) c) := by
  have h9 := hs9_holds c arg2 harg2 arg6 arg9 x0
  have h10 := hs10_holds c arg3 harg3 arg7 arg10 x1
  have h11 := hs11_holds c arg4 harg4 arg8 arg11 x2
  refine holds_of_pieces [1539, 1538, 1537, 1536, 1027, 1026, 1025, 1024, 515, 514, 513, 512, 3, 2, 1, 0] 4 128 rfl cover_4 ?_
  unfold kernelRun0_A.sl.HS12_16 kernelRun0_A.sl.HS12_14 kernelRun0_A.sl.HS12_13 kernelRun0_A.sl.HS12_11 kernelRun0_A.sl.HS12_10 kernelRun0_A.sl.HS12_9 kernelRun0_A.sl.HS12_7 kernelRun0_A.sl.HS12_6 kernelRun0_A.sl.HS12_5 kernelRun0_A.sl.HS12_3 kernelRun0_A.sl.HS12_2 kernelRun0_A.sl.HS12_1
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => o16_piece h9 h10 h11 _ _ _ _ _ _ 15 (by decide) rfl rfl x _ _,
    fun x => o16_piece h9 h10 h11 _ _ _ _ _ _ 14 (by decide) rfl rfl x _ _,
    fun x => o16_piece h9 h10 h11 _ _ _ _ _ _ 13 (by decide) rfl rfl x _ _,
    fun x => o16_piece h9 h10 h11 _ _ _ _ _ _ 12 (by decide) rfl rfl x _ _,
    fun x => o16_piece h9 h10 h11 _ _ _ _ _ _ 11 (by decide) rfl rfl x _ _,
    fun x => o16_piece h9 h10 h11 _ _ _ _ _ _ 10 (by decide) rfl rfl x _ _,
    fun x => o16_piece h9 h10 h11 _ _ _ _ _ _ 9 (by decide) rfl rfl x _ _,
    fun x => o16_piece h9 h10 h11 _ _ _ _ _ _ 8 (by decide) rfl rfl x _ _,
    fun x => o16_piece h9 h10 h11 _ _ _ _ _ _ 7 (by decide) rfl rfl x _ _,
    fun x => o16_piece h9 h10 h11 _ _ _ _ _ _ 6 (by decide) rfl rfl x _ _,
    fun x => o16_piece h9 h10 h11 _ _ _ _ _ _ 5 (by decide) rfl rfl x _ _,
    fun x => o16_piece h9 h10 h11 _ _ _ _ _ _ 4 (by decide) rfl rfl x _ _,
    fun x => o16_piece h9 h10 h11 _ _ _ _ _ _ 3 (by decide) rfl rfl x _ _,
    fun x => o16_piece h9 h10 h11 _ _ _ _ _ _ 2 (by decide) rfl rfl x _ _,
    fun x => o16_piece h9 h10 h11 _ _ _ _ _ _ 1 (by decide) rfl rfl x _ _,
    fun x => o16_piece h9 h10 h11 _ _ _ _ _ _ 0 (by decide) rfl rfl x _ _,
    fun _ h => absurd h List.not_mem_nil⟩

theorem hs13_holds (c : Dev nD) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg6 : Memref sig .tc .vmem S2048x128 .f32) (arg7 : Memref sig .tc .vmem S2048x128 .f32) (arg8 : Memref sig .tc .vmem S2048x128 .f32) (arg9 : Memref sig .tc .vmem S2048x128 .f32) (arg10 : Memref sig .tc .vmem S2048x128 .f32) (arg11 : Memref sig .tc .vmem S2048x128 .f32) (arg15 : Memref sig .tc .vmem S2048x128 .bf16) (arg16 : Memref sig .tc .vmem S2048x128 .bf16) (arg17 : Memref sig .tc .vmem S2048x128 .bf16) (x0 : Vec Ideal S1x1x2048x128 .bf16) (x1 : Vec Ideal S1x1x2048x128 .bf16) (x2 : Vec Ideal S1x1x2048x128 .bf16) :
    Holds (kernelRun0_A.sl.HS13_16 (F := Ideal) c arg2 harg2 arg3 harg3 arg4 harg4 arg6 arg7 arg8 arg9 arg10 arg11 arg15 arg16 arg17 x0 x1 x2) (fun r _ => passL (rows x0) (rows x1) 128 16 (p4 r)) := by
  have h9 := hs9_holds c arg2 harg2 arg6 arg9 x0
  have h10 := hs10_holds c arg3 harg3 arg7 arg10 x1
  refine holds_of_pieces [1539, 1538, 1537, 1536, 1027, 1026, 1025, 1024, 515, 514, 513, 512, 3, 2, 1, 0] 4 128 rfl cover_4 ?_
  unfold kernelRun0_A.sl.HS13_16 kernelRun0_A.sl.HS13_14 kernelRun0_A.sl.HS13_13 kernelRun0_A.sl.HS13_11 kernelRun0_A.sl.HS13_10 kernelRun0_A.sl.HS13_9 kernelRun0_A.sl.HS13_7 kernelRun0_A.sl.HS13_6 kernelRun0_A.sl.HS13_5 kernelRun0_A.sl.HS13_3 kernelRun0_A.sl.HS13_2 kernelRun0_A.sl.HS13_1
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => l16_piece h9 h10 _ _ _ _ 15 (by decide) rfl rfl x _ _ _,
    fun x => l16_piece h9 h10 _ _ _ _ 14 (by decide) rfl rfl x _ _ _,
    fun x => l16_piece h9 h10 _ _ _ _ 13 (by decide) rfl rfl x _ _ _,
    fun x => l16_piece h9 h10 _ _ _ _ 12 (by decide) rfl rfl x _ _ _,
    fun x => l16_piece h9 h10 _ _ _ _ 11 (by decide) rfl rfl x _ _ _,
    fun x => l16_piece h9 h10 _ _ _ _ 10 (by decide) rfl rfl x _ _ _,
    fun x => l16_piece h9 h10 _ _ _ _ 9 (by decide) rfl rfl x _ _ _,
    fun x => l16_piece h9 h10 _ _ _ _ 8 (by decide) rfl rfl x _ _ _,
    fun x => l16_piece h9 h10 _ _ _ _ 7 (by decide) rfl rfl x _ _ _,
    fun x => l16_piece h9 h10 _ _ _ _ 6 (by decide) rfl rfl x _ _ _,
    fun x => l16_piece h9 h10 _ _ _ _ 5 (by decide) rfl rfl x _ _ _,
    fun x => l16_piece h9 h10 _ _ _ _ 4 (by decide) rfl rfl x _ _ _,
    fun x => l16_piece h9 h10 _ _ _ _ 3 (by decide) rfl rfl x _ _ _,
    fun x => l16_piece h9 h10 _ _ _ _ 2 (by decide) rfl rfl x _ _ _,
    fun x => l16_piece h9 h10 _ _ _ _ 1 (by decide) rfl rfl x _ _ _,
    fun x => l16_piece h9 h10 _ _ _ _ 0 (by decide) rfl rfl x _ _ _,
    fun _ h => absurd h List.not_mem_nil⟩

end Cert.Att
-- ==== Proof.Reads4.lean ====
/- What the pass of spacing 4 leaves in its scratches. -/
module

public import proofs.«01_k».proof.Proof.Reads16
public import proofs.«01_k».proof.Proof.Gen.KernelIdeal.Value
public import Idealize.ShloMosaic.Lib.Tactic.RunNames
public import Idealize.ShloMosaic.Lib.Pointwise

@[expose] public section

set_option maxRecDepth 16384

noncomputable section

namespace Cert.Att

open Cert.KernelIdeal Cert.KernelIdeal.Gen Idealize.ShloMosaic Idealize.ShloMosaic.TcCoe

theorem hs17_holds (c : Dev nD) (arg2 : Memref sig .tc .vmem S1x1x2048x128 .bf16) (harg2 : arg2.IsWhole) (arg3 : Memref sig .tc .vmem S1x1x2048x128 .bf16) (harg3 : arg3.IsWhole) (arg6 : Memref sig .tc .vmem S2048x128 .f32) (arg7 : Memref sig .tc .vmem S2048x128 .f32) (arg9 : Memref sig .tc .vmem S2048x128 .f32) (arg10 : Memref sig .tc .vmem S2048x128 .f32) (arg12 : Memref sig .tc .vmem S2048x128 .bf16) (arg13 : Memref sig .tc .vmem S2048x128 .bf16) (arg15 : Memref sig .tc .vmem S2048x128 .bf16) (arg16 : Memref sig .tc .vmem S2048x128 .bf16) (arg20 : Memref sig .tc .vmem S2048x128 .f32) (x0 : Vec Ideal S1x1x2048x128 .bf16) (x1 : Vec Ideal S1x1x2048x128 .bf16) :
    Holds (kernelRun0_A.sl.HS17_16 (F := Ideal) c arg2 harg2 arg3 harg3 arg6 arg7 arg9 arg10 arg12 arg13 arg15 arg16 arg20 x0 x1) (fun t _ => accM (rows x0) (rows x1) t) := by
  have h6 := hs6_holds c arg2 harg2 arg6 x0
  have h7 := hs7_holds c arg3 harg3 arg7 x1
  have h14 := hs14_holds c arg2 harg2 arg3 harg3 arg6 arg7 arg9 arg10 arg15 arg16 x0 x1
  refine holds_of_pieces [1539, 1027, 515, 3, 1538, 1026, 514, 2, 1537, 1025, 513, 1, 1536, 1024, 512, 0] 4 128 rfl cover_4' ?_
  unfold kernelRun0_A.sl.HS17_16 kernelRun0_A.sl.HS17_15 kernelRun0_A.sl.HS17_14 kernelRun0_A.sl.HS17_13 kernelRun0_A.sl.HS17_12 kernelRun0_A.sl.HS17_11 kernelRun0_A.sl.HS17_10 kernelRun0_A.sl.HS17_9 kernelRun0_A.sl.HS17_8 kernelRun0_A.sl.HS17_7 kernelRun0_A.sl.HS17_6 kernelRun0_A.sl.HS17_5 kernelRun0_A.sl.HS17_4
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => m4_piece h6 h7 h14 _ _ _ _ _ _ 3 384 256 (by decide) (by decide) (by decide) (by decide) (by decide) (by decide) rfl rfl rfl x _ _,
    fun x => m4_piece h6 h7 h14 _ _ _ _ _ _ 3 256 192 (by decide) (by decide) (by decide) (by decide) (by decide) (by decide) rfl rfl rfl x _ _,
    fun x => m4_piece h6 h7 h14 _ _ _ _ _ _ 3 128 64 (by decide) (by decide) (by decide) (by decide) (by decide) (by decide) rfl rfl rfl x _ _,
    fun x => m4_piece h6 h7 h14 _ _ _ _ _ _ 3 0 0 (by decide) (by decide) (by decide) (by decide) (by decide) (by decide) rfl rfl rfl x _ _,
    fun x => m4_piece h6 h7 h14 _ _ _ _ _ _ 2 384 256 (by decide) (by decide) (by decide) (by decide) (by decide) (by decide) rfl rfl rfl x _ _,
    fun x => m4_piece h6 h7 h14 _ _ _ _ _ _ 2 256 192 (by decide) (by decide) (by decide) (by decide) (by decide) (by decide) rfl rfl rfl x _ _,
    fun x => m4_piece h6 h7 h14 _ _ _ _ _ _ 2 128 64 (by decide) (by decide) (by decide) (by decide) (by decide) (by decide) rfl rfl rfl x _ _,
    fun x => m4_piece h6 h7 h14 _ _ _ _ _ _ 2 0 0 (by decide) (by decide) (by decide) (by decide) (by decide) (by decide) rfl rfl rfl x _ _,
    fun x => m4_piece h6 h7 h14 _ _ _ _ _ _ 1 384 256 (by decide) (by decide) (by decide) (by decide) (by decide) (by decide) rfl rfl rfl x _ _,
    fun x => m4_piece h6 h7 h14 _ _ _ _ _ _ 1 256 192 (by decide) (by decide) (by decide) (by decide) (by decide) (by decide) rfl rfl rfl x _ _,
    fun x => m4_piece h6 h7 h14 _ _ _ _ _ _ 1 128 64 (by decide) (by decide) (by decide) (by decide) (by decide) (by decide) rfl rfl rfl x _ _,
    fun x => m4_piece h6 h7 h14 _ _ _ _ _ _ 1 0 0 (by decide) (by decide) (by decide) (by decide) (by decide) (by decide) rfl rfl rfl x _ _,
    fun x => m4_piece h6 h7 h14 _ _ _ _ _ _ 0 384 256 (by decide) (by decide) (by decide) (by decide) (by decide) (by decide) rfl rfl rfl x _ _,
    fun x => m4_piece h6 h7 h14 _ _ _ _ _ _ 0 256 192 (by decide) (by decide) (by decide) (by decide) (by decide) (by decide) rfl rfl rfl x _ _,
    fun x => m4_piece h6 h7 h14 _ _ _ _ _ _ 0 128 64 (by decide) (by decide) (by decide) (by decide) (by decide) (by decide) rfl rfl rfl x _ _,
    fun x => m4_piece h6 h7 h14 _ _ _ _ _ _ 0 0 0 (by decide) (by decide) (by decide) (by decide) (by decide) (by decide) rfl rfl rfl x _ _,
    fun _ h => absurd h List.not_mem_nil⟩

theorem hs15_holds (c : Dev nD) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg6 : Memref sig .tc .vmem S2048x128 .f32) (arg7 : Memref sig .tc .vmem S2048x128 .f32) (arg8 : Memref sig .tc .vmem S2048x128 .f32) (arg9 : Memref sig .tc .vmem S2048x128 .f32) (arg10 : Memref sig .tc .vmem S2048x128 .f32) (arg11 : Memref sig .tc .vmem S2048x128 .f32) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .bf16) (arg17 : Memref sig .tc .vmem S2048x128 .bf16) (arg18 : Memref sig .tc .vmem S2048x128 .f32) (arg20 : Memref sig .tc .vmem S2048x128 .f32) (x0 : Vec Ideal S1x1x2048x128 .bf16) (x1 : Vec Ideal S1x1x2048x128 .bf16) (x2 : Vec Ideal S1x1x2048x128 .bf16) :
    Holds (kernelRun0_A.sl.HS15_16 (F := Ideal) c arg2 harg2 arg3 harg3 arg4 harg4 arg6 arg7 arg8 arg9 arg10 arg11 arg12 arg13 arg14 arg15 arg16 arg17 arg18 arg20 x0 x1 x2) (fun t c => accO (rows x0) (rows x1) (rows x2) t c) := by
  have h6 := hs6_holds c arg2 harg2 arg6 x0
  have h7 := hs7_holds c arg3 harg3 arg7 x1
  have h8 := hs8_holds c arg4 harg4 arg8 x2
  have h12 := hs12_holds c arg2 harg2 arg3 harg3 arg4 harg4 arg6 arg7 arg8 arg9 arg10 arg11 arg15 arg16 arg17 x0 x1 x2
  have h14 := hs14_holds c arg2 harg2 arg3 harg3 arg6 arg7 arg9 arg10 arg15 arg16 x0 x1
  refine holds_of_pieces [1539, 1027, 515, 3, 1538, 1026, 514, 2, 1537, 1025, 513, 1, 1536, 1024, 512, 0] 4 128 rfl cover_4' ?_
  unfold kernelRun0_A.sl.HS15_16 kernelRun0_A.sl.HS15_15 kernelRun0_A.sl.HS15_14 kernelRun0_A.sl.HS15_13 kernelRun0_A.sl.HS15_12 kernelRun0_A.sl.HS15_11 kernelRun0_A.sl.HS15_10 kernelRun0_A.sl.HS15_9 kernelRun0_A.sl.HS15_8 kernelRun0_A.sl.HS15_7 kernelRun0_A.sl.HS15_6 kernelRun0_A.sl.HS15_5 kernelRun0_A.sl.HS15_4
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => o4_piece h6 h7 h8 h12 h14 _ _ _ _ _ _ _ _ _ _ 3 384 256 (by decide) (by decide) (by decide) (by decide) (by decide) (by decide) rfl rfl rfl x _ _,
    fun x => o4_piece h6 h7 h8 h12 h14 _ _ _ _ _ _ _ _ _ _ 3 256 192 (by decide) (by decide) (by decide) (by decide) (by decide) (by decide) rfl rfl rfl x _ _,
    fun x => o4_piece h6 h7 h8 h12 h14 _ _ _ _ _ _ _ _ _ _ 3 128 64 (by decide) (by decide) (by decide) (by decide) (by decide) (by decide) rfl rfl rfl x _ _,
    fun x => o4_piece h6 h7 h8 h12 h14 _ _ _ _ _ _ _ _ _ _ 3 0 0 (by decide) (by decide) (by decide) (by decide) (by decide) (by decide) rfl rfl rfl x _ _,
    fun x => o4_piece h6 h7 h8 h12 h14 _ _ _ _ _ _ _ _ _ _ 2 384 256 (by decide) (by decide) (by decide) (by decide) (by decide) (by decide) rfl rfl rfl x _ _,
    fun x => o4_piece h6 h7 h8 h12 h14 _ _ _ _ _ _ _ _ _ _ 2 256 192 (by decide) (by decide) (by decide) (by decide) (by decide) (by decide) rfl rfl rfl x _ _,
    fun x => o4_piece h6 h7 h8 h12 h14 _ _ _ _ _ _ _ _ _ _ 2 128 64 (by decide) (by decide) (by decide) (by decide) (by decide) (by decide) rfl rfl rfl x _ _,
    fun x => o4_piece h6 h7 h8 h12 h14 _ _ _ _ _ _ _ _ _ _ 2 0 0 (by decide) (by decide) (by decide) (by decide) (by decide) (by decide) rfl rfl rfl x _ _,
    fun x => o4_piece h6 h7 h8 h12 h14 _ _ _ _ _ _ _ _ _ _ 1 384 256 (by decide) (by decide) (by decide) (by decide) (by decide) (by decide) rfl rfl rfl x _ _,
    fun x => o4_piece h6 h7 h8 h12 h14 _ _ _ _ _ _ _ _ _ _ 1 256 192 (by decide) (by decide) (by decide) (by decide) (by decide) (by decide) rfl rfl rfl x _ _,
    fun x => o4_piece h6 h7 h8 h12 h14 _ _ _ _ _ _ _ _ _ _ 1 128 64 (by decide) (by decide) (by decide) (by decide) (by decide) (by decide) rfl rfl rfl x _ _,
    fun x => o4_piece h6 h7 h8 h12 h14 _ _ _ _ _ _ _ _ _ _ 1 0 0 (by decide) (by decide) (by decide) (by decide) (by decide) (by decide) rfl rfl rfl x _ _,
    fun x => o4_piece h6 h7 h8 h12 h14 _ _ _ _ _ _ _ _ _ _ 0 384 256 (by decide) (by decide) (by decide) (by decide) (by decide) (by decide) rfl rfl rfl x _ _,
    fun x => o4_piece h6 h7 h8 h12 h14 _ _ _ _ _ _ _ _ _ _ 0 256 192 (by decide) (by decide) (by decide) (by decide) (by decide) (by decide) rfl rfl rfl x _ _,
    fun x => o4_piece h6 h7 h8 h12 h14 _ _ _ _ _ _ _ _ _ _ 0 128 64 (by decide) (by decide) (by decide) (by decide) (by decide) (by decide) rfl rfl rfl x _ _,
    fun x => o4_piece h6 h7 h8 h12 h14 _ _ _ _ _ _ _ _ _ _ 0 0 0 (by decide) (by decide) (by decide) (by decide) (by decide) (by decide) rfl rfl rfl x _ _,
    fun _ h => absurd h List.not_mem_nil⟩

theorem hs16_holds (c : Dev nD) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg6 : Memref sig .tc .vmem S2048x128 .f32) (arg7 : Memref sig .tc .vmem S2048x128 .f32) (arg8 : Memref sig .tc .vmem S2048x128 .f32) (arg9 : Memref sig .tc .vmem S2048x128 .f32) (arg10 : Memref sig .tc .vmem S2048x128 .f32) (arg11 : Memref sig .tc .vmem S2048x128 .f32) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .bf16) (arg17 : Memref sig .tc .vmem S2048x128 .bf16) (arg19 : Memref sig .tc .vmem S2048x128 .f32) (arg20 : Memref sig .tc .vmem S2048x128 .f32) (x0 : Vec Ideal S1x1x2048x128 .bf16) (x1 : Vec Ideal S1x1x2048x128 .bf16) (x2 : Vec Ideal S1x1x2048x128 .bf16) :
    Holds (kernelRun0_A.sl.HS16_16 (F := Ideal) c arg2 harg2 arg3 harg3 arg4 harg4 arg6 arg7 arg8 arg9 arg10 arg11 arg12 arg13 arg14 arg15 arg16 arg17 arg19 arg20 x0 x1 x2) (fun t _ => accL (rows x0) (rows x1) t) := by
  have h6 := hs6_holds c arg2 harg2 arg6 x0
  have h7 := hs7_holds c arg3 harg3 arg7 x1
  have h13 := hs13_holds c arg2 harg2 arg3 harg3 arg4 harg4 arg6 arg7 arg8 arg9 arg10 arg11 arg15 arg16 arg17 x0 x1 x2
  have h14 := hs14_holds c arg2 harg2 arg3 harg3 arg6 arg7 arg9 arg10 arg15 arg16 x0 x1
  refine holds_of_pieces [1539, 1027, 515, 3, 1538, 1026, 514, 2, 1537, 1025, 513, 1, 1536, 1024, 512, 0] 4 128 rfl cover_4' ?_
  unfold kernelRun0_A.sl.HS16_16 kernelRun0_A.sl.HS16_15 kernelRun0_A.sl.HS16_14 kernelRun0_A.sl.HS16_13 kernelRun0_A.sl.HS16_12 kernelRun0_A.sl.HS16_11 kernelRun0_A.sl.HS16_10 kernelRun0_A.sl.HS16_9 kernelRun0_A.sl.HS16_8 kernelRun0_A.sl.HS16_7 kernelRun0_A.sl.HS16_6 kernelRun0_A.sl.HS16_5 kernelRun0_A.sl.HS16_4
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  refine ⟨fun x => l4_piece h6 h7 h13 h14 _ _ _ _ _ _ _ _ 3 384 256 (by decide) (by decide) (by decide) (by decide) (by decide) (by decide) rfl rfl rfl x _ _ _,
    fun x => l4_piece h6 h7 h13 h14 _ _ _ _ _ _ _ _ 3 256 192 (by decide) (by decide) (by decide) (by decide) (by decide) (by decide) rfl rfl rfl x _ _ _,
    fun x => l4_piece h6 h7 h13 h14 _ _ _ _ _ _ _ _ 3 128 64 (by decide) (by decide) (by decide) (by decide) (by decide) (by decide) rfl rfl rfl x _ _ _,
    fun x => l4_piece h6 h7 h13 h14 _ _ _ _ _ _ _ _ 3 0 0 (by decide) (by decide) (by decide) (by decide) (by decide) (by decide) rfl rfl rfl x _ _ _,
    fun x => l4_piece h6 h7 h13 h14 _ _ _ _ _ _ _ _ 2 384 256 (by decide) (by decide) (by decide) (by decide) (by decide) (by decide) rfl rfl rfl x _ _ _,
    fun x => l4_piece h6 h7 h13 h14 _ _ _ _ _ _ _ _ 2 256 192 (by decide) (by decide) (by decide) (by decide) (by decide) (by decide) rfl rfl rfl x _ _ _,
    fun x => l4_piece h6 h7 h13 h14 _ _ _ _ _ _ _ _ 2 128 64 (by decide) (by decide) (by decide) (by decide) (by decide) (by decide) rfl rfl rfl x _ _ _,
    fun x => l4_piece h6 h7 h13 h14 _ _ _ _ _ _ _ _ 2 0 0 (by decide) (by decide) (by decide) (by decide) (by decide) (by decide) rfl rfl rfl x _ _ _,
    fun x => l4_piece h6 h7 h13 h14 _ _ _ _ _ _ _ _ 1 384 256 (by decide) (by decide) (by decide) (by decide) (by decide) (by decide) rfl rfl rfl x _ _ _,
    fun x => l4_piece h6 h7 h13 h14 _ _ _ _ _ _ _ _ 1 256 192 (by decide) (by decide) (by decide) (by decide) (by decide) (by decide) rfl rfl rfl x _ _ _,
    fun x => l4_piece h6 h7 h13 h14 _ _ _ _ _ _ _ _ 1 128 64 (by decide) (by decide) (by decide) (by decide) (by decide) (by decide) rfl rfl rfl x _ _ _,
    fun x => l4_piece h6 h7 h13 h14 _ _ _ _ _ _ _ _ 1 0 0 (by decide) (by decide) (by decide) (by decide) (by decide) (by decide) rfl rfl rfl x _ _ _,
    fun x => l4_piece h6 h7 h13 h14 _ _ _ _ _ _ _ _ 0 384 256 (by decide) (by decide) (by decide) (by decide) (by decide) (by decide) rfl rfl rfl x _ _ _,
    fun x => l4_piece h6 h7 h13 h14 _ _ _ _ _ _ _ _ 0 256 192 (by decide) (by decide) (by decide) (by decide) (by decide) (by decide) rfl rfl rfl x _ _ _,
    fun x => l4_piece h6 h7 h13 h14 _ _ _ _ _ _ _ _ 0 128 64 (by decide) (by decide) (by decide) (by decide) (by decide) (by decide) rfl rfl rfl x _ _ _,
    fun x => l4_piece h6 h7 h13 h14 _ _ _ _ _ _ _ _ 0 0 0 (by decide) (by decide) (by decide) (by decide) (by decide) (by decide) rfl rfl rfl x _ _ _,
    fun _ h => absurd h List.not_mem_nil⟩

end Cert.Att
-- ==== Proof.Block.lean ====
/- What the kernel stores for one head of one sequence. -/
module

public import proofs.«01_k».proof.Proof.Reads4
public import proofs.«01_k».proof.Proof.Gen.KernelIdeal.Value
public import Idealize.ShloMosaic.Lib.Tactic.RunNames
public import Idealize.ShloMosaic.Lib.Pointwise

@[expose] public section

set_option maxRecDepth 16384

noncomputable section

namespace Cert.Att

open Cert.KernelIdeal Cert.KernelIdeal.Gen Idealize.ShloMosaic Idealize.ShloMosaic.TcCoe

theorem out_apply (c : Dev nD) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole)
    (x0 : Vec Ideal S1x1x2048x128 .bf16) (x1 : Vec Ideal S1x1x2048x128 .bf16) (x2 : Vec Ideal S1x1x2048x128 .bf16) (y : S1x2048x128.Idx) :
    out0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 y
      = attOut (rows x0) (rows x1) (rows x2) (y 1).val (y 2).val := by
  have h15 := hs15_holds c arg2 harg2 arg3 harg3 arg4 harg4 arg6 arg7 arg8 arg9 arg10 arg11 arg12 arg13 arg14 arg15 arg16 arg17 arg18 arg20 x0 x1 x2
  have h16 := hs16_holds c arg2 harg2 arg3 harg3 arg4 harg4 arg6 arg7 arg8 arg9 arg10 arg11 arg12 arg13 arg14 arg15 arg16 arg17 arg19 arg20 x0 x1 x2
  have h17 := hs17_holds c arg2 harg2 arg3 harg3 arg6 arg7 arg9 arg10 arg12 arg13 arg15 arg16 arg20 x0 x1
  unfold out0_A_3
  refine (View.read_writes_junk_apply_eq_canon _ _ _).trans ?_
  refine View.canon_apply_of_pieces (fun y => attOut (rows x0) (rows x1) (rows x2) (y 1).val (y 2).val) _ ?_ y
    (cover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 y)
  unfold kernelRun0_A
  sl_unfold_run_values
  simp only [shapeCast_self, View.readAt_eq_ld, Memref.IsWhole.read_unread, List.forall_mem_cons, k0_pay1, k0_pay107, k0_pay108, k0_pay109, k0_pay110, k0_pay111, k0_pay112, k0_pay113, k0_pay114, k0_pay215, k0_pay216, k0_pay217, k0_pay218, k0_pay219, k0_pay220, k0_pay221, k0_pay222, k0_pay223, k0_pay224, k0_pay225, k0_pay226, k0_pay227, k0_pay228]
  generalize hz : View.read (Elt Ideal) arg4.view (harg4.unread x2) = z
  obtain rfl : z = x2 := hz.symm.trans (harg4.read_unread x2)
  refine ⟨fun x => out_piece h15 h16 h17 _ _ _ (q0 := 1920) (w0 := 1792) (by decide) (by decide) (by decide) (by decide) rfl _ _ _ _ _ _ _ _ _ _ _ x,
    fun x => out_piece h15 h16 h17 _ _ _ (q0 := 1792) (w0 := 1728) (by decide) (by decide) (by decide) (by decide) rfl _ _ _ _ _ _ _ _ _ _ _ x,
    fun x => out_piece h15 h16 h17 _ _ _ (q0 := 1664) (w0 := 1600) (by decide) (by decide) (by decide) (by decide) rfl _ _ _ _ _ _ _ _ _ _ _ x,
    fun x => out_piece h15 h16 h17 _ _ _ (q0 := 1536) (w0 := 1472) (by decide) (by decide) (by decide) (by decide) rfl _ _ _ _ _ _ _ _ _ _ _ x,
    fun x => out_piece h15 h16 h17 _ _ _ (q0 := 1408) (w0 := 1344) (by decide) (by decide) (by decide) (by decide) rfl _ _ _ _ _ _ _ _ _ _ _ x,
    fun x => out_piece h15 h16 h17 _ _ _ (q0 := 1280) (w0 := 1216) (by decide) (by decide) (by decide) (by decide) rfl _ _ _ _ _ _ _ _ _ _ _ x,
    fun x => out_piece h15 h16 h17 _ _ _ (q0 := 1152) (w0 := 1088) (by decide) (by decide) (by decide) (by decide) rfl _ _ _ _ _ _ _ _ _ _ _ x,
    fun x => out_piece h15 h16 h17 _ _ _ (q0 := 1024) (w0 := 960) (by decide) (by decide) (by decide) (by decide) rfl _ _ _ _ _ _ _ _ _ _ _ x,
    fun x => out_piece h15 h16 h17 _ _ _ (q0 := 896) (w0 := 832) (by decide) (by decide) (by decide) (by decide) rfl _ _ _ _ _ _ _ _ _ _ _ x,
    fun x => out_piece h15 h16 h17 _ _ _ (q0 := 768) (w0 := 704) (by decide) (by decide) (by decide) (by decide) rfl _ _ _ _ _ _ _ _ _ _ _ x,
    fun x => out_piece h15 h16 h17 _ _ _ (q0 := 640) (w0 := 576) (by decide) (by decide) (by decide) (by decide) rfl _ _ _ _ _ _ _ _ _ _ _ x,
    fun x => out_piece h15 h16 h17 _ _ _ (q0 := 512) (w0 := 448) (by decide) (by decide) (by decide) (by decide) rfl _ _ _ _ _ _ _ _ _ _ _ x,
    fun x => out_piece h15 h16 h17 _ _ _ (q0 := 384) (w0 := 320) (by decide) (by decide) (by decide) (by decide) rfl _ _ _ _ _ _ _ _ _ _ _ x,
    fun x => out_piece h15 h16 h17 _ _ _ (q0 := 256) (w0 := 192) (by decide) (by decide) (by decide) (by decide) rfl _ _ _ _ _ _ _ _ _ _ _ x,
    fun x => out_piece h15 h16 h17 _ _ _ (q0 := 128) (w0 := 64) (by decide) (by decide) (by decide) (by decide) rfl _ _ _ _ _ _ _ _ _ _ _ x,
    fun x => out_piece h15 h16 h17 _ _ _ (q0 := 0) (w0 := 0) (by decide) (by decide) (by decide) (by decide) rfl _ _ _ _ _ _ _ _ _ _ _ x,
    fun _ h => absurd h List.not_mem_nil⟩

end Cert.Att
-- ==== Proof.Bands.lean ====
/- Attention over a band, in plain mathematics: what a masked softmax over a window that contains the
   band gives, whichever window it is, and how the three passes are put together. -/
module

public import proofs.«01_k».proof.Proof.Stages

@[expose] public section

noncomputable section

namespace Cert.Att

open Idealize.ShloMosaic

/-! ## Sums over a window -/

/-- The positions, of a pass of `N`, at most 64 from position `p`. -/
def band (N p : ℕ) : Finset ℕ := (Finset.range N).filter fun j => near j p

theorem near_self (p : ℕ) : near p p := ⟨by omega, by omega⟩

/-- A window that contains the band sums to the band's sum. -/
theorem win_sum {M : Type*} [AddCommMonoid M] (n w N p : ℕ) (f : ℕ → M)
    (h : ∀ j, j < N → near j p → w ≤ j ∧ j < w + n) (hin : w + n ≤ N) :
    (∑ k : Fin n, if near (w + k) p then f (w + k) else 0) = ∑ j ∈ band N p, f j := by
  rw [← Finset.sum_filter]
  refine Finset.sum_bij (fun k _ => w + k.val) (fun k hk => ?_) (fun a _ b _ e => ?_) (fun j hj => ?_) fun _ _ => rfl
  · have := (Finset.mem_filter.1 hk).2
    exact Finset.mem_filter.2 ⟨Finset.mem_range.2 (by omega), this⟩
  · exact Fin.ext (by simpa using e)
  · obtain ⟨hj, hn⟩ := Finset.mem_filter.1 hj
    obtain ⟨h1, h2⟩ := h j (Finset.mem_range.1 hj) hn
    have e : w + (j - w) = j := by omega
    exact ⟨⟨j - w, by omega⟩, Finset.mem_filter.2 ⟨Finset.mem_univ _, by simpa only [e] using hn⟩, e⟩

/-- The keys of block `n`'s window that exist and are in the band of row `p`. -/
def seen (N n p k : ℕ) : Prop := (64 ≤ n * 64 + k ∧ n * 64 + k < N + 64) ∧ near (n * 64 + k - 64) p

instance (N n p k : ℕ) : Decidable (seen N n p k) := inferInstanceAs (Decidable (_ ∧ _))

/-- A block with the blocks before and after it contains the band of each of its rows. -/
theorem ref_sum {M : Type*} [AddCommMonoid M] (N n r : ℕ) (f : ℕ → M) (hr : r < 64) :
    (∑ k : Fin 192, if seen N n (n * 64 + r) k then f (n * 64 + k - 64) else 0)
      = ∑ j ∈ band N (n * 64 + r), f j := by
  rw [← Finset.sum_filter]
  refine Finset.sum_bij (fun k _ => n * 64 + k.val - 64) (fun k hk => ?_) (fun a ha b hb e => ?_) (fun j hj => ?_) fun _ _ => rfl
  · obtain ⟨_, ⟨h1, h2⟩, h3⟩ := Finset.mem_filter.1 hk
    exact Finset.mem_filter.2 ⟨Finset.mem_range.2 (by omega), h3⟩
  · obtain ⟨_, ⟨h1, h2⟩, h3⟩ := Finset.mem_filter.1 ha
    obtain ⟨_, ⟨h1', h2'⟩, h3'⟩ := Finset.mem_filter.1 hb
    exact Fin.ext (by omega)
  · obtain ⟨hj, hn⟩ := Finset.mem_filter.1 hj
    have hj := Finset.mem_range.1 hj
    have hn' := hn
    unfold near at hn'
    have e : n * 64 + (j + 64 - n * 64) - 64 = j := by omega
    refine ⟨⟨j + 64 - n * 64, by omega⟩, Finset.mem_filter.2 ⟨Finset.mem_univ _, ⟨⟨?_, ?_⟩, ?_⟩⟩, e⟩
    · dsimp only; omega
    · dsimp only; omega
    · dsimp only; rw [e]; exact hn

/-! ## Extended reals -/

theorem real_mul_add (r : ℝ) (hr : 0 ≤ r) (x y : EReal) : (r : EReal) * (x + y) = r * x + r * y :=
  EReal.left_distrib_of_nonneg_of_ne_top (EReal.coe_nonneg.2 hr) (EReal.coe_ne_top r) x y

theorem real_mul_sum {ι : Type*} (r : ℝ) (hr : 0 ≤ r) (s : Finset ι) (f : ι → EReal) :
    (r : EReal) * ∑ i ∈ s, f i = ∑ i ∈ s, r * f i := by
  classical
  induction s using Finset.induction_on with
  | empty => simp
  | insert a s ha ih => rw [Finset.sum_insert ha, Finset.sum_insert ha, real_mul_add r hr, ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem max_coe (a b : ℝ) : max (a : EReal) b = ((max a b : ℝ) : EReal) :=
  (EReal.coe_strictMono.monotone.map_max (a := a) (b := b)).symm

theorem max_real {n : ℕ} (P : ℕ → Prop) [DecidablePred P] (s : ℕ → ℝ) (h : ∃ k : Fin n, P k) :
    ∃ M : ℝ, ((Finset.univ : Finset (Fin n)).fold max ⊥ fun k : Fin n => if P k then ((s k : ℝ) : EReal) else ⊥) = M := by
  obtain ⟨k, hk⟩ := h
  have h1 : ((Finset.univ : Finset (Fin n)).fold max ⊥ fun k : Fin n => if P k then ((s k : ℝ) : EReal) else ⊥) ≠ ⊤ := by
    refine ne_of_lt ((Finset.fold_max_lt _).2 ⟨bot_lt_top, fun k _ => ?_⟩)
    split
    · exact EReal.coe_lt_top _
    · exact bot_lt_top
  have h2 : ((Finset.univ : Finset (Fin n)).fold max ⊥ fun k : Fin n => if P k then ((s k : ℝ) : EReal) else ⊥) ≠ ⊥ := by
    refine ne_of_gt ((Finset.lt_fold_max _).2 (.inr ⟨k, Finset.mem_univ _, ?_⟩))
    rw [if_pos hk]
    exact EReal.bot_lt_coe _
  exact ⟨_, (EReal.coe_toReal h1 h2).symm⟩

theorem exp2_sub (P : Prop) [Decidable P] (s M : ℝ) :
    Ideal.exp2 ((if P then (s : EReal) else ⊥) - M) = if P then (((2 : ℝ) ^ (-M) * (2 : ℝ) ^ s : ℝ) : EReal) else 0 := by
  split
  · rw [← EReal.coe_sub, ← Real.rpow_add two_pos, neg_add_eq_sub]; rfl
  · rw [EReal.bot_sub]; rfl

theorem exp_sub (P : Prop) [Decidable P] (s M : ℝ) :
    Ideal.exp ((if P then (s : EReal) else ⊥) - M) = if P then ((Real.exp (-M) * Real.exp s : ℝ) : EReal) else 0 := by
  split
  · rw [← EReal.coe_sub, ← Real.exp_add, neg_add_eq_sub]; rfl
  · rw [EReal.bot_sub]; rfl

theorem exp2_coe_sub (a b : ℝ) : Ideal.exp2 ((a : EReal) - b) = (((2 : ℝ) ^ (a - b) : ℝ) : EReal) := by
  rw [← EReal.coe_sub]; rfl

theorem exp_coe_sub (a b : ℝ) : Ideal.exp ((a : EReal) - b) = ((Real.exp (a - b) : ℝ) : EReal) := by
  rw [← EReal.coe_sub]; rfl

theorem log_coe (a : ℝ) (h : 0 < a) : Ideal.log (a : EReal) = ((Real.log a : ℝ) : EReal) := by
  show (if a ≤ 0 then ⊥ else ((Real.log a : ℝ) : EReal)) = _
  rw [if_neg (not_le.2 h)]

theorem div_coe (x : EReal) (a : ℝ) (h : a ≠ 0) : Ideal.div x a = x * ((a⁻¹ : ℝ) : EReal) := by
  unfold Ideal.div
  rw [if_neg (by exact_mod_cast h), EReal.coe_inv]

/-! ## The attention of one row -/

section
variable (σ : ℝ) (q k : ℕ → ℕ → ℝ) (V : Rows)

/-- The weight of key `u` for query `t`. -/
def wt (t u : ℕ) : ℝ := Real.exp ((∑ c : Fin 128, q t c * k u c) * σ)

/-- The weighted sum of the values in the band of row `t`, in the pass of spacing `d`. -/
def bandN (d t c : ℕ) : EReal := ∑ j ∈ band (2048 / d) (t / d), (wt σ q k t (j * d + t % d) : EReal) * V (j * d + t % d) c

/-- The sum of the weights in that band. -/
def bandZ (d t : ℕ) : ℝ := ∑ j ∈ band (2048 / d) (t / d), wt σ q k t (j * d + t % d)

/-- What the attention over the three bands gives: every key of the three bands by its weight. -/
def att (t c : ℕ) : EReal :=
  (bandN σ q k V 1 t c + bandN σ q k V 4 t c + bandN σ q k V 16 t c)
    * (((bandZ σ q k 1 t + bandZ σ q k 4 t + bandZ σ q k 16 t)⁻¹ : ℝ) : EReal)

theorem wt_pos (t u : ℕ) : 0 < wt σ q k t u := Real.exp_pos _

theorem bandZ_pos (d t : ℕ) (h : t / d < 2048 / d) : 0 < bandZ σ q k d t :=
  Finset.sum_pos (fun _ _ => wt_pos ..) ⟨t / d, Finset.mem_filter.2 ⟨Finset.mem_range.2 h, near_self _⟩⟩

/-- The queries as the kernel takes them: scaled, and for powers of 2. -/
def scaled : Rows := fun t c => ((q t c * σ * (Real.log 2)⁻¹ : ℝ) : EReal)

/-- The score of the kernel: the exponent of 2 that gives the weight. -/
def sc2 (t u : ℕ) : ℝ := (∑ c : Fin 128, q t c * k u c) * σ * (Real.log 2)⁻¹

theorem two_rpow_sc2 (t u : ℕ) : (2 : ℝ) ^ sc2 σ q k t u = wt σ q k t u := by
  have h : Real.log 2 ≠ 0 := (Real.log_pos one_lt_two).ne'
  rw [Real.rpow_def_of_pos two_pos]
  unfold sc2 wt
  congr 1
  field_simp

theorem dotp_scaled (t u : ℕ) : dotp (scaled σ q) (fun t c => (k t c : EReal)) t u = (sc2 σ q k t u : EReal) := by
  unfold dotp scaled sc2
  rw [Finset.sum_mul, Finset.sum_mul, coe_sum]
  refine Finset.sum_congr rfl fun c _ => ?_
  rw [← EReal.coe_mul]
  congr 1
  ring

theorem winS_scaled (d w t j : ℕ) : winS (scaled σ q) (fun t c => (k t c : EReal)) d w t j
    = if near (w + j) (t / d) then ((sc2 σ q k t ((w + j) * d + t % d) : ℝ) : EReal) else ⊥ := by
  unfold winS
  rw [dotp_scaled]
  split
  · rw [add_zero]
  · rw [EReal.add_bot]

/-- A pass of the kernel, whichever window it takes. -/
theorem win_eq (n d w t : ℕ) (h : ∀ j, j < 2048 / d → near j (t / d) → w ≤ j ∧ j < w + n) (hin : w + n ≤ 2048 / d)
    (ht : t / d < 2048 / d) : ∃ M : ℝ, winM (scaled σ q) (fun t c => (k t c : EReal)) n d w t = M
      ∧ (∀ c, winO (scaled σ q) (fun t c => (k t c : EReal)) V n d w t c = (((2 : ℝ) ^ (-M) : ℝ) : EReal) * bandN σ q k V d t c)
      ∧ winL (scaled σ q) (fun t c => (k t c : EReal)) n d w t = (((2 : ℝ) ^ (-M) * bandZ σ q k d t : ℝ) : EReal) := by
  obtain ⟨h1, h2⟩ := h _ ht (near_self _)
  obtain ⟨M, hM⟩ := max_real (n := n) (fun j => near (w + j) (t / d)) (fun j => sc2 σ q k t ((w + j) * d + t % d))
    ⟨⟨t / d - w, by omega⟩, by dsimp only; rw [show w + (t / d - w) = t / d by omega]; exact near_self _⟩
  have hM' : winM (scaled σ q) (fun t c => (k t c : EReal)) n d w t = M := by
    unfold winM
    simp only [winS_scaled]
    exact hM
  have hp : (0 : ℝ) ≤ 2 ^ (-M) := (Real.rpow_pos_of_pos two_pos _).le
  refine ⟨M, hM', fun c => ?_, ?_⟩
  · unfold winO bandN
    rw [hM', ← win_sum n w _ _ (fun j => (wt σ q k t (j * d + t % d) : EReal) * V (j * d + t % d) c) h hin, real_mul_sum _ hp]
    refine Finset.sum_congr rfl fun j _ => ?_
    rw [winS_scaled, exp2_sub, two_rpow_sc2]
    split
    · rw [EReal.coe_mul, mul_assoc]
    · rw [zero_mul, mul_zero]
  · unfold winL bandZ
    rw [hM', ← win_sum n w _ _ (fun j => wt σ q k t (j * d + t % d)) h hin, Finset.mul_sum, coe_sum]
    refine Finset.sum_congr rfl fun j _ => ?_
    rw [winS_scaled, exp2_sub, two_rpow_sc2]
    split
    · rfl
    · rw [mul_zero, EReal.coe_zero]

theorem pass_eq (n d t : ℕ) (hd : d = 1 ∧ n = 256 ∨ d = 4 ∧ n = 256 ∨ d = 16 ∧ n = 128) (ht : t < 2048) :
    ∃ M : ℝ, passM (scaled σ q) (fun t c => (k t c : EReal)) n d t = M
      ∧ (∀ c, passO (scaled σ q) (fun t c => (k t c : EReal)) V n d t c = (((2 : ℝ) ^ (-M) : ℝ) : EReal) * bandN σ q k V d t c)
      ∧ passL (scaled σ q) (fun t c => (k t c : EReal)) n d t = (((2 : ℝ) ^ (-M) * bandZ σ q k d t : ℝ) : EReal) := by
  refine win_eq σ q k V n d (start n d t) t (fun j hj hn => ?_) ?_ ?_ <;>
  · try unfold near at hn
    try unfold start
    rcases hd with ⟨rfl, rfl⟩ | ⟨rfl, rfl⟩ | ⟨rfl, rfl⟩ <;> omega

theorem rpow_merge (m M : ℝ) : (2 : ℝ) ^ (m - M) * 2 ^ (-m) = 2 ^ (-M) := by
  rw [← Real.rpow_add two_pos]; congr 1; ring

/-- Merging two passes adds their sums. -/
theorem mrg_eq (m1 m2 : ℝ) (n1 n2 : EReal) : mrg ((((2 : ℝ) ^ (-m1) : ℝ) : EReal) * n1) m1 ((((2 : ℝ) ^ (-m2) : ℝ) : EReal) * n2) m2
    = (((2 : ℝ) ^ (-(max m1 m2)) : ℝ) : EReal) * (n1 + n2) := by
  unfold mrg
  rw [max_coe, exp2_coe_sub, exp2_coe_sub, ← mul_assoc, ← mul_assoc, ← EReal.coe_mul, ← EReal.coe_mul, rpow_merge, rpow_merge,
    real_mul_add _ (Real.rpow_pos_of_pos two_pos _).le]

/-- The kernel's result is the attention over the three bands. -/
theorem attOut_eq (t c : ℕ) (ht : t < 2048) :
    attOut (scaled σ q) (fun t c => (k t c : EReal)) V t c = att σ q k V t c := by
  obtain ⟨m1, hm1, ho1, hl1⟩ := pass_eq σ q k V 256 1 t (.inl ⟨rfl, rfl⟩) ht
  obtain ⟨m4, hm4, ho4, hl4⟩ := pass_eq σ q k V 256 4 t (.inr (.inl ⟨rfl, rfl⟩)) ht
  obtain ⟨m16, hm16, ho16, hl16⟩ := pass_eq σ q k V 128 16 t (.inr (.inr ⟨rfl, rfl⟩)) ht
  have z1 := bandZ_pos σ q k 1 t (by omega)
  have z4 := bandZ_pos σ q k 4 t (by omega)
  have z16 := bandZ_pos σ q k 16 t (by omega)
  unfold attOut accO accL accM att
  rw [hm1, hm4, hm16, ho1, ho4, ho16, hl1, hl4, hl16, EReal.coe_mul, EReal.coe_mul, EReal.coe_mul, mrg_eq, mrg_eq, max_coe, mrg_eq, mrg_eq,
    ← EReal.coe_add, ← EReal.coe_add, ← EReal.coe_mul]
  generalize bandZ σ q k 1 t = a1, bandZ σ q k 4 t = a4, bandZ σ q k 16 t = a16 at z1 z4 z16 ⊢
  generalize bandN σ q k V 1 t c = b1, bandN σ q k V 4 t c = b4, bandN σ q k V 16 t c = b16
  have hp : (0 : ℝ) < 2 ^ (-(max m1 (max m4 m16))) := Real.rpow_pos_of_pos two_pos _
  rw [div_coe _ _ (by positivity), mul_inv, mul_comm (((2 : ℝ) ^ _ : ℝ) : EReal), mul_assoc, ← EReal.coe_mul, ← mul_assoc, mul_inv_cancel₀ hp.ne', one_mul,
    add_assoc, add_assoc]

/-! ## The same with natural exponentials and a logarithm, pass by pass -/

/-- The score as stated: scaled after the product. -/
def sc (t u : ℕ) : ℝ := (∑ c : Fin 128, q t c * k u c) * σ

section
variable (d n r ρ t : ℕ) (hρ : ρ < d) (ht : t = (n * 64 + r) * d + ρ)
include hρ ht

theorem row_div : t / d = n * 64 + r := by
  rw [ht, Nat.add_comm, Nat.add_mul_div_right _ _ (by omega), Nat.div_eq_of_lt hρ, Nat.zero_add]

theorem row_mod : t % d = ρ := by
  rw [ht, Nat.add_comm, Nat.add_mul_mod_self_right, Nat.mod_eq_of_lt hρ]

variable (hr : r < 64) (hn : n * 64 + 64 ≤ 2048 / d) (s : Fin 192 → EReal) (hs : ∀ j : Fin 192, s j = if seen (2048 / d) n (n * 64 + r) j then ((sc σ q k t ((n * 64 + j - 64) * d + ρ) : ℝ) : EReal) else ⊥)
include hr hs hn

/-- The logarithm of the sum of the exponentials is that of the band's weights. -/
theorem lse_eq : ((Finset.univ : Finset (Fin 192)).fold max ⊥ s)
      + Ideal.log (∑ j : Fin 192, Ideal.exp (s j - (Finset.univ : Finset (Fin 192)).fold max ⊥ s))
    = ((Real.log (bandZ σ q k d t) : ℝ) : EReal) := by
  obtain ⟨M, hM⟩ := max_real (n := 192) (fun j => seen (2048 / d) n (n * 64 + r) j) (fun j => sc σ q k t ((n * 64 + j - 64) * d + ρ))
    ⟨⟨r + 64, by omega⟩, by
      refine ⟨⟨?_, ?_⟩, ?_, ?_⟩ <;> dsimp only <;> omega⟩
  have hd := row_div d n r ρ t hρ ht
  have hz := bandZ_pos σ q k d t (by rw [hd]; omega)
  rw [show s = _ from funext hs, hM]
  simp only [exp_sub]
  have e : (∑ j : Fin 192, if seen (2048 / d) n (n * 64 + r) j then ((Real.exp (-M) * Real.exp (sc σ q k t ((n * 64 + j - 64) * d + ρ)) : ℝ) : EReal) else 0)
      = ((Real.exp (-M) * bandZ σ q k d t : ℝ) : EReal) := by
    rw [ref_sum _ n r (fun j => ((Real.exp (-M) * Real.exp (sc σ q k t (j * d + ρ)) : ℝ) : EReal)) hr]
    unfold bandZ
    rw [Finset.mul_sum, coe_sum, hd, row_mod d n r ρ t hρ ht]
    rfl
  rw [e, log_coe _ (mul_pos (Real.exp_pos _) hz), Real.log_mul (Real.exp_pos _).ne' hz.ne', Real.log_exp, ← EReal.coe_add,
    add_neg_cancel_left]

/-- The values by their probabilities. -/
theorem probs_eq (v : Fin 192 → EReal) (c : ℕ) (hv : ∀ j : Fin 192, seen (2048 / d) n (n * 64 + r) j → v j = V ((n * 64 + j - 64) * d + ρ) c) :
    (∑ j : Fin 192, v j * Ideal.exp (s j - ((Real.log (bandZ σ q k d t) : ℝ) : EReal)))
    = (((bandZ σ q k d t)⁻¹ : ℝ) : EReal) * bandN σ q k V d t c := by
  have hd := row_div d n r ρ t hρ ht
  have hz := bandZ_pos σ q k d t (by rw [hd]; omega)
  unfold bandN
  rw [real_mul_sum _ (inv_pos.2 hz).le, hd, row_mod d n r ρ t hρ ht,
    ← ref_sum _ n r (fun j => (((bandZ σ q k d t)⁻¹ : ℝ) : EReal) * (((wt σ q k t (j * d + ρ) : ℝ) : EReal) * V (j * d + ρ) c)) hr]
  refine Finset.sum_congr rfl fun j _ => ?_
  rw [hs, exp_sub]
  split
  · rename_i h
    rw [hv j h, Real.exp_neg, Real.exp_log hz, mul_comm, EReal.coe_mul, mul_assoc]
    rfl
  · rw [mul_zero]
end

theorem fold3 (f : Fin 3 → EReal) : (Finset.univ : Finset (Fin 3)).fold max ⊥ f = max (f 0) (max (f 1) (f 2)) := by
  apply eq_of_forall_ge_iff
  intro c
  rw [Finset.fold_max_le]
  simp [Fin.forall_fin_succ]

/-- The three passes by the softmax of their logarithms. -/
theorem merge_eq (t c : ℕ) (ht : t < 2048) (f g : Fin 3 → EReal)
    (hf0 : f 0 = ((Real.log (bandZ σ q k 1 t) : ℝ) : EReal)) (hg0 : g 0 = (((bandZ σ q k 1 t)⁻¹ : ℝ) : EReal) * bandN σ q k V 1 t c)
    (hf1 : f 1 = ((Real.log (bandZ σ q k 4 t) : ℝ) : EReal)) (hg1 : g 1 = (((bandZ σ q k 4 t)⁻¹ : ℝ) : EReal) * bandN σ q k V 4 t c)
    (hf2 : f 2 = ((Real.log (bandZ σ q k 16 t) : ℝ) : EReal)) (hg2 : g 2 = (((bandZ σ q k 16 t)⁻¹ : ℝ) : EReal) * bandN σ q k V 16 t c) :
    (∑ i : Fin 3, Ideal.div (Ideal.exp (f i - (Finset.univ : Finset (Fin 3)).fold max ⊥ f))
        (∑ i : Fin 3, Ideal.exp (f i - (Finset.univ : Finset (Fin 3)).fold max ⊥ f)) * g i) = att σ q k V t c := by
  have z1 := bandZ_pos σ q k 1 t (by omega)
  have z4 := bandZ_pos σ q k 4 t (by omega)
  have z16 := bandZ_pos σ q k 16 t (by omega)
  simp only [fold3, Fin.sum_univ_three, hf0, hf1, hf2, hg0, hg1, hg2]
  generalize hM : max (Real.log (bandZ σ q k 1 t)) (max (Real.log (bandZ σ q k 4 t)) (Real.log (bandZ σ q k 16 t))) = M
  rw [max_coe, max_coe, hM, exp_coe_sub, exp_coe_sub, exp_coe_sub, Real.exp_sub, Real.exp_sub, Real.exp_sub, Real.exp_log z1, Real.exp_log z4, Real.exp_log z16,
    ← EReal.coe_add, ← EReal.coe_add]
  unfold att
  generalize bandZ σ q k 1 t = a1, bandZ σ q k 4 t = a4, bandZ σ q k 16 t = a16 at z1 z4 z16 ⊢
  generalize bandN σ q k V 1 t c = b1, bandN σ q k V 4 t c = b4, bandN σ q k V 16 t c = b16
  have hp := Real.exp_pos M
  rw [div_coe _ _ (by positivity), div_coe _ _ (by positivity), div_coe _ _ (by positivity), ← EReal.coe_mul, ← EReal.coe_mul, ← EReal.coe_mul]
  rw [mul_comm (_ + _ + _), real_mul_add _ (by positivity), real_mul_add _ (by positivity)]
  congr 1
  · congr 1
    all_goals
      rw [← mul_assoc, ← EReal.coe_mul]
      congr 2
      field_simp
  · rw [← mul_assoc, ← EReal.coe_mul]
    congr 2
    field_simp
end

end Cert.Att

end
-- ==== Proof.Heads.lean ====
/- The arrays of queries, keys and values by head, and the attention of every head of every row. -/
module

public import proofs.«01_k».proof.Proof.Bands

@[expose] public section

noncomputable section

namespace Cert.Att

open Idealize.ShloMosaic

/-- The arrays of queries, keys and values; the array of results. -/
abbrev Arr : Shape := ⟨4, ![12, 2048, 16, 128]⟩
abbrev Res : Shape := ⟨3, ![12, 2048, 2048]⟩

/-- The scale of the scores, as a real number. -/
def σ : ℝ := (Ideal.ofBits .f32 0x3DB504F3#32).toReal

theorem ofBits_σ : Ideal.ofBits .f32 0x3DB504F3#32 = (σ : EReal) := by
  have h : Ideal.ofBits .f32 0x3DB504F3#32 = ((11863283 * (2 ^ 27)⁻¹ : ℝ) : EReal) := by
    simp [Ideal.ofBits, Ideal.ieee]
  unfold σ
  rw [h, EReal.toReal_coe]

theorem ofBits_two : Ideal.ofBits .f32 0x40000000#32 = ((2 : ℝ) : EReal) := by
  have h : Ideal.ofBits .f32 0x40000000#32 = ((8388608 * (2 ^ 22)⁻¹ : ℝ) : EReal) := by
    simp [Ideal.ofBits, Ideal.ieee]
  rw [h]; norm_num

/-- The rows of head `h` of batch row `b`; zero past the array's end. -/
def head (x : FVec Ideal Arr .f32) (b : Fin 12) (h : Fin 16) : Rows := fun t c =>
  if hh : t < 2048 ∧ c < 128 then x (ix4 b ⟨t, hh.1⟩ h ⟨c, hh.2⟩) else 0

theorem head_apply (x : FVec Ideal Arr .f32) (b : Fin 12) (h : Fin 16) (t : Fin 2048) (c : Fin 128) :
    head x b h t c = x (ix4 b t h c) := dif_pos ⟨t.isLt, c.isLt⟩

/-- A head's rows, all of them real, as real numbers. -/
def headR (x : FVec Ideal Arr .f32) (b : Fin 12) (h : Fin 16) (t c : ℕ) : ℝ := (head x b h t c).toReal

/-- Every element of the array is a real number. -/
def AllReal (x : FVec Ideal Arr .f32) : Prop := ∀ i, x i ≠ ⊤ ∧ x i ≠ ⊥

theorem head_real {x : FVec Ideal Arr .f32} (hx : AllReal x) (b : Fin 12) (h : Fin 16) (t c : ℕ) :
    head x b h t c = (headR x b h t c : EReal) := by
  refine (EReal.coe_toReal ?_ ?_).symm <;> unfold head <;> split
  · exact (hx _).1
  · exact EReal.zero_ne_top
  · exact (hx _).2
  · exact EReal.zero_ne_bot

/-- The attention of every row, the heads side by side. -/
def attAll (q k v : FVec Ideal Arr .f32) : FVec Ideal Res .bf16 := fun i =>
  att σ (headR q (i 0) ⟨(i 2).val / 128, by have : (i 2).val < 2048 := (i 2).isLt; omega⟩)
    (headR k (i 0) ⟨(i 2).val / 128, by have : (i 2).val < 2048 := (i 2).isLt; omega⟩)
    (head v (i 0) ⟨(i 2).val / 128, by have : (i 2).val < 2048 := (i 2).isLt; omega⟩) (i 1).val ((i 2).val % 128)

/-! ## Which keys a block of queries sees, as the words say it -/

theorem kpos_word (n k : ℕ) : IntOp.addi (IntOp.subi (IntOp.muli (BitVec.ofNat 32 n) 64#32) 64#32) (BitVec.ofNat 32 k)
    = BitVec.ofInt 32 ((n : ℤ) * 64 - 64 + k) := by
  unfold IntOp.addi IntOp.subi IntOp.muli
  rw [BitVec.ofInt_add, show (n : ℤ) * 64 - 64 = ((n * 64 : ℕ) : ℤ) - ((64 : ℕ) : ℤ) by push_cast; rfl, ofInt_sub_nat, BitVec.ofInt_natCast, BitVec.ofNat_mul]

theorem qpos_word (n r : ℕ) : IntOp.addi (IntOp.muli (BitVec.ofNat 32 n) 64#32) (BitVec.ofNat 32 r)
    = BitVec.ofInt 32 ((n : ℤ) * 64 + r) := by
  unfold IntOp.addi IntOp.muli
  rw [show (n : ℤ) * 64 + r = ((n * 64 + r : ℕ) : ℤ) by push_cast; rfl, BitVec.ofInt_natCast, BitVec.ofNat_add, BitVec.ofNat_mul]

theorem toInt_small (z : ℤ) (h0 : -4096 ≤ z) (h1 : z ≤ 4096) : (BitVec.ofInt 32 z).toInt = z := by
  rw [BitVec.toInt_ofInt, Int.bmod_def]; split <;> omega

theorem seen_word (N n r k : ℕ) (hN : N ≤ 2048) (hn : n < 32) (hr : r < 64) (hk : k < 192) :
    IntOp.andi (IntOp.andi (IntOp.cmpi .sle (IntOp.absi (IntOp.subi
        (IntOp.addi (IntOp.subi (IntOp.muli (BitVec.ofNat 32 n) 64#32) 64#32) (BitVec.ofNat 32 k))
        (IntOp.addi (IntOp.muli (BitVec.ofNat 32 n) 64#32) (BitVec.ofNat 32 r)))) 64#32)
      (IntOp.cmpi .sge (IntOp.addi (IntOp.subi (IntOp.muli (BitVec.ofNat 32 n) 64#32) 64#32) (BitVec.ofNat 32 k)) 0#32))
      (IntOp.cmpi .slt (IntOp.addi (IntOp.subi (IntOp.muli (BitVec.ofNat 32 n) 64#32) 64#32) (BitVec.ofNat 32 k)) (BitVec.ofNat 32 N))
    = BitVec.ofBool (decide (seen N n (n * 64 + r) k)) := by
  rw [kpos_word, qpos_word]
  have e : IntOp.subi (BitVec.ofInt 32 ((n : ℤ) * 64 - 64 + k)) (BitVec.ofInt 32 ((n : ℤ) * 64 + r)) = BitVec.ofInt 32 ((k : ℤ) - 64 - r) := by
    unfold IntOp.subi
    refine BitVec.sub_eq_iff_eq_add.2 ?_
    rw [← BitVec.ofInt_add]
    congr 1
    ring
  rw [e, mask_word _ (by omega) (by omega), show BitVec.ofNat 32 N = BitVec.ofInt 32 (N : ℤ) from (BitVec.ofInt_natCast ..).symm]
  unfold IntOp.cmpi IntOp.andi
  simp only [BitVec.sle, BitVec.slt]
  rw [toInt_small _ (by omega) (by omega), toInt_small _ (by omega) (by omega), show (0#32).toInt = 0 from rfl,
    BitVec.ofBool_and_ofBool, BitVec.ofBool_and_ofBool]
  congr 1
  rw [Bool.eq_iff_iff]
  simp only [Bool.and_eq_true, decide_eq_true_eq]
  unfold seen near
  omega

end Cert.Att

end
-- ==== Proof.Array.lean ====
/- The kernel's result array: every block is written once, by the grid point of its batch row and head,
   from that head's queries, keys and values. -/
module

public import proofs.«01_k».proof.Proof.Block
public import proofs.«01_k».proof.Proof.Heads
public import proofs.«01_k».proof.Proof.Gen.KernelIdeal.Value
public import Idealize.ShloMosaic.Lib.Claim
public import Idealize.ShloMosaic.Lib.Pipeline.ValueKit.Point

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- What the host makes of a query before the call. -/
def scaleQ (x : EReal) : EReal := Ideal.div (x * Ideal.ofBits .f32 0x3DB504F3#32) (Ideal.log (Ideal.ofBits .f32 0x40000000#32))

theorem scaleQ_real (x : EReal) (hx : x ≠ ⊤ ∧ x ≠ ⊥) : scaleQ x = ((x.toReal * σ * (Real.log 2)⁻¹ : ℝ) : EReal) := by
  lift x to ℝ using hx
  unfold scaleQ
  rw [ofBits_σ, ofBits_two, log_coe _ two_pos, div_coe _ _ (Real.log_pos one_lt_two).ne', EReal.toReal_coe, EReal.coe_mul, EReal.coe_mul]

theorem v7_apply (b : Fin 12) (h : Fin 16) (t : Fin 2048) (l : Fin 128) :
    V m c main_v7 (ix4 b h t l) = scaleQ (m ((c : Thread nD τ).loc main_arg0) (ix4 b t h l)) := by
  entry_read
  pointwise
  rfl

theorem v9_apply (b : Fin 12) (h : Fin 16) (t : Fin 2048) (l : Fin 128) :
    V m c main_v9 (ix4 b h t l) = m ((c : Thread nD τ).loc main_arg1) (ix4 b t h l) := by
  entry_read
  pointwise

theorem v11_apply (b : Fin 12) (h : Fin 16) (t : Fin 2048) (l : Fin 128) :
    V m c main_v11 (ix4 b h t l) = m ((c : Thread nD τ).loc main_arg2) (ix4 b t h l) := by
  entry_read
  pointwise

theorem idx0 : ∀ t : Fin cfg0.N, win0_0.index t = ![t.val / 16, t.val % 16, 0, 0] :=
  (by decide +kernel : ∀ t : Fin grid0.N, win0_0.index t = ![t.val / 16, t.val % 16, 0, 0])
theorem idx1 : ∀ t : Fin cfg0.N, win0_1.index t = ![t.val / 16, t.val % 16, 0, 0] :=
  (by decide +kernel : ∀ t : Fin grid0.N, win0_1.index t = ![t.val / 16, t.val % 16, 0, 0])
theorem idx2 : ∀ t : Fin cfg0.N, win0_2.index t = ![t.val / 16, t.val % 16, 0, 0] :=
  (by decide +kernel : ∀ t : Fin grid0.N, win0_2.index t = ![t.val / 16, t.val % 16, 0, 0])
theorem idx3 : ∀ t : Fin cfg0.N, win0_3.index t = ![t.val / 16, 0, t.val % 16] :=
  (by decide +kernel : ∀ t : Fin grid0.N, win0_3.index t = ![t.val / 16, 0, t.val % 16])

/-- The batch row and the head of a grid point. -/
def tb (t : Fin cfg0.N) : Fin 12 := ⟨t.val / 16, by have := t.isLt; change _ < 192 at this; omega⟩
def th (t : Fin cfg0.N) : Fin 16 := ⟨t.val % 16, by omega⟩

variable (t : Fin cfg0.N)

theorem iblk0_apply (z z' : Fin 1) (r : Fin 2048) (l : Fin 128) :
    iblk m c 0 t (ix4 z z' r l) = V m c main_v7 (ix4 (tb t) (th t) r l) := by
  unfold tb th
  blk_point [iblk, V, idx0 t]

theorem iblk1_apply (z z' : Fin 1) (r : Fin 2048) (l : Fin 128) :
    iblk m c 1 t (ix4 z z' r l) = V m c main_v9 (ix4 (tb t) (th t) r l) := by
  unfold tb th
  blk_point [iblk, V, idx1 t]

theorem iblk2_apply (z z' : Fin 1) (r : Fin 2048) (l : Fin 128) :
    iblk m c 2 t (ix4 z z' r l) = V m c main_v11 (ix4 (tb t) (th t) r l) := by
  unfold tb th
  blk_point [iblk, V, idx2 t]

theorem rows0 (hq : AllReal (m ((c : Thread nD τ).loc main_arg0))) :
    rows (iblk m c 0 t) = scaled σ (headR (m ((c : Thread nD τ).loc main_arg0)) (tb t) (th t)) := by
  funext u l
  unfold rows scaled headR head
  split
  · rename_i hh
    rw [iblk0_apply, v7_apply]
    exact scaleQ_real _ (hq _)
  · simp

theorem rows1 (hk : AllReal (m ((c : Thread nD τ).loc main_arg1))) :
    rows (iblk m c 1 t) = fun u l => (headR (m ((c : Thread nD τ).loc main_arg1)) (tb t) (th t) u l : EReal) := by
  funext u l
  rw [← head_real hk]
  unfold rows head
  split
  · rw [iblk1_apply, v9_apply]
  · rfl

theorem rows2 : rows (iblk m c 2 t) = head (m ((c : Thread nD τ).loc main_arg2)) (tb t) (th t) := by
  funext u l
  unfold rows head
  split
  · rw [iblk2_apply, v11_apply]
  · rfl

theorem flushed_apply (hq : AllReal (m ((c : Thread nD τ).loc main_arg0))) (hk : AllReal (m ((c : Thread nD τ).loc main_arg1)))
    (y : S1x2048x128.Idx) : (dats m 0 c).flushed 3 t y = att σ (headR (m ((c : Thread nD τ).loc main_arg0)) (tb t) (th t))
      (headR (m ((c : Thread nD τ).loc main_arg1)) (tb t) (th t)) (head (m ((c : Thread nD τ).loc main_arg2)) (tb t) (th t)) (y 1).val (y 2).val := by
  rw [Value.flushed3_A]
  refine (out_apply c _ _ _ _ _ _ _ _ _ _ _ _ _ _ _ _ _ _ _ _ _ _ _ _ _ _ _ _ _ _ _ _ _ _ _ _ _ _ _ _ _ _ _ _ _ _ _ _ _).trans ?_
  rw [rows0 m c t hq, rows1 m c t hk, rows2, attOut_eq _ _ _ _ _ _ (y 1).isLt]

theorem final_eq (hq : AllReal (m ((c : Thread nD τ).loc main_arg0))) (hk : AllReal (m ((c : Thread nD τ).loc main_arg1))) :
    (dats m 0 c).arrAt 3 cfg0.N = attAll (m ((c : Thread nD τ).loc main_arg0)) (m ((c : Thread nD τ).loc main_arg1)) (m ((c : Thread nD τ).loc main_arg2)) := by
  refine (dats m 0 c).arrAt_eq_of_covers 3 _ (by decide +kernel) fun t hf y => ?_
  refine (flushed_apply m c t hq hk y).trans ?_
  have e : ∀ a, win0_3.index t a = (![t.val / 16, 0, t.val % 16] : Fin 3 → ℕ) a := fun a => congrFun (idx3 t) a
  have h0 : (y 0).val < 1 := (y 0).isLt
  have h1 : (y 1).val < 2048 := (y 1).isLt
  have h2 : (y 2).val < 128 := (y 2).isLt
  have e0 : ((cfg0.win 3).blk t).view.emb y 0 = tb t := Fin.ext (by
    show win0_3.index t (0 : Fin 3) * 1 + 1 * (y 0).val = t.val / 16
    rw [e]; show t.val / 16 * 1 + _ = _; omega)
  have e1 : (((cfg0.win 3).blk t).view.emb y 1).val = (y 1).val := by
    show win0_3.index t (1 : Fin 3) * 2048 + 1 * (y 1).val = (y 1).val
    rw [e]; show 0 * 2048 + _ = _; omega
  have e2 : (((cfg0.win 3).blk t).view.emb y 2).val = t.val % 16 * 128 + (y 2).val := by
    show win0_3.index t (2 : Fin 3) * 128 + 1 * (y 2).val = _
    rw [e]; show t.val % 16 * 128 + _ = _; omega
  generalize ((cfg0.win 3).blk t).view.emb y = z at e0 e1 e2 ⊢
  unfold attAll
  have e3 : (⟨(z 2).val / 128, by have : (z 2).val < 2048 := (z 2).isLt; omega⟩ : Fin 16) = th t := Fin.ext (by
    show (z 2).val / 128 = t.val % 16
    omega)
  rw [e3, e0, e1, show (z 2).val % 128 = (y 2).val by omega]

end Cert.Att

end
-- ==== Proof.RefSteps.lean ====
/- What the steps of the reference read at an index, for any of its three patterns. -/
module

public import proofs.«01_k».proof.Proof.Heads
import Idealize.ShloMosaic.Lib.Pointwise

@[expose] public section

noncomputable section

namespace Cert.Att

open Idealize.ShloMosaic

theorem head_at (x : FVec Ideal Arr .f32) (b : Fin 12) (h : Fin 16) (c : Fin 128) (t : ℕ) (ht : t < 2048) :
    x (ix4 b (⟨t, ht⟩ : Fin 2048) h c) = head x b h t c := by
  unfold head
  rw [dif_pos ⟨ht, c.isLt⟩]

theorem zero_word : (FloatOps.sitofp (F := Ideal) .f32 0#32 : EReal) = 0 := by
  show (((0#32).toInt : ℝ) : EReal) = 0
  simp

theorem ofBits_zero : Ideal.ofBits .f32 0x00000000#32 = 0 := by simp [Ideal.ofBits, Ideal.ieee]

theorem ofBits_bot : Ideal.ofBits .f32 0xFF800000#32 = ⊥ := by simp [Ideal.ofBits, Ideal.ieee]

theorem const_at (s : Shape) (w : BitVec 32) (i : s.Idx) : constant (F := Ideal) s .f32 w i = Ideal.ofBits .f32 w := rfl

theorem pick_true (x y : EReal) : Scalar.select (BitVec.ofBool true) x y = x := rfl

theorem pick_false (x y : EReal) : Scalar.select (BitVec.ofBool false) x y = y := rfl

/-- A maximum over the last of six axes. -/
theorem reduce_max6 {n0 n1 n2 n3 n4 n5 : ℕ} (x : (⟨6, ![n0, n1, n2, n3, n4, n5]⟩ : Shape).Idx → EReal) {u : Shape} (init : u.Idx → EReal)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < u.numel)
    (a : Fin n0) (b : Fin n1) (c : Fin n2) (e : Fin n3) (f : Fin n4) :
    Host.reduce (FloatOps.maximumf (F := Ideal) (φ := .f32)) x init h' hu (ix5 a b c e f)
      = (Finset.univ : Finset (Fin n5)).fold max (init (Shape.Idx.first hu)) fun k => x (ix6 a b c e f k) := by
  rw [Host.reduce_eq_fold_single _ x init h' h hu]
  refine Finset.fold_congr fun k _ => congrArg x (funext fun i => ?_)
  fin_cases i <;> rfl

theorem three (g : ℕ) (x y z : EReal) : (if _h : g < 1 then x else if _h : g - 1 < 1 then y else z) = if g = 0 then x else if g = 1 then y else z := by
  split_ifs <;> first | rfl | (exfalso; omega)

/-- A maximum over the first of four axes. -/
theorem reduce_max4 {n0 n1 n2 n3 : ℕ} (x : (⟨4, ![n0, n1, n2, n3]⟩ : Shape).Idx → EReal) {u : Shape} (init : u.Idx → EReal)
    (h' : (⟨4, ![n0, n1, n2, n3]⟩ : Shape).ReducesTo [0] ⟨3, ![n1, n2, n3]⟩)
    (h : (⟨4, ![n0, n1, n2, n3]⟩ : Shape).Reduces [0] ⟨3, ![n1, n2, n3]⟩) (hu : 0 < u.numel)
    (a : Fin n1) (b : Fin n2) (c : Fin n3) :
    Host.reduce (FloatOps.maximumf (F := Ideal) (φ := .f32)) x init h' hu (ix3 a b c)
      = (Finset.univ : Finset (Fin n0)).fold max (init (Shape.Idx.first hu)) fun k => x (ix4 k a b c) := by
  rw [Host.reduce_eq_fold_single _ x init h' h hu]
  refine Finset.fold_congr fun k _ => congrArg x (funext fun i => ?_)
  fin_cases i <;> rfl

/-- The scores of real queries and keys are real. -/
theorem score_real (q k : FVec Ideal Arr .f32) (hq : AllReal q) (hk : AllReal k) (b : Fin 12) (h : Fin 16) (t u : ℕ) :
    (∑ c : Fin 128, head q b h t c * head k b h u c) * Ideal.ofBits .f32 0x3DB504F3#32
      = ((sc σ (headR q b h) (headR k b h) t u : ℝ) : EReal) := by
  rw [ofBits_σ]
  unfold sc
  rw [EReal.coe_mul, coe_sum]
  simp only [head_real hq, head_real hk, EReal.coe_mul]

/-- The logarithm of the sum of the exponentials, over a pattern's rows. -/
theorem lse_at (q k : ℕ → ℕ → ℝ) (d n r ρ N : ℕ) (hN : N = 2048 / d) (hρ : ρ < d) (hr : r < 64) (hn : n * 64 + 64 ≤ N) (s : Fin 192 → EReal)
    (hs : ∀ j : Fin 192, s j = if seen N n (n * 64 + r) j then ((sc σ q k ((n * 64 + r) * d + ρ) ((n * 64 + j - 64) * d + ρ) : ℝ) : EReal) else ⊥) :
    ((Finset.univ : Finset (Fin 192)).fold max ⊥ s) + Ideal.log (∑ j : Fin 192, Ideal.exp (s j - (Finset.univ : Finset (Fin 192)).fold max ⊥ s))
      = ((Real.log (bandZ σ q k d ((n * 64 + r) * d + ρ)) : ℝ) : EReal) := by
  subst hN
  exact lse_eq σ q k d n r ρ _ hρ rfl hr hn s hs

/-- The values by their probabilities, over a pattern's rows. -/
theorem probs_at (q k : ℕ → ℕ → ℝ) (V : Rows) (d n r ρ N : ℕ) (hN : N = 2048 / d) (hρ : ρ < d) (hr : r < 64) (hn : n * 64 + 64 ≤ N) (s v : Fin 192 → EReal) (c : ℕ)
    (hs : ∀ j : Fin 192, s j = if seen N n (n * 64 + r) j then ((sc σ q k ((n * 64 + r) * d + ρ) ((n * 64 + j - 64) * d + ρ) : ℝ) : EReal) else ⊥)
    (hv : ∀ j : Fin 192, v j = if 64 ≤ n * 64 + j.val ∧ n * 64 + j.val < N + 64 then V ((n * 64 + j - 64) * d + ρ) c else 0) :
    (∑ j : Fin 192, v j * Ideal.exp (s j - ((Real.log (bandZ σ q k d ((n * 64 + r) * d + ρ)) : ℝ) : EReal)))
      = (((bandZ σ q k d ((n * 64 + r) * d + ρ))⁻¹ : ℝ) : EReal) * bandN σ q k V d ((n * 64 + r) * d + ρ) c := by
  subst hN
  exact probs_eq σ q k V d n r ρ _ hρ rfl hr hn s hs v c fun j h => (hv j).trans (if_pos h.1)

end Cert.Att

end
-- ==== Proof.Ref.lean ====
/- What the reference computes: the attention of every head of every row. -/
module

public import proofs.«01_k».proof.Proof.RefSteps
public import proofs.«01_k».proof.Proof.Gen.ReferenceIdeal.Read
import Idealize.ShloMosaic.Lib.Pointwise

@[expose] public section

noncomputable section

namespace Cert.Att

open Idealize.ShloMosaic Cert.ReferenceIdeal.Read

section
variable (q k v : FVec Ideal Arr .f32) (b : Fin 12) (ρ : Fin 1) (n : Fin 32) (r : Fin 64) (j : Fin 192) (h : Fin 16) (c : Fin 128)

theorem queries1 : val_main_v3 (F := Ideal) q (ix6 b ρ n r h c) = head q b h ((n.val * 64 + r.val) * 1 + ρ.val) c := by
  pointwise [val_main_v0, val_main_v1, val_main_v2, val_main_v3, val_main_call0_v0]
  have := ρ.isLt
  rw [dif_pos (by omega)]
  refine (head_at q b h c _ _).trans (congrArg (fun t => head q b h t c) ?_)
  omega

set_option maxHeartbeats 1000000 in
theorem keys1 : val_main_v11 (F := Ideal) k (ix6 b ρ n j h c) = if 64 ≤ n.val * 64 + j ∧ n.val * 64 + j < 2048 + 64 then head k b h ((n * 64 + j - 64) * 1 + ρ) c else 0 := by
  by_cases hc : 64 ≤ n.val * 64 + j ∧ n.val * 64 + j < 2048 + 64
  · rw [if_pos hc]
    pointwise [val_main_v4, val_main_v5, val_main_v6, val_main_v7, val_main_v8, val_main_v9, val_main_v10, val_main_v11, val_main_call1_v0, val_main_c_0]
    have := ρ.isLt
    split_ifs
    all_goals first | (exfalso; omega) | (refine (head_at k b h c _ _).trans (congrArg (fun t => head k b h t c) ?_); omega)
  · rw [if_neg hc]
    pointwise [val_main_v4, val_main_v5, val_main_v6, val_main_v7, val_main_v8, val_main_v9, val_main_v10, val_main_v11, val_main_call1_v0, val_main_c_0]
    split_ifs
    all_goals first | (exfalso; omega) | exact zero_word

set_option maxHeartbeats 1000000 in
theorem values1 : val_main_v19 (F := Ideal) v (ix6 b ρ n j h c) = if 64 ≤ n.val * 64 + j ∧ n.val * 64 + j < 2048 + 64 then head v b h ((n * 64 + j - 64) * 1 + ρ) c else 0 := by
  by_cases hc : 64 ≤ n.val * 64 + j ∧ n.val * 64 + j < 2048 + 64
  · rw [if_pos hc]
    pointwise [val_main_v12, val_main_v13, val_main_v14, val_main_v15, val_main_v16, val_main_v17, val_main_v18, val_main_v19, val_main_call2_v0, val_main_c_1]
    have := ρ.isLt
    split_ifs
    all_goals first | (exfalso; omega) | (refine (head_at v b h c _ _).trans (congrArg (fun t => head v b h t c) ?_); omega)
  · rw [if_neg hc]
    pointwise [val_main_v12, val_main_v13, val_main_v14, val_main_v15, val_main_v16, val_main_v17, val_main_v18, val_main_v19, val_main_call2_v0, val_main_c_1]
    split_ifs
    all_goals first | (exfalso; omega) | exact zero_word

theorem mask1 : val_main_v56 (F := Ideal) (ix3 n r j) = BitVec.ofBool (decide (seen 2048 n (n.val * 64 + r) j)) := by
  pointwise [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_c_2, val_main_c_3, val_main_c_4, val_main_c_5, val_main_c_6, val_main_c_7]
  exact seen_word 2048 n r j (by omega) (by omega) (by omega) (by omega)

variable (hq : AllReal q) (hk : AllReal k)
include hq hk

theorem scores1 : val_main_v58 (F := Ideal) q k (ix6 b ρ n h r j)
    = if seen 2048 n (n.val * 64 + r) j then ((sc σ (headR q b h) (headR k b h) ((n.val * 64 + r) * 1 + ρ) ((n.val * 64 + j - 64) * 1 + ρ) : ℝ) : EReal) else ⊥ := by
  rw [val_main_v58_apply, val_main_call3_v1_apply, val_main_v57_apply, val_main_v22_apply, val_main_v21_apply, val_main_cst_apply, val_main_call3_v2_apply, val_main_call3_v0_apply, val_main_cst_8_apply,
    show idx_main_v57 (idx_main_call3_v1 (ix6 b ρ n h r j)) = ix3 n r j from funext fun a => by fin_cases a <;> rfl,
    mask1, val_main_v20_apply, Ideal.mulf_def, Ideal.ofBits_def, Ideal.ofBits_def]
  by_cases hs : seen 2048 n (n.val * 64 + r) j
  · rw [if_pos hs, decide_eq_true hs, pick_true]
    refine Eq.trans ?_ (score_real q k hq hk b h _ _)
    refine congrArg (· * Ideal.ofBits .f32 0x3DB504F3#32) (Finset.sum_congr rfl fun l _ => ?_)
    have el : lidx_main_v20 (ix6 b ρ n h r j) l = ix6 b ρ n r h l := funext fun a => by fin_cases a <;> rfl
    have er : ridx_main_v20 (ix6 b ρ n h r j) l = ix6 b ρ n j h l := funext fun a => by fin_cases a <;> rfl
    rw [el, er, queries1, keys1, if_pos hs.1]
  · rw [if_neg hs, decide_eq_false hs, pick_false, ofBits_bot]

theorem logsum1 : val_main_v66 (F := Ideal) q k (ix5 b ρ n h r)
    = ((Real.log (bandZ σ (headR q b h) (headR k b h) 1 ((n.val * 64 + r) * 1 + ρ)) : ℝ) : EReal) := by
  obtain ⟨s, hs⟩ : ∃ s : Fin 192 → EReal, ∀ j, val_main_v58 (F := Ideal) q k (ix6 b ρ n h r j) = s j := ⟨_, fun _ => rfl⟩
  have top : val_main_v59 (F := Ideal) q k (ix5 b ρ n h r) = (Finset.univ : Finset (Fin 192)).fold max ⊥ s := by
    unfold val_main_v59
    rw [reduce_max6 _ _ _ (by decide)]
    refine (Finset.fold_congr fun j _ => hs j).trans ?_
    unfold val_main_cst_9
    rw [const_at, ofBits_bot]
  have terms : ∀ j, val_main_v63 (F := Ideal) q k (ix6 b ρ n h r j) = Ideal.exp (s j - (Finset.univ : Finset (Fin 192)).fold max ⊥ s) := fun j => by
    rw [← top, ← hs]
    pointwise [val_main_v63, val_main_v62, val_main_v61, val_main_v60]
    rw [Subsingleton.elim ρ 0]
  have total : val_main_v64 (F := Ideal) q k (ix5 b ρ n h r) = ∑ j : Fin 192, Ideal.exp (s j - (Finset.univ : Finset (Fin 192)).fold max ⊥ s) := by
    rw [val_main_v64_apply, val_main_cst_10, const_at, ofBits_zero, zero_add]
    refine Finset.sum_congr rfl fun j _ => ?_
    rw [show idx_main_v64 (ix5 b ρ n h r) j = ix6 b ρ n h r j from funext fun a => by fin_cases a <;> rfl]
    exact terms j
  refine Eq.trans ?_ (lse_at (headR q b h) (headR k b h) 1 n r ρ 2048 (by norm_num) ρ.isLt r.isLt (by omega) s fun j => (hs j).symm.trans (scores1 q k b ρ n r j h hq hk))
  rw [← total, ← top, val_main_v66_apply, val_main_v65_apply]
  rfl

theorem out1 : val_main_v71 (F := Ideal) q k v (ix6 b ρ n h c r)
    = (((bandZ σ (headR q b h) (headR k b h) 1 ((n.val * 64 + r) * 1 + ρ))⁻¹ : ℝ) : EReal)
      * bandN σ (headR q b h) (headR k b h) (head v b h) 1 ((n.val * 64 + r) * 1 + ρ) c := by
  rw [val_main_v71_apply]
  refine Eq.trans ?_ (probs_at (headR q b h) (headR k b h) (head v b h) 1 n r ρ 2048 (by norm_num) ρ.isLt r.isLt (by omega) _ _ c
    (fun j => scores1 q k b ρ n r j h hq hk) (fun j => values1 v b ρ n j h c))
  refine Finset.sum_congr rfl fun j _ => ?_
  rw [show lidx_main_v71 (ix6 b ρ n h c r) j = ix6 b ρ n j h c from funext fun a => by fin_cases a <;> rfl,
    show ridx_main_v71 (ix6 b ρ n h c r) j = ix6 b ρ n h r j from funext fun a => by fin_cases a <;> rfl]
  refine congrArg (val_main_v19 (F := Ideal) v (ix6 b ρ n j h c) * ·) ?_
  rw [← logsum1 q k b ρ n r h hq hk]
  pointwise [val_main_v70, val_main_v69, val_main_v68, val_main_v67]
  rw [Subsingleton.elim ρ 0]

theorem logs1 (t : Fin 2048) : val_main_v79 (F := Ideal) q k (ix3 b t h)
    = ((Real.log (bandZ σ (headR q b h) (headR k b h) 1 t) : ℝ) : EReal) := by
  pointwise [val_main_v79, val_main_v78, val_main_v77, val_main_v76]
  rw [logsum1 q k _ _ _ _ _ hq hk]
  refine congrArg (fun z => ((Real.log (bandZ σ (headR q b h) (headR k b h) 1 z) : ℝ) : EReal)) ?_
  dsimp only
  omega

theorem outs1 (t : Fin 2048) : val_main_v75 (F := Ideal) q k v (ix4 b t h c)
    = (((bandZ σ (headR q b h) (headR k b h) 1 t)⁻¹ : ℝ) : EReal) * bandN σ (headR q b h) (headR k b h) (head v b h) 1 t c := by
  pointwise [val_main_v75, val_main_v74, val_main_v73, val_main_v72]
  rw [out1 q k v _ _ _ _ _ _ hq hk]
  refine congrArg (fun z => (((bandZ σ (headR q b h) (headR k b h) 1 z)⁻¹ : ℝ) : EReal) * bandN σ (headR q b h) (headR k b h) (head v b h) 1 z c) ?_
  dsimp only
  omega

end

section
variable (q k v : FVec Ideal Arr .f32) (b : Fin 12) (ρ : Fin 4) (n : Fin 8) (r : Fin 64) (j : Fin 192) (h : Fin 16) (c : Fin 128)

theorem queries4 : val_main_v83 (F := Ideal) q (ix6 b ρ n r h c) = head q b h ((n.val * 64 + r.val) * 4 + ρ.val) c := by
  pointwise [val_main_v80, val_main_v81, val_main_v82, val_main_v83, val_main_call4_v0]
  have := ρ.isLt
  rw [dif_pos (by omega)]
  refine (head_at q b h c _ _).trans (congrArg (fun t => head q b h t c) ?_)
  omega

set_option maxHeartbeats 1000000 in
theorem keys4 : val_main_v91 (F := Ideal) k (ix6 b ρ n j h c) = if 64 ≤ n.val * 64 + j ∧ n.val * 64 + j < 512 + 64 then head k b h ((n * 64 + j - 64) * 4 + ρ) c else 0 := by
  by_cases hc : 64 ≤ n.val * 64 + j ∧ n.val * 64 + j < 512 + 64
  · rw [if_pos hc]
    pointwise [val_main_v84, val_main_v85, val_main_v86, val_main_v87, val_main_v88, val_main_v89, val_main_v90, val_main_v91, val_main_call5_v0, val_main_c_12]
    have := ρ.isLt
    split_ifs
    all_goals first | (exfalso; omega) | (refine (head_at k b h c _ _).trans (congrArg (fun t => head k b h t c) ?_); omega)
  · rw [if_neg hc]
    pointwise [val_main_v84, val_main_v85, val_main_v86, val_main_v87, val_main_v88, val_main_v89, val_main_v90, val_main_v91, val_main_call5_v0, val_main_c_12]
    split_ifs
    all_goals first | (exfalso; omega) | exact zero_word

set_option maxHeartbeats 1000000 in
theorem values4 : val_main_v99 (F := Ideal) v (ix6 b ρ n j h c) = if 64 ≤ n.val * 64 + j ∧ n.val * 64 + j < 512 + 64 then head v b h ((n * 64 + j - 64) * 4 + ρ) c else 0 := by
  by_cases hc : 64 ≤ n.val * 64 + j ∧ n.val * 64 + j < 512 + 64
  · rw [if_pos hc]
    pointwise [val_main_v92, val_main_v93, val_main_v94, val_main_v95, val_main_v96, val_main_v97, val_main_v98, val_main_v99, val_main_call6_v0, val_main_c_13]
    have := ρ.isLt
    split_ifs
    all_goals first | (exfalso; omega) | (refine (head_at v b h c _ _).trans (congrArg (fun t => head v b h t c) ?_); omega)
  · rw [if_neg hc]
    pointwise [val_main_v92, val_main_v93, val_main_v94, val_main_v95, val_main_v96, val_main_v97, val_main_v98, val_main_v99, val_main_call6_v0, val_main_c_13]
    split_ifs
    all_goals first | (exfalso; omega) | exact zero_word

theorem mask4 : val_main_v136 (F := Ideal) (ix3 n r j) = BitVec.ofBool (decide (seen 512 n (n.val * 64 + r) j)) := by
  pointwise [val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_c_15, val_main_c_16, val_main_c_17, val_main_c_18, val_main_c_19, val_main_c_20]
  exact seen_word 512 n r j (by omega) (by omega) (by omega) (by omega)

variable (hq : AllReal q) (hk : AllReal k)
include hq hk

theorem scores4 : val_main_v138 (F := Ideal) q k (ix6 b ρ n h r j)
    = if seen 512 n (n.val * 64 + r) j then ((sc σ (headR q b h) (headR k b h) ((n.val * 64 + r) * 4 + ρ) ((n.val * 64 + j - 64) * 4 + ρ) : ℝ) : EReal) else ⊥ := by
  rw [val_main_v138_apply, val_main_call7_v1_apply, val_main_v137_apply, val_main_v102_apply, val_main_v101_apply, val_main_cst_14_apply, val_main_call7_v2_apply, val_main_call7_v0_apply, val_main_cst_21_apply,
    show idx_main_v137 (idx_main_call7_v1 (ix6 b ρ n h r j)) = ix3 n r j from funext fun a => by fin_cases a <;> rfl,
    mask4, val_main_v100_apply, Ideal.mulf_def, Ideal.ofBits_def, Ideal.ofBits_def]
  by_cases hs : seen 512 n (n.val * 64 + r) j
  · rw [if_pos hs, decide_eq_true hs, pick_true]
    refine Eq.trans ?_ (score_real q k hq hk b h _ _)
    refine congrArg (· * Ideal.ofBits .f32 0x3DB504F3#32) (Finset.sum_congr rfl fun l _ => ?_)
    have el : lidx_main_v100 (ix6 b ρ n h r j) l = ix6 b ρ n r h l := funext fun a => by fin_cases a <;> rfl
    have er : ridx_main_v100 (ix6 b ρ n h r j) l = ix6 b ρ n j h l := funext fun a => by fin_cases a <;> rfl
    rw [el, er, queries4, keys4, if_pos hs.1]
  · rw [if_neg hs, decide_eq_false hs, pick_false, ofBits_bot]

theorem logsum4 : val_main_v146 (F := Ideal) q k (ix5 b ρ n h r)
    = ((Real.log (bandZ σ (headR q b h) (headR k b h) 4 ((n.val * 64 + r) * 4 + ρ)) : ℝ) : EReal) := by
  obtain ⟨s, hs⟩ : ∃ s : Fin 192 → EReal, ∀ j, val_main_v138 (F := Ideal) q k (ix6 b ρ n h r j) = s j := ⟨_, fun _ => rfl⟩
  have top : val_main_v139 (F := Ideal) q k (ix5 b ρ n h r) = (Finset.univ : Finset (Fin 192)).fold max ⊥ s := by
    unfold val_main_v139
    rw [reduce_max6 _ _ _ (by decide)]
    refine (Finset.fold_congr fun j _ => hs j).trans ?_
    unfold val_main_cst_22
    rw [const_at, ofBits_bot]
  have terms : ∀ j, val_main_v143 (F := Ideal) q k (ix6 b ρ n h r j) = Ideal.exp (s j - (Finset.univ : Finset (Fin 192)).fold max ⊥ s) := fun j => by
    rw [← top, ← hs]
    pointwise [val_main_v143, val_main_v142, val_main_v141, val_main_v140]
  have total : val_main_v144 (F := Ideal) q k (ix5 b ρ n h r) = ∑ j : Fin 192, Ideal.exp (s j - (Finset.univ : Finset (Fin 192)).fold max ⊥ s) := by
    rw [val_main_v144_apply, val_main_cst_23, const_at, ofBits_zero, zero_add]
    refine Finset.sum_congr rfl fun j _ => ?_
    rw [show idx_main_v144 (ix5 b ρ n h r) j = ix6 b ρ n h r j from funext fun a => by fin_cases a <;> rfl]
    exact terms j
  refine Eq.trans ?_ (lse_at (headR q b h) (headR k b h) 4 n r ρ 512 (by norm_num) ρ.isLt r.isLt (by omega) s fun j => (hs j).symm.trans (scores4 q k b ρ n r j h hq hk))
  rw [← total, ← top, val_main_v146_apply, val_main_v145_apply]
  rfl

theorem out4 : val_main_v151 (F := Ideal) q k v (ix6 b ρ n h c r)
    = (((bandZ σ (headR q b h) (headR k b h) 4 ((n.val * 64 + r) * 4 + ρ))⁻¹ : ℝ) : EReal)
      * bandN σ (headR q b h) (headR k b h) (head v b h) 4 ((n.val * 64 + r) * 4 + ρ) c := by
  rw [val_main_v151_apply]
  refine Eq.trans ?_ (probs_at (headR q b h) (headR k b h) (head v b h) 4 n r ρ 512 (by norm_num) ρ.isLt r.isLt (by omega) _ _ c
    (fun j => scores4 q k b ρ n r j h hq hk) (fun j => values4 v b ρ n j h c))
  refine Finset.sum_congr rfl fun j _ => ?_
  rw [show lidx_main_v151 (ix6 b ρ n h c r) j = ix6 b ρ n j h c from funext fun a => by fin_cases a <;> rfl,
    show ridx_main_v151 (ix6 b ρ n h c r) j = ix6 b ρ n h r j from funext fun a => by fin_cases a <;> rfl]
  refine congrArg (val_main_v99 (F := Ideal) v (ix6 b ρ n j h c) * ·) ?_
  rw [← logsum4 q k b ρ n r h hq hk]
  pointwise [val_main_v150, val_main_v149, val_main_v148, val_main_v147]

theorem logs4 (t : Fin 2048) : val_main_v159 (F := Ideal) q k (ix3 b t h)
    = ((Real.log (bandZ σ (headR q b h) (headR k b h) 4 t) : ℝ) : EReal) := by
  pointwise [val_main_v159, val_main_v158, val_main_v157, val_main_v156]
  rw [logsum4 q k _ _ _ _ _ hq hk]
  refine congrArg (fun z => ((Real.log (bandZ σ (headR q b h) (headR k b h) 4 z) : ℝ) : EReal)) ?_
  dsimp only
  omega

theorem outs4 (t : Fin 2048) : val_main_v155 (F := Ideal) q k v (ix4 b t h c)
    = (((bandZ σ (headR q b h) (headR k b h) 4 t)⁻¹ : ℝ) : EReal) * bandN σ (headR q b h) (headR k b h) (head v b h) 4 t c := by
  pointwise [val_main_v155, val_main_v154, val_main_v153, val_main_v152]
  rw [out4 q k v _ _ _ _ _ _ hq hk]
  refine congrArg (fun z => (((bandZ σ (headR q b h) (headR k b h) 4 z)⁻¹ : ℝ) : EReal) * bandN σ (headR q b h) (headR k b h) (head v b h) 4 z c) ?_
  dsimp only
  omega

end

section
variable (q k v : FVec Ideal Arr .f32) (b : Fin 12) (ρ : Fin 16) (n : Fin 2) (r : Fin 64) (j : Fin 192) (h : Fin 16) (c : Fin 128)

theorem queries16 : val_main_v163 (F := Ideal) q (ix6 b ρ n r h c) = head q b h ((n.val * 64 + r.val) * 16 + ρ.val) c := by
  pointwise [val_main_v160, val_main_v161, val_main_v162, val_main_v163, val_main_call8_v0]
  have := ρ.isLt
  rw [dif_pos (by omega)]
  refine (head_at q b h c _ _).trans (congrArg (fun t => head q b h t c) ?_)
  omega

set_option maxHeartbeats 1000000 in
theorem keys16 : val_main_v171 (F := Ideal) k (ix6 b ρ n j h c) = if 64 ≤ n.val * 64 + j ∧ n.val * 64 + j < 128 + 64 then head k b h ((n * 64 + j - 64) * 16 + ρ) c else 0 := by
  by_cases hc : 64 ≤ n.val * 64 + j ∧ n.val * 64 + j < 128 + 64
  · rw [if_pos hc]
    pointwise [val_main_v164, val_main_v165, val_main_v166, val_main_v167, val_main_v168, val_main_v169, val_main_v170, val_main_v171, val_main_call9_v0, val_main_c_25]
    have := ρ.isLt
    split_ifs
    all_goals first | (exfalso; omega) | (refine (head_at k b h c _ _).trans (congrArg (fun t => head k b h t c) ?_); omega)
  · rw [if_neg hc]
    pointwise [val_main_v164, val_main_v165, val_main_v166, val_main_v167, val_main_v168, val_main_v169, val_main_v170, val_main_v171, val_main_call9_v0, val_main_c_25]
    split_ifs
    all_goals first | (exfalso; omega) | exact zero_word

set_option maxHeartbeats 1000000 in
theorem values16 : val_main_v179 (F := Ideal) v (ix6 b ρ n j h c) = if 64 ≤ n.val * 64 + j ∧ n.val * 64 + j < 128 + 64 then head v b h ((n * 64 + j - 64) * 16 + ρ) c else 0 := by
  by_cases hc : 64 ≤ n.val * 64 + j ∧ n.val * 64 + j < 128 + 64
  · rw [if_pos hc]
    pointwise [val_main_v172, val_main_v173, val_main_v174, val_main_v175, val_main_v176, val_main_v177, val_main_v178, val_main_v179, val_main_call10_v0, val_main_c_26]
    have := ρ.isLt
    split_ifs
    all_goals first | (exfalso; omega) | (refine (head_at v b h c _ _).trans (congrArg (fun t => head v b h t c) ?_); omega)
  · rw [if_neg hc]
    pointwise [val_main_v172, val_main_v173, val_main_v174, val_main_v175, val_main_v176, val_main_v177, val_main_v178, val_main_v179, val_main_call10_v0, val_main_c_26]
    split_ifs
    all_goals first | (exfalso; omega) | exact zero_word

theorem mask16 : val_main_v216 (F := Ideal) (ix3 n r j) = BitVec.ofBool (decide (seen 128 n (n.val * 64 + r) j)) := by
  pointwise [val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_c_28, val_main_c_29, val_main_c_30, val_main_c_31, val_main_c_32, val_main_c_33]
  exact seen_word 128 n r j (by omega) (by omega) (by omega) (by omega)

variable (hq : AllReal q) (hk : AllReal k)
include hq hk

theorem scores16 : val_main_v218 (F := Ideal) q k (ix6 b ρ n h r j)
    = if seen 128 n (n.val * 64 + r) j then ((sc σ (headR q b h) (headR k b h) ((n.val * 64 + r) * 16 + ρ) ((n.val * 64 + j - 64) * 16 + ρ) : ℝ) : EReal) else ⊥ := by
  rw [val_main_v218_apply, val_main_call11_v1_apply, val_main_v217_apply, val_main_v182_apply, val_main_v181_apply, val_main_cst_27_apply, val_main_call11_v2_apply, val_main_call11_v0_apply, val_main_cst_34_apply,
    show idx_main_v217 (idx_main_call11_v1 (ix6 b ρ n h r j)) = ix3 n r j from funext fun a => by fin_cases a <;> rfl,
    mask16, val_main_v180_apply, Ideal.mulf_def, Ideal.ofBits_def, Ideal.ofBits_def]
  by_cases hs : seen 128 n (n.val * 64 + r) j
  · rw [if_pos hs, decide_eq_true hs, pick_true]
    refine Eq.trans ?_ (score_real q k hq hk b h _ _)
    refine congrArg (· * Ideal.ofBits .f32 0x3DB504F3#32) (Finset.sum_congr rfl fun l _ => ?_)
    have el : lidx_main_v180 (ix6 b ρ n h r j) l = ix6 b ρ n r h l := funext fun a => by fin_cases a <;> rfl
    have er : ridx_main_v180 (ix6 b ρ n h r j) l = ix6 b ρ n j h l := funext fun a => by fin_cases a <;> rfl
    rw [el, er, queries16, keys16, if_pos hs.1]
  · rw [if_neg hs, decide_eq_false hs, pick_false, ofBits_bot]

theorem logsum16 : val_main_v226 (F := Ideal) q k (ix5 b ρ n h r)
    = ((Real.log (bandZ σ (headR q b h) (headR k b h) 16 ((n.val * 64 + r) * 16 + ρ)) : ℝ) : EReal) := by
  obtain ⟨s, hs⟩ : ∃ s : Fin 192 → EReal, ∀ j, val_main_v218 (F := Ideal) q k (ix6 b ρ n h r j) = s j := ⟨_, fun _ => rfl⟩
  have top : val_main_v219 (F := Ideal) q k (ix5 b ρ n h r) = (Finset.univ : Finset (Fin 192)).fold max ⊥ s := by
    unfold val_main_v219
    rw [reduce_max6 _ _ _ (by decide)]
    refine (Finset.fold_congr fun j _ => hs j).trans ?_
    unfold val_main_cst_35
    rw [const_at, ofBits_bot]
  have terms : ∀ j, val_main_v223 (F := Ideal) q k (ix6 b ρ n h r j) = Ideal.exp (s j - (Finset.univ : Finset (Fin 192)).fold max ⊥ s) := fun j => by
    rw [← top, ← hs]
    pointwise [val_main_v223, val_main_v222, val_main_v221, val_main_v220]
  have total : val_main_v224 (F := Ideal) q k (ix5 b ρ n h r) = ∑ j : Fin 192, Ideal.exp (s j - (Finset.univ : Finset (Fin 192)).fold max ⊥ s) := by
    rw [val_main_v224_apply, val_main_cst_36, const_at, ofBits_zero, zero_add]
    refine Finset.sum_congr rfl fun j _ => ?_
    rw [show idx_main_v224 (ix5 b ρ n h r) j = ix6 b ρ n h r j from funext fun a => by fin_cases a <;> rfl]
    exact terms j
  refine Eq.trans ?_ (lse_at (headR q b h) (headR k b h) 16 n r ρ 128 (by norm_num) ρ.isLt r.isLt (by omega) s fun j => (hs j).symm.trans (scores16 q k b ρ n r j h hq hk))
  rw [← total, ← top, val_main_v226_apply, val_main_v225_apply]
  rfl

theorem out16 : val_main_v231 (F := Ideal) q k v (ix6 b ρ n h c r)
    = (((bandZ σ (headR q b h) (headR k b h) 16 ((n.val * 64 + r) * 16 + ρ))⁻¹ : ℝ) : EReal)
      * bandN σ (headR q b h) (headR k b h) (head v b h) 16 ((n.val * 64 + r) * 16 + ρ) c := by
  rw [val_main_v231_apply]
  refine Eq.trans ?_ (probs_at (headR q b h) (headR k b h) (head v b h) 16 n r ρ 128 (by norm_num) ρ.isLt r.isLt (by omega) _ _ c
    (fun j => scores16 q k b ρ n r j h hq hk) (fun j => values16 v b ρ n j h c))
  refine Finset.sum_congr rfl fun j _ => ?_
  rw [show lidx_main_v231 (ix6 b ρ n h c r) j = ix6 b ρ n j h c from funext fun a => by fin_cases a <;> rfl,
    show ridx_main_v231 (ix6 b ρ n h c r) j = ix6 b ρ n h r j from funext fun a => by fin_cases a <;> rfl]
  refine congrArg (val_main_v179 (F := Ideal) v (ix6 b ρ n j h c) * ·) ?_
  rw [← logsum16 q k b ρ n r h hq hk]
  pointwise [val_main_v230, val_main_v229, val_main_v228, val_main_v227]

theorem logs16 (t : Fin 2048) : val_main_v239 (F := Ideal) q k (ix3 b t h)
    = ((Real.log (bandZ σ (headR q b h) (headR k b h) 16 t) : ℝ) : EReal) := by
  pointwise [val_main_v239, val_main_v238, val_main_v237, val_main_v236]
  rw [logsum16 q k _ _ _ _ _ hq hk]
  refine congrArg (fun z => ((Real.log (bandZ σ (headR q b h) (headR k b h) 16 z) : ℝ) : EReal)) ?_
  dsimp only
  omega

theorem outs16 (t : Fin 2048) : val_main_v235 (F := Ideal) q k v (ix4 b t h c)
    = (((bandZ σ (headR q b h) (headR k b h) 16 t)⁻¹ : ℝ) : EReal) * bandN σ (headR q b h) (headR k b h) (head v b h) 16 t c := by
  pointwise [val_main_v235, val_main_v234, val_main_v233, val_main_v232]
  rw [out16 q k v _ _ _ _ _ _ hq hk]
  refine congrArg (fun z => (((bandZ σ (headR q b h) (headR k b h) 16 z)⁻¹ : ℝ) : EReal) * bandN σ (headR q b h) (headR k b h) (head v b h) 16 z c) ?_
  dsimp only
  omega

end

section
variable (q k v : FVec Ideal Arr .f32) (b : Fin 12) (t : Fin 2048) (h : Fin 16) (c : Fin 128) (g : Fin 3)

theorem stackedLogs : val_main_v247 (F := Ideal) q k (ix4 g b t h)
    = if g.val = 0 then val_main_v79 (F := Ideal) q k (ix3 b t h) else if g.val = 1 then val_main_v159 (F := Ideal) q k (ix3 b t h) else val_main_v239 (F := Ideal) q k (ix3 b t h) := by
  pointwise [val_main_v247, val_main_v246, val_main_v245, val_main_v244]
  exact three _ _ _ _

theorem stackedOuts : val_main_v243 (F := Ideal) q k v (ix5 g b t h c)
    = if g.val = 0 then val_main_v75 (F := Ideal) q k v (ix4 b t h c) else if g.val = 1 then val_main_v155 (F := Ideal) q k v (ix4 b t h c) else val_main_v235 (F := Ideal) q k v (ix4 b t h c) := by
  pointwise [val_main_v243, val_main_v242, val_main_v241, val_main_v240]
  exact three _ _ _ _

theorem merged (hq : AllReal q) (hk : AllReal k) : val_main_v259 (F := Ideal) q k v (ix4 b t h c) = att σ (headR q b h) (headR k b h) (head v b h) t c := by
  obtain ⟨f, hf⟩ : ∃ f : Fin 3 → EReal, ∀ g, val_main_v247 (F := Ideal) q k (ix4 g b t h) = f g := ⟨_, fun _ => rfl⟩
  have top : val_main_v250 (F := Ideal) q k (ix3 b t h) = (Finset.univ : Finset (Fin 3)).fold max ⊥ f := by
    rw [val_main_v250_apply, val_main_v249_apply, val_main_cst_38_apply, Ideal.ofBits_def, ofBits_bot, Ideal.maximumf_def, bot_sup_eq]
    unfold val_main_v248 val_main_cst_37
    rw [reduce_max4 _ _ _ (by decide), const_at, ofBits_bot]
    exact Finset.fold_congr fun g _ => hf g
  have terms : ∀ g, val_main_v254 (F := Ideal) q k (ix4 g b t h) = Ideal.exp (f g - (Finset.univ : Finset (Fin 3)).fold max ⊥ f) := fun g => by
    rw [← top, ← hf]
    pointwise [val_main_v254, val_main_v253, val_main_v252, val_main_v251]
  have total : val_main_v255 (F := Ideal) q k (ix3 b t h) = ∑ g : Fin 3, Ideal.exp (f g - (Finset.univ : Finset (Fin 3)).fold max ⊥ f) := by
    rw [val_main_v255_apply, val_main_cst_39_apply, Ideal.ofBits_def, ofBits_zero, zero_add]
    refine Finset.sum_congr rfl fun g _ => ?_
    rw [show idx_main_v255 (ix3 b t h) g = ix4 g b t h from funext fun a => by fin_cases a <;> rfl]
    exact terms g
  rw [val_main_v259_apply]
  refine Eq.trans ?_ (merge_eq σ (headR q b h) (headR k b h) (head v b h) t c t.isLt f (fun g => val_main_v243 (F := Ideal) q k v (ix5 g b t h c))
    ?_ ?_ ?_ ?_ ?_ ?_)
  · refine Finset.sum_congr rfl fun g _ => ?_
    rw [show lidx_main_v259 (ix4 b t h c) g = ix4 g b t h from funext fun a => by fin_cases a <;> rfl,
      show ridx_main_v259 (ix4 b t h c) g = ix5 g b t h c from funext fun a => by fin_cases a <;> rfl]
    refine congrArg (· * val_main_v243 (F := Ideal) q k v (ix5 g b t h c)) ?_
    rw [← total, ← terms]
    pointwise [val_main_v258, val_main_v257, val_main_v256]
  · rw [← hf, stackedLogs]; exact logs1 q k b h hq hk t
  · rw [stackedOuts]; exact outs1 q k v b h c hq hk t
  · rw [← hf, stackedLogs]; exact logs4 q k b h hq hk t
  · rw [stackedOuts]; exact outs4 q k v b h c hq hk t
  · rw [← hf, stackedLogs]; exact logs16 q k b h hq hk t
  · rw [stackedOuts]; exact outs16 q k v b h c hq hk t

/-- The reference is the attention of every head of every row. -/
theorem reference_eq (hq : AllReal q) (hk : AllReal k) : val_main_v261 (F := Ideal) q k v = attAll q k v := by
  funext i
  rw [val_main_v261_apply, val_main_v260_apply]
  have h0 : (i 0).val < 12 := (i 0).isLt
  have h1 : (i 1).val < 2048 := (i 1).isLt
  have h2 : (i 2).val < 2048 := (i 2).isLt
  have e : idx_main_v260 i = ix4 (⟨(i 0).val, h0⟩ : Fin 12) (⟨(i 1).val, h1⟩ : Fin 2048) (⟨(i 2).val / 128, by omega⟩ : Fin 16) (⟨(i 2).val % 128, by omega⟩ : Fin 128) := by
    funext a
    match a with
    | ⟨0, _⟩ => exact Fin.ext (show _ / _ = (i 0).val by omega)
    | ⟨1, _⟩ => exact Fin.ext (show _ % _ = (i 1).val by omega)
    | ⟨2, _⟩ => exact Fin.ext (show _ % _ = (i 2).val / 128 by omega)
    | ⟨3, _⟩ => exact Fin.ext (show _ % _ = (i 2).val % 128 by omega)
  rw [e]
  exact merged q k v _ _ _ _ hq hk

end

end Cert.Att

end
-- ==== Proof.Attention.lean ====
/- The claims about the attention: its frames, its named constant, and its value under finite queries and keys. -/
module

public import proofs.«01_k».proof.Defs
public import proofs.«01_k».proof.Proof.Array
public import proofs.«01_k».proof.Proof.Ref
public import proofs.«01_k».proof.Proof.Gen.Kernel.Frame
public import proofs.«01_k».proof.Proof.Gen.ReferenceIdeal.Run
import Idealize.ShloMosaic.Lib.ReduceAll
import Idealize.ShloMosaic.Lib.Claim

@[expose] public section

noncomputable section

namespace Cert.Att

open Idealize.ShloMosaic Idealize.SL.Sem

/-- The predicate's side conditions. -/
theorem finiteFacts : Cert.Pre_finite.Facts where
  bcast_S_S12x2048x16x128 := by decide
  reducesTo_S12x2048x16x128_S_d0_1_2_3 := by decide
  h_S_ := by decide

theorem ofBits_inf : Ideal.ofBits .f32 0x7F800000#32 = ⊤ := by simp [Ideal.ofBits, Ideal.ieee]

/-- An element of absolute value below infinity is a real number. -/
theorem real_of_abs (x : EReal) (h : max x (-x) < ⊤) : x ≠ ⊤ ∧ x ≠ ⊥ := by
  constructor <;> rintro rfl <;> simp at h

instance : Subsingleton Cert.Pre_finite.S_.Idx := ⟨fun a b => funext fun i => i.elim0⟩

theorem allReal_of {u : Shape} (x : FVec Ideal Arr .f32) (init : u.Idx → BitVec 1) (hr : Arr.ReducesTo [0, 1, 2, 3] Cert.Pre_finite.S_) (hu : 0 < u.numel)
    (hb : Cert.Pre_finite.S_.BroadcastsInDim Arr (![] : Fin 0 → Fin Arr.rank)) (j : Cert.Pre_finite.S_.Idx)
    (h : Host.reduce IntOp.andi (cmpf .olt (Host.absf x) (broadcastInDim Arr ![] hb (constant Cert.Pre_finite.S_ .f32 0x7F800000#32))) init hr hu j = 1#1) :
    AllReal x := fun i => by
  have e := Host.reduce_andi_all _ init hr hu j h i
  have e' : Ideal.cmp .olt (max (x i) (-(x i))) (Ideal.ofBits .f32 0x7F800000#32) = 1#1 := e
  rw [ofBits_inf] at e'
  refine real_of_abs _ ?_
  by_contra hn
  simp [Ideal.cmp, hn] at e'

theorem allReal_of_finite (q k v : FVec Ideal Arr .f32) (h : @Cert.Pre_finite.fn finiteFacts Ideal _ q k v = fun _ => 1#1) : AllReal q ∧ AllReal k := by
  have e := congrFun h ix0
  unfold Cert.Pre_finite.fn at e
  obtain ⟨e0, e1⟩ := IntOp.andi_eq_one.1 e
  exact ⟨allReal_of q _ _ _ _ _ e0, allReal_of k _ _ _ _ _ e1⟩

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem named : Cert.preserves_Kernel_KernelIdeal := IdealRules.named_const.statement Cert.KernelIdeal.κ "mask" .f32 0xF149F2CA#32 ⊥ rfl

theorem value : Cert.algebraic_KernelIdeal_ReferenceIdeal_pre_finite (hPre_finite := finiteFacts) := by
  intro m g m' g' hpre hagree
  have hf : ∀ c : Dev Cert.KernelIdeal.nD, _ := fun c => allReal_of_finite _ _ _ (hpre c)
  refine ⟨fun c => attAll (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h c).1.trans (final_eq m c (hf c).1 (hf c).2), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    refine (Cert.ReferenceIdeal.Read.val_main_v261_eq _).trans ?_
    have h0 : StableHlo.launchContents m' c (Proc.devRef .tc Cert.ReferenceIdeal.main_arg0) = _ := (hagree c).1
    have h1 : StableHlo.launchContents m' c (Proc.devRef .tc Cert.ReferenceIdeal.main_arg1) = _ := (hagree c).2.1
    have h2 : StableHlo.launchContents m' c (Proc.devRef .tc Cert.ReferenceIdeal.main_arg2) = _ := (hagree c).2.2
    rw [h0, h1, h2]
    exact reference_eq _ _ _ (hf c).1 (hf c).2

end Cert.Att

end
-- ==== Proof.Norm.lean ====
/- The normalized row that the feed-forward block and the gated embedding both take. -/
module

public import proofs.«01_k».proof.Defs

@[expose] public section

noncomputable section

namespace Cert

open Idealize.ShloMosaic

/-- The row `x`, divided by the root of its mean square and scaled by `g`. -/
def normed (x g : Fin 2048 → EReal) (u : Fin 2048) : EReal :=
  x u * Ideal.rsqrt (Ideal.div (∑ v, x v * x v) (Ideal.ofBits .f32 0x45000000#32) + Ideal.ofBits .f32 0x358637BD#32) * g u

end Cert

end
-- ==== Proof.Mlp.lean ====
/- The squared-ReLU MLP. -/
module

public import proofs.«01_k».proof.Defs
public import proofs.«01_k».proof.Proof.Norm
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Tactic.RunNames
public import Idealize.ShloMosaic.Lib.Pipeline.ValueKit
public import Idealize.ShloMosaic.Lib.Pipeline.ValueKit.Point

@[expose] public section

set_option maxRecDepth 16384

noncomputable section

namespace Cert.Mlp
open Cert.Kernel2Ideal Cert.Kernel2Ideal.Gen Idealize.ShloMosaic Idealize.ShloMosaic.TcCoe Idealize.SL.Sem

/-- What a run of hidden units adds to one element of a token's row: the normalized row `h` against the units' columns `wu`,
    the positive part squared, against the units' entries `wd` of the output column. -/
def part {n : ℕ} (h : Fin 2048 → EReal) (wu : Fin 2048 → Fin n → EReal) (wd : Fin n → EReal) : EReal :=
  ∑ f, max (∑ u, h u * wu u f) 0 * max (∑ u, h u * wu u f) 0 * wd f

theorem pay1_apply (v39 : Vec Ideal S512x2048 .f32) (v41 : Vec Ideal S1x2048 .f32) (r : Fin 512) (u : Fin 2048) :
    k0_pay1 (F := Ideal) v39 v41 (ix2 r u) = normed (fun u => v39 (ix2 r u)) (fun u => v41 (ix2 0 u)) u := by
  unfold k0_pay1
  pointwise
  rfl

theorem pay7_apply (v39 : Vec Ideal S512x2048 .f32) (v41 : Vec Ideal S1x2048 .f32) (r : Fin 512) (u : Fin 2048) :
    k0_pay7 (F := Ideal) v39 v41 (ix2 r u) = normed (fun u => v39 (ix2 r u)) (fun u => v41 (ix2 0 u)) u := by
  unfold k0_pay7 k0_pay6
  pointwise
  rfl

theorem pay4_apply (v6 : Vec Ideal S512x2048 .bf16) (v7 : Vec Ideal S2048x1024 .bf16) (v14 : Vec Ideal S1024x2048 .bf16) (v17 : Vec Ideal S512x2048 .f32) (r : Fin 512) (l : Fin 2048) :
    k0_pay4 (F := Ideal) v6 v7 v14 v17 (ix2 r l) = v17 (ix2 r l) + part (fun u => v6 (ix2 r u)) (fun u f => v7 (ix2 u f)) (fun f => v14 (ix2 f l)) := by
  unfold k0_pay4
  pointwise
  rfl

theorem pay5_eq : k0_pay5 (F := Ideal) = k0_pay4 (F := Ideal) := rfl

theorem pay3_eq (v39 : Vec Ideal S512x2048 .f32) (v41 : Vec Ideal S1x2048 .f32) (v58 : Vec Ideal S2048x1024 .bf16) (v65 : Vec Ideal S1024x2048 .bf16) :
    k0_pay3 (F := Ideal) v39 v41 v58 v65 = k0_pay4 (F := Ideal) (k0_pay1 (F := Ideal) v39 v41) v58 v65 v39 := by
  unfold k0_pay3 k0_pay4
  simp only [shapeCast_self]

theorem pay9_eq (v39 : Vec Ideal S512x2048 .f32) (v41 : Vec Ideal S1x2048 .f32) (v58 : Vec Ideal S2048x1024 .bf16) (v65 : Vec Ideal S1024x2048 .bf16) :
    k0_pay9 (F := Ideal) v39 v41 v58 v65 = k0_pay4 (F := Ideal) (k0_pay7 (F := Ideal) v39 v41) v58 v65 v39 := by
  unfold k0_pay9 k0_pay4 k0_pay6
  simp only [shapeCast_self]

/-- Row `r` of the half of the block that starts at row `o`. -/
theorem emb_rows {o : ℕ} (inb : ∀ a, (![o, 0] : Fin 2 → ℕ) a + (![512, 2048] : Fin 2 → ℕ) a ≤ S1024x2048.size a) (r : Fin 512) (l : Fin 2048) :
    (Rect.unit (s := S1024x2048) ![o, 0] ![512, 2048] inb).emb (ix2 r l)
      = ix2 ⟨o + r.val, by have h : o + 512 ≤ 1024 := inb 0; omega⟩ l :=
  funext fun a => Fin.ext (by
    match a with
    | ⟨0, _⟩ => show o + 1 * r.val = o + r.val; omega
    | ⟨1, _⟩ => show 0 + 1 * l.val = l.val; omega)

theorem zeros : (![0, 0] : Fin 2 → ℕ) = fun _ => 0 := by funext a; fin_cases a <;> rfl

/-- The store of one half: the old contents `X` with the units' part added. -/
theorem add_piece {o : ℕ} (inb : ∀ a, (![o, 0] : Fin 2 → ℕ) a + (![512, 2048] : Fin 2 → ℕ) a ≤ S1024x2048.size a)
    (inb2 : ∀ a, (![0, 0] : Fin 2 → ℕ) a + S2048x1024.size a ≤ S2048x1024.size a) (inb3 : ∀ a, (![0, 0] : Fin 2 → ℕ) a + S1024x2048.size a ≤ S1024x2048.size a)
    (h : Vec Ideal S512x2048 .bf16) (H : Fin 1024 → Fin 2048 → EReal) (X : Vec Ideal S1024x2048 .f32) (x2 : Vec Ideal S2048x1024 .bf16) (x3 : Vec Ideal S1024x2048 .bf16)
    (hh : ∀ r u, h (ix2 r u) = H ((Rect.unit (s := S1024x2048) ![o, 0] ![512, 2048] inb).emb (ix2 r u) 0) u) (x : S512x2048.Idx) :
    k0_pay4 (F := Ideal) h (View.ld x2 (Rect.unit ![0, 0] S2048x1024.size inb2)) (View.ld x3 (Rect.unit ![0, 0] S1024x2048.size inb3))
        (View.ld X (Rect.unit (s := S1024x2048) ![o, 0] ![512, 2048] inb)) x
      = X ((Rect.unit (s := S1024x2048) ![o, 0] ![512, 2048] inb).emb x)
        + part (H ((Rect.unit (s := S1024x2048) ![o, 0] ![512, 2048] inb).emb x 0)) (fun u f => x2 (ix2 u f))
          (fun f => x3 (ix2 f ((Rect.unit (s := S1024x2048) ![o, 0] ![512, 2048] inb).emb x 1))) := by
  obtain ⟨r, l, rfl⟩ : ∃ (r : Fin 512) (l : Fin 2048), x = ix2 r l := ⟨x 0, x 1, funext fun a => by fin_cases a <;> rfl⟩
  refine (pay4_apply _ _ _ _ r l).trans ?_
  rw [View.ld_unit_zero zeros inb2 x2, View.ld_unit_zero zeros inb3 x3]
  refine congrArg₂ (· + ·) rfl ?_
  have e : (fun u => h (ix2 r u)) = H ((Rect.unit (s := S1024x2048) ![o, 0] ![512, 2048] inb).emb (ix2 r l) 0) :=
    funext fun u => (hh r u).trans (congrArg (fun a => H a u) (by rw [emb_rows, emb_rows]; rfl))
  rw [e, emb_rows]
  rfl

theorem norm_piece {o : ℕ} (inb : ∀ a, (![o, 0] : Fin 2 → ℕ) a + (![512, 2048] : Fin 2 → ℕ) a ≤ S1024x2048.size a)
    (inb1 : ∀ a, (![0, 0] : Fin 2 → ℕ) a + S1x2048.size a ≤ S1x2048.size a)
    (X : Vec Ideal S1024x2048 .f32) (x1 : Vec Ideal S1x2048 .f32) (r : Fin 512) (u : Fin 2048) :
    normed (fun u => View.ld X (Rect.unit (s := S1024x2048) ![o, 0] ![512, 2048] inb) (ix2 r u)) (fun u => View.ld x1 (Rect.unit ![0, 0] S1x2048.size inb1) (ix2 0 u)) u
      = normed (fun v => X (ix2 ((Rect.unit (s := S1024x2048) ![o, 0] ![512, 2048] inb).emb (ix2 r u) 0) v)) (fun v => x1 (ix2 0 v)) u := by
  rw [View.ld_unit_zero zeros inb1 x1]
  refine congrArg (fun z => normed z (fun v => x1 (ix2 0 v)) u) (funext fun v => ?_)
  show X ((Rect.unit (s := S1024x2048) ![o, 0] ![512, 2048] inb).emb (ix2 r v)) = _
  rw [emb_rows, emb_rows]
  rfl

theorem outA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x2048 .f32) (x2 : Vec Ideal S2048x1024 .bf16) (x3 : Vec Ideal S1024x2048 .bf16) (y : S1024x2048.Idx) :
    out0_A_4 (F := Ideal) c i arg2 harg2 arg3 harg3 arg4 harg4 arg5 harg5 arg6 harg6 arg7 harg7 hc0 hc1 x0 x1 x2 x3 y
      = x0 y + part (normed (fun u => x0 (ix2 (y 0) u)) (fun u => x1 (ix2 0 u))) (fun u f => x2 (ix2 u f)) (fun f => x3 (ix2 f (y 1))) := by
  unfold out0_A_4
  refine (View.read_writes_junk_apply_eq_canon _ _ _).trans ?_
  refine View.canon_apply_of_pieces (fun y => x0 y + part (normed (fun u => x0 (ix2 (y 0) u)) (fun u => x1 (ix2 0 u))) (fun u f => x2 (ix2 u f)) (fun f => x3 (ix2 f (y 1)))) _ ?_ y
    (cover0_A_4 (F := Ideal) c i arg2 harg2 arg3 harg3 arg4 harg4 arg5 harg5 arg6 harg6 arg7 harg7 hc0 hc1 x0 x1 x2 x3 y)
  unfold kernelRun0_A
  sl_unfold_run_values
  simp only [View.readAt_eq_ld, Memref.IsWhole.read_unread, List.forall_mem_cons]
  refine ⟨fun x => ?_, fun x => ?_, fun _ h => absurd h List.not_mem_nil⟩
  · rw [pay3_eq]
    unfold k0_pay10 k0_pay11
    simp only [shapeCast_self]
    exact add_piece _ _ _ _ (fun r => normed (fun u => x0 (ix2 r u)) (fun u => x1 (ix2 0 u))) x0 x2 x3
      (fun r u => (pay1_apply _ _ r u).trans (norm_piece _ _ x0 x1 r u)) x
  · rw [pay9_eq]
    exact add_piece _ _ _ _ (fun r => normed (fun u => x0 (ix2 r u)) (fun u => x1 (ix2 0 u))) x0 x2 x3
      (fun r u => (pay7_apply _ _ r u).trans (norm_piece _ _ x0 x1 r u)) x

theorem soutA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (hc0 : cond0_0 i) (hc1 : ¬cond0_1 i)
    (x0 : Vec Ideal S1024x2048 .f32) (x1 : Vec Ideal S1x2048 .f32) (x2 : Vec Ideal S2048x1024 .bf16) (x3 : Vec Ideal S1024x2048 .bf16) (y : S1024x2048.Idx) :
    sout0_A_0 (F := Ideal) c i arg2 harg2 arg3 harg3 arg4 harg4 arg5 harg5 arg6 harg6 arg7 harg7 hc0 hc1 x0 x1 x2 x3 y
      = normed (fun u => x0 (ix2 (y 0) u)) (fun u => x1 (ix2 0 u)) (y 1) := by
  unfold sout0_A_0
  refine (View.read_writes_junk_apply_eq_canon _ _ _).trans ?_
  refine View.canon_apply_of_pieces (fun y => normed (fun u => x0 (ix2 (y 0) u)) (fun u => x1 (ix2 0 u)) (y 1)) _ ?_ y
    (scover0_A_0 (F := Ideal) c i arg2 harg2 arg3 harg3 arg4 harg4 arg5 harg5 arg6 harg6 arg7 harg7 hc0 hc1 x0 x1 x2 x3 y)
  unfold kernelRun0_A
  sl_unfold_run_values
  simp only [View.readAt_eq_ld, Memref.IsWhole.read_unread, List.forall_mem_cons]
  refine ⟨fun x => ?_, fun x => ?_, fun _ h => absurd h List.not_mem_nil⟩ <;>
    obtain ⟨r, l, rfl⟩ : ∃ (r : Fin 512) (l : Fin 2048), x = ix2 r l := ⟨x 0, x 1, funext fun a => by fin_cases a <;> rfl⟩
  · unfold k0_pay2 k0_pay10 k0_pay11
    simp only [shapeCast_self]
    exact ((pay1_apply _ _ r l).trans (norm_piece _ _ x0 x1 r l)).trans (by rw [emb_rows]; rfl)
  · unfold k0_pay8
    simp only [shapeCast_self]
    exact ((pay7_apply _ _ r l).trans (norm_piece _ _ x0 x1 r l)).trans (by rw [emb_rows]; rfl)

theorem outB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (hc0 : ¬cond0_0 i) (hc1 : cond0_1 i)
    (x0 : Vec Ideal S1024x2048 .f32) (x1 : Vec Ideal S1x2048 .f32) (x2 : Vec Ideal S2048x1024 .bf16) (x3 : Vec Ideal S1024x2048 .bf16) (xo4 : Vec Ideal S1024x2048 .f32) (xs0 : Vec Ideal S1024x2048 .bf16) (y : S1024x2048.Idx) :
    out0_B_4 (F := Ideal) c i arg2 harg2 arg3 harg3 arg4 harg4 arg5 harg5 arg6 harg6 arg7 harg7 hc0 hc1 x0 x1 x2 x3 xo4 xs0 y
      = xo4 y + part (fun u => xs0 (ix2 (y 0) u)) (fun u f => x2 (ix2 u f)) (fun f => x3 (ix2 f (y 1))) := by
  unfold out0_B_4
  refine (View.read_writes_junk_apply_eq_canon _ _ _).trans ?_
  refine View.canon_apply_of_pieces (fun y => xo4 y + part (fun u => xs0 (ix2 (y 0) u)) (fun u f => x2 (ix2 u f)) (fun f => x3 (ix2 f (y 1)))) _ ?_ y
    (cover0_B_4 (F := Ideal) c i arg2 harg2 arg3 harg3 arg4 harg4 arg5 harg5 arg6 harg6 arg7 harg7 hc0 hc1 x0 x1 x2 x3 xo4 xs0 y)
  unfold kernelRun0_B
  sl_unfold_run_values
  simp only [View.readAt_eq_ld, Memref.IsWhole.read_unread, List.forall_mem_cons]
  exact ⟨fun x => add_piece _ _ _ _ (fun r u => xs0 (ix2 r u)) xo4 x2 x3 (fun r u => by rw [emb_rows]; exact congrArg xs0 (emb_rows _ r u)) x,
    fun x => add_piece _ _ _ _ (fun r u => xs0 (ix2 r u)) xo4 x2 x3 (fun r u => by rw [emb_rows]; exact congrArg xs0 (emb_rows _ r u)) x,
    fun _ h => absurd h List.not_mem_nil⟩

/-- A token's row. -/
def row (x : FVec Ideal S12x2048x2048 .f32) (i : Fin 24576) (u : Fin 2048) : EReal := x (ix3 ⟨i.val / 2048, by omega⟩ ⟨i.val % 2048, by omega⟩ u)

/-- The hidden unit of number `k`. -/
def hid (k : ℕ) : Fin 8192 := ⟨k % 8192, Nat.mod_lt _ (by decide)⟩

/-- What the run `s` of 1024 hidden units adds to element `l` of token `i`. -/
def chunk (x : FVec Ideal S12x2048x2048 .f32) (g : FVec Ideal S2048 .f32) (wu : FVec Ideal S2048x8192 .f32) (wd : FVec Ideal S8192x2048 .f32)
    (i : Fin 24576) (l : Fin 2048) (s : ℕ) : EReal :=
  part (n := 1024) (normed (row x i) (fun u => g (ix1 u))) (fun u f => wu (ix2 u (hid (1024 * s + f.val)))) (fun f => wd (ix2 (hid (1024 * s + f.val)) l))

/-- The result: the token's row with the parts of all hidden units added. -/
def mlpAll (x : FVec Ideal S12x2048x2048 .f32) (g : FVec Ideal S2048 .f32) (wu : FVec Ideal S2048x8192 .f32) (wd : FVec Ideal S8192x2048 .f32)
    (i : Fin 24576) (l : Fin 2048) : EReal :=
  row x i l + part (n := 8192) (normed (row x i) (fun u => g (ix1 u))) (fun u k => wu (ix2 u k)) (fun k => wd (ix2 k l))

theorem sum_chunks (T : ℕ → EReal) (n : ℕ) : ∑ s ∈ Finset.range n, ∑ f : Fin 1024, T (1024 * s + f.val) = ∑ k ∈ Finset.range (1024 * n), T k := by
  induction n with
  | zero => simp
  | succ n ih => rw [Finset.sum_range_succ, ih, Nat.mul_succ, Finset.sum_range_add, Fin.sum_univ_eq_sum_range (fun f => T (1024 * n + f))]

theorem mlpAll_eq (x : FVec Ideal S12x2048x2048 .f32) (g : FVec Ideal S2048 .f32) (wu : FVec Ideal S2048x8192 .f32) (wd : FVec Ideal S8192x2048 .f32)
    (i : Fin 24576) (l : Fin 2048) : mlpAll x g wu wd i l = row x i l + ∑ s ∈ Finset.range 8, chunk x g wu wd i l s := by
  let T : ℕ → EReal := fun k => max (∑ u, normed (row x i) (fun u => g (ix1 u)) u * wu (ix2 u (hid k))) 0
    * max (∑ u, normed (row x i) (fun u => g (ix1 u)) u * wu (ix2 u (hid k))) 0 * wd (ix2 (hid k) l)
  refine congrArg (row x i l + ·) (Eq.trans ?_ (((Fin.sum_univ_eq_sum_range T 8192).trans (sum_chunks T 8).symm)))
  refine Finset.sum_congr rfl fun k _ => ?_
  have e : hid k.val = k := Fin.ext (Nat.mod_eq_of_lt k.isLt)
  show _ = T k.val
  simp only [T, e]

variable (m : (ℓ : Loc nD τ sig) → Buf (Elt Ideal) ℓ) (c : Dev nD)

theorem v0_apply (i : Fin 24576) (l : Fin 2048) : V m c main_v0 (ix2 i l) = row (m ((c : Thread nD τ).loc main_arg0)) i l := by
  unfold row
  entry_read
  pointwise
theorem v1_apply (u : Fin 2048) (k : Fin 8192) : V m c main_v1 (ix2 u k) = m ((c : Thread nD τ).loc main_arg2) (ix2 u k) := by
  entry_read
  pointwise
theorem v2_apply (k : Fin 8192) (l : Fin 2048) : V m c main_v2 (ix2 k l) = m ((c : Thread nD τ).loc main_arg3) (ix2 k l) := by
  entry_read
  pointwise
theorem v3_apply (z : Fin 1) (l : Fin 2048) : V m c main_v3 (ix2 z l) = m ((c : Thread nD τ).loc main_arg1) (ix1 l) := by
  entry_read
  pointwise

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 8] := (by decide +kernel : ∀ t : Fin grid0.N, win0_2.index t = ![0, t.val % 8])
theorem idx3 : ∀ t : Fin cfg0.N, win0_3.index t = ![t.val % 8, 0] := (by decide +kernel : ∀ t : Fin grid0.N, win0_3.index t = ![t.val % 8, 0])
theorem idx4 : ∀ t : Fin cfg0.N, win0_4.index t = ![t.val / 8, 0] := (by decide +kernel : ∀ t : Fin grid0.N, win0_4.index t = ![t.val / 8, 0])

theorem lt192 (t : Fin cfg0.N) : t.val < 192 := t.isLt

/-- The token of row `r` of the block at point `n`. -/
def tok (n : ℕ) (h : n < cfg0.N) (r : Fin 1024) : Fin 24576 := ⟨n / 8 * 1024 + r.val, by have : n < 192 := h; omega⟩

variable (t : Fin cfg0.N)

theorem iblk0_apply (r : Fin 1024) (l : Fin 2048) : iblk m c 0 t (ix2 r l) = V m c main_v0 (ix2 (tok t.val t.isLt r) l) := by
  unfold tok
  blk_point [iblk, V, idx0 t]
theorem iblk1_apply (z : Fin 1) (l : Fin 2048) : iblk m c 1 t (ix2 z l) = V m c main_v3 (ix2 z l) := by
  blk_point [iblk, V, idx1 t]
theorem iblk2_apply (u : Fin 2048) (f : Fin 1024) :
    iblk m c 2 t (ix2 u f) = V m c main_v1 (ix2 u ⟨t.val % 8 * 1024 + f.val, by omega⟩) := by
  blk_point [iblk, V, idx2 t]
theorem iblk3_apply (f : Fin 1024) (l : Fin 2048) :
    iblk m c 3 t (ix2 f l) = V m c main_v2 (ix2 ⟨t.val % 8 * 1024 + f.val, by omega⟩ l) := by
  blk_point [iblk, V, idx3 t]

theorem hid_eq (f : Fin 1024) : (⟨t.val % 8 * 1024 + f.val, by omega⟩ : Fin 8192) = hid (1024 * (t.val % 8) + f.val) :=
  Fin.ext (by show t.val % 8 * 1024 + f.val = (1024 * (t.val % 8) + f.val) % 8192; omega)

abbrev A0 := m ((c : Thread nD τ).loc main_arg0)
abbrev A1 := m ((c : Thread nD τ).loc main_arg1)
abbrev A2 := m ((c : Thread nD τ).loc main_arg2)
abbrev A3 := m ((c : Thread nD τ).loc main_arg3)

theorem blk_normed (r : Fin 1024) :
    normed (fun u => iblk m c 0 t (ix2 r u)) (fun u => iblk m c 1 t (ix2 0 u)) = normed (row (A0 m c) (tok t.val t.isLt r)) (fun u => A1 m c (ix1 u)) := by
  refine congrArg₂ normed (funext fun u => ?_) (funext fun u => ?_)
  · exact (iblk0_apply m c t r u).trans (v0_apply m c _ u)
  · exact (iblk1_apply m c t 0 u).trans (v3_apply m c 0 u)

theorem blk_part (h : Fin 2048 → EReal) (l : Fin 2048) :
    part (n := 1024) h (fun u f => iblk m c 2 t (ix2 u f)) (fun f => iblk m c 3 t (ix2 f l))
      = part (n := 1024) h (fun u f => A2 m c (ix2 u (hid (1024 * (t.val % 8) + f.val)))) (fun f => A3 m c (ix2 (hid (1024 * (t.val % 8) + f.val)) l)) := by
  refine congrArg₂ (part (n := 1024) h) (funext fun u => funext fun f => ?_) (funext fun f => ?_)
  · rw [← hid_eq]
    exact (iblk2_apply m c t u f).trans (v1_apply m c u _)
  · rw [← hid_eq]
    exact (iblk3_apply m c t f l).trans (v2_apply m c _ l)

theorem stepA (h0 : t.val % 8 = 0) (h1 : ¬1 ≤ t.val % 8) (r : Fin 1024) (l : Fin 2048) : (outsAt0 m c t.val t.isLt).1 (ix2 r l)
    = row (A0 m c) (tok t.val t.isLt r) l + chunk (A0 m c) (A1 m c) (A2 m c) (A3 m c) (tok t.val t.isLt r) l (t.val % 8) := by
  rw [outsAt0_A m c t h0 h1]
  dsimp only
  rw [outA]
  refine congrArg₂ (· + ·) ((iblk0_apply m c t r l).trans (v0_apply m c _ l)) ?_
  refine (blk_part m c t _ l).trans ?_
  exact congrArg (fun z => part (n := 1024) z _ _) (blk_normed m c t r)

theorem sstepA (h0 : t.val % 8 = 0) (h1 : ¬1 ≤ t.val % 8) (r : Fin 1024) (u : Fin 2048) : (outsAt0 m c t.val t.isLt).2 (ix2 r u)
    = normed (row (A0 m c) (tok t.val t.isLt r)) (fun u => A1 m c (ix1 u)) u := by
  rw [outsAt0_A m c t h0 h1]
  dsimp only
  rw [soutA]
  exact congrFun (blk_normed m c t r) u

theorem stepB (h0 : ¬t.val % 8 = 0) (h1 : 1 ≤ t.val % 8) (r : Fin 1024) (l : Fin 2048) : (outsAt0 m c t.val t.isLt).1 (ix2 r l)
    = (outsAt0 m c (t.val - 1) (Nat.lt_of_le_of_lt (Nat.sub_le _ _) t.isLt)).1 (ix2 r l)
      + part (n := 1024) (fun u => (outsAt0 m c (t.val - 1) (Nat.lt_of_le_of_lt (Nat.sub_le _ _) t.isLt)).2 (ix2 r u))
        (fun u f => A2 m c (ix2 u (hid (1024 * (t.val % 8) + f.val)))) (fun f => A3 m c (ix2 (hid (1024 * (t.val % 8) + f.val)) l)) := by
  rw [outsAt0_B m c t h0 h1]
  dsimp only
  rw [outB]
  exact congrArg₂ (· + ·) rfl (blk_part m c t _ l)

theorem sstepB (h0 : ¬t.val % 8 = 0) (h1 : 1 ≤ t.val % 8) : (outsAt0 m c t.val t.isLt).2
    = (outsAt0 m c (t.val - 1) (Nat.lt_of_le_of_lt (Nat.sub_le _ _) t.isLt)).2 := by
  rw [outsAt0_B m c t h0 h1]
  dsimp only
  unfold sout0_B_0
  rfl

/-- After point `n`: the scratch holds the block's normalized rows, the output the rows with the parts of the runs of hidden units so far. -/
theorem state (n : ℕ) : ∀ h : n < cfg0.N, (∀ (r : Fin 1024) (l : Fin 2048), (outsAt0 m c n h).1 (ix2 r l)
      = row (A0 m c) (tok n h r) l + ∑ s ∈ Finset.range (n % 8 + 1), chunk (A0 m c) (A1 m c) (A2 m c) (A3 m c) (tok n h r) l s)
    ∧ ∀ (r : Fin 1024) (u : Fin 2048), (outsAt0 m c n h).2 (ix2 r u) = normed (row (A0 m c) (tok n h r)) (fun u => A1 m c (ix1 u)) u := by
  induction n using Nat.strong_induction_on with
  | _ n ih =>
    intro h
    by_cases h0 : n % 8 = 0
    · have h1 : ¬1 ≤ n % 8 := by omega
      exact ⟨fun r l => (stepA m c ⟨n, h⟩ h0 h1 r l).trans (by rw [h0, Finset.sum_range_one]), fun r u => sstepA m c ⟨n, h⟩ h0 h1 r u⟩
    · have h1 : 1 ≤ n % 8 := by omega
      obtain ⟨i1, i2⟩ := ih (n - 1) (by omega) (Nat.lt_of_le_of_lt (Nat.sub_le _ _) h)
      have et : ∀ r, tok (n - 1) (Nat.lt_of_le_of_lt (Nat.sub_le _ _) h) r = tok n h r := fun r =>
        Fin.ext (by show (n - 1) / 8 * 1024 + r.val = n / 8 * 1024 + r.val; omega)
      have em : (n - 1) % 8 + 1 = n % 8 := by omega
      refine ⟨fun r l => (stepB m c ⟨n, h⟩ h0 h1 r l).trans ?_, fun r u => (congrFun (sstepB m c ⟨n, h⟩ h0 h1) _).trans ((i2 r u).trans (by rw [et]))⟩
      rw [Finset.sum_range_succ, ← add_assoc]
      refine congrArg₂ (· + ·) ((i1 r l).trans (by rw [et, em])) ?_
      exact congrArg (fun z => part (n := 1024) z _ _) (funext fun u => (i2 r u).trans (by rw [et]))

theorem flushed_apply (hm : t.val % 8 = 7) (r : Fin 1024) (l : Fin 2048) :
    (dats m 0 c).flushed 4 t (ix2 r l) = mlpAll (A0 m c) (A1 m c) (A2 m c) (A3 m c) (tok t.val t.isLt r) l := by
  rw [Value.flushed4, mlpAll_eq]
  have s := (state m c t.val t.isLt).1 r l
  rw [hm] at s
  exact s

theorem final_eq : (dats m 0 c).arrAt 4 cfg0.N = fun z => mlpAll (A0 m c) (A1 m c) (A2 m c) (A3 m c) (z 0) (z 1) := by
  refine (dats m 0 c).arrAt_eq_of_covers 4 _ (by decide +kernel) fun t hf y => ?_
  obtain ⟨r, l, rfl⟩ : ∃ (r : Fin 1024) (l : Fin 2048), y = ix2 r l := ⟨y 0, y 1, funext fun a => by fin_cases a <;> rfl⟩
  have hm : t.val % 8 = 7 := (flush0_4 t).mp hf
  refine (flushed_apply m c t hm r l).trans ?_
  have e : ∀ a, win0_4.index t a = (![t.val / 8, 0] : Fin 2 → ℕ) a := fun a => congrFun (idx4 t) a
  have e0 : (((cfg0.win 4).blk t).view.emb (ix2 r l) 0) = tok t.val t.isLt r := Fin.ext (by
    show win0_4.index t (0 : Fin 2) * 1024 + 1 * r.val = t.val / 8 * 1024 + r.val
    rw [e]; show t.val / 8 * 1024 + _ = _; omega)
  have e1 : (((cfg0.win 4).blk t).view.emb (ix2 r l) 1) = l := Fin.ext (by
    show win0_4.index t (1 : Fin 2) * 2048 + 1 * l.val = l.val
    rw [e]; show 0 * 2048 + _ = _; omega)
  rw [e0, e1]

open Cert.Reference2Ideal.Read in
theorem reference_apply (x : FVec Ideal S12x2048x2048 .f32) (g : FVec Ideal S2048 .f32) (wu : FVec Ideal S2048x8192 .f32) (wd : FVec Ideal S8192x2048 .f32)
    (i : Fin 24576) (l : Fin 2048) : val_main_v18 (F := Ideal) x g wu wd (ix2 i l) = mlpAll x g wu wd i l := by
  pointwise [val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_call0_v0, val_main_call0_cst]
  rfl

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value : Cert.algebraic_Kernel2Ideal_Reference2Ideal := by
  intro m g m' g' _ hagree
  refine ⟨fun c z => mlpAll (A0 m c) (A1 m c) (A2 m c) (A3 m c) (z 0) (z 1), ?_, ?_⟩
  · exact (θ_run Cert.Kernel2Ideal.defs _ _).mono (fun _ h c => ⟨(h c).1.trans (final_eq m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    refine (Cert.Reference2Ideal.Read.val_main_v18_eq _ _ _ _).trans ?_
    rw [(hagree c).1, (hagree c).2.1, (hagree c).2.2.1, (hagree c).2.2.2]
    funext z
    obtain ⟨i, l, rfl⟩ : ∃ (i : Fin 24576) (l : Fin 2048), z = ix2 i l := ⟨z 0, z 1, funext fun a => by fin_cases a <;> rfl⟩
    exact reference_apply _ _ _ _ i l

end Cert.Mlp

end
-- ==== Proof.Ple.lean ====
/- The gated per-layer embedding. -/
module

public import proofs.«01_k».proof.Defs
public import proofs.«01_k».proof.Proof.Norm
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Ple
open Cert.Kernel3Ideal Cert.Kernel3Ideal.Gen Idealize.ShloMosaic Idealize.ShloMosaic.TcCoe Idealize.SL.Sem

/-- One element of the gated embedding: from a token's row `x`, its embedding `p`, and the weights' column. -/
def ple (x g : Fin 2048 → EReal) (w : Fin 2048 → EReal) (p : Fin 256 → EReal) (wp : Fin 256 → EReal) (l : Fin 2048) : EReal :=
  x l + Ideal.logistic (∑ u, normed x g u * w u) * ∑ u, p u * wp u

theorem pay_apply (v0 : Vec Ideal S512x2048 .f32) (v2 : Vec Ideal S1x2048 .f32) (v17 : Vec Ideal S2048x2048 .bf16) (v21 : Vec Ideal S512x256 .f32) (v24 : Vec Ideal S256x2048 .bf16)
    (r : Fin 512) (l : Fin 2048) : k0_pay1 (F := Ideal) v0 v2 v17 v21 v24 (ix2 r l)
      = ple (fun u => v0 (ix2 r u)) (fun u => v2 (ix2 0 u)) (fun u => v17 (ix2 u l)) (fun u => v21 (ix2 r u)) (fun u => v24 (ix2 u l)) l := by
  unfold k0_pay1
  pointwise
  rfl

variable (m : (ℓ : Loc nD τ sig) → Buf (Elt Ideal) ℓ) (c : Dev nD)

theorem v0_apply (i : Fin 24576) (l : Fin 2048) :
    V m c main_v0 (ix2 i l) = m ((c : Thread nD τ).loc main_arg0) (ix3 ⟨i.val / 2048, by omega⟩ ⟨i.val % 2048, by omega⟩ l) := by
  entry_read
  pointwise
theorem v1_apply (i : Fin 16384) (l : Fin 256) :
    V m c main_v1 (ix2 i l) = m ((c : Thread nD τ).loc main_arg1) (ix3 ⟨i.val / 2048, by omega⟩ ⟨i.val % 2048, by omega⟩ l) := by
  entry_read
  pointwise
theorem v2_apply (i l : Fin 2048) : V m c main_v2 (ix2 i l) = m ((c : Thread nD τ).loc main_arg3) (ix2 i l) := by
  entry_read
  pointwise
theorem v3_apply (i : Fin 256) (l : Fin 2048) : V m c main_v3 (ix2 i l) = m ((c : Thread nD τ).loc main_arg4) (ix2 i l) := by
  entry_read
  pointwise
theorem v4_apply (z : Fin 1) (l : Fin 2048) : V m c main_v4 (ix2 z l) = m ((c : Thread nD τ).loc main_arg2) (ix1 l) := by
  entry_read
  pointwise

theorem idx0 : ∀ t : Fin cfg0.N, win0_0.index t = ![t.val + 16, 0] :=
  (by decide +kernel : ∀ t : Fin grid0.N, win0_0.index t = ![t.val + 16, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

variable (t : Fin cfg0.N)

theorem lt32 : t.val < 32 := t.isLt

theorem iblk0_apply (r : Fin 512) (l : Fin 2048) :
    iblk m c 0 t (ix2 r l) = V m c main_v0 (ix2 ⟨(t.val + 16) * 512 + r.val, by have := lt32 t; omega⟩ l) := by
  blk_point [iblk, V, idx0 t]
theorem iblk1_apply (z : Fin 1) (l : Fin 2048) : iblk m c 1 t (ix2 z l) = V m c main_v4 (ix2 z l) := by
  blk_point [iblk, V, idx1 t]
theorem iblk2_apply (r l : Fin 2048) : iblk m c 2 t (ix2 r l) = V m c main_v2 (ix2 r l) := by
  blk_point [iblk, V, idx2 t]
theorem iblk3_apply (r : Fin 512) (l : Fin 256) :
    iblk m c 3 t (ix2 r l) = V m c main_v1 (ix2 ⟨t.val * 512 + r.val, by have := lt32 t; omega⟩ l) := by
  blk_point [iblk, V, idx3 t]
theorem iblk4_apply (r : Fin 256) (l : Fin 2048) : iblk m c 4 t (ix2 r l) = V m c main_v3 (ix2 r l) := by
  blk_point [iblk, V, idx4 t]

theorem out_apply (x0 : Vec Ideal S512x2048 .f32) (x1 : Vec Ideal S1x2048 .f32) (x2 : Vec Ideal S2048x2048 .bf16) (x3 : Vec Ideal S512x256 .f32) (x4 : Vec Ideal S256x2048 .bf16)
    (r : Fin 512) (l : Fin 2048) : out0_5 (F := Ideal) x0 x1 x2 x3 x4 (ix2 r l)
      = ple (fun u => x0 (ix2 r u)) (fun u => x1 (ix2 0 u)) (fun u => x2 (ix2 u l)) (fun u => x3 (ix2 r u)) (fun u => x4 (ix2 u l)) l := by
  unfold out0_5
  refine View.canon_apply_of_pieces (fun y => ple (fun u => x0 (ix2 (y 0) u)) (fun u => x1 (ix2 0 u)) (fun u => x2 (ix2 u (y 1))) (fun u => x3 (ix2 (y 0) u)) (fun u => x4 (ix2 u (y 1))) (y 1)) _ ?_ (ix2 r l)
    (cover0_5 (F := Ideal) _ _)
  simp only [List.forall_mem_cons]
  refine ⟨fun y => ?_, fun _ h => absurd h List.not_mem_nil⟩
  obtain ⟨r, l, rfl⟩ : ∃ (r : Fin 512) (l : Fin 2048), y = ix2 r l := ⟨y 0, y 1, funext fun a => by fin_cases a <;> rfl⟩
  have e : ∀ x, r0_0.emb x = x := fun x => funext fun a => Fin.ext (by
    match a with
    | ⟨0, _⟩ => show 0 + 1 * (x 0).val = (x 0).val; omega
    | ⟨1, _⟩ => show 0 + 1 * (x 1).val = (x 1).val; omega)
  rw [e]
  refine (pay_apply _ _ _ _ _ r l).trans ?_
  have z : (![0, 0] : Fin 2 → ℕ) = fun _ => 0 := by funext a; fin_cases a <;> rfl
  have l0 : View.ld x0 r0_0 = x0 := View.ld_unit_zero z _ x0
  have l1 : View.ld x1 r0_1 = x1 := View.ld_unit_zero z _ x1
  have l2 : View.ld x2 r0_2 = x2 := View.ld_unit_zero z _ x2
  have l3 : View.ld x3 r0_3 = x3 := View.ld_unit_zero z _ x3
  have l4 : View.ld x4 r0_4 = x4 := View.ld_unit_zero z _ x4
  rw [l0, l1, l2, l3, l4]
  rfl

/-- The result: row `i` is token `i % 2048` of sequence `i / 2048` of the second group, which starts at sequence 4 of the stack. -/
def pleAll (x : FVec Ideal S12x2048x2048 .f32) (p : FVec Ideal S8x2048x256 .f32) (g : FVec Ideal S2048 .f32) (w : FVec Ideal S2048x2048 .f32)
    (wp : FVec Ideal S256x2048 .f32) (i : Fin 16384) (l : Fin 2048) : EReal :=
  ple (fun u => x (ix3 ⟨4 + i.val / 2048, by omega⟩ ⟨i.val % 2048, by omega⟩ u)) (fun u => g (ix1 u)) (fun u => w (ix2 u l))
    (fun u => p (ix3 ⟨i.val / 2048, by omega⟩ ⟨i.val % 2048, by omega⟩ u)) (fun u => wp (ix2 u l)) l

theorem flushed_apply (r : Fin 512) (l : Fin 2048) : (dats m 0 c).flushed 5 t (ix2 r l)
    = pleAll (m ((c : Thread nD τ).loc main_arg0)) (m ((c : Thread nD τ).loc main_arg1)) (m ((c : Thread nD τ).loc main_arg2))
      (m ((c : Thread nD τ).loc main_arg3)) (m ((c : Thread nD τ).loc main_arg4)) ⟨t.val * 512 + r.val, by have := lt32 t; omega⟩ l := by
  rw [Value.flushed5]
  refine (out_apply _ _ _ _ _ r l).trans ?_
  unfold pleAll
  congr 1 <;> funext u
  · refine (iblk0_apply m c t r u).trans ((v0_apply m c _ u).trans ?_)
    congr 2
    · exact Fin.ext (by show ((t.val + 16) * 512 + r.val) / 2048 = 4 + (t.val * 512 + r.val) / 2048; omega)
    · exact Fin.ext (by show ((t.val + 16) * 512 + r.val) % 2048 = (t.val * 512 + r.val) % 2048; omega)
  · exact (iblk1_apply m c t _ u).trans (v4_apply m c _ u)
  · exact (iblk2_apply m c t _ _).trans (v2_apply m c _ _)
  · exact (iblk3_apply m c t r u).trans (v1_apply m c _ u)
  · exact (iblk4_apply m c t _ _).trans (v3_apply m c _ _)

theorem final_eq : (dats m 0 c).arrAt 5 cfg0.N = fun z =>
    pleAll (m ((c : Thread nD τ).loc main_arg0)) (m ((c : Thread nD τ).loc main_arg1)) (m ((c : Thread nD τ).loc main_arg2))
      (m ((c : Thread nD τ).loc main_arg3)) (m ((c : Thread nD τ).loc main_arg4)) (z 0) (z 1) := by
  refine (dats m 0 c).arrAt_eq_of_covers 5 _ (by decide +kernel) fun t hf y => ?_
  obtain ⟨r, l, rfl⟩ : ∃ (r : Fin 512) (l : Fin 2048), y = ix2 r l := ⟨y 0, y 1, funext fun a => by fin_cases a <;> rfl⟩
  refine (flushed_apply m c t r l).trans ?_
  have e : ∀ a, win0_5.index t a = (![t.val, 0] : Fin 2 → ℕ) a := fun a => congrFun (idx5 t) a
  have e0 : (((cfg0.win 5).blk t).view.emb (ix2 r l) 0) = (⟨t.val * 512 + r.val, by have := lt32 t; omega⟩ : Fin 16384) := Fin.ext (by
    show win0_5.index t (0 : Fin 2) * 512 + 1 * r.val = t.val * 512 + r.val
    rw [e]; show t.val * 512 + _ = _; omega)
  have e1 : (((cfg0.win 5).blk t).view.emb (ix2 r l) 1) = l := Fin.ext (by
    show win0_5.index t (1 : Fin 2) * 2048 + 1 * l.val = l.val
    rw [e]; show 0 * 2048 + _ = _; omega)
  rw [e0, e1]

open Cert.Reference3Ideal.Read in
theorem reference_apply (x : FVec Ideal S12x2048x2048 .f32) (p : FVec Ideal S8x2048x256 .f32) (g : FVec Ideal S2048 .f32) (w : FVec Ideal S2048x2048 .f32)
    (wp : FVec Ideal S256x2048 .f32) (i : Fin 16384) (l : Fin 2048) :
    val_main_v24 (F := Ideal) x p g w wp (ix2 i l) = pleAll x p g w wp i l := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3]
  rfl

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value : Cert.algebraic_Kernel3Ideal_Reference3Ideal := by
  intro m g m' g' _ hagree
  refine ⟨fun c z => pleAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (z 0) (z 1), ?_, ?_⟩
  · exact (θ_run Cert.Kernel3Ideal.defs _ _).mono (fun _ h c => ⟨(h c).1.trans (final_eq m c), (h c).2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    refine (Cert.Reference3Ideal.Read.val_main_v24_eq _ _ _ _ _).trans ?_
    rw [(hagree c).1, (hagree c).2.1, (hagree c).2.2.1, (hagree c).2.2.2.1, (hagree c).2.2.2.2]
    funext z
    obtain ⟨i, l, rfl⟩ : ∃ (i : Fin 16384) (l : Fin 2048), z = ix2 i l := ⟨z 0, z 1, funext fun a => by fin_cases a <;> rfl⟩
    exact reference_apply _ _ _ _ _ i l

end Cert.Ple

end
-- ==== Proof.Merge.lean ====
/- The gated sum of the two branches' output projections. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Merge
open Cert.Kernel4Ideal Cert.Kernel4Ideal.Gen Idealize.ShloMosaic Idealize.ShloMosaic.TcCoe Idealize.SL.Sem

/-- One element of the gated sum of the two branches, from a token's rows `a`, `h` of the branches, the weights' columns and the two gates. -/
def merge (a wa h wh : Fin 2048 → EReal) (p q : EReal) : EReal := p * (∑ u, a u * wa u) + q * ∑ u, h u * wh u

theorem pay_apply (v0 : Vec Ideal S512x2048 .bf16) (v2 : Vec Ideal S2048x2048 .bf16) (v5 : Vec Ideal S512x2048 .bf16) (v7 : Vec Ideal S2048x2048 .bf16)
    (v10 v14 : Vec Ideal S512x2048 .bf16) (r : Fin 512) (l : Fin 2048) : k0_pay1 (F := Ideal) v0 v2 v5 v7 v10 v14 (ix2 r l)
      = merge (fun u => v0 (ix2 r u)) (fun u => v2 (ix2 u l)) (fun u => v5 (ix2 r u)) (fun u => v7 (ix2 u l)) (v10 (ix2 r l)) (v14 (ix2 r l)) := by
  unfold k0_pay1
  pointwise
  rfl

variable (m : (ℓ : Loc nD τ sig) → Buf (Elt Ideal) ℓ) (c : Dev nD)

theorem v1_apply (i : Fin 24576) (l : Fin 2048) :
    V m c main_v1 (ix2 i l) = m ((c : Thread nD τ).loc main_arg0) (ix3 ⟨i.val / 2048, by omega⟩ ⟨i.val % 2048, by omega⟩ l) := by
  entry_read
  pointwise
theorem v3_apply (i : Fin 24576) (l : Fin 2048) :
    V m c main_v3 (ix2 i l) = m ((c : Thread nD τ).loc main_arg1) (ix3 ⟨i.val / 2048, by omega⟩ ⟨i.val % 2048, by omega⟩ l) := by
  entry_read
  pointwise
theorem v4_apply (i l : Fin 2048) : V m c main_v4 (ix2 i l) = m ((c : Thread nD τ).loc main_arg3) (ix2 i l) := by
  entry_read
  pointwise
theorem v5_apply (i l : Fin 2048) : V m c main_v5 (ix2 i l) = m ((c : Thread nD τ).loc main_arg4) (ix2 i l) := by
  entry_read
  pointwise
theorem v7_apply (i : Fin 24576) (l : Fin 4096) : V m c main_v7 (ix2 i l)
    = m ((c : Thread nD τ).loc main_arg2) (ix4 ⟨i.val / 2048, by omega⟩ ⟨i.val % 2048, by omega⟩ ⟨l.val / 2048, by omega⟩ ⟨l.val % 2048, by omega⟩) := by
  entry_read
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 1] := (by decide +kernel : ∀ t : Fin grid0.N, win0_5.index t = ![t.val, 1])
theorem idx6 : ∀ t : Fin cfg0.N, win0_6.index t = ![t.val, 0] := (by decide +kernel : ∀ t : Fin grid0.N, win0_6.index t = ![t.val, 0])

variable (t : Fin cfg0.N)

theorem lt48 : t.val < 48 := t.isLt

/-- Row `r` of block `t` among all the tokens. -/
abbrev row (r : Fin 512) : Fin 24576 := ⟨t.val * 512 + r.val, by have := lt48 t; omega⟩

theorem iblk0_apply (r : Fin 512) (l : Fin 2048) : iblk m c 0 t (ix2 r l) = V m c main_v1 (ix2 (row t r) l) := by
  blk_point [iblk, V, idx0 t]
theorem iblk1_apply (r : Fin 512) (l : Fin 2048) : iblk m c 1 t (ix2 r l) = V m c main_v3 (ix2 (row t r) l) := by
  blk_point [iblk, V, idx1 t]
theorem iblk2_apply (r l : Fin 2048) : iblk m c 2 t (ix2 r l) = V m c main_v4 (ix2 r l) := by
  blk_point [iblk, V, idx2 t]
theorem iblk3_apply (r l : Fin 2048) : iblk m c 3 t (ix2 r l) = V m c main_v5 (ix2 r l) := by
  blk_point [iblk, V, idx3 t]
theorem iblk4_apply (r : Fin 512) (l : Fin 2048) : iblk m c 4 t (ix2 r l) = V m c main_v7 (ix2 (row t r) ⟨l.val, by omega⟩) := by
  blk_point [iblk, V, idx4 t]
theorem iblk5_apply (r : Fin 512) (l : Fin 2048) : iblk m c 5 t (ix2 r l) = V m c main_v7 (ix2 (row t r) ⟨2048 + l.val, by omega⟩) := by
  blk_point [iblk, V, idx5 t]

theorem out_apply (x0 x1 : Vec Ideal S512x2048 .bf16) (x2 x3 : Vec Ideal S2048x2048 .bf16) (x4 x5 : Vec Ideal S512x2048 .bf16)
    (r : Fin 512) (l : Fin 2048) : out0_6 (F := Ideal) x0 x1 x2 x3 x4 x5 (ix2 r l)
      = merge (fun u => x0 (ix2 r u)) (fun u => x2 (ix2 u l)) (fun u => x1 (ix2 r u)) (fun u => x3 (ix2 u l)) (x4 (ix2 r l)) (x5 (ix2 r l)) := by
  unfold out0_6
  refine View.canon_apply_of_pieces (fun y => merge (fun u => x0 (ix2 (y 0) u)) (fun u => x2 (ix2 u (y 1))) (fun u => x1 (ix2 (y 0) u)) (fun u => x3 (ix2 u (y 1))) (x4 y) (x5 y)) _ ?_ (ix2 r l)
    (cover0_6 (F := Ideal) _ _)
  simp only [List.forall_mem_cons]
  refine ⟨fun y => ?_, fun _ h => absurd h List.not_mem_nil⟩
  obtain ⟨r, l, rfl⟩ : ∃ (r : Fin 512) (l : Fin 2048), y = ix2 r l := ⟨y 0, y 1, funext fun a => by fin_cases a <;> rfl⟩
  have e : ∀ x, r0_0.emb x = x := fun x => funext fun a => Fin.ext (by
    match a with
    | ⟨0, _⟩ => show 0 + 1 * (x 0).val = (x 0).val; omega
    | ⟨1, _⟩ => show 0 + 1 * (x 1).val = (x 1).val; omega)
  rw [e]
  refine (pay_apply _ _ _ _ _ _ r l).trans ?_
  have z : (![0, 0] : Fin 2 → ℕ) = fun _ => 0 := by funext a; fin_cases a <;> rfl
  have l0 : View.ld x0 r0_0 = x0 := View.ld_unit_zero z _ x0
  have l1 : View.ld x1 r0_0 = x1 := View.ld_unit_zero z _ x1
  have l2 : View.ld x2 r0_1 = x2 := View.ld_unit_zero z _ x2
  have l3 : View.ld x3 r0_1 = x3 := View.ld_unit_zero z _ x3
  have l4 : View.ld x4 r0_0 = x4 := View.ld_unit_zero z _ x4
  have l5 : View.ld x5 r0_0 = x5 := View.ld_unit_zero z _ x5
  rw [l0, l1, l2, l3, l4, l5]
  rfl

/-- The result: row `i` is token `i % 2048` of sequence `i / 2048`. -/
def mergeAll (a h : FVec Ideal S12x2048x2048 .f32) (g : FVec Ideal S12x2048x2x2048 .f32) (wa wh : FVec Ideal S2048x2048 .f32)
    (i : Fin 24576) (l : Fin 2048) : EReal :=
  merge (fun u => a (ix3 ⟨i.val / 2048, by omega⟩ ⟨i.val % 2048, by omega⟩ u)) (fun u => wa (ix2 u l))
    (fun u => h (ix3 ⟨i.val / 2048, by omega⟩ ⟨i.val % 2048, by omega⟩ u)) (fun u => wh (ix2 u l))
    (g (ix4 ⟨i.val / 2048, by omega⟩ ⟨i.val % 2048, by omega⟩ 0 l)) (g (ix4 ⟨i.val / 2048, by omega⟩ ⟨i.val % 2048, by omega⟩ 1 l))

theorem flushed_apply (r : Fin 512) (l : Fin 2048) : (dats m 0 c).flushed 6 t (ix2 r l)
    = mergeAll (m ((c : Thread nD τ).loc main_arg0)) (m ((c : Thread nD τ).loc main_arg1)) (m ((c : Thread nD τ).loc main_arg2))
      (m ((c : Thread nD τ).loc main_arg3)) (m ((c : Thread nD τ).loc main_arg4)) (row t r) l := by
  rw [Value.flushed6]
  refine (out_apply _ _ _ _ _ _ r l).trans ?_
  unfold mergeAll
  congr 1
  · funext u; exact (iblk0_apply m c t r u).trans (v1_apply m c _ u)
  · funext u; exact (iblk2_apply m c t _ _).trans (v4_apply m c _ _)
  · funext u; exact (iblk1_apply m c t r u).trans (v3_apply m c _ u)
  · funext u; exact (iblk3_apply m c t _ _).trans (v5_apply m c _ _)
  · refine (iblk4_apply m c t r l).trans ((v7_apply m c _ _).trans ?_)
    congr 2
    · exact Fin.ext (by show l.val / 2048 = 0; omega)
    · exact Fin.ext (by show l.val % 2048 = l.val; omega)
  · refine (iblk5_apply m c t r l).trans ((v7_apply m c _ _).trans ?_)
    congr 2
    · exact Fin.ext (by show (2048 + l.val) / 2048 = 1; omega)
    · exact Fin.ext (by show (2048 + l.val) % 2048 = l.val; omega)

theorem final_eq : (dats m 0 c).arrAt 6 cfg0.N = fun z =>
    mergeAll (m ((c : Thread nD τ).loc main_arg0)) (m ((c : Thread nD τ).loc main_arg1)) (m ((c : Thread nD τ).loc main_arg2))
      (m ((c : Thread nD τ).loc main_arg3)) (m ((c : Thread nD τ).loc main_arg4)) (z 0) (z 1) := by
  refine (dats m 0 c).arrAt_eq_of_covers 6 _ (by decide +kernel) fun t hf y => ?_
  obtain ⟨r, l, rfl⟩ : ∃ (r : Fin 512) (l : Fin 2048), y = ix2 r l := ⟨y 0, y 1, funext fun a => by fin_cases a <;> rfl⟩
  refine (flushed_apply m c t r l).trans ?_
  have e : ∀ a, win0_6.index t a = (![t.val, 0] : Fin 2 → ℕ) a := fun a => congrFun (idx6 t) a
  have e0 : (((cfg0.win 6).blk t).view.emb (ix2 r l) 0) = row t r := Fin.ext (by
    show win0_6.index t (0 : Fin 2) * 512 + 1 * r.val = t.val * 512 + r.val
    rw [e]; show t.val * 512 + _ = _; omega)
  have e1 : (((cfg0.win 6).blk t).view.emb (ix2 r l) 1) = l := Fin.ext (by
    show win0_6.index t (1 : Fin 2) * 2048 + 1 * l.val = l.val
    rw [e]; show 0 * 2048 + _ = _; omega)
  rw [e0, e1]

open Cert.Reference4Ideal.Read in
theorem reference_apply (a h : FVec Ideal S12x2048x2048 .f32) (g : FVec Ideal S12x2048x2x2048 .f32) (wa wh : FVec Ideal S2048x2048 .f32)
    (i : Fin 24576) (l : Fin 2048) : val_main_v10 (F := Ideal) a h g wa wh (ix2 i l) = mergeAll a h g wa wh i l := by
  pointwise [val_main_v10, val_main_v9, val_main_v8, val_main_v7, val_main_v6, val_main_v5, val_main_v4, val_main_v3, val_main_v2, val_main_v1, val_main_v0]
  rfl

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value : Cert.algebraic_Kernel4Ideal_Reference4Ideal := by
  intro m g m' g' _ hagree
  refine ⟨fun c z => mergeAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (z 0) (z 1), ?_, ?_⟩
  · exact (θ_run Cert.Kernel4Ideal.defs _ _).mono (fun _ h c => ⟨(h c).1.trans (final_eq m c), (h c).2⟩)
      (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    refine (Cert.Reference4Ideal.Read.val_main_v10_eq _ _ _ _ _).trans ?_
    rw [(hagree c).1, (hagree c).2.1, (hagree c).2.2.1, (hagree c).2.2.2.1, (hagree c).2.2.2.2]
    funext z
    obtain ⟨i, l, rfl⟩ : ∃ (i : Fin 24576) (l : Fin 2048), z = ix2 i l := ⟨z 0, z 1, funext fun a => by fin_cases a <;> rfl⟩
    exact reference_apply _ _ _ _ _ i l

end Cert.Merge

end
-- ==== Proof.Groups.lean ====
/- The two groups of sequences, joined into one stack: the first group of 4, then the second of 8. And the product of a token's row with a column of weights. -/
module

public import Idealize.ShloMosaic.Lib.Pointwise
public import Idealize.ShloMosaic.Lib.Pipeline.ValueKit
public import Idealize.ShloMosaic.Lib.Pipeline.ValueKit.Point

@[expose] public section

noncomputable section

namespace Cert.Groups
open Idealize.ShloMosaic

abbrev First : Shape := { rank := 3, size := ![4, 2048, 2048] }
abbrev Second : Shape := { rank := 3, size := ![8, 2048, 2048] }
abbrev Both : Shape := { rank := 3, size := ![12, 2048, 2048] }

/-- A row times a column. -/
def dot (a b : Fin 2048 → EReal) : EReal := ∑ u, a u * b u

/-- Element `u` of token `s` of sequence `b` of the joined stack. -/
def joined (xa : First.Idx → EReal) (xb : Second.Idx → EReal) (b : Fin 12) (s u : Fin 2048) : EReal :=
  if h : b.val < 4 then xa (ix3 ⟨b.val, h⟩ s u) else xb (ix3 ⟨b.val - 4, by omega⟩ s u)

theorem joined_first (xa : First.Idx → EReal) (xb : Second.Idx → EReal) (b : Fin 12) (s u : Fin 2048) (h : b.val < 4) :
    joined xa xb b s u = xa (ix3 ⟨b.val, h⟩ s u) := dif_pos h

theorem joined_second (xa : First.Idx → EReal) (xb : Second.Idx → EReal) (b : Fin 12) (s u : Fin 2048) (h : 4 ≤ b.val) :
    joined xa xb b s u = xb (ix3 ⟨b.val - 4, by omega⟩ s u) := dif_neg (by omega)

theorem concat_apply (xa : First.Idx → EReal) (xb : Second.Idx → EReal) (h : Shape.Concatenates [First, Second] Both 0) (b : Fin 12) (s u : Fin 2048) :
    concatenate Both 0 [⟨First, xa⟩, ⟨Second, xb⟩] h (ix3 b s u) = joined xa xb b s u := by
  by_cases hb : b.val < 4
  · rw [joined_first xa xb b s u hb]
    refine concatenate_pair_apply_left 0 xa xb h (ix3 b s u) rfl _ fun a => ?_
    match a with
    | ⟨0, _⟩ => rfl
    | ⟨1, _⟩ => rfl
    | ⟨2, _⟩ => rfl
  · rw [joined_second xa xb b s u (by omega)]
    refine concatenate_pair_apply_right 0 xa xb h (ix3 b s u) rfl rfl _ (fun a ha => ?_) ?_
    · match a with
      | ⟨0, _⟩ => exact absurd rfl ha
      | ⟨1, _⟩ => rfl
      | ⟨2, _⟩ => rfl
    · show b.val - 4 + 4 = b.val
      omega

end Cert.Groups

end
-- ==== Proof.Residual.lean ====
/- The output projection, added to the layer's input. -/
module

public import proofs.«01_k».proof.Defs
public import proofs.«01_k».proof.Proof.Groups
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Residual
open Cert.Kernel5Ideal Cert.Kernel5Ideal.Gen Idealize.ShloMosaic Idealize.ShloMosaic.TcCoe Idealize.SL.Sem

theorem pay_apply (v6 : Vec Ideal S512x2048 .f32) (v8 : Vec Ideal S512x2048 .bf16) (v10 : Vec Ideal S2048x2048 .bf16) (r : Fin 512) (l : Fin 2048) :
    k0_pay1 (F := Ideal) v6 v8 v10 (ix2 r l) = v6 (ix2 r l) + Groups.dot (fun u => v8 (ix2 r u)) (fun u => v10 (ix2 u l)) := by
  unfold k0_pay1 Groups.dot
  pointwise

/-- The two groups are computed alike. -/
theorem pay2_eq : k0_pay2 (F := Ideal) = k0_pay1 := rfl

theorem zeros : (![0, 0] : Fin 2 → ℕ) = fun _ => 0 := by funext a; fin_cases a <;> rfl

theorem piece (x6 : Vec Ideal S512x2048 .f32) (x8 : Vec Ideal S512x2048 .bf16) (x10 : Vec Ideal S2048x2048 .bf16)
    (h1 : ∀ a, (![0, 0] : Fin 2 → ℕ) a + S512x2048.size a ≤ S512x2048.size a) (h2 : ∀ a, (![0, 0] : Fin 2 → ℕ) a + S2048x2048.size a ≤ S2048x2048.size a) (y : S512x2048.Idx) :
    k0_pay1 (F := Ideal) (View.ld x6 (Rect.unit (s := S512x2048) ![0, 0] S512x2048.size h1)) (View.ld x8 (Rect.unit (s := S512x2048) ![0, 0] S512x2048.size h1))
        (View.ld x10 (Rect.unit (s := S2048x2048) ![0, 0] S2048x2048.size h2)) y
      = (fun y : S512x2048.Idx => x6 y + Groups.dot (fun u => x8 (ix2 (y 0) u)) (fun u => x10 (ix2 u (y 1)))) ((Rect.unit (s := S512x2048) ![0, 0] S512x2048.size h1).emb y) := by
  obtain ⟨r, l, rfl⟩ : ∃ (r : Fin 512) (l : Fin 2048), y = ix2 r l := ⟨y 0, y 1, funext fun a => by fin_cases a <;> rfl⟩
  have e : (Rect.unit (s := S512x2048) ![0, 0] S512x2048.size h1).emb (ix2 r l) = ix2 r l := funext fun a => Fin.ext (by
    match a with
    | ⟨0, _⟩ => show 0 + 1 * r.val = r.val; omega
    | ⟨1, _⟩ => show 0 + 1 * l.val = l.val; omega)
  rw [e]
  refine (pay_apply _ _ _ r l).trans ?_
  rw [View.ld_unit_zero zeros _ x6, View.ld_unit_zero zeros _ x8, View.ld_unit_zero zeros _ x10]
  rfl

theorem outA (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec Ideal S512x2048 .bf16) (x1 : Vec Ideal S2048x2048 .bf16) (x2 x3 : Vec Ideal S512x2048 .f32) (y : S512x2048.Idx) :
    out0_A_4 (F := Ideal) c i arg2 harg2 arg3 harg3 arg4 harg4 arg5 harg5 arg6 harg6 hc0 hc1 x0 x1 x2 x3 y
      = x2 y + Groups.dot (fun u => x0 (ix2 (y 0) u)) (fun u => x1 (ix2 u (y 1))) := by
  unfold out0_A_4
  refine (View.read_writes_junk_apply_eq_canon _ _ _).trans ?_
  refine View.canon_apply_of_pieces (fun y => x2 y + Groups.dot (fun u => x0 (ix2 (y 0) u)) (fun u => x1 (ix2 u (y 1)))) _ ?_ y
    (cover0_A_4 (F := Ideal) c i arg2 harg2 arg3 harg3 arg4 harg4 arg5 harg5 arg6 harg6 hc0 hc1 x0 x1 x2 x3 y)
  unfold kernelRun0_A
  simp only [View.readAt_eq_ld, Memref.IsWhole.read_unread, List.forall_mem_cons]
  exact ⟨fun x => piece x2 x0 x1 _ _ x, fun _ h => absurd h List.not_mem_nil⟩

theorem outB (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec Ideal S512x2048 .bf16) (x1 : Vec Ideal S2048x2048 .bf16) (x2 x3 : Vec Ideal S512x2048 .f32) (y : S512x2048.Idx) :
    out0_B_4 (F := Ideal) c i arg2 harg2 arg3 harg3 arg4 harg4 arg5 harg5 arg6 harg6 hc0 hc1 x0 x1 x2 x3 y
      = x3 y + Groups.dot (fun u => x0 (ix2 (y 0) u)) (fun u => x1 (ix2 u (y 1))) := by
  unfold out0_B_4
  refine (View.read_writes_junk_apply_eq_canon _ _ _).trans ?_
  refine View.canon_apply_of_pieces (fun y => x3 y + Groups.dot (fun u => x0 (ix2 (y 0) u)) (fun u => x1 (ix2 u (y 1)))) _ ?_ y
    (cover0_B_4 (F := Ideal) c i arg2 harg2 arg3 harg3 arg4 harg4 arg5 harg5 arg6 harg6 hc0 hc1 x0 x1 x2 x3 y)
  unfold kernelRun0_B
  simp only [View.readAt_eq_ld, Memref.IsWhole.read_unread, List.forall_mem_cons, pay2_eq]
  exact ⟨fun x => piece x3 x0 x1 _ _ x, fun _ h => absurd h List.not_mem_nil⟩

variable (m : (ℓ : Loc nD τ sig) → Buf (Elt Ideal) ℓ) (c : Dev nD)

theorem v1_apply (i : Fin 24576) (l : Fin 2048) :
    V m c main_v1 (ix2 i l) = m ((c : Thread nD τ).loc main_arg0) (ix3 ⟨i.val / 2048, by omega⟩ ⟨i.val % 2048, by omega⟩ l) := by
  entry_read
  pointwise
theorem v2_apply (i l : Fin 2048) : V m c main_v2 (ix2 i l) = m ((c : Thread nD τ).loc main_arg1) (ix2 i l) := by
  entry_read
  pointwise
theorem v3_apply (i : Fin 8192) (l : Fin 2048) :
    V m c main_v3 (ix2 i l) = m ((c : Thread nD τ).loc main_arg2) (ix3 ⟨i.val / 2048, by omega⟩ ⟨i.val % 2048, by omega⟩ l) := by
  entry_read
  pointwise
theorem v4_apply (i : Fin 16384) (l : Fin 2048) :
    V m c main_v4 (ix2 i l) = m ((c : Thread nD τ).loc main_arg3) (ix3 ⟨i.val / 2048, by omega⟩ ⟨i.val % 2048, by omega⟩ l) := by
  entry_read
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![min t.val 15, 0] := (by decide +kernel : ∀ t : Fin grid0.N, win0_2.index t = ![min t.val 15, 0])
theorem idx3 : ∀ t : Fin cfg0.N, win0_3.index t = ![t.val - 16, 0] := (by decide +kernel : ∀ t : Fin grid0.N, win0_3.index t = ![t.val - 16, 0])
theorem idx4 : ∀ t : Fin cfg0.N, win0_4.index t = ![t.val, 0] := (by decide +kernel : ∀ t : Fin grid0.N, win0_4.index t = ![t.val, 0])

variable (t : Fin cfg0.N)

theorem lt48 : t.val < 48 := t.isLt

/-- Row `r` of block `t` among all the tokens. -/
abbrev row (r : Fin 512) : Fin 24576 := ⟨t.val * 512 + r.val, by have := lt48 t; omega⟩

theorem iblk0_apply (r : Fin 512) (l : Fin 2048) : iblk m c 0 t (ix2 r l) = V m c main_v1 (ix2 (row t r) l) := by
  blk_point [iblk, V, idx0 t]
theorem iblk1_apply (r l : Fin 2048) : iblk m c 1 t (ix2 r l) = V m c main_v2 (ix2 r l) := by
  blk_point [iblk, V, idx1 t]
theorem iblk2_apply (r : Fin 512) (l : Fin 2048) :
    iblk m c 2 t (ix2 r l) = V m c main_v3 (ix2 ⟨min t.val 15 * 512 + r.val, by omega⟩ l) := by
  blk_point [iblk, V, idx2 t]
theorem iblk3_apply (r : Fin 512) (l : Fin 2048) :
    iblk m c 3 t (ix2 r l) = V m c main_v4 (ix2 ⟨(t.val - 16) * 512 + r.val, by have := lt48 t; omega⟩ l) := by
  blk_point [iblk, V, idx3 t]

/-- The result: row `i` is token `i % 2048` of sequence `i / 2048` of the joined groups. -/
def resAll (a : FVec Ideal S12x2048x2048 .f32) (w : FVec Ideal S2048x2048 .f32) (xa : FVec Ideal S4x2048x2048 .f32) (xb : FVec Ideal S8x2048x2048 .f32)
    (i : Fin 24576) (l : Fin 2048) : EReal :=
  Groups.joined xa xb ⟨i.val / 2048, by omega⟩ ⟨i.val % 2048, by omega⟩ l
    + Groups.dot (fun u => a (ix3 ⟨i.val / 2048, by omega⟩ ⟨i.val % 2048, by omega⟩ u)) (fun u => w (ix2 u l))

theorem dot_eq (r : Fin 512) (l : Fin 2048) : Groups.dot (fun u => iblk m c 0 t (ix2 r u)) (fun u => iblk m c 1 t (ix2 u l))
    = Groups.dot (fun u => m ((c : Thread nD τ).loc main_arg0) (ix3 ⟨(row t r).val / 2048, by omega⟩ ⟨(row t r).val % 2048, by omega⟩ u)) (fun u => m ((c : Thread nD τ).loc main_arg1) (ix2 u l)) :=
  congrArg₂ Groups.dot (funext fun u => (iblk0_apply m c t r u).trans (v1_apply m c _ u)) (funext fun u => (iblk1_apply m c t u l).trans (v2_apply m c u l))

theorem flushed_apply (r : Fin 512) (l : Fin 2048) : (dats m 0 c).flushed 4 t (ix2 r l)
    = resAll (m ((c : Thread nD τ).loc main_arg0)) (m ((c : Thread nD τ).loc main_arg1)) (m ((c : Thread nD τ).loc main_arg2))
      (m ((c : Thread nD τ).loc main_arg3)) (row t r) l := by
  have h48 := lt48 t
  rw [Value.flushed4]
  show outsAt0 m c t.val t.isLt (ix2 r l) = _
  unfold resAll
  by_cases h : t.val < 16
  · rw [outsAt0_A m c t h (by omega), outA]
    refine congrArg₂ (fun a b : EReal => a + b) ((iblk2_apply m c t r l).trans ((v3_apply m c _ l).trans ?_)) (dot_eq m c t r l)
    rw [Groups.joined_first _ _ _ _ _ (by show (t.val * 512 + r.val) / 2048 < 4; omega)]
    congr 2
    · exact Fin.ext (by show (min t.val 15 * 512 + r.val) / 2048 = (t.val * 512 + r.val) / 2048; omega)
    · exact Fin.ext (by show (min t.val 15 * 512 + r.val) % 2048 = (t.val * 512 + r.val) % 2048; omega)
  · rw [outsAt0_B m c t h (by omega), outB]
    refine congrArg₂ (fun a b : EReal => a + b) ((iblk3_apply m c t r l).trans ((v4_apply m c _ l).trans ?_)) (dot_eq m c t r l)
    rw [Groups.joined_second _ _ _ _ _ (by show 4 ≤ (t.val * 512 + r.val) / 2048; omega)]
    congr 2
    · exact Fin.ext (by show ((t.val - 16) * 512 + r.val) / 2048 = (t.val * 512 + r.val) / 2048 - 4; omega)
    · exact Fin.ext (by show ((t.val - 16) * 512 + r.val) % 2048 = (t.val * 512 + r.val) % 2048; omega)

theorem final_eq : (dats m 0 c).arrAt 4 cfg0.N = fun z =>
    resAll (m ((c : Thread nD τ).loc main_arg0)) (m ((c : Thread nD τ).loc main_arg1)) (m ((c : Thread nD τ).loc main_arg2))
      (m ((c : Thread nD τ).loc main_arg3)) (z 0) (z 1) := by
  refine (dats m 0 c).arrAt_eq_of_covers 4 _ (by decide +kernel) fun t hf y => ?_
  obtain ⟨r, l, rfl⟩ : ∃ (r : Fin 512) (l : Fin 2048), y = ix2 r l := ⟨y 0, y 1, funext fun a => by fin_cases a <;> rfl⟩
  refine (flushed_apply m c t r l).trans ?_
  have e : ∀ a, win0_4.index t a = (![t.val, 0] : Fin 2 → ℕ) a := fun a => congrFun (idx4 t) a
  have e0 : (((cfg0.win 4).blk t).view.emb (ix2 r l) 0) = row t r := Fin.ext (by
    show win0_4.index t (0 : Fin 2) * 512 + 1 * r.val = t.val * 512 + r.val
    rw [e]; show t.val * 512 + _ = _; omega)
  have e1 : (((cfg0.win 4).blk t).view.emb (ix2 r l) 1) = l := Fin.ext (by
    show win0_4.index t (1 : Fin 2) * 2048 + 1 * l.val = l.val
    rw [e]; show 0 * 2048 + _ = _; omega)
  rw [e0, e1]

open Cert.Reference5Ideal.Read in
theorem reference_apply (a : FVec Ideal S12x2048x2048 .f32) (w : FVec Ideal S2048x2048 .f32) (xa : FVec Ideal S4x2048x2048 .f32) (xb : FVec Ideal S8x2048x2048 .f32)
    (i : Fin 24576) (l : Fin 2048) : val_main_v3 (F := Ideal) a w xa xb (ix2 i l) = resAll a w xa xb i l := by
  unfold resAll Groups.dot
  rw [← Groups.concat_apply xa xb Cert.Reference5Ideal.Facts₀.concatenates_S4x2048x2048_S8x2048x2048_S12x2048x2048_d0]
  pointwise [val_main_v3, val_main_v2, val_main_v1, val_main_v0]

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem value : Cert.algebraic_Kernel5Ideal_Reference5Ideal := by
  intro m g m' g' _ hagree
  refine ⟨fun c z => resAll (m ((c.tc : Thread nD τ).loc main_arg0)) (m ((c.tc : Thread nD τ).loc main_arg1)) (m ((c.tc : Thread nD τ).loc main_arg2))
    (m ((c.tc : Thread nD τ).loc main_arg3)) (z 0) (z 1), ?_, ?_⟩
  · exact (θ_run Cert.Kernel5Ideal.defs _ _).mono (fun _ h c => ⟨(h c).1.trans (final_eq m c), (h c).2⟩)
      (Cert.Kernel5Ideal.Value.run_blocks (F := Ideal) m g)
  · refine (θ_run Cert.Reference5Ideal.defs _ _).mono (fun _ h c => ⟨(h c).1.trans ?_, (h c).2⟩)
      (Cert.Reference5Ideal.Value.run (F := Ideal) m' g')
    refine (Cert.Reference5Ideal.Read.val_main_v3_eq _ _ _ _).trans ?_
    rw [(hagree c).1, (hagree c).2.1, (hagree c).2.2.1, (hagree c).2.2.2]
    funext z
    obtain ⟨i, l, rfl⟩ : ∃ (i : Fin 24576) (l : Fin 2048), z = ix2 i l := ⟨z 0, z 1, funext fun a => by fin_cases a <;> rfl⟩
    exact reference_apply _ _ _ _ i l

end Cert.Residual

end
-- ==== Proof.Gates.lean ====
/- The gates of the two branches: the last columns of the input projection, with their biases, through the logistic function. -/
module

public import proofs.«01_k».proof.Defs
public import proofs.«01_k».proof.Proof.Groups
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Gates
open Cert.Kernel6Ideal Cert.Kernel6Ideal.Gen Idealize.ShloMosaic Idealize.ShloMosaic.TcCoe Idealize.SL.Sem

/-- One gate, from a token's row, the weights' column and the bias. -/
def gate (a w : Fin 2048 → EReal) (b : EReal) : EReal := Ideal.logistic (Groups.dot a w + b)

theorem pay_apply (v0 : Vec Ideal S1x256x2048 .bf16) (v2 : Vec Ideal S2048x1024 .bf16) (v5 : Vec Ideal S1x1024 .f32) (z : Fin 1) (r : Fin 256) (l : Fin 1024) :
    k0_pay3 (F := Ideal) v0 v2 v5 (ix3 z r l) = gate (fun u => v0 (ix3 0 r u)) (fun u => v2 (ix2 u l)) (v5 (ix2 0 l)) := by
  unfold k0_pay3
  pointwise
  rfl

theorem pay1_eq (v0 : Vec Ideal S1x256x2048 .bf16) (v2 : Vec Ideal S2048x1024 .bf16) (v5 : Vec Ideal S1x1024 .f32) :
    k0_pay1 (F := Ideal) (k0_pay11 v0 v2 v5) = k0_pay3 v0 v2 v5 := rfl
theorem pay2_eq : k0_pay2 (F := Ideal) = k0_pay3 := rfl
theorem pay4_eq : k0_pay4 (F := Ideal) = k0_pay3 := rfl
theorem pay6_eq (v0 : Vec Ideal S1x256x2048 .bf16) (v2 : Vec Ideal S2048x1024 .bf16) (v5 : Vec Ideal S1x1024 .f32) :
    k0_pay6 (F := Ideal) (k0_pay5 v0) v2 v5 = k0_pay3 v0 v2 v5 := rfl
theorem pay7_eq : k0_pay7 (F := Ideal) = k0_pay3 := rfl
theorem pay9_eq (v0 : Vec Ideal S1x256x2048 .bf16) (v2 : Vec Ideal S2048x1024 .bf16) (v5 : Vec Ideal S1x1024 .f32) :
    k0_pay9 (F := Ideal) (k0_pay8 v0 v2) v5 = k0_pay3 v0 v2 v5 := rfl
theorem pay10_eq : k0_pay10 (F := Ideal) = k0_pay3 := rfl

/-- What the kernel's block holds. -/
def blockGates (x0 : Vec Ideal S1x2048x2048 .bf16) (x1 : Vec Ideal S2048x1024 .bf16) (x2 : Vec Ideal S1x1024 .f32) (y : S1x2048x1024.Idx) : EReal :=
  gate (fun u => x0 (ix3 0 (y 1) u)) (fun u => x1 (ix2 u (y 2))) (x2 (ix2 0 (y 2)))

theorem zeros : (![0, 0] : Fin 2 → ℕ) = fun _ => 0 := by funext a; fin_cases a <;> rfl

/-- The rows that start at `o`. -/
theorem piece (o : ℕ) (x0 : Vec Ideal S1x2048x2048 .bf16) (x1 : Vec Ideal S2048x1024 .bf16) (x2 : Vec Ideal S1x1024 .f32)
    (h0 : ∀ a, (![0, o, 0] : Fin 3 → ℕ) a + S1x256x2048.size a ≤ S1x2048x2048.size a) (h1 : ∀ a, (![0, 0] : Fin 2 → ℕ) a + S2048x1024.size a ≤ S2048x1024.size a)
    (h2 : ∀ a, (![0, 0] : Fin 2 → ℕ) a + S1x1024.size a ≤ S1x1024.size a) (h3 : ∀ a, (![0, o, 0] : Fin 3 → ℕ) a + S1x256x1024.size a ≤ S1x2048x1024.size a) (y : S1x256x1024.Idx) :
    k0_pay3 (F := Ideal) (View.ld x0 (Rect.unit (s := S1x2048x2048) ![0, o, 0] S1x256x2048.size h0)) (View.ld x1 (Rect.unit (s := S2048x1024) ![0, 0] S2048x1024.size h1))
        (View.ld x2 (Rect.unit (s := S1x1024) ![0, 0] S1x1024.size h2)) y
      = blockGates x0 x1 x2 ((Rect.unit (s := S1x2048x1024) ![0, o, 0] S1x256x1024.size h3).emb y) := by
  obtain ⟨z, r, l, rfl⟩ : ∃ (z : Fin 1) (r : Fin 256) (l : Fin 1024), y = ix3 z r l := ⟨y 0, y 1, y 2, funext fun a => by fin_cases a <;> rfl⟩
  have ho : o + 256 ≤ 2048 := h0 1
  have e3 : (Rect.unit (s := S1x2048x1024) ![0, o, 0] S1x256x1024.size h3).emb (ix3 z r l) = ix3 z ⟨o + r.val, by omega⟩ l := funext fun a => Fin.ext (by
    match a with
    | ⟨0, _⟩ => show 0 + 1 * z.val = z.val; omega
    | ⟨1, _⟩ => show o + 1 * r.val = o + r.val; omega
    | ⟨2, _⟩ => show 0 + 1 * l.val = l.val; omega)
  have e0 : ∀ u, (Rect.unit (s := S1x2048x2048) ![0, o, 0] S1x256x2048.size h0).emb (ix3 0 r u) = ix3 0 ⟨o + r.val, by omega⟩ u := fun u => funext fun a => Fin.ext (by
    match a with
    | ⟨0, _⟩ => rfl
    | ⟨1, _⟩ => show o + 1 * r.val = o + r.val; omega
    | ⟨2, _⟩ => show 0 + 1 * u.val = u.val; omega)
  rw [e3]
  refine (pay_apply _ _ _ z r l).trans ?_
  rw [View.ld_unit_zero zeros _ x1, View.ld_unit_zero zeros _ x2]
  exact congrArg (gate · _ _) (funext fun u => congrArg x0 (e0 u))

theorem out_apply (x0 : Vec Ideal S1x2048x2048 .bf16) (x1 : Vec Ideal S2048x1024 .bf16) (x2 : Vec Ideal S1x1024 .f32) (y : S1x2048x1024.Idx) :
    out0_3 (F := Ideal) x0 x1 x2 y = blockGates x0 x1 x2 y := by
  unfold out0_3
  refine View.canon_apply_of_pieces (blockGates x0 x1 x2) _ ?_ y (cover0_3 (F := Ideal) _ _ _ _ _ _ _ _ _)
  simp only [List.forall_mem_cons, pay1_eq, pay2_eq, pay4_eq, pay6_eq, pay7_eq, pay9_eq, pay10_eq]
  exact ⟨fun y => piece _ x0 x1 x2 _ _ _ _ y, fun y => piece _ x0 x1 x2 _ _ _ _ y, fun y => piece _ x0 x1 x2 _ _ _ _ y, fun y => piece _ x0 x1 x2 _ _ _ _ y,
    fun y => piece _ x0 x1 x2 _ _ _ _ y, fun y => piece _ x0 x1 x2 _ _ _ _ y, fun y => piece _ x0 x1 x2 _ _ _ _ y, fun y => piece _ x0 x1 x2 _ _ _ _ y,
    fun _ h => absurd h List.not_mem_nil⟩

variable (m : (ℓ : Loc nD τ sig) → Buf (Elt Ideal) ℓ) (c : Dev nD)

theorem v0_apply (b : Fin 12) (s u : Fin 2048) : V m c main_v0 (ix3 b s u) = m ((c : Thread nD τ).loc main_arg0) (ix3 b s u) := by
  entry_read
  pointwise
theorem v1_apply (u : Fin 2048) (k : Fin 16384) : V m c main_v1 (ix2 u k) = m ((c : Thread nD τ).loc main_arg1) (ix2 u k) := by
  entry_read
  pointwise
theorem v2_apply (z : Fin 1) (k : Fin 4096) :
    V m c main_v2 (ix2 z k) = m ((c : Thread nD τ).loc main_arg2) (ix2 ⟨k.val / 2048, by omega⟩ ⟨k.val % 2048, by omega⟩) := by
  entry_read
  pointwise

theorem idx0 : ∀ t : Fin cfg0.N, win0_0.index t = ![t.val / 4, 0, 0] := (by decide +kernel : ∀ t : Fin grid0.N, win0_0.index t = ![t.val / 4, 0, 0])
theorem idx1 : ∀ t : Fin cfg0.N, win0_1.index t = ![0, 12 + t.val % 4] := (by decide +kernel : ∀ t : Fin grid0.N, win0_1.index t = ![0, 12 + t.val % 4])
theorem idx2 : ∀ t : Fin cfg0.N, win0_2.index t = ![0, t.val % 4] := (by decide +kernel : ∀ t : Fin grid0.N, win0_2.index t = ![0, t.val % 4])
theorem idx3 : ∀ t : Fin cfg0.N, win0_3.index t = ![t.val / 4, 0, t.val % 4] :=
  (by decide +kernel : ∀ t : Fin grid0.N, win0_3.index t = ![t.val / 4, 0, t.val % 4])

variable (t : Fin cfg0.N)

theorem lt48 : t.val < 48 := t.isLt

/-- The sequence at point `t`. -/
abbrev seq : Fin 12 := ⟨t.val / 4, by have := lt48 t; omega⟩

/-- Column `l` of the block at point `t` among all the gates. -/
abbrev col (l : Fin 1024) : Fin 4096 := ⟨t.val % 4 * 1024 + l.val, by omega⟩

theorem iblk0_apply (z : Fin 1) (s u : Fin 2048) : iblk m c 0 t (ix3 z s u) = V m c main_v0 (ix3 (seq t) s u) := by
  blk_point [iblk, V, idx0 t]
theorem iblk1_apply (u : Fin 2048) (l : Fin 1024) : iblk m c 1 t (ix2 u l) = V m c main_v1 (ix2 u ⟨(12 + t.val % 4) * 1024 + l.val, by omega⟩) := by
  blk_point [iblk, V, idx1 t]
theorem iblk2_apply (z : Fin 1) (l : Fin 1024) : iblk m c 2 t (ix2 z l) = V m c main_v2 (ix2 z (col t l)) := by
  blk_point [iblk, V, idx2 t]

/-- The result: gate `k` of token `s` of sequence `b`. -/
def gateAll (h : FVec Ideal S12x2048x2048 .f32) (w : FVec Ideal S2048x16384 .f32) (bias : FVec Ideal S2x2048 .f32) (b : Fin 12) (s : Fin 2048) (k : Fin 4096) : EReal :=
  gate (fun u => h (ix3 b s u)) (fun u => w (ix2 u ⟨12288 + k.val, by omega⟩)) (bias (ix2 ⟨k.val / 2048, by omega⟩ ⟨k.val % 2048, by omega⟩))

theorem flushed_apply (z : Fin 1) (s : Fin 2048) (l : Fin 1024) : (dats m 0 c).flushed 3 t (ix3 z s l)
    = gateAll (m ((c : Thread nD τ).loc main_arg0)) (m ((c : Thread nD τ).loc main_arg1)) (m ((c : Thread nD τ).loc main_arg2)) (seq t) s (col t l) := by
  rw [Value.flushed3]
  refine (out_apply _ _ _ (ix3 z s l)).trans ?_
  unfold blockGates gateAll
  congr 1
  · funext u; exact (iblk0_apply m c t 0 s u).trans (v0_apply m c _ s u)
  · funext u
    refine (iblk1_apply m c t u l).trans ((v1_apply m c u _).trans ?_)
    congr 2
    exact Fin.ext (by show (12 + t.val % 4) * 1024 + l.val = 12288 + (t.val % 4 * 1024 + l.val); omega)
  · exact (iblk2_apply m c t 0 l).trans (v2_apply m c 0 _)

theorem final_eq : (dats m 0 c).arrAt 3 cfg0.N = fun z =>
    gateAll (m ((c : Thread nD τ).loc main_arg0)) (m ((c : Thread nD τ).loc main_arg1)) (m ((c : Thread nD τ).loc main_arg2)) (z 0) (z 1) (z 2) := by
  refine (dats m 0 c).arrAt_eq_of_covers 3 _ (by decide +kernel) fun t hf y => ?_
  obtain ⟨z, s, l, rfl⟩ : ∃ (z : Fin 1) (s : Fin 2048) (l : Fin 1024), y = ix3 z s l := ⟨y 0, y 1, y 2, funext fun a => by fin_cases a <;> rfl⟩
  refine (flushed_apply m c t z s l).trans ?_
  have e : ∀ a, win0_3.index t a = (![t.val / 4, 0, t.val % 4] : Fin 3 → ℕ) a := fun a => congrFun (idx3 t) a
  have e0 : (((cfg0.win 3).blk t).view.emb (ix3 z s l) 0) = seq t := Fin.ext (by
    show win0_3.index t (0 : Fin 3) * 1 + 1 * z.val = t.val / 4
    rw [e]; show t.val / 4 * 1 + _ = _; omega)
  have e1 : (((cfg0.win 3).blk t).view.emb (ix3 z s l) 1) = s := Fin.ext (by
    show win0_3.index t (1 : Fin 3) * 2048 + 1 * s.val = s.val
    rw [e]; show 0 * 2048 + _ = _; omega)
  have e2 : (((cfg0.win 3).blk t).view.emb (ix3 z s l) 2) = col t l := Fin.ext (by
    show win0_3.index t (2 : Fin 3) * 1024 + 1 * l.val = t.val % 4 * 1024 + l.val
    rw [e]; show t.val % 4 * 1024 + _ = _; omega)
  rw [e0, e1, e2]

open Cert.Reference6Ideal.Read in
theorem reference_apply (h : FVec Ideal S12x2048x2048 .f32) (w : FVec Ideal S2048x16384 .f32) (bias : FVec Ideal S2x2048 .f32) (b : Fin 12) (s : Fin 2048) (k : Fin 4096) :
    val_main_v13 (F := Ideal) h w bias (ix3 b s k) = gateAll h w bias b s k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0]
  rfl

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value : Cert.algebraic_Kernel6Ideal_Reference6Ideal := by
  intro m g m' g' _ hagree
  refine ⟨fun c z => gateAll (m ((c.tc : Thread nD τ).loc main_arg0)) (m ((c.tc : Thread nD τ).loc main_arg1)) (m ((c.tc : Thread nD τ).loc main_arg2))
    (z 0) (z 1) (z 2), ?_, ?_⟩
  · exact (θ_run Cert.Kernel6Ideal.defs _ _).mono (fun _ h c => ⟨(h c).1.trans (final_eq m c), (h c).2⟩)
      (Cert.Kernel6Ideal.Value.run_blocks (F := Ideal) m g)
  · refine (θ_run Cert.Reference6Ideal.defs _ _).mono (fun _ h c => ⟨(h c).1.trans ?_, (h c).2⟩)
      (Cert.Reference6Ideal.Value.run (F := Ideal) m' g')
    refine (Cert.Reference6Ideal.Read.val_main_v13_eq _ _ _).trans ?_
    rw [(hagree c).1, (hagree c).2.1, (hagree c).2.2]
    funext z
    obtain ⟨b, s, k, rfl⟩ : ∃ (b : Fin 12) (s : Fin 2048) (k : Fin 4096), z = ix3 b s k := ⟨z 0, z 1, z 2, funext fun a => by fin_cases a <;> rfl⟩
    exact reference_apply _ _ _ b s k

end Cert.Gates

end
-- ==== Proof.Rows.lean ====
/- The normalized rows of the two groups, and the attention's values. -/
module

public import proofs.«01_k».proof.Defs
public import proofs.«01_k».proof.Proof.Norm
public import proofs.«01_k».proof.Proof.Groups
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Pipeline.ValueKit.Point
public import Idealize.ShloMosaic.Lib.Tactic.RunNames

@[expose] public section

set_option maxRecDepth 16384

noncomputable section

namespace Cert.Rows
open Cert.Kernel7Ideal Cert.Kernel7Ideal.Gen Idealize.ShloMosaic Idealize.ShloMosaic.TcCoe Idealize.SL.Sem

theorem pay5_apply (v6 : Vec Ideal S512x2048 .f32) (v8 : Vec Ideal S1x2048 .f32) (r : Fin 512) (u : Fin 2048) :
    k0_pay5 (F := Ideal) v6 v8 (ix2 r u) = normed (fun u => v6 (ix2 r u)) (fun u => v8 (ix2 0 u)) u := by
  unfold k0_pay5
  pointwise
  rfl

/-- The product of the normalized rows with the weights. -/
def prods (v6 : Vec Ideal S512x2048 .f32) (v8 : Vec Ideal S1x2048 .f32) (v24 : Vec Ideal S2048x2048 .bf16) (r : Fin 512) (l : Fin 2048) : EReal :=
  Groups.dot (normed (fun u => v6 (ix2 r u)) (fun u => v8 (ix2 0 u))) (fun u => v24 (ix2 u l))

theorem pay6_apply (v6 : Vec Ideal S512x2048 .f32) (v8 : Vec Ideal S1x2048 .f32) (v24 : Vec Ideal S2048x2048 .bf16) (r : Fin 512) (l : Fin 2048) :
    k0_pay6 (F := Ideal) v6 v8 v24 (ix2 r l) = prods v6 v8 v24 r l := by
  have h := pay5_apply v6 v8 r
  unfold k0_pay6 prods Groups.dot
  simp only [← h]
  generalize k0_pay5 (F := Ideal) v6 v8 = y
  pointwise

/-- The columns from `o` on, as one head. -/
def headCast (o : ℕ) (h : S512x2048.Slices ![0, o] S512x128) (v : FVec Ideal S512x2048 .f32) : FVec Ideal S1x1x512x128 .bf16 :=
  shapeCast S1x1x512x128 (truncf .bf16 (extractStridedSlice S512x128 ![0, o] v h) bitsLt_bf16_f32) shapeCasts_S512x128_S1x1x512x128

theorem headCast_apply (o : ℕ) (ho : o + 128 ≤ 2048) (h : S512x2048.Slices ![0, o] S512x128) (v : FVec Ideal S512x2048 .f32) (z z' : Fin 1) (r : Fin 512) (d : Fin 128) :
    headCast o h v (ix4 z z' r d) = v (ix2 r ⟨o + d.val, by omega⟩) := by
  unfold headCast
  pointwise

/-- The heads of a block of rows. -/
def heads (W : FVec Ideal S512x2048 .f32) (y : S1x16x512x128.Idx) : EReal := W (ix2 (y 2) ⟨(y 1).val * 128 + (y 3).val, by
    have h1 : (y 1).val < 16 := (y 1).isLt
    have h3 : (y 3).val < 128 := (y 3).isLt
    omega⟩)

theorem piece (n o : ℕ) (hn : o = 128 * n) (W : FVec Ideal S512x2048 .f32) (hs : S512x2048.Slices ![0, o] S512x128)
    (h : ∀ a, (![0, n, 0, 0] : Fin 4 → ℕ) a + S1x1x512x128.size a ≤ S1x16x512x128.size a) (y : S1x1x512x128.Idx) :
    headCast o hs W y = heads W ((Rect.unit (s := S1x16x512x128) ![0, n, 0, 0] S1x1x512x128.size h).emb y) := by
  obtain ⟨z, z', r, d, rfl⟩ : ∃ (z z' : Fin 1) (r : Fin 512) (d : Fin 128), y = ix4 z z' r d := ⟨y 0, y 1, y 2, y 3, funext fun a => by fin_cases a <;> rfl⟩
  have h16 : n + 1 ≤ 16 := h 1
  refine (headCast_apply o (by omega) hs W z z' r d).trans ?_
  unfold heads
  refine congrArg W (congrArg₂ ix2 (Fin.ext ?_) (Fin.ext ?_))
  · show r.val = 0 + 1 * r.val; omega
  · show o + d.val = (n + 1 * z'.val) * 128 + (0 + 1 * d.val); omega

theorem zeros : (![0, 0] : Fin 2 → ℕ) = fun _ => 0 := by funext a; fin_cases a <;> rfl

theorem ld_x (x : Vec Ideal S512x2048 .f32) : View.ld x (Rect.unit (s := S512x2048) ![0, 0] S512x2048.size inb_S512x2048_S512x2048_0_0) = x := View.ld_unit_zero zeros _ x
theorem ld_g (x : Vec Ideal S1x2048 .f32) : View.ld x (Rect.unit (s := S1x2048) ![0, 0] S1x2048.size inb_S1x2048_S1x2048_0_0) = x := View.ld_unit_zero zeros _ x
theorem ld_w (x : Vec Ideal S2048x2048 .bf16) : View.ld x (Rect.unit (s := S2048x2048) ![0, 0] S2048x2048.size inb_S2048x2048_S2048x2048_0_0) = x := View.ld_unit_zero zeros _ x

/-- A block of normalized rows is written whole. -/
theorem whole (P : FVec Ideal S512x2048 .bf16) (y : S512x2048.Idx) :
    P y = P ((Rect.unit (s := S512x2048) ![0, 0] S512x2048.size inb_S512x2048_S512x2048_0_0).emb y) := by
  obtain ⟨r, l, rfl⟩ : ∃ (r : Fin 512) (l : Fin 2048), y = ix2 r l := ⟨y 0, y 1, funext fun a => by fin_cases a <;> rfl⟩
  refine congrArg P (funext fun a => Fin.ext ?_)
  match a with
  | ⟨0, _⟩ => show r.val = 0 + 1 * r.val; omega
  | ⟨1, _⟩ => show l.val = 0 + 1 * l.val; omega

theorem outA4 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S1x16x512x128 .bf16) (harg6 : arg6.IsWhole) (hc0 : cond0_0 i) (hc1 : ¬cond0_1 i)
    (x0 x1 : Vec Ideal S512x2048 .f32) (x2 : Vec Ideal S1x2048 .f32) (x3 : Vec Ideal S2048x2048 .bf16) (y : S512x2048.Idx) :
    out0_A_4 (F := Ideal) c i arg1 harg1 arg2 harg2 arg3 harg3 arg4 harg4 arg5 harg5 arg6 harg6 hc0 hc1 x0 x1 x2 x3 y = k0_pay5 (F := Ideal) x0 x2 y := by
  unfold out0_A_4
  refine (View.read_writes_junk_apply_eq_canon _ _ _).trans ?_
  refine View.canon_apply_of_pieces (k0_pay5 (F := Ideal) x0 x2) _ ?_ y
    (cover0_A_4 (F := Ideal) c i arg1 harg1 arg2 harg2 arg3 harg3 arg4 harg4 arg5 harg5 arg6 harg6 hc0 hc1 x0 x1 x2 x3 y)
  unfold kernelRun0_A
  sl_unfold_run_values
  simp only [View.readAt_eq_ld, Memref.IsWhole.read_unread, List.forall_mem_cons]
  rw [ld_x x0, ld_g x2]
  exact ⟨fun y => whole _ y, fun _ h => absurd h List.not_mem_nil⟩

theorem outA5 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S1x16x512x128 .bf16) (harg6 : arg6.IsWhole) (hc0 : cond0_0 i) (hc1 : ¬cond0_1 i)
    (x0 x1 : Vec Ideal S512x2048 .f32) (x2 : Vec Ideal S1x2048 .f32) (x3 : Vec Ideal S2048x2048 .bf16) (y : S1x16x512x128.Idx) :
    out0_A_5 (F := Ideal) c i arg1 harg1 arg2 harg2 arg3 harg3 arg4 harg4 arg5 harg5 arg6 harg6 hc0 hc1 x0 x1 x2 x3 y = heads (k0_pay6 x0 x2 x3) y := by
  unfold out0_A_5
  refine (View.read_writes_junk_apply_eq_canon _ _ _).trans ?_
  refine View.canon_apply_of_pieces (heads (k0_pay6 x0 x2 x3)) _ ?_ y
    (cover0_A_5 (F := Ideal) c i arg1 harg1 arg2 harg2 arg3 harg3 arg4 harg4 arg5 harg5 arg6 harg6 hc0 hc1 x0 x1 x2 x3 y)
  unfold kernelRun0_A
  sl_unfold_run_values
  simp only [View.readAt_eq_ld, Memref.IsWhole.read_unread, List.forall_mem_cons]
  rw [ld_x x0, ld_g x2, ld_w x3]
  have p := fun n o hn hs h => piece n o hn (k0_pay6 (F := Ideal) x0 x2 x3) hs h
  exact ⟨p 15 1920 rfl slices_S512x2048_o0_1920_S512x128 inb_S1x16x512x128_S1x1x512x128_0_15_0_0, p 14 1792 rfl slices_S512x2048_o0_1792_S512x128 inb_S1x16x512x128_S1x1x512x128_0_14_0_0, p 13 1664 rfl slices_S512x2048_o0_1664_S512x128 inb_S1x16x512x128_S1x1x512x128_0_13_0_0, p 12 1536 rfl slices_S512x2048_o0_1536_S512x128 inb_S1x16x512x128_S1x1x512x128_0_12_0_0, p 11 1408 rfl slices_S512x2048_o0_1408_S512x128 inb_S1x16x512x128_S1x1x512x128_0_11_0_0, p 10 1280 rfl slices_S512x2048_o0_1280_S512x128 inb_S1x16x512x128_S1x1x512x128_0_10_0_0, p 9 1152 rfl slices_S512x2048_o0_1152_S512x128 inb_S1x16x512x128_S1x1x512x128_0_9_0_0, p 8 1024 rfl slices_S512x2048_o0_1024_S512x128 inb_S1x16x512x128_S1x1x512x128_0_8_0_0, p 7 896 rfl slices_S512x2048_o0_896_S512x128 inb_S1x16x512x128_S1x1x512x128_0_7_0_0, p 6 768 rfl slices_S512x2048_o0_768_S512x128 inb_S1x16x512x128_S1x1x512x128_0_6_0_0, p 5 640 rfl slices_S512x2048_o0_640_S512x128 inb_S1x16x512x128_S1x1x512x128_0_5_0_0, p 4 512 rfl slices_S512x2048_o0_512_S512x128 inb_S1x16x512x128_S1x1x512x128_0_4_0_0, p 3 384 rfl slices_S512x2048_o0_384_S512x128 inb_S1x16x512x128_S1x1x512x128_0_3_0_0, p 2 256 rfl slices_S512x2048_o0_256_S512x128 inb_S1x16x512x128_S1x1x512x128_0_2_0_0, p 1 128 rfl slices_S512x2048_o0_128_S512x128 inb_S1x16x512x128_S1x1x512x128_0_1_0_0,
    p 0 0 rfl slices_S512x2048_o0_0_S512x128 inb_S1x16x512x128_S1x1x512x128_0_0_0_0, fun _ h => absurd h List.not_mem_nil⟩

theorem outB4 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S1x16x512x128 .bf16) (harg6 : arg6.IsWhole) (hc0 : ¬cond0_0 i) (hc1 : cond0_1 i)
    (x0 x1 : Vec Ideal S512x2048 .f32) (x2 : Vec Ideal S1x2048 .f32) (x3 : Vec Ideal S2048x2048 .bf16) (y : S512x2048.Idx) :
    out0_B_4 (F := Ideal) c i arg1 harg1 arg2 harg2 arg3 harg3 arg4 harg4 arg5 harg5 arg6 harg6 hc0 hc1 x0 x1 x2 x3 y = k0_pay5 (F := Ideal) x1 x2 y := by
  unfold out0_B_4
  refine (View.read_writes_junk_apply_eq_canon _ _ _).trans ?_
  refine View.canon_apply_of_pieces (k0_pay5 (F := Ideal) x1 x2) _ ?_ y
    (cover0_B_4 (F := Ideal) c i arg1 harg1 arg2 harg2 arg3 harg3 arg4 harg4 arg5 harg5 arg6 harg6 hc0 hc1 x0 x1 x2 x3 y)
  unfold kernelRun0_B
  sl_unfold_run_values
  simp only [View.readAt_eq_ld, Memref.IsWhole.read_unread, List.forall_mem_cons]
  rw [ld_x x1, ld_g x2]
  exact ⟨fun y => whole _ y, fun _ h => absurd h List.not_mem_nil⟩

theorem outB5 (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .bf16) (harg5 : arg5.IsWhole) (arg6 : Memref sig .tc .vmem S1x16x512x128 .bf16) (harg6 : arg6.IsWhole) (hc0 : ¬cond0_0 i) (hc1 : cond0_1 i)
    (x0 x1 : Vec Ideal S512x2048 .f32) (x2 : Vec Ideal S1x2048 .f32) (x3 : Vec Ideal S2048x2048 .bf16) (y : S1x16x512x128.Idx) :
    out0_B_5 (F := Ideal) c i arg1 harg1 arg2 harg2 arg3 harg3 arg4 harg4 arg5 harg5 arg6 harg6 hc0 hc1 x0 x1 x2 x3 y = heads (k0_pay6 x1 x2 x3) y := by
  unfold out0_B_5
  refine (View.read_writes_junk_apply_eq_canon _ _ _).trans ?_
  refine View.canon_apply_of_pieces (heads (k0_pay6 x1 x2 x3)) _ ?_ y
    (cover0_B_5 (F := Ideal) c i arg1 harg1 arg2 harg2 arg3 harg3 arg4 harg4 arg5 harg5 arg6 harg6 hc0 hc1 x0 x1 x2 x3 y)
  unfold kernelRun0_B
  sl_unfold_run_values
  simp only [View.readAt_eq_ld, Memref.IsWhole.read_unread, List.forall_mem_cons]
  rw [ld_x x1, ld_g x2, ld_w x3]
  have p := fun n o hn hs h => piece n o hn (k0_pay6 (F := Ideal) x1 x2 x3) hs h
  exact ⟨p 15 1920 rfl slices_S512x2048_o0_1920_S512x128 inb_S1x16x512x128_S1x1x512x128_0_15_0_0, p 14 1792 rfl slices_S512x2048_o0_1792_S512x128 inb_S1x16x512x128_S1x1x512x128_0_14_0_0, p 13 1664 rfl slices_S512x2048_o0_1664_S512x128 inb_S1x16x512x128_S1x1x512x128_0_13_0_0, p 12 1536 rfl slices_S512x2048_o0_1536_S512x128 inb_S1x16x512x128_S1x1x512x128_0_12_0_0, p 11 1408 rfl slices_S512x2048_o0_1408_S512x128 inb_S1x16x512x128_S1x1x512x128_0_11_0_0, p 10 1280 rfl slices_S512x2048_o0_1280_S512x128 inb_S1x16x512x128_S1x1x512x128_0_10_0_0, p 9 1152 rfl slices_S512x2048_o0_1152_S512x128 inb_S1x16x512x128_S1x1x512x128_0_9_0_0, p 8 1024 rfl slices_S512x2048_o0_1024_S512x128 inb_S1x16x512x128_S1x1x512x128_0_8_0_0, p 7 896 rfl slices_S512x2048_o0_896_S512x128 inb_S1x16x512x128_S1x1x512x128_0_7_0_0, p 6 768 rfl slices_S512x2048_o0_768_S512x128 inb_S1x16x512x128_S1x1x512x128_0_6_0_0, p 5 640 rfl slices_S512x2048_o0_640_S512x128 inb_S1x16x512x128_S1x1x512x128_0_5_0_0, p 4 512 rfl slices_S512x2048_o0_512_S512x128 inb_S1x16x512x128_S1x1x512x128_0_4_0_0, p 3 384 rfl slices_S512x2048_o0_384_S512x128 inb_S1x16x512x128_S1x1x512x128_0_3_0_0, p 2 256 rfl slices_S512x2048_o0_256_S512x128 inb_S1x16x512x128_S1x1x512x128_0_2_0_0, p 1 128 rfl slices_S512x2048_o0_128_S512x128 inb_S1x16x512x128_S1x1x512x128_0_1_0_0,
    p 0 0 rfl slices_S512x2048_o0_0_S512x128 inb_S1x16x512x128_S1x1x512x128_0_0_0_0, fun _ h => absurd h List.not_mem_nil⟩

variable (m : (ℓ : Loc nD τ sig) → Buf (Elt Ideal) ℓ) (c : Dev nD)

theorem v0_apply (i : Fin 8192) (l : Fin 2048) :
    V m c main_v0 (ix2 i l) = m ((c : Thread nD τ).loc main_arg0) (ix3 ⟨i.val / 2048, by omega⟩ ⟨i.val % 2048, by omega⟩ l) := by
  entry_read
  pointwise
theorem v1_apply (i : Fin 16384) (l : Fin 2048) :
    V m c main_v1 (ix2 i l) = m ((c : Thread nD τ).loc main_arg1) (ix3 ⟨i.val / 2048, by omega⟩ ⟨i.val % 2048, by omega⟩ l) := by
  entry_read
  pointwise
theorem v3_apply (u : Fin 2048) : V m c main_v3 (ix2 0 u) = m ((c : Thread nD τ).loc main_arg2) (ix1 u) := by
  entry_read
  pointwise
theorem v2_apply (u : Fin 2048) (j : Fin 16384) : V m c main_v2 (ix2 u j) = m ((c : Thread nD τ).loc main_arg3) (ix2 u j) := by
  entry_read
  pointwise

theorem idx0 : ∀ t : Fin cfg0.N, win0_0.index t = ![min t.val 15, 0] := (by decide +kernel : ∀ t : Fin grid0.N, win0_0.index t = ![min t.val 15, 0])
theorem idx1 : ∀ t : Fin cfg0.N, win0_1.index t = ![t.val - 16, 0] := (by decide +kernel : ∀ t : Fin grid0.N, win0_1.index t = ![t.val - 16, 0])
theorem idx2 : ∀ t : Fin cfg0.N, win0_2.index t = ![0, 0] := (by decide +kernel : ∀ t : Fin grid0.N, win0_2.index t = ![0, 0])
theorem idx3 : ∀ t : Fin cfg0.N, win0_3.index t = ![0, 2] := (by decide +kernel : ∀ t : Fin grid0.N, win0_3.index t = ![0, 2])
theorem idx4 : ∀ t : Fin cfg0.N, win0_4.index t = ![t.val, 0] := (by decide +kernel : ∀ t : Fin grid0.N, win0_4.index t = ![t.val, 0])
theorem idx5 : ∀ t : Fin cfg0.N, win0_5.index t = ![t.val / 4, 0, t.val % 4, 0] := (by decide +kernel : ∀ t : Fin grid0.N, win0_5.index t = ![t.val / 4, 0, t.val % 4, 0])

/-- Token `s` of sequence `b`, normalized. -/
def hAll (xa : FVec Ideal S4x2048x2048 .f32) (xb : FVec Ideal S8x2048x2048 .f32) (g : FVec Ideal S2048 .f32) (b : Fin 12) (s u : Fin 2048) : EReal :=
  normed (Groups.joined xa xb b s) (fun u => g (ix1 u)) u

/-- Element `d` of head `n` of the value of token `s` of sequence `b`. -/
def vAll (xa : FVec Ideal S4x2048x2048 .f32) (xb : FVec Ideal S8x2048x2048 .f32) (g : FVec Ideal S2048 .f32) (w : FVec Ideal S2048x16384 .f32)
    (b : Fin 12) (n : Fin 16) (s : Fin 2048) (d : Fin 128) : EReal :=
  Groups.dot (hAll xa xb g b s) (fun u => w (ix2 u ⟨4096 + (n.val * 128 + d.val), by omega⟩))

variable (t : Fin cfg0.N)

theorem lt48 : t.val < 48 := t.isLt

/-- The sequence of the tokens of block `t`, and the place in it of row `r` of that block. -/
abbrev seq : Fin 12 := ⟨t.val / 4, by have := lt48 t; omega⟩
abbrev tok (r : Fin 512) : Fin 2048 := ⟨t.val % 4 * 512 + r.val, by omega⟩

theorem iblk0_apply (r : Fin 512) (l : Fin 2048) :
    iblk m c 0 t (ix2 r l) = V m c main_v0 (ix2 ⟨min t.val 15 * 512 + r.val, by omega⟩ l) := by
  blk_point [iblk, V, idx0 t]
theorem iblk1_apply (r : Fin 512) (l : Fin 2048) :
    iblk m c 1 t (ix2 r l) = V m c main_v1 (ix2 ⟨(t.val - 16) * 512 + r.val, by have := lt48 t; omega⟩ l) := by
  blk_point [iblk, V, idx1 t]
theorem iblk2_apply (l : Fin 2048) : iblk m c 2 t (ix2 0 l) = V m c main_v3 (ix2 0 l) := by
  blk_point [iblk, V, idx2 t]
theorem iblk3_apply (r l : Fin 2048) : iblk m c 3 t (ix2 r l) = V m c main_v2 (ix2 r ⟨4096 + l.val, by omega⟩) := by
  blk_point [iblk, V, idx3 t]

theorem first_row (h : t.val < 16) (r : Fin 512) : (fun u => iblk m c 0 t (ix2 r u))
    = Groups.joined (m ((c : Thread nD τ).loc main_arg0)) (m ((c : Thread nD τ).loc main_arg1)) (seq t) (tok t r) := by
  funext u
  rw [Groups.joined_first _ _ _ _ _ (by show t.val / 4 < 4; omega)]
  refine (iblk0_apply m c t r u).trans ((v0_apply m c _ u).trans ?_)
  congr 2
  · exact Fin.ext (by show (min t.val 15 * 512 + r.val) / 2048 = t.val / 4; omega)
  · exact Fin.ext (by show (min t.val 15 * 512 + r.val) % 2048 = t.val % 4 * 512 + r.val; omega)

theorem second_row (h : 16 ≤ t.val) (r : Fin 512) : (fun u => iblk m c 1 t (ix2 r u))
    = Groups.joined (m ((c : Thread nD τ).loc main_arg0)) (m ((c : Thread nD τ).loc main_arg1)) (seq t) (tok t r) := by
  funext u
  rw [Groups.joined_second _ _ _ _ _ (by show 4 ≤ t.val / 4; omega)]
  refine (iblk1_apply m c t r u).trans ((v1_apply m c _ u).trans ?_)
  congr 2
  · exact Fin.ext (by show ((t.val - 16) * 512 + r.val) / 2048 = t.val / 4 - 4; omega)
  · exact Fin.ext (by show ((t.val - 16) * 512 + r.val) % 2048 = t.val % 4 * 512 + r.val; omega)

theorem scale_row : (fun u => iblk m c 2 t (ix2 0 u)) = fun u => m ((c : Thread nD τ).loc main_arg2) (ix1 u) :=
  funext fun u => (iblk2_apply m c t u).trans (v3_apply m c u)

theorem weight_col (l : Fin 2048) : (fun u => iblk m c 3 t (ix2 u l)) = fun u => m ((c : Thread nD τ).loc main_arg3) (ix2 u ⟨4096 + l.val, by omega⟩) :=
  funext fun u => (iblk3_apply m c t u l).trans (v2_apply m c u _)

theorem flushed4_apply (r : Fin 512) (l : Fin 2048) : (dats m 0 c).flushed 4 t (ix2 r l)
    = hAll (m ((c : Thread nD τ).loc main_arg0)) (m ((c : Thread nD τ).loc main_arg1)) (m ((c : Thread nD τ).loc main_arg2)) (seq t) (tok t r) l := by
  rw [Value.flushed4]
  show (outsAt0 m c t.val t.isLt).1 (ix2 r l) = _
  unfold hAll
  by_cases h : t.val < 16
  · rw [outsAt0_A m c t h (by omega)]
    dsimp only
    rw [outA4]
    refine (pay5_apply _ _ r l).trans ?_
    rw [first_row m c t h r, scale_row m c t]
  · rw [outsAt0_B m c t h (by omega)]
    dsimp only
    rw [outB4]
    refine (pay5_apply _ _ r l).trans ?_
    rw [second_row m c t (by omega) r, scale_row m c t]

theorem flushed5_apply (z : Fin 1) (n : Fin 16) (r : Fin 512) (d : Fin 128) : (dats m 0 c).flushed 5 t (ix4 z n r d)
    = vAll (m ((c : Thread nD τ).loc main_arg0)) (m ((c : Thread nD τ).loc main_arg1)) (m ((c : Thread nD τ).loc main_arg2)) (m ((c : Thread nD τ).loc main_arg3))
      (seq t) n (tok t r) d := by
  rw [Value.flushed5]
  show (outsAt0 m c t.val t.isLt).2 (ix4 z n r d) = _
  unfold vAll hAll
  by_cases h : t.val < 16
  · rw [outsAt0_A m c t h (by omega)]
    dsimp only
    rw [outA5]
    refine (pay6_apply _ _ _ r ⟨n.val * 128 + d.val, by omega⟩).trans ?_
    unfold prods
    rw [first_row m c t h r, scale_row m c t, weight_col m c t]
  · rw [outsAt0_B m c t h (by omega)]
    dsimp only
    rw [outB5]
    refine (pay6_apply _ _ _ r ⟨n.val * 128 + d.val, by omega⟩).trans ?_
    unfold prods
    rw [second_row m c t (by omega) r, scale_row m c t, weight_col m c t]

/-- The normalized rows: row `i` is token `i % 2048` of sequence `i / 2048`. -/
def rowsAll (xa : FVec Ideal S4x2048x2048 .f32) (xb : FVec Ideal S8x2048x2048 .f32) (g : FVec Ideal S2048 .f32) (i : Fin 24576) (l : Fin 2048) : EReal :=
  hAll xa xb g ⟨i.val / 2048, by omega⟩ ⟨i.val % 2048, by omega⟩ l

/-- Row `r` of block `t` among all the tokens. -/
abbrev row (r : Fin 512) : Fin 24576 := ⟨t.val * 512 + r.val, by have := lt48 t; omega⟩

theorem rowsAll_row (xa : FVec Ideal S4x2048x2048 .f32) (xb : FVec Ideal S8x2048x2048 .f32) (g : FVec Ideal S2048 .f32) (r : Fin 512) (l : Fin 2048) :
    hAll xa xb g (seq t) (tok t r) l = rowsAll xa xb g (row t r) l := by
  have e0 : seq t = ⟨(row t r).val / 2048, by have := lt48 t; omega⟩ := Fin.ext (by show t.val / 4 = (t.val * 512 + r.val) / 2048; omega)
  have e1 : tok t r = ⟨(row t r).val % 2048, by omega⟩ := Fin.ext (by show t.val % 4 * 512 + r.val = (t.val * 512 + r.val) % 2048; omega)
  rw [e0, e1]
  rfl

theorem final4_eq : (dats m 0 c).arrAt 4 cfg0.N = fun z =>
    rowsAll (m ((c : Thread nD τ).loc main_arg0)) (m ((c : Thread nD τ).loc main_arg1)) (m ((c : Thread nD τ).loc main_arg2)) (z 0) (z 1) := by
  refine (dats m 0 c).arrAt_eq_of_covers 4 _ (by decide +kernel) fun t hf y => ?_
  obtain ⟨r, l, rfl⟩ : ∃ (r : Fin 512) (l : Fin 2048), y = ix2 r l := ⟨y 0, y 1, funext fun a => by fin_cases a <;> rfl⟩
  refine (flushed4_apply m c t r l).trans ((rowsAll_row t _ _ _ r l).trans ?_)
  have e : ∀ a, win0_4.index t a = (![t.val, 0] : Fin 2 → ℕ) a := fun a => congrFun (idx4 t) a
  have e0 : (((cfg0.win 4).blk t).view.emb (ix2 r l) 0) = row t r := Fin.ext (by
    show win0_4.index t (0 : Fin 2) * 512 + 1 * r.val = t.val * 512 + r.val
    rw [e]; show t.val * 512 + _ = _; omega)
  have e1 : (((cfg0.win 4).blk t).view.emb (ix2 r l) 1) = l := Fin.ext (by
    show win0_4.index t (1 : Fin 2) * 2048 + 1 * l.val = l.val
    rw [e]; show 0 * 2048 + _ = _; omega)
  rw [e0, e1]

theorem final5_eq : (dats m 0 c).arrAt 5 cfg0.N = fun z =>
    vAll (m ((c : Thread nD τ).loc main_arg0)) (m ((c : Thread nD τ).loc main_arg1)) (m ((c : Thread nD τ).loc main_arg2)) (m ((c : Thread nD τ).loc main_arg3))
      (z 0) (z 1) (z 2) (z 3) := by
  refine (dats m 0 c).arrAt_eq_of_covers 5 _ (by decide +kernel) fun t hf y => ?_
  obtain ⟨z, n, r, d, rfl⟩ : ∃ (z : Fin 1) (n : Fin 16) (r : Fin 512) (d : Fin 128), y = ix4 z n r d := ⟨y 0, y 1, y 2, y 3, funext fun a => by fin_cases a <;> rfl⟩
  refine (flushed5_apply m c t z n r d).trans ?_
  have e : ∀ a, win0_5.index t a = (![t.val / 4, 0, t.val % 4, 0] : Fin 4 → ℕ) a := fun a => congrFun (idx5 t) a
  have e0 : (((cfg0.win 5).blk t).view.emb (ix4 z n r d) 0) = seq t := Fin.ext (by
    show win0_5.index t (0 : Fin 4) * 1 + 1 * z.val = t.val / 4
    rw [e]; show t.val / 4 * 1 + _ = _; omega)
  have e1 : (((cfg0.win 5).blk t).view.emb (ix4 z n r d) 1) = n := Fin.ext (by
    show win0_5.index t (1 : Fin 4) * 16 + 1 * n.val = n.val
    rw [e]; show 0 * 16 + _ = _; omega)
  have e2 : (((cfg0.win 5).blk t).view.emb (ix4 z n r d) 2) = tok t r := Fin.ext (by
    show win0_5.index t (2 : Fin 4) * 512 + 1 * r.val = t.val % 4 * 512 + r.val
    rw [e]; show t.val % 4 * 512 + _ = _; omega)
  have e3 : (((cfg0.win 5).blk t).view.emb (ix4 z n r d) 3) = d := Fin.ext (by
    show win0_5.index t (3 : Fin 4) * 128 + 1 * d.val = d.val
    rw [e]; show 0 * 128 + _ = _; omega)
  rw [e0, e1, e2, e3]

open Cert.Reference7Ideal.Read in
theorem reference_norm (xa : FVec Ideal S4x2048x2048 .f32) (xb : FVec Ideal S8x2048x2048 .f32) (g : FVec Ideal S2048 .f32) (b : Fin 12) (s u : Fin 2048) :
    val_main_v13 (F := Ideal) xa xb g (ix3 b s u) = hAll xa xb g b s u := by
  unfold hAll normed
  rw [show Groups.joined xa xb b s = fun u => _ from funext fun u =>
    (Groups.concat_apply xa xb Cert.Reference7Ideal.Facts₀.concatenates_S4x2048x2048_S8x2048x2048_S12x2048x2048_d0 b s u).symm]
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]

open Cert.Reference7Ideal.Read in
theorem reference_rows (xa : FVec Ideal S4x2048x2048 .f32) (xb : FVec Ideal S8x2048x2048 .f32) (g : FVec Ideal S2048 .f32) (i : Fin 24576) (l : Fin 2048) :
    val_main_v18 (F := Ideal) xa xb g (ix2 i l) = rowsAll xa xb g i l := by
  refine Eq.trans ?_ (reference_norm xa xb g ⟨i.val / 2048, by omega⟩ ⟨i.val % 2048, by omega⟩ l)
  unfold val_main_v18 val_main_v17
  generalize val_main_v13 (F := Ideal) xa xb g = y
  pointwise

open Cert.Reference7Ideal.Read in
theorem reference_values (xa : FVec Ideal S4x2048x2048 .f32) (xb : FVec Ideal S8x2048x2048 .f32) (g : FVec Ideal S2048 .f32) (w : FVec Ideal S2048x16384 .f32)
    (b : Fin 12) (n : Fin 16) (s : Fin 2048) (d : Fin 128) :
    val_main_v20 (F := Ideal) xa xb g w (ix4 b n s d) = vAll xa xb g w b n s d := by
  unfold vAll Groups.dot
  simp only [← reference_norm xa xb g]
  unfold val_main_v20 val_main_v19 val_main_v16 val_main_v15 val_main_v14
  generalize val_main_v13 (F := Ideal) xa xb g = y
  pointwise

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem value : Cert.algebraic_Kernel7Ideal_Reference7Ideal := by
  intro m g m' g' _ hagree
  refine ⟨fun c z => rowsAll (m ((c.tc : Thread nD τ).loc main_arg0)) (m ((c.tc : Thread nD τ).loc main_arg1)) (m ((c.tc : Thread nD τ).loc main_arg2)) (z 0) (z 1),
    fun c z => vAll (m ((c.tc : Thread nD τ).loc main_arg0)) (m ((c.tc : Thread nD τ).loc main_arg1)) (m ((c.tc : Thread nD τ).loc main_arg2))
      (m ((c.tc : Thread nD τ).loc main_arg3)) (z 0) (z 1) (z 2) (z 3), ?_, ?_⟩
  · exact (θ_run Cert.Kernel7Ideal.defs _ _).mono (fun _ h c => ⟨(h c).1.trans (final4_eq m c), (h c).2.1.trans (final5_eq m c), (h c).2.2⟩)
      (Cert.Kernel7Ideal.Value.run_blocks (F := Ideal) m g)
  · refine (θ_run Cert.Reference7Ideal.defs _ _).mono (fun _ h c => ⟨(h c).1.trans ?_, (h c).2.1.trans ?_, (h c).2.2⟩)
      (Cert.Reference7Ideal.Value.run (F := Ideal) m' g')
    · refine (Cert.Reference7Ideal.Read.val_main_v18_eq _ _ _).trans ?_
      rw [(hagree c).1, (hagree c).2.1, (hagree c).2.2.1]
      funext z
      obtain ⟨i, l, rfl⟩ : ∃ (i : Fin 24576) (l : Fin 2048), z = ix2 i l := ⟨z 0, z 1, funext fun a => by fin_cases a <;> rfl⟩
      exact reference_rows _ _ _ i l
    · refine (Cert.Reference7Ideal.Read.val_main_v20_eq _ _ _ _).trans ?_
      rw [(hagree c).1, (hagree c).2.1, (hagree c).2.2.1, (hagree c).2.2.2]
      funext z
      obtain ⟨b, n, s, d, rfl⟩ : ∃ (b : Fin 12) (n : Fin 16) (s : Fin 2048) (d : Fin 128), z = ix4 b n s d := ⟨z 0, z 1, z 2, z 3, funext fun a => by fin_cases a <;> rfl⟩
      exact reference_values _ _ _ _ b n s d

end Cert.Rows

end
-- ==== Proof.First.lean ====
/- The gated embedding of the first group of sequences. The kernel's work on a block is that of Proof/Ple.lean. -/
module

public import proofs.«01_k».proof.Defs
public import proofs.«01_k».proof.Proof.Ple
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.First
open Cert.Kernel8Ideal Cert.Kernel8Ideal.Gen Idealize.ShloMosaic Idealize.ShloMosaic.TcCoe Idealize.SL.Sem

variable (m : (ℓ : Loc nD τ sig) → Buf (Elt Ideal) ℓ) (c : Dev nD)

theorem v0_apply (i : Fin 24576) (l : Fin 2048) :
    V m c main_v0 (ix2 i l) = m ((c : Thread nD τ).loc main_arg0) (ix3 ⟨i.val / 2048, by omega⟩ ⟨i.val % 2048, by omega⟩ l) := by
  entry_read
  pointwise
theorem v1_apply (i : Fin 8192) (l : Fin 256) :
    V m c main_v1 (ix2 i l) = m ((c : Thread nD τ).loc main_arg1) (ix3 ⟨i.val / 2048, by omega⟩ ⟨i.val % 2048, by omega⟩ l) := by
  entry_read
  pointwise
theorem v2_apply (i l : Fin 2048) : V m c main_v2 (ix2 i l) = m ((c : Thread nD τ).loc main_arg3) (ix2 i l) := by
  entry_read
  pointwise
theorem v3_apply (i : Fin 256) (l : Fin 2048) : V m c main_v3 (ix2 i l) = m ((c : Thread nD τ).loc main_arg4) (ix2 i l) := by
  entry_read
  pointwise
theorem v4_apply (z : Fin 1) (l : Fin 2048) : V m c main_v4 (ix2 z l) = m ((c : Thread nD τ).loc main_arg2) (ix1 l) := by
  entry_read
  pointwise

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

variable (t : Fin cfg0.N)

theorem lt16 : t.val < 16 := t.isLt

theorem iblk0_apply (r : Fin 512) (l : Fin 2048) :
    iblk m c 0 t (ix2 r l) = V m c main_v0 (ix2 ⟨t.val * 512 + r.val, by have := lt16 t; omega⟩ l) := by
  blk_point [iblk, V, idx0 t]
theorem iblk1_apply (z : Fin 1) (l : Fin 2048) : iblk m c 1 t (ix2 z l) = V m c main_v4 (ix2 z l) := by
  blk_point [iblk, V, idx1 t]
theorem iblk2_apply (r l : Fin 2048) : iblk m c 2 t (ix2 r l) = V m c main_v2 (ix2 r l) := by
  blk_point [iblk, V, idx2 t]
theorem iblk3_apply (r : Fin 512) (l : Fin 256) :
    iblk m c 3 t (ix2 r l) = V m c main_v1 (ix2 ⟨t.val * 512 + r.val, by have := lt16 t; omega⟩ l) := by
  blk_point [iblk, V, idx3 t]
theorem iblk4_apply (r : Fin 256) (l : Fin 2048) : iblk m c 4 t (ix2 r l) = V m c main_v3 (ix2 r l) := by
  blk_point [iblk, V, idx4 t]

theorem out_apply (x0 : Vec Ideal S512x2048 .f32) (x1 : Vec Ideal S1x2048 .f32) (x2 : Vec Ideal S2048x2048 .bf16) (x3 : Vec Ideal S512x256 .f32) (x4 : Vec Ideal S256x2048 .bf16)
    (r : Fin 512) (l : Fin 2048) : out0_5 (F := Ideal) x0 x1 x2 x3 x4 (ix2 r l)
      = Ple.ple (fun u => x0 (ix2 r u)) (fun u => x1 (ix2 0 u)) (fun u => x2 (ix2 u l)) (fun u => x3 (ix2 r u)) (fun u => x4 (ix2 u l)) l :=
  Ple.out_apply x0 x1 x2 x3 x4 r l

/-- The result: row `i` is token `i % 2048` of sequence `i / 2048` of the first group, the first 4 sequences of the stack. -/
def pleAll (x : FVec Ideal S12x2048x2048 .f32) (p : FVec Ideal S4x2048x256 .f32) (g : FVec Ideal S2048 .f32) (w : FVec Ideal S2048x2048 .f32)
    (wp : FVec Ideal S256x2048 .f32) (i : Fin 8192) (l : Fin 2048) : EReal :=
  Ple.ple (fun u => x (ix3 ⟨i.val / 2048, by omega⟩ ⟨i.val % 2048, by omega⟩ u)) (fun u => g (ix1 u)) (fun u => w (ix2 u l))
    (fun u => p (ix3 ⟨i.val / 2048, by omega⟩ ⟨i.val % 2048, by omega⟩ u)) (fun u => wp (ix2 u l)) l

theorem flushed_apply (r : Fin 512) (l : Fin 2048) : (dats m 0 c).flushed 5 t (ix2 r l)
    = pleAll (m ((c : Thread nD τ).loc main_arg0)) (m ((c : Thread nD τ).loc main_arg1)) (m ((c : Thread nD τ).loc main_arg2))
      (m ((c : Thread nD τ).loc main_arg3)) (m ((c : Thread nD τ).loc main_arg4)) ⟨t.val * 512 + r.val, by have := lt16 t; omega⟩ l := by
  rw [Value.flushed5]
  refine (out_apply _ _ _ _ _ r l).trans ?_
  unfold pleAll
  congr 1 <;> funext u
  · exact (iblk0_apply m c t r u).trans (v0_apply m c _ u)
  · exact (iblk1_apply m c t _ u).trans (v4_apply m c _ u)
  · exact (iblk2_apply m c t _ _).trans (v2_apply m c _ _)
  · exact (iblk3_apply m c t r u).trans (v1_apply m c _ u)
  · exact (iblk4_apply m c t _ _).trans (v3_apply m c _ _)

theorem final_eq : (dats m 0 c).arrAt 5 cfg0.N = fun z =>
    pleAll (m ((c : Thread nD τ).loc main_arg0)) (m ((c : Thread nD τ).loc main_arg1)) (m ((c : Thread nD τ).loc main_arg2))
      (m ((c : Thread nD τ).loc main_arg3)) (m ((c : Thread nD τ).loc main_arg4)) (z 0) (z 1) := by
  refine (dats m 0 c).arrAt_eq_of_covers 5 _ (by decide +kernel) fun t hf y => ?_
  obtain ⟨r, l, rfl⟩ : ∃ (r : Fin 512) (l : Fin 2048), y = ix2 r l := ⟨y 0, y 1, funext fun a => by fin_cases a <;> rfl⟩
  refine (flushed_apply m c t r l).trans ?_
  have e : ∀ a, win0_5.index t a = (![t.val, 0] : Fin 2 → ℕ) a := fun a => congrFun (idx5 t) a
  have e0 : (((cfg0.win 5).blk t).view.emb (ix2 r l) 0) = (⟨t.val * 512 + r.val, by have := lt16 t; omega⟩ : Fin 8192) := Fin.ext (by
    show win0_5.index t (0 : Fin 2) * 512 + 1 * r.val = t.val * 512 + r.val
    rw [e]; show t.val * 512 + _ = _; omega)
  have e1 : (((cfg0.win 5).blk t).view.emb (ix2 r l) 1) = l := Fin.ext (by
    show win0_5.index t (1 : Fin 2) * 2048 + 1 * l.val = l.val
    rw [e]; show 0 * 2048 + _ = _; omega)
  rw [e0, e1]

open Cert.Reference8Ideal.Read in
theorem reference_apply (x : FVec Ideal S12x2048x2048 .f32) (p : FVec Ideal S4x2048x256 .f32) (g : FVec Ideal S2048 .f32) (w : FVec Ideal S2048x2048 .f32)
    (wp : FVec Ideal S256x2048 .f32) (i : Fin 8192) (l : Fin 2048) :
    val_main_v24 (F := Ideal) x p g w wp (ix2 i l) = pleAll x p g w wp i l := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_3]
  rfl

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value : Cert.algebraic_Kernel8Ideal_Reference8Ideal := by
  intro m g m' g' _ hagree
  refine ⟨fun c z => pleAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (z 0) (z 1), ?_, ?_⟩
  · exact (θ_run Cert.Kernel8Ideal.defs _ _).mono (fun _ h c => ⟨(h c).1.trans (final_eq m c), (h c).2⟩)
      (Cert.Kernel8Ideal.Value.run_blocks (F := Ideal) m g)
  · refine (θ_run Cert.Reference8Ideal.defs _ _).mono (fun _ h c => ⟨(h c).1.trans ?_, (h c).2⟩)
      (Cert.Reference8Ideal.Value.run (F := Ideal) m' g')
    refine (Cert.Reference8Ideal.Read.val_main_v24_eq _ _ _ _ _).trans ?_
    rw [(hagree c).1, (hagree c).2.1, (hagree c).2.2.1, (hagree c).2.2.2.1, (hagree c).2.2.2.2]
    funext z
    obtain ⟨i, l, rfl⟩ : ∃ (i : Fin 8192) (l : Fin 2048), z = ix2 i l := ⟨z 0, z 1, funext fun a => by fin_cases a <;> rfl⟩
    exact reference_apply _ _ _ _ _ i l

end Cert.First

end
-- ==== Proof.Turn.lean ====
/- One head of a projection, normalized and turned: what the keys and the queries share. -/
module

public import proofs.«01_k».proof.Defs
public import proofs.«01_k».proof.Proof.Groups
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Read
public import Idealize.ShloMosaic.Lib.KernelVsHost
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Turn
open Cert.Kernel9Ideal Cert.Kernel9Ideal.Gen Idealize.ShloMosaic Idealize.ShloMosaic.TcCoe Idealize.SL.Sem

/-- The elements of a head divided by the root of the mean of their squares. -/
def unit (w : Fin 128 → EReal) (e : Fin 128) : EReal :=
  w e * Ideal.rsqrt ((∑ i, w i * w i) * Ideal.ofBits .f32 0x3C000000#32 + Ideal.ofBits .f32 0x358637BD#32)

/-- A head turned with the tables `c`, `s1`, `s2`. -/
def turn (t c s1 s2 : Fin 128 → EReal) (d : Fin 128) : EReal :=
  t d * c d + t ⟨(d.val + 16) % 128, by omega⟩ * s1 d + t ⟨(d.val + 112) % 128, by omega⟩ * s2 d

theorem turn_congr {t t' c c' s1 s1' s2 s2' : Fin 128 → EReal} (ht : t = t') (hc : c = c') (h1 : s1 = s1') (h2 : s2 = s2') (d : Fin 128) :
    turn t c s1 s2 d = turn t' c' s1' s2' d := by rw [ht, hc, h1, h2]

/-- The matrix that adds up the columns of each of two heads. -/
abbrev Adds (E : FVec Ideal S256x256 .bf16) : Prop := ∀ j k : Fin 256, E (ix2 j k) = if j.val / 128 = k.val / 128 then 1 else 0

theorem sum_head (f : Fin 256 → EReal) (q : ℕ) (hq : q = 0 ∨ q = 128) (d : Fin 128) :
    ∑ j : Fin 256, f j * (if j.val / 128 = (q + d.val) / 128 then 1 else 0) = ∑ i : Fin 128, f ⟨q + i.val, by omega⟩ := by
  rw [show (∑ j : Fin 256, f j * (if j.val / 128 = (q + d.val) / 128 then (1 : EReal) else 0))
    = ∑ j : Fin (128 + 128), f j * (if j.val / 128 = (q + d.val) / 128 then (1 : EReal) else 0) from rfl, Fin.sum_univ_add]
  rcases hq with rfl | rfl
  · rw [Finset.sum_eq_zero (s := Finset.univ) (f := fun i : Fin 128 => f (Fin.natAdd 128 i) * _)]
    · rw [add_zero]
      refine Finset.sum_congr rfl fun i _ => ?_
      rw [if_pos (by show i.val / 128 = _; omega), mul_one]
      exact congrArg f (Fin.ext (by show i.val = 0 + i.val; omega))
    · intro i _
      rw [if_neg (by show ¬ (128 + i.val) / 128 = _; omega), mul_zero]
  · rw [Finset.sum_eq_zero (s := Finset.univ) (f := fun i : Fin 128 => f (Fin.castAdd 128 i) * _)]
    · rw [zero_add]
      refine Finset.sum_congr rfl fun i _ => ?_
      rw [if_pos (by show (128 + i.val) / 128 = _; omega), mul_one]
      rfl
    · intro i _
      rw [if_neg (by show ¬ i.val / 128 = _; omega), mul_zero]

/-- The sums of squares of two heads at the columns from `a` on, each at every column of its head. -/
def sums (E : FVec Ideal S256x256 .bf16) (yy : FVec Ideal S256x1024 .bf16) (a : ℕ) (ha : S256x1024.Slices ![0, a] S256x256) : FVec Ideal S256x256 .f32 :=
  matmul dot_S256x256_S256x256_S256x256_1_0_0_1_n_n none (extractStridedSlice S256x256 ![0, a] yy ha) E (constant S256x256 .f32 0x00000000#32)

theorem sums_apply (E : FVec Ideal S256x256 .bf16) (hE : Adds E) (yy : FVec Ideal S256x1024 .bf16) (a : ℕ) (ha : S256x1024.Slices ![0, a] S256x256) (ha' : a + 256 ≤ 1024)
    (q : ℕ) (hq : q = 0 ∨ q = 128) (r : Fin 256) (d : Fin 128) :
    sums E yy a ha (ix2 r ⟨q + d.val, by omega⟩) = ∑ i : Fin 128, yy (ix2 r ⟨a + (q + i.val), by omega⟩) := by
  refine Eq.trans ?_ (sum_head (fun j => yy (ix2 r ⟨a + j.val, by omega⟩)) q hq d)
  simp only [← hE _ ⟨q + d.val, by omega⟩]
  unfold sums
  pointwise

/-- The head at the columns from `o` on, normalized and scaled by `g`. -/
def scaled (g : FVec Ideal S1x128 .f32) (y : FVec Ideal S256x1024 .f32) (S : FVec Ideal S256x256 .f32) (o q : ℕ)
    (ho : S256x1024.Slices ![0, o] S256x128) (hq : S256x256.Slices ![0, q] S256x128) : FVec Ideal S256x128 .f32 :=
  mulf (mulf (extractStridedSlice S256x128 ![0, o] y ho)
    (rsqrt (addf (mulf (extractStridedSlice S256x128 ![0, q] S hq) (broadcast S256x128 (Scalar.ofBits .f32 0x3C000000#32)))
      (broadcast S256x128 (Scalar.ofBits .f32 0x358637BD#32))))) (broadcastTo S256x128 g broadcasts_S1x128_S256x128)

theorem scaled_apply (g : FVec Ideal S1x128 .f32) (y : FVec Ideal S256x1024 .f32) (S : FVec Ideal S256x256 .f32) (o q : ℕ)
    (ho : S256x1024.Slices ![0, o] S256x128) (hq : S256x256.Slices ![0, q] S256x128) (ho' : o + 128 ≤ 1024) (hq' : q + 128 ≤ 256) (r : Fin 256) (d : Fin 128) :
    scaled g y S o q ho hq (ix2 r d) = y (ix2 r ⟨o + d.val, by omega⟩)
      * Ideal.rsqrt (S (ix2 r ⟨q + d.val, by omega⟩) * Ideal.ofBits .f32 0x3C000000#32 + Ideal.ofBits .f32 0x358637BD#32) * g (ix2 0 d) := by
  unfold scaled
  pointwise

/-- The scaled head, turned, as the kernel stores it. -/
def turned (t c s1 s2 : FVec Ideal S256x128 .f32) : FVec Ideal S1x1x256x128 .bf16 :=
  shapeCast S1x1x256x128 (truncf .bf16 (addf (addf (mulf t c) (mulf (dynamicRotate 1 112#32 none t rotates_S256x128_d1) s1))
    (mulf (dynamicRotate 1 16#32 none t rotates_S256x128_d1) s2)) bitsLt_bf16_f32) shapeCasts_S256x128_S1x1x256x128

theorem rotated (n k : ℕ) (w : BitVec 32) (hw : w.toNat = n) (hn : n < 128) (hk : k + n = 128) (t : FVec Ideal S256x128 .f32) (r : Fin 256) (d : Fin 128) :
    dynamicRotate 1 w none t rotates_S256x128_d1 (ix2 r d) = t (ix2 r ⟨(d.val + k) % 128, by omega⟩) := by
  refine dynamicRotate_apply 1 w t rotates_S256x128_d1 _ _ fun b => ?_
  match b with
  | ⟨0, _⟩ => rfl
  | ⟨1, _⟩ =>
    rw [hw]
    show (d.val + k) % 128 = if (1 : Fin 2) = 1 then (d.val + 128 - n % 128) % 128 else d.val
    rw [if_pos rfl]
    omega

theorem turned_apply (t c s1 s2 : FVec Ideal S256x128 .f32) (z z' : Fin 1) (r : Fin 256) (d : Fin 128) :
    turned t c s1 s2 (ix4 z z' r d) = turn (fun e => t (ix2 r e)) (fun e => c (ix2 r e)) (fun e => s1 (ix2 r e)) (fun e => s2 (ix2 r e)) d := by
  unfold turn
  dsimp only
  rw [← rotated 112 16 112#32 rfl (by omega) (by omega) t r d, ← rotated 16 112 16#32 rfl (by omega) (by omega) t r d]
  unfold turned
  generalize dynamicRotate 1 112#32 none t rotates_S256x128_d1 = u
  generalize dynamicRotate 1 16#32 none t rotates_S256x128_d1 = v
  pointwise

/-- The head `n` of row `s` of the product of a block of rows with a block of columns. -/
def headRow (x0 : Vec Ideal S1x2048x2048 .bf16) (x1 : Vec Ideal S2048x1024 .bf16) (n : Fin 8) (s : Fin 2048) (e : Fin 128) : EReal :=
  Groups.dot (fun u => x0 (ix3 0 s u)) (fun u => x1 (ix2 u ⟨n.val * 128 + e.val, by omega⟩))

/-- The heads of a block, normalized, scaled and turned. -/
def heads (x0 : Vec Ideal S1x2048x2048 .bf16) (x1 : Vec Ideal S2048x1024 .bf16) (g : FVec Ideal S1x128 .f32) (x3 x4 x5 : Vec Ideal S2048x128 .f32) (n : Fin 8) (s : Fin 2048) (d : Fin 128) : EReal :=
  turn (fun e => unit (headRow x0 x1 n s) e * g (ix2 0 e)) (fun e => x3 (ix2 s e)) (fun e => x4 (ix2 s e)) (fun e => x5 (ix2 s e)) d

theorem pay7_apply (v59 : Vec Ideal S1x256x2048 .bf16) (v61 : Vec Ideal S2048x1024 .bf16) (r : Fin 256) (l : Fin 1024) :
    k0_pay7 (F := Ideal) v59 v61 (ix2 r l) = Groups.dot (fun u => v59 (ix3 0 r u)) (fun u => v61 (ix2 u l)) := by
  unfold k0_pay7 Groups.dot
  pointwise

theorem pay8_apply (v59 : Vec Ideal S1x256x2048 .bf16) (v61 : Vec Ideal S2048x1024 .bf16) (r : Fin 256) (l : Fin 1024) :
    k0_pay8 (F := Ideal) v59 v61 (ix2 r l) = k0_pay7 (F := Ideal) v59 v61 (ix2 r l) * k0_pay7 (F := Ideal) v59 v61 (ix2 r l) := by
  unfold k0_pay8
  generalize k0_pay7 (F := Ideal) v59 v61 = y
  pointwise

theorem table_apply (v : Vec Ideal S256x128 .f32) : k0_pay9 (F := Ideal) v = v := by
  unfold k0_pay9
  funext z
  obtain ⟨r, d, rfl⟩ : ∃ (r : Fin 256) (d : Fin 128), z = ix2 r d := ⟨z 0, z 1, funext fun a => by fin_cases a <;> rfl⟩
  pointwise

theorem zeros : (![0, 0] : Fin 2 → ℕ) = fun _ => 0 := by funext a; fin_cases a <;> rfl

theorem ld_w (x : Vec Ideal S2048x1024 .bf16) : View.ld x r0_2 = x := View.ld_unit_zero zeros _ x

theorem ld_table (x : Vec Ideal S2048x128 .f32) (b : ℕ) (hb : b + 256 ≤ 2048) (h : ∀ a, (![b, 0] : Fin 2 → ℕ) a + S256x128.size a ≤ S2048x128.size a) (r : Fin 256) (d : Fin 128) :
    View.ld x (Rect.unit (s := S2048x128) ![b, 0] S256x128.size h) (ix2 r d) = x (ix2 ⟨b + r.val, by omega⟩ d) := by
  show x ((Rect.unit (s := S2048x128) ![b, 0] S256x128.size h).emb (ix2 r d)) = _
  refine congrArg x (funext fun a => Fin.ext ?_)
  match a with
  | ⟨0, _⟩ => show b + 1 * r.val = b + r.val; omega
  | ⟨1, _⟩ => show 0 + 1 * d.val = d.val; omega

theorem ld_rows (x : Vec Ideal S1x2048x2048 .bf16) (b : ℕ) (hb : b + 256 ≤ 2048) (h : ∀ a, (![0, b, 0] : Fin 3 → ℕ) a + S1x256x2048.size a ≤ S1x2048x2048.size a) (r : Fin 256) (u : Fin 2048) :
    View.ld x (Rect.unit (s := S1x2048x2048) ![0, b, 0] S1x256x2048.size h) (ix3 0 r u) = x (ix3 0 ⟨b + r.val, by omega⟩ u) := by
  show x ((Rect.unit (s := S1x2048x2048) ![0, b, 0] S1x256x2048.size h).emb (ix3 0 r u)) = _
  refine congrArg x (funext fun a => Fin.ext ?_)
  match a with
  | ⟨0, _⟩ => rfl
  | ⟨1, _⟩ => show b + 1 * r.val = b + r.val; omega
  | ⟨2, _⟩ => show 0 + 1 * u.val = u.val; omega

/-- The heads as a block of the result. -/
def block (x0 : Vec Ideal S1x2048x2048 .bf16) (x1 : Vec Ideal S2048x1024 .bf16) (g : FVec Ideal S1x128 .f32) (x3 x4 x5 : Vec Ideal S2048x128 .f32) : Vec Ideal S1x8x2048x128 .bf16 :=
  fun y => heads x0 x1 g x3 x4 x5 (y 1) (y 2) (y 3)

/-- What is stored for head `n` of the rows from `b` on is that part of the block. -/
theorem piece (x0 : Vec Ideal S1x2048x2048 .bf16) (x1 : Vec Ideal S2048x1024 .bf16) (g : FVec Ideal S1x128 .f32) (x3 x4 x5 : Vec Ideal S2048x128 .f32)
    (E : FVec Ideal S256x256 .bf16) (hE : Adds E) (b : ℕ) (hb : b + 256 ≤ 2048)
    (h0 : ∀ a, (![0, b, 0] : Fin 3 → ℕ) a + S1x256x2048.size a ≤ S1x2048x2048.size a)
    (h3 : ∀ a, (![b, 0] : Fin 2 → ℕ) a + S256x128.size a ≤ S2048x128.size a)
    (n a o q : ℕ) (hn : n < 8) (ea : a = 256 * (n / 2)) (eo : o = 128 * n) (eq : q = 128 * (n % 2))
    (ha : S256x1024.Slices ![0, a] S256x256) (ho : S256x1024.Slices ![0, o] S256x128) (hq : S256x256.Slices ![0, q] S256x128)
    (h : ∀ a, (![0, n, b, 0] : Fin 4 → ℕ) a + S1x1x256x128.size a ≤ S1x8x2048x128.size a) (y : S1x1x256x128.Idx) :
    turned (scaled g (k0_pay7 (F := Ideal) (View.ld x0 (Rect.unit (s := S1x2048x2048) ![0, b, 0] S1x256x2048.size h0)) (View.ld x1 r0_2))
        (sums E (k0_pay8 (F := Ideal) (View.ld x0 (Rect.unit (s := S1x2048x2048) ![0, b, 0] S1x256x2048.size h0)) (View.ld x1 r0_2)) a ha) o q ho hq)
      (k0_pay9 (F := Ideal) (View.ld x3 (Rect.unit (s := S2048x128) ![b, 0] S256x128.size h3)))
      (k0_pay10 (F := Ideal) (View.ld x4 (Rect.unit (s := S2048x128) ![b, 0] S256x128.size h3)))
      (k0_pay11 (F := Ideal) (View.ld x5 (Rect.unit (s := S2048x128) ![b, 0] S256x128.size h3))) y
    = block x0 x1 g x3 x4 x5 ((Rect.unit (s := S1x8x2048x128) ![0, n, b, 0] S1x1x256x128.size h).emb y) := by
  obtain ⟨z, z', r, d, rfl⟩ : ∃ (z z' : Fin 1) (r : Fin 256) (d : Fin 128), y = ix4 z z' r d := ⟨y 0, y 1, y 2, y 3, funext fun a => by fin_cases a <;> rfl⟩
  have e1 : (Rect.unit (s := S1x8x2048x128) ![0, n, b, 0] S1x1x256x128.size h).emb (ix4 z z' r d) 1 = (⟨n, hn⟩ : Fin 8) :=
    Fin.ext (by show n + 1 * z'.val = n; omega)
  have e2 : (Rect.unit (s := S1x8x2048x128) ![0, n, b, 0] S1x1x256x128.size h).emb (ix4 z z' r d) 2 = (⟨b + r.val, by omega⟩ : Fin 2048) :=
    Fin.ext (by show b + 1 * r.val = b + r.val; omega)
  have e3 : (Rect.unit (s := S1x8x2048x128) ![0, n, b, 0] S1x1x256x128.size h).emb (ix4 z z' r d) 3 = d :=
    Fin.ext (by show 0 + 1 * d.val = d.val; omega)
  unfold block
  dsimp only
  rw [e1, e2, e3, turned_apply, ld_w]
  unfold heads
  have hq' : q = 0 ∨ q = 128 := by omega
  have hy : ∀ e : Fin 128, k0_pay7 (F := Ideal) (View.ld x0 (Rect.unit (s := S1x2048x2048) ![0, b, 0] S1x256x2048.size h0)) x1 (ix2 r ⟨o + e.val, by omega⟩)
      = headRow x0 x1 ⟨n, hn⟩ ⟨b + r.val, by omega⟩ e := fun e => by
    rw [pay7_apply]
    unfold headRow
    refine congrArg₂ Groups.dot (funext fun u => ld_rows x0 b hb h0 r u) (funext fun u => ?_)
    exact congrArg x1 (congrArg (ix2 u) (Fin.ext (by show o + e.val = n * 128 + e.val; omega)))
  refine turn_congr (funext fun e => ?_) (funext fun e => ?_) (funext fun e => ?_) (funext fun e => ?_) d
  · rw [scaled_apply _ _ _ o q ho hq (by omega) (by omega), sums_apply E hE _ a ha (by omega) q hq' r e, hy]
    unfold unit
    refine congrArg (fun w => headRow x0 x1 ⟨n, hn⟩ ⟨b + r.val, by omega⟩ e * Ideal.rsqrt (w * _ + _) * _) (Finset.sum_congr rfl fun i _ => ?_)
    rw [pay8_apply, ← hy]
    exact congrArg₂ _ (congrArg _ (congrArg (ix2 r) (Fin.ext (by show a + (q + i.val) = o + i.val; omega)))) (congrArg _ (congrArg (ix2 r) (Fin.ext (by show a + (q + i.val) = o + i.val; omega))))
  · exact (congrFun (table_apply _) _).trans (ld_table x3 b hb h3 r e)
  · exact (congrFun (table_apply _) _).trans (ld_table x4 b hb h3 r e)
  · exact (congrFun (table_apply _) _).trans (ld_table x5 b hb h3 r e)

/-- The number of the head of a column among two, as the kernel computes it. -/
def column (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 128#32 0#32)) (Scalar.extui (Scalar.cmpi .slt 128#32 0#32))))
      (IntOp.cmpi .ne (IntOp.remsi .vector v 128#32) 0#32))
    (IntOp.subi (IntOp.divsi .vector v 128#32) 1#32)
    (IntOp.divsi .vector v 128#32)

theorem column_eq : ∀ j : Fin 256, column (BitVec.ofNat 32 j.val) = if j.val / 128 = 0 then 0#32 else 1#32 := by decide +kernel

theorem same_column (j k : Fin 256) :
    Scalar.select (IntOp.cmpi .eq (column (BitVec.ofNat 32 j.val)) (column (BitVec.ofNat 32 k.val))) (1 : EReal) 0 = if j.val / 128 = k.val / 128 then 1 else 0 := by
  rw [column_eq, column_eq]
  have hj : j.val / 128 = 0 ∨ j.val / 128 = 1 := by omega
  have hk : k.val / 128 = 0 ∨ k.val / 128 = 1 := by omega
  rcases hj with hj | hj <;> rcases hk with hk | hk <;> rw [hj, hk] <;> rfl

/-- The cosines and sines of the angles of the tokens. -/
abbrev cosines : FVec Ideal S2048x16 .f32 := Cert.Reference9Ideal.Read.val_main_v28 (F := Ideal)
abbrev sines : FVec Ideal S2048x16 .f32 := Cert.Reference9Ideal.Read.val_main_v30 (F := Ideal)

/-- The kernel's three tables. -/
def tableC (cs : FVec Ideal S2048x16 .f32) : FVec Ideal S2048x128 .f32 :=
  concatenate S2048x128 1 [⟨S2048x16, cs⟩, ⟨S2048x16, cs⟩, ⟨S2048x96, (broadcastInDim S2048x96 ![] bcast_S_S2048x96 (constant S_ .f32 0x3F800000#32 : FVec Ideal S_ .f32) : FVec Ideal S2048x96 .f32)⟩]
    concatenates_S2048x16_S2048x16_S2048x96_S2048x128_d1
def table1 (sn : FVec Ideal S2048x16 .f32) : FVec Ideal S2048x128 .f32 :=
  concatenate S2048x128 1 [⟨S2048x16, (Host.negf sn : FVec Ideal S2048x16 .f32)⟩, ⟨S2048x112, (broadcastInDim S2048x112 ![] bcast_S_S2048x112 (constant S_ .f32 0x00000000#32 : FVec Ideal S_ .f32) : FVec Ideal S2048x112 .f32)⟩]
    concatenates_S2048x16_S2048x112_S2048x128_d1
def table2 (sn : FVec Ideal S2048x16 .f32) : FVec Ideal S2048x128 .f32 :=
  concatenate S2048x128 1 [⟨S2048x16, (broadcastInDim S2048x16 ![] bcast_S_S2048x16 (constant S_ .f32 0x00000000#32 : FVec Ideal S_ .f32) : FVec Ideal S2048x16 .f32)⟩, ⟨S2048x16, sn⟩,
    ⟨S2048x96, (broadcastInDim S2048x96 ![] bcast_S_S2048x96 (constant S_ .f32 0x00000000#32 : FVec Ideal S_ .f32) : FVec Ideal S2048x96 .f32)⟩]
    concatenates_S2048x16_S2048x16_S2048x96_S2048x128_d1

theorem tableC_apply (cs : FVec Ideal S2048x16 .f32) (s : Fin 2048) (d : Fin 128) :
    tableC cs (ix2 s d) = if h : d.val < 16 then cs (ix2 s ⟨d.val, h⟩) else if h' : d.val - 16 < 16 then cs (ix2 s ⟨d.val - 16, h'⟩) else 1 := by
  unfold tableC
  pointwise

theorem table1_apply (sn : FVec Ideal S2048x16 .f32) (s : Fin 2048) (d : Fin 128) :
    table1 sn (ix2 s d) = if h : d.val < 16 then -sn (ix2 s ⟨d.val, h⟩) else 0 := by
  unfold table1
  pointwise

theorem table2_apply (sn : FVec Ideal S2048x16 .f32) (s : Fin 2048) (d : Fin 128) :
    table2 sn (ix2 s d) = if h : d.val < 16 then 0 else if h' : d.val - 16 < 16 then sn (ix2 s ⟨d.val - 16, h'⟩) else 0 := by
  unfold table2
  pointwise

/-- A head with its first 32 elements turned in pairs, 16 apart. -/
def rope (cs sn : FVec Ideal S2048x16 .f32) (s : Fin 2048) (x : Fin 128 → EReal) (d : Fin 128) : EReal :=
  if h : d.val < 16 then x d * cs (ix2 s ⟨d.val, h⟩) - x ⟨16 + d.val, by omega⟩ * sn (ix2 s ⟨d.val, h⟩)
  else if h' : d.val - 16 < 16 then x d * cs (ix2 s ⟨d.val - 16, h'⟩) + x ⟨d.val - 16, by omega⟩ * sn (ix2 s ⟨d.val - 16, h'⟩)
  else x d

theorem turn_eq (cs sn : FVec Ideal S2048x16 .f32) (s : Fin 2048) (x : Fin 128 → EReal) (d : Fin 128) :
    turn x (fun e => tableC cs (ix2 s e)) (fun e => table1 sn (ix2 s e)) (fun e => table2 sn (ix2 s e)) d = rope cs sn s x d := by
  unfold turn rope
  simp only [tableC_apply, table1_apply, table2_apply]
  by_cases h : d.val < 16
  · simp only [dif_pos h, mul_zero, add_zero, mul_neg, sub_eq_add_neg]
    exact congrArg (fun e => _ + -(x e * _)) (Fin.ext (by show (d.val + 16) % 128 = 16 + d.val; omega))
  · by_cases h' : d.val - 16 < 16
    · simp only [dif_neg h, dif_pos h', mul_zero, add_zero]
      exact congrArg (fun e => _ + x e * _) (Fin.ext (by show (d.val + 112) % 128 = d.val - 16; omega))
    · simp only [dif_neg h, dif_neg h', mul_zero, add_zero, mul_one]

theorem rope_gather (cs sn : FVec Ideal S2048x16 .f32) (s : Fin 2048) (x : Fin 128 → EReal) (d : Fin 128) :
    (if h : d.val < 16 then x d * cs (ix2 s ⟨d.val, h⟩) - x ⟨16 + d.val, by omega⟩ * sn (ix2 s ⟨d.val, h⟩)
      else if h' : d.val - 16 < 16 then x ⟨16 + (d.val - 16), by omega⟩ * cs (ix2 s ⟨d.val - 16, h'⟩) + x ⟨d.val - 16, by omega⟩ * sn (ix2 s ⟨d.val - 16, h'⟩)
      else x ⟨32 + (d.val - 16 - 16), by omega⟩) = rope cs sn s x d := by
  unfold rope
  split_ifs with h h'
  · rfl
  · exact congrArg (fun e => x e * _ + _) (Fin.ext (by show 16 + (d.val - 16) = d.val; omega))
  · exact congrArg x (Fin.ext (by show 32 + (d.val - 16 - 16) = d.val; omega))

/-- Turning commutes with a nonnegative finite factor. -/
theorem rope_mul (cs sn : FVec Ideal S2048x16 .f32) (s : Fin 2048) (x : Fin 128 → EReal) (k : EReal) (h0 : 0 ≤ k) (hk : k ≠ ⊤) (d : Fin 128) :
    rope cs sn s (fun e => x e * k) d = rope cs sn s x d * k := by
  unfold rope
  split_ifs
  · rw [sub_eq_add_neg, sub_eq_add_neg, EReal.right_distrib_of_nonneg_of_ne_top h0 hk, EReal.neg_mul, mul_right_comm, mul_right_comm _ k]
  · rw [EReal.right_distrib_of_nonneg_of_ne_top h0 hk, mul_right_comm, mul_right_comm _ k]
  · rfl

/-- The mean of 128 squares, by division or by multiplication with its inverse. -/
theorem div_128 (x : EReal) : Ideal.div x (Ideal.ofBits .f32 0x43000000#32) = x * Ideal.ofBits .f32 0x3C000000#32 := by
  have h : Ideal.ofBits .f32 0x43000000#32 = ((128 : ℝ) : EReal) := by
    simp [Ideal.ofBits, Ideal.ieee, -EReal.coe_mul]; norm_num
  have h' : Ideal.ofBits .f32 0x3C000000#32 = ((1 / 128 : ℝ) : EReal) := by
    simp [Ideal.ofBits, Ideal.ieee, -EReal.coe_mul]; norm_num
  rw [h, h', Ideal.div_coe (by norm_num)]

theorem mul_one_bits (x : EReal) : x * Ideal.ofBits .f32 0x3F800000#32 = x := by
  rw [Ideal.ofBits_one_f32, mul_one]

/-- Head `n` of the columns from `o` on of the projection of token `s` of sequence `b`. -/
def head (h : FVec Ideal S12x2048x2048 .f32) (w : FVec Ideal S2048x16384 .f32) (o : ℕ) (ho : o + 2048 ≤ 16384) (b : Fin 12) (n : Fin 16) (s : Fin 2048) (e : Fin 128) : EReal :=
  Groups.dot (fun u => h (ix3 b s u)) (fun u => w (ix2 u ⟨o + (n.val * 128 + e.val), by omega⟩))

/-- The head, normalized, scaled and turned. -/
def result (h : FVec Ideal S12x2048x2048 .f32) (w : FVec Ideal S2048x16384 .f32) (o : ℕ) (ho : o + 2048 ≤ 16384) (g : Fin 128 → EReal) (b : Fin 12) (n : Fin 16) (s : Fin 2048) (d : Fin 128) : EReal :=
  rope cosines sines s (fun e => unit (head h w o ho b n s) e * g e) d

end Cert.Turn

end
-- ==== Proof.Keys.lean ====
/- The keys: the projection's heads, normalized, scaled and turned. -/
module

public import proofs.«01_k».proof.Defs
public import proofs.«01_k».proof.Proof.Turn
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Keys
open Cert.Kernel9Ideal Cert.Kernel9Ideal.Gen Idealize.ShloMosaic Idealize.ShloMosaic.TcCoe Idealize.SL.Sem

theorem adds (x0 : Vec Ideal S1x2048x2048 .bf16) (x1 : Vec Ideal S2048x1024 .bf16) (x2 : Vec Ideal S1x128 .f32) (x3 x4 x5 : Vec Ideal S2048x128 .f32) :
    Turn.Adds (k0_pay199 x0 x1 x2 x3 x4 x5) := by
  intro j k
  unfold k0_pay199 k0_pay6 k0_pay198 k0_pay197 k0_pay196 k0_pay194 k0_pay5 k0_pay4 k0_pay3
  pointwise
  exact Turn.same_column j k

theorem scale_apply (x2 : Vec Ideal S1x128 .f32) (d : Fin 128) : k0_pay2 (F := Ideal) (View.ld x2 r0_0) (ix2 0 d) = x2 (ix2 0 d) * Ideal.ofBits .f32 0x3F800000#32 := by
  rw [show View.ld x2 r0_0 = x2 from View.ld_unit_zero Turn.zeros _ x2]
  unfold k0_pay2
  pointwise

theorem out_eq (x0 : Vec Ideal S1x2048x2048 .bf16) (x1 : Vec Ideal S2048x1024 .bf16) (x2 : Vec Ideal S1x128 .f32) (x3 x4 x5 : Vec Ideal S2048x128 .f32) (y : S1x8x2048x128.Idx) :
    out0_6 x0 x1 x2 x3 x4 x5 y = Turn.block x0 x1 (k0_pay2 (View.ld x2 r0_0)) x3 x4 x5 y := by
  unfold out0_6
  refine View.canon_apply_of_pieces (Turn.block x0 x1 (k0_pay2 (View.ld x2 r0_0)) x3 x4 x5) _ ?_ y ?_
  rotate_left
  · exact cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  simp only [List.forall_mem_cons]
  have p := Turn.piece x0 x1 (k0_pay2 (View.ld x2 r0_0)) x3 x4 x5 _ (adds x0 x1 x2 x3 x4 x5)
  have c0 := p 0 (by omega) inb_S1x2048x2048_S1x256x2048_0_0_0 inb_S2048x128_S256x128_0_0
  have c1 := p 256 (by omega) inb_S1x2048x2048_S1x256x2048_0_256_0 inb_S2048x128_S256x128_256_0
  have c2 := p 512 (by omega) inb_S1x2048x2048_S1x256x2048_0_512_0 inb_S2048x128_S256x128_512_0
  have c3 := p 768 (by omega) inb_S1x2048x2048_S1x256x2048_0_768_0 inb_S2048x128_S256x128_768_0
  have c4 := p 1024 (by omega) inb_S1x2048x2048_S1x256x2048_0_1024_0 inb_S2048x128_S256x128_1024_0
  have c5 := p 1280 (by omega) inb_S1x2048x2048_S1x256x2048_0_1280_0 inb_S2048x128_S256x128_1280_0
  have c6 := p 1536 (by omega) inb_S1x2048x2048_S1x256x2048_0_1536_0 inb_S2048x128_S256x128_1536_0
  have c7 := p 1792 (by omega) inb_S1x2048x2048_S1x256x2048_0_1792_0 inb_S2048x128_S256x128_1792_0
  exact ⟨c7 7 768 896 128 (by omega) rfl rfl rfl slices_S256x1024_o0_768_S256x256 slices_S256x1024_o0_896_S256x128 slices_S256x256_o0_128_S256x128 inb_S1x8x2048x128_S1x1x256x128_0_7_1792_0,
    c7 6 768 768 0 (by omega) rfl rfl rfl slices_S256x1024_o0_768_S256x256 slices_S256x1024_o0_768_S256x128 slices_S256x256_o0_0_S256x128 inb_S1x8x2048x128_S1x1x256x128_0_6_1792_0,
    c7 5 512 640 128 (by omega) rfl rfl rfl slices_S256x1024_o0_512_S256x256 slices_S256x1024_o0_640_S256x128 slices_S256x256_o0_128_S256x128 inb_S1x8x2048x128_S1x1x256x128_0_5_1792_0,
    c7 4 512 512 0 (by omega) rfl rfl rfl slices_S256x1024_o0_512_S256x256 slices_S256x1024_o0_512_S256x128 slices_S256x256_o0_0_S256x128 inb_S1x8x2048x128_S1x1x256x128_0_4_1792_0,
    c7 3 256 384 128 (by omega) rfl rfl rfl slices_S256x1024_o0_256_S256x256 slices_S256x1024_o0_384_S256x128 slices_S256x256_o0_128_S256x128 inb_S1x8x2048x128_S1x1x256x128_0_3_1792_0,
    c7 2 256 256 0 (by omega) rfl rfl rfl slices_S256x1024_o0_256_S256x256 slices_S256x1024_o0_256_S256x128 slices_S256x256_o0_0_S256x128 inb_S1x8x2048x128_S1x1x256x128_0_2_1792_0,
    c7 1 0 128 128 (by omega) rfl rfl rfl slices_S256x1024_o0_0_S256x256 slices_S256x1024_o0_128_S256x128 slices_S256x256_o0_128_S256x128 inb_S1x8x2048x128_S1x1x256x128_0_1_1792_0,
    c7 0 0 0 0 (by omega) rfl rfl rfl slices_S256x1024_o0_0_S256x256 slices_S256x1024_o0_0_S256x128 slices_S256x256_o0_0_S256x128 inb_S1x8x2048x128_S1x1x256x128_0_0_1792_0,
    c6 7 768 896 128 (by omega) rfl rfl rfl slices_S256x1024_o0_768_S256x256 slices_S256x1024_o0_896_S256x128 slices_S256x256_o0_128_S256x128 inb_S1x8x2048x128_S1x1x256x128_0_7_1536_0,
    c6 6 768 768 0 (by omega) rfl rfl rfl slices_S256x1024_o0_768_S256x256 slices_S256x1024_o0_768_S256x128 slices_S256x256_o0_0_S256x128 inb_S1x8x2048x128_S1x1x256x128_0_6_1536_0,
    c6 5 512 640 128 (by omega) rfl rfl rfl slices_S256x1024_o0_512_S256x256 slices_S256x1024_o0_640_S256x128 slices_S256x256_o0_128_S256x128 inb_S1x8x2048x128_S1x1x256x128_0_5_1536_0,
    c6 4 512 512 0 (by omega) rfl rfl rfl slices_S256x1024_o0_512_S256x256 slices_S256x1024_o0_512_S256x128 slices_S256x256_o0_0_S256x128 inb_S1x8x2048x128_S1x1x256x128_0_4_1536_0,
    c6 3 256 384 128 (by omega) rfl rfl rfl slices_S256x1024_o0_256_S256x256 slices_S256x1024_o0_384_S256x128 slices_S256x256_o0_128_S256x128 inb_S1x8x2048x128_S1x1x256x128_0_3_1536_0,
    c6 2 256 256 0 (by omega) rfl rfl rfl slices_S256x1024_o0_256_S256x256 slices_S256x1024_o0_256_S256x128 slices_S256x256_o0_0_S256x128 inb_S1x8x2048x128_S1x1x256x128_0_2_1536_0,
    c6 1 0 128 128 (by omega) rfl rfl rfl slices_S256x1024_o0_0_S256x256 slices_S256x1024_o0_128_S256x128 slices_S256x256_o0_128_S256x128 inb_S1x8x2048x128_S1x1x256x128_0_1_1536_0,
    c6 0 0 0 0 (by omega) rfl rfl rfl slices_S256x1024_o0_0_S256x256 slices_S256x1024_o0_0_S256x128 slices_S256x256_o0_0_S256x128 inb_S1x8x2048x128_S1x1x256x128_0_0_1536_0,
    c5 7 768 896 128 (by omega) rfl rfl rfl slices_S256x1024_o0_768_S256x256 slices_S256x1024_o0_896_S256x128 slices_S256x256_o0_128_S256x128 inb_S1x8x2048x128_S1x1x256x128_0_7_1280_0,
    c5 6 768 768 0 (by omega) rfl rfl rfl slices_S256x1024_o0_768_S256x256 slices_S256x1024_o0_768_S256x128 slices_S256x256_o0_0_S256x128 inb_S1x8x2048x128_S1x1x256x128_0_6_1280_0,
    c5 5 512 640 128 (by omega) rfl rfl rfl slices_S256x1024_o0_512_S256x256 slices_S256x1024_o0_640_S256x128 slices_S256x256_o0_128_S256x128 inb_S1x8x2048x128_S1x1x256x128_0_5_1280_0,
    c5 4 512 512 0 (by omega) rfl rfl rfl slices_S256x1024_o0_512_S256x256 slices_S256x1024_o0_512_S256x128 slices_S256x256_o0_0_S256x128 inb_S1x8x2048x128_S1x1x256x128_0_4_1280_0,
    c5 3 256 384 128 (by omega) rfl rfl rfl slices_S256x1024_o0_256_S256x256 slices_S256x1024_o0_384_S256x128 slices_S256x256_o0_128_S256x128 inb_S1x8x2048x128_S1x1x256x128_0_3_1280_0,
    c5 2 256 256 0 (by omega) rfl rfl rfl slices_S256x1024_o0_256_S256x256 slices_S256x1024_o0_256_S256x128 slices_S256x256_o0_0_S256x128 inb_S1x8x2048x128_S1x1x256x128_0_2_1280_0,
    c5 1 0 128 128 (by omega) rfl rfl rfl slices_S256x1024_o0_0_S256x256 slices_S256x1024_o0_128_S256x128 slices_S256x256_o0_128_S256x128 inb_S1x8x2048x128_S1x1x256x128_0_1_1280_0,
    c5 0 0 0 0 (by omega) rfl rfl rfl slices_S256x1024_o0_0_S256x256 slices_S256x1024_o0_0_S256x128 slices_S256x256_o0_0_S256x128 inb_S1x8x2048x128_S1x1x256x128_0_0_1280_0,
    c4 7 768 896 128 (by omega) rfl rfl rfl slices_S256x1024_o0_768_S256x256 slices_S256x1024_o0_896_S256x128 slices_S256x256_o0_128_S256x128 inb_S1x8x2048x128_S1x1x256x128_0_7_1024_0,
    c4 6 768 768 0 (by omega) rfl rfl rfl slices_S256x1024_o0_768_S256x256 slices_S256x1024_o0_768_S256x128 slices_S256x256_o0_0_S256x128 inb_S1x8x2048x128_S1x1x256x128_0_6_1024_0,
    c4 5 512 640 128 (by omega) rfl rfl rfl slices_S256x1024_o0_512_S256x256 slices_S256x1024_o0_640_S256x128 slices_S256x256_o0_128_S256x128 inb_S1x8x2048x128_S1x1x256x128_0_5_1024_0,
    c4 4 512 512 0 (by omega) rfl rfl rfl slices_S256x1024_o0_512_S256x256 slices_S256x1024_o0_512_S256x128 slices_S256x256_o0_0_S256x128 inb_S1x8x2048x128_S1x1x256x128_0_4_1024_0,
    c4 3 256 384 128 (by omega) rfl rfl rfl slices_S256x1024_o0_256_S256x256 slices_S256x1024_o0_384_S256x128 slices_S256x256_o0_128_S256x128 inb_S1x8x2048x128_S1x1x256x128_0_3_1024_0,
    c4 2 256 256 0 (by omega) rfl rfl rfl slices_S256x1024_o0_256_S256x256 slices_S256x1024_o0_256_S256x128 slices_S256x256_o0_0_S256x128 inb_S1x8x2048x128_S1x1x256x128_0_2_1024_0,
    c4 1 0 128 128 (by omega) rfl rfl rfl slices_S256x1024_o0_0_S256x256 slices_S256x1024_o0_128_S256x128 slices_S256x256_o0_128_S256x128 inb_S1x8x2048x128_S1x1x256x128_0_1_1024_0,
    c4 0 0 0 0 (by omega) rfl rfl rfl slices_S256x1024_o0_0_S256x256 slices_S256x1024_o0_0_S256x128 slices_S256x256_o0_0_S256x128 inb_S1x8x2048x128_S1x1x256x128_0_0_1024_0,
    c3 7 768 896 128 (by omega) rfl rfl rfl slices_S256x1024_o0_768_S256x256 slices_S256x1024_o0_896_S256x128 slices_S256x256_o0_128_S256x128 inb_S1x8x2048x128_S1x1x256x128_0_7_768_0,
    c3 6 768 768 0 (by omega) rfl rfl rfl slices_S256x1024_o0_768_S256x256 slices_S256x1024_o0_768_S256x128 slices_S256x256_o0_0_S256x128 inb_S1x8x2048x128_S1x1x256x128_0_6_768_0,
    c3 5 512 640 128 (by omega) rfl rfl rfl slices_S256x1024_o0_512_S256x256 slices_S256x1024_o0_640_S256x128 slices_S256x256_o0_128_S256x128 inb_S1x8x2048x128_S1x1x256x128_0_5_768_0,
    c3 4 512 512 0 (by omega) rfl rfl rfl slices_S256x1024_o0_512_S256x256 slices_S256x1024_o0_512_S256x128 slices_S256x256_o0_0_S256x128 inb_S1x8x2048x128_S1x1x256x128_0_4_768_0,
    c3 3 256 384 128 (by omega) rfl rfl rfl slices_S256x1024_o0_256_S256x256 slices_S256x1024_o0_384_S256x128 slices_S256x256_o0_128_S256x128 inb_S1x8x2048x128_S1x1x256x128_0_3_768_0,
    c3 2 256 256 0 (by omega) rfl rfl rfl slices_S256x1024_o0_256_S256x256 slices_S256x1024_o0_256_S256x128 slices_S256x256_o0_0_S256x128 inb_S1x8x2048x128_S1x1x256x128_0_2_768_0,
    c3 1 0 128 128 (by omega) rfl rfl rfl slices_S256x1024_o0_0_S256x256 slices_S256x1024_o0_128_S256x128 slices_S256x256_o0_128_S256x128 inb_S1x8x2048x128_S1x1x256x128_0_1_768_0,
    c3 0 0 0 0 (by omega) rfl rfl rfl slices_S256x1024_o0_0_S256x256 slices_S256x1024_o0_0_S256x128 slices_S256x256_o0_0_S256x128 inb_S1x8x2048x128_S1x1x256x128_0_0_768_0,
    c2 7 768 896 128 (by omega) rfl rfl rfl slices_S256x1024_o0_768_S256x256 slices_S256x1024_o0_896_S256x128 slices_S256x256_o0_128_S256x128 inb_S1x8x2048x128_S1x1x256x128_0_7_512_0,
    c2 6 768 768 0 (by omega) rfl rfl rfl slices_S256x1024_o0_768_S256x256 slices_S256x1024_o0_768_S256x128 slices_S256x256_o0_0_S256x128 inb_S1x8x2048x128_S1x1x256x128_0_6_512_0,
    c2 5 512 640 128 (by omega) rfl rfl rfl slices_S256x1024_o0_512_S256x256 slices_S256x1024_o0_640_S256x128 slices_S256x256_o0_128_S256x128 inb_S1x8x2048x128_S1x1x256x128_0_5_512_0,
    c2 4 512 512 0 (by omega) rfl rfl rfl slices_S256x1024_o0_512_S256x256 slices_S256x1024_o0_512_S256x128 slices_S256x256_o0_0_S256x128 inb_S1x8x2048x128_S1x1x256x128_0_4_512_0,
    c2 3 256 384 128 (by omega) rfl rfl rfl slices_S256x1024_o0_256_S256x256 slices_S256x1024_o0_384_S256x128 slices_S256x256_o0_128_S256x128 inb_S1x8x2048x128_S1x1x256x128_0_3_512_0,
    c2 2 256 256 0 (by omega) rfl rfl rfl slices_S256x1024_o0_256_S256x256 slices_S256x1024_o0_256_S256x128 slices_S256x256_o0_0_S256x128 inb_S1x8x2048x128_S1x1x256x128_0_2_512_0,
    c2 1 0 128 128 (by omega) rfl rfl rfl slices_S256x1024_o0_0_S256x256 slices_S256x1024_o0_128_S256x128 slices_S256x256_o0_128_S256x128 inb_S1x8x2048x128_S1x1x256x128_0_1_512_0,
    c2 0 0 0 0 (by omega) rfl rfl rfl slices_S256x1024_o0_0_S256x256 slices_S256x1024_o0_0_S256x128 slices_S256x256_o0_0_S256x128 inb_S1x8x2048x128_S1x1x256x128_0_0_512_0,
    c1 7 768 896 128 (by omega) rfl rfl rfl slices_S256x1024_o0_768_S256x256 slices_S256x1024_o0_896_S256x128 slices_S256x256_o0_128_S256x128 inb_S1x8x2048x128_S1x1x256x128_0_7_256_0,
    c1 6 768 768 0 (by omega) rfl rfl rfl slices_S256x1024_o0_768_S256x256 slices_S256x1024_o0_768_S256x128 slices_S256x256_o0_0_S256x128 inb_S1x8x2048x128_S1x1x256x128_0_6_256_0,
    c1 5 512 640 128 (by omega) rfl rfl rfl slices_S256x1024_o0_512_S256x256 slices_S256x1024_o0_640_S256x128 slices_S256x256_o0_128_S256x128 inb_S1x8x2048x128_S1x1x256x128_0_5_256_0,
    c1 4 512 512 0 (by omega) rfl rfl rfl slices_S256x1024_o0_512_S256x256 slices_S256x1024_o0_512_S256x128 slices_S256x256_o0_0_S256x128 inb_S1x8x2048x128_S1x1x256x128_0_4_256_0,
    c1 3 256 384 128 (by omega) rfl rfl rfl slices_S256x1024_o0_256_S256x256 slices_S256x1024_o0_384_S256x128 slices_S256x256_o0_128_S256x128 inb_S1x8x2048x128_S1x1x256x128_0_3_256_0,
    c1 2 256 256 0 (by omega) rfl rfl rfl slices_S256x1024_o0_256_S256x256 slices_S256x1024_o0_256_S256x128 slices_S256x256_o0_0_S256x128 inb_S1x8x2048x128_S1x1x256x128_0_2_256_0,
    c1 1 0 128 128 (by omega) rfl rfl rfl slices_S256x1024_o0_0_S256x256 slices_S256x1024_o0_128_S256x128 slices_S256x256_o0_128_S256x128 inb_S1x8x2048x128_S1x1x256x128_0_1_256_0,
    c1 0 0 0 0 (by omega) rfl rfl rfl slices_S256x1024_o0_0_S256x256 slices_S256x1024_o0_0_S256x128 slices_S256x256_o0_0_S256x128 inb_S1x8x2048x128_S1x1x256x128_0_0_256_0,
    c0 7 768 896 128 (by omega) rfl rfl rfl slices_S256x1024_o0_768_S256x256 slices_S256x1024_o0_896_S256x128 slices_S256x256_o0_128_S256x128 inb_S1x8x2048x128_S1x1x256x128_0_7_0_0,
    c0 6 768 768 0 (by omega) rfl rfl rfl slices_S256x1024_o0_768_S256x256 slices_S256x1024_o0_768_S256x128 slices_S256x256_o0_0_S256x128 inb_S1x8x2048x128_S1x1x256x128_0_6_0_0,
    c0 5 512 640 128 (by omega) rfl rfl rfl slices_S256x1024_o0_512_S256x256 slices_S256x1024_o0_640_S256x128 slices_S256x256_o0_128_S256x128 inb_S1x8x2048x128_S1x1x256x128_0_5_0_0,
    c0 4 512 512 0 (by omega) rfl rfl rfl slices_S256x1024_o0_512_S256x256 slices_S256x1024_o0_512_S256x128 slices_S256x256_o0_0_S256x128 inb_S1x8x2048x128_S1x1x256x128_0_4_0_0,
    c0 3 256 384 128 (by omega) rfl rfl rfl slices_S256x1024_o0_256_S256x256 slices_S256x1024_o0_384_S256x128 slices_S256x256_o0_128_S256x128 inb_S1x8x2048x128_S1x1x256x128_0_3_0_0,
    c0 2 256 256 0 (by omega) rfl rfl rfl slices_S256x1024_o0_256_S256x256 slices_S256x1024_o0_256_S256x128 slices_S256x256_o0_0_S256x128 inb_S1x8x2048x128_S1x1x256x128_0_2_0_0,
    c0 1 0 128 128 (by omega) rfl rfl rfl slices_S256x1024_o0_0_S256x256 slices_S256x1024_o0_128_S256x128 slices_S256x256_o0_128_S256x128 inb_S1x8x2048x128_S1x1x256x128_0_1_0_0,
    c0 0 0 0 0 (by omega) rfl rfl rfl slices_S256x1024_o0_0_S256x256 slices_S256x1024_o0_0_S256x128 slices_S256x256_o0_0_S256x128 inb_S1x8x2048x128_S1x1x256x128_0_0_0_0,
    fun _ h => absurd h List.not_mem_nil⟩

/-- The keys: element `d` of head `n` of token `s` of sequence `b`. -/
def keys (h : FVec Ideal S12x2048x2048 .f32) (w : FVec Ideal S2048x16384 .f32) (g : FVec Ideal S128 .f32) (b : Fin 12) (n : Fin 16) (s : Fin 2048) (d : Fin 128) : EReal :=
  Turn.result h w 2048 (by norm_num) (fun e => g (ix1 e)) b n s d

variable (m : (ℓ : Loc nD τ sig) → Buf (Elt Ideal) ℓ) (c : Dev nD)

theorem v0_apply (b : Fin 12) (s u : Fin 2048) : V m c main_v0 (ix3 b s u) = m ((c : Thread nD τ).loc main_arg0) (ix3 b s u) := by
  entry_read
  pointwise
theorem v1_apply (u : Fin 2048) (k : Fin 16384) : V m c main_v1 (ix2 u k) = m ((c : Thread nD τ).loc main_arg1) (ix2 u k) := by
  entry_read
  pointwise
theorem v2_apply (d : Fin 128) : V m c main_v2 (ix2 0 d) = m ((c : Thread nD τ).loc main_arg2) (ix1 d) := by
  entry_read
  pointwise

theorem v18_eq : V m c main_v18 = Turn.tableC Turn.cosines := rfl
theorem v21_eq : V m c main_v21 = Turn.table1 Turn.sines := rfl
theorem v24_eq : V m c main_v24 = Turn.table2 Turn.sines := rfl

theorem idx0 : ∀ t : Fin cfg0.N, win0_0.index t = ![t.val / 2, 0, 0] := (by decide +kernel : ∀ t : Fin grid0.N, win0_0.index t = ![t.val / 2, 0, 0])
theorem idx1 : ∀ t : Fin cfg0.N, win0_1.index t = ![0, 2 + t.val % 2] := (by decide +kernel : ∀ t : Fin grid0.N, win0_1.index t = ![0, 2 + t.val % 2])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 2, t.val % 2, 0, 0] := (by decide +kernel : ∀ t : Fin grid0.N, win0_6.index t = ![t.val / 2, t.val % 2, 0, 0])

variable (t : Fin cfg0.N)

theorem lt24 : t.val < 24 := t.isLt

/-- The sequence of block `t`, and the `k`-th of its heads. -/
abbrev seq : Fin 12 := ⟨t.val / 2, by have := lt24 t; omega⟩
abbrev hd (k : Fin 8) : Fin 16 := ⟨t.val % 2 * 8 + k.val, by omega⟩

theorem iblk0_apply (s u : Fin 2048) : iblk m c 0 t (ix3 0 s u) = V m c main_v0 (ix3 (seq t) s u) := by
  blk_point [iblk, V, idx0 t]
theorem iblk1_apply (u : Fin 2048) (j : Fin 1024) : iblk m c 1 t (ix2 u j) = V m c main_v1 (ix2 u ⟨(2 + t.val % 2) * 1024 + j.val, by omega⟩) := by
  blk_point [iblk, V, idx1 t]
theorem iblk2_apply (d : Fin 128) : iblk m c 2 t (ix2 0 d) = V m c main_v2 (ix2 0 d) := by
  blk_point [iblk, V, idx2 t]
theorem iblk3_apply (s : Fin 2048) (d : Fin 128) : iblk m c 3 t (ix2 s d) = V m c main_v18 (ix2 s d) := by
  blk_point [iblk, V, idx3 t]
theorem iblk4_apply (s : Fin 2048) (d : Fin 128) : iblk m c 4 t (ix2 s d) = V m c main_v21 (ix2 s d) := by
  blk_point [iblk, V, idx4 t]
theorem iblk5_apply (s : Fin 2048) (d : Fin 128) : iblk m c 5 t (ix2 s d) = V m c main_v24 (ix2 s d) := by
  blk_point [iblk, V, idx5 t]

theorem table_eq (s : Fin 2048) : (fun d => iblk m c 3 t (ix2 s d)) = fun d => Turn.tableC Turn.cosines (ix2 s d) :=
  funext fun d => (iblk3_apply m c t s d).trans (congrFun (v18_eq m c) _)
theorem table1_eq (s : Fin 2048) : (fun d => iblk m c 4 t (ix2 s d)) = fun d => Turn.table1 Turn.sines (ix2 s d) :=
  funext fun d => (iblk4_apply m c t s d).trans (congrFun (v21_eq m c) _)
theorem table2_eq (s : Fin 2048) : (fun d => iblk m c 5 t (ix2 s d)) = fun d => Turn.table2 Turn.sines (ix2 s d) :=
  funext fun d => (iblk5_apply m c t s d).trans (congrFun (v24_eq m c) _)

theorem row_eq (k : Fin 8) (s : Fin 2048) : Turn.headRow (iblk m c 0 t) (iblk m c 1 t) k s
    = Turn.head (m ((c : Thread nD τ).loc main_arg0)) (m ((c : Thread nD τ).loc main_arg1)) 2048 (by norm_num) (seq t) (hd t k) s := by
  funext e
  unfold Turn.headRow Turn.head
  congr 1 <;> funext u
  · exact (iblk0_apply m c t s u).trans (v0_apply m c _ s u)
  · refine (iblk1_apply m c t u _).trans ((v1_apply m c u _).trans (congrArg (fun j => m ((c : Thread nD τ).loc main_arg1) (ix2 u j)) (Fin.ext ?_)))
    show (2 + t.val % 2) * 1024 + (k.val * 128 + e.val) = 2048 + ((t.val % 2 * 8 + k.val) * 128 + e.val)
    omega

theorem gain_eq (g : FVec Ideal S128 .f32) (hg : m ((c : Thread nD τ).loc main_arg2) = g) (e : Fin 128) : k0_pay2 (F := Ideal) (View.ld (iblk m c 2 t) r0_0) (ix2 0 e)
    = g (ix1 e) * Ideal.ofBits .f32 0x3F800000#32 := by
  subst hg
  rw [scale_apply]
  exact congrArg (fun x : EReal => x * Ideal.ofBits .f32 0x3F800000#32) ((iblk2_apply m c t e).trans (v2_apply m c e))

theorem flushed_apply (z : Fin 1) (k : Fin 8) (s : Fin 2048) (d : Fin 128) : (dats m 0 c).flushed 6 t (ix4 z k s d)
    = keys (m ((c : Thread nD τ).loc main_arg0)) (m ((c : Thread nD τ).loc main_arg1)) (m ((c : Thread nD τ).loc main_arg2)) (seq t) (hd t k) s d := by
  rw [Value.flushed6]
  refine (out_eq _ _ _ _ _ _ _).trans ?_
  show Turn.turn (fun e => Turn.unit (Turn.headRow (iblk m c 0 t) (iblk m c 1 t) k s) e * k0_pay2 (F := Ideal) (View.ld (iblk m c 2 t) r0_0) (ix2 0 e))
    (fun e => iblk m c 3 t (ix2 s e)) (fun e => iblk m c 4 t (ix2 s e)) (fun e => iblk m c 5 t (ix2 s e)) d = _
  rw [table_eq m c t s, table1_eq m c t s, table2_eq m c t s, Turn.turn_eq]
  rw [row_eq m c t k s]
  exact congrArg (fun x => Turn.rope Turn.cosines Turn.sines s x d) (funext fun e => congrArg (fun x => Turn.unit _ e * x)
    ((gain_eq m c t _ rfl e).trans (Turn.mul_one_bits _)))

theorem final_eq : (dats m 0 c).arrAt 6 cfg0.N = fun z =>
    keys (m ((c : Thread nD τ).loc main_arg0)) (m ((c : Thread nD τ).loc main_arg1)) (m ((c : Thread nD τ).loc main_arg2)) (z 0) (z 1) (z 2) (z 3) := by
  refine (dats m 0 c).arrAt_eq_of_covers 6 _ (by decide +kernel) fun t hf y => ?_
  obtain ⟨z, k, s, d, rfl⟩ : ∃ (z : Fin 1) (k : Fin 8) (s : Fin 2048) (d : Fin 128), y = ix4 z k s d := ⟨y 0, y 1, y 2, y 3, funext fun a => by fin_cases a <;> rfl⟩
  refine (flushed_apply m c t z k s d).trans ?_
  have e : ∀ a, win0_6.index t a = (![t.val / 2, t.val % 2, 0, 0] : Fin 4 → ℕ) a := fun a => congrFun (idx6 t) a
  have e0 : (((cfg0.win 6).blk t).view.emb (ix4 z k s d) 0) = seq t := Fin.ext (by
    show win0_6.index t (0 : Fin 4) * 1 + 1 * z.val = t.val / 2
    rw [e]; show t.val / 2 * 1 + _ = _; omega)
  have e1 : (((cfg0.win 6).blk t).view.emb (ix4 z k s d) 1) = hd t k := Fin.ext (by
    show win0_6.index t (1 : Fin 4) * 8 + 1 * k.val = t.val % 2 * 8 + k.val
    rw [e]; show t.val % 2 * 8 + _ = _; omega)
  have e2 : (((cfg0.win 6).blk t).view.emb (ix4 z k s d) 2) = s := Fin.ext (by
    show win0_6.index t (2 : Fin 4) * 2048 + 1 * s.val = s.val
    rw [e]; show 0 * 2048 + _ = _; omega)
  have e3 : (((cfg0.win 6).blk t).view.emb (ix4 z k s d) 3) = d := Fin.ext (by
    show win0_6.index t (3 : Fin 4) * 128 + 1 * d.val = d.val
    rw [e]; show 0 * 128 + _ = _; omega)
  rw [e0, e1, e2, e3]

open Cert.Reference9Ideal.Read in
theorem reference_head (h : FVec Ideal S12x2048x2048 .f32) (w : FVec Ideal S2048x16384 .f32) (b : Fin 12) (s : Fin 2048) (n : Fin 16) (e : Fin 128) :
    val_main_v2 (F := Ideal) h w (ix4 b s n e) = Turn.head h w 2048 (by norm_num) b n s e := by
  pointwise [val_main_v2, val_main_v1, val_main_v0]
  rfl

open Cert.Reference9Ideal.Read in
theorem reference_unit (h : FVec Ideal S12x2048x2048 .f32) (w : FVec Ideal S2048x16384 .f32) (g : FVec Ideal S128 .f32) (b : Fin 12) (s : Fin 2048) (n : Fin 16) (e : Fin 128) :
    val_main_v15 (F := Ideal) h w g (ix4 b s n e) = Turn.unit (Turn.head h w 2048 (by norm_num) b n s) e * g (ix1 e) := by
  have hh := fun e => reference_head h w b s n e
  unfold val_main_v15 val_main_v14 val_main_v13 val_main_v12 val_main_v11 val_main_v10 val_main_v9 val_main_v8 val_main_v7 val_main_v6 val_main_v5 val_main_v4 val_main_v3
  generalize val_main_v2 (F := Ideal) h w = y at hh ⊢
  pointwise [val_main_cst, val_main_cst_0, val_main_cst_1]
  simp only [hh, Turn.div_128]
  rfl

open Cert.Reference9Ideal.Read in
theorem reference_apply (h : FVec Ideal S12x2048x2048 .f32) (w : FVec Ideal S2048x16384 .f32) (g : FVec Ideal S128 .f32) (b : Fin 12) (n : Fin 16) (s : Fin 2048) (d : Fin 128) :
    val_main_v47 (F := Ideal) h w g (ix4 b n s d) = keys h w g b n s d := by
  have hh := fun e => reference_unit h w g b s n e
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v29
  unfold keys Turn.result
  simp only [← hh]
  generalize val_main_v15 (F := Ideal) h w g = y
  change _ = Turn.rope (val_main_v28 (F := Ideal)) (val_main_v30 (F := Ideal)) s _ d
  generalize val_main_v28 (F := Ideal) = cs
  generalize val_main_v30 (F := Ideal) = sn
  pointwise
  exact Turn.rope_gather cs sn s (fun e => y (ix4 b s n e)) d

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem value : Cert.algebraic_Kernel9Ideal_Reference9Ideal := by
  intro m g m' g' _ hagree
  refine ⟨fun c z => keys (m ((c.tc : Thread nD τ).loc main_arg0)) (m ((c.tc : Thread nD τ).loc main_arg1)) (m ((c.tc : Thread nD τ).loc main_arg2))
    (z 0) (z 1) (z 2) (z 3), ?_, ?_⟩
  · exact (θ_run Cert.Kernel9Ideal.defs _ _).mono (fun _ h c => ⟨(h c).1.trans (final_eq m c), (h c).2⟩)
      (Cert.Kernel9Ideal.Value.run_blocks (F := Ideal) m g)
  · refine (θ_run Cert.Reference9Ideal.defs _ _).mono (fun _ h c => ⟨(h c).1.trans ?_, (h c).2⟩)
      (Cert.Reference9Ideal.Value.run (F := Ideal) m' g')
    refine (Cert.Reference9Ideal.Read.val_main_v47_eq m' c).trans ?_
    rw [(hagree c).1, (hagree c).2.1, (hagree c).2.2]
    funext z
    obtain ⟨b, n, s, d, rfl⟩ : ∃ (b : Fin 12) (n : Fin 16) (s : Fin 2048) (d : Fin 128), z = ix4 b n s d := ⟨z 0, z 1, z 2, z 3, funext fun a => by fin_cases a <;> rfl⟩
    exact reference_apply _ _ _ b n s d

end Cert.Keys

end
-- ==== Proof.Queries.lean ====
/- The queries: the projection's heads, normalized, scaled and turned. -/
module

public import proofs.«01_k».proof.Defs
public import proofs.«01_k».proof.Proof.Turn
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Queries
open Cert.Kernel10Ideal Cert.Kernel10Ideal.Gen Idealize.ShloMosaic Idealize.ShloMosaic.TcCoe Idealize.SL.Sem

theorem adds (x0 : Vec Ideal S1x2048x2048 .bf16) (x1 : Vec Ideal S2048x1024 .bf16) (x2 : Vec Ideal S1x128 .f32) (x3 x4 x5 : Vec Ideal S2048x128 .f32) :
    Turn.Adds (k0_pay199 x0 x1 x2 x3 x4 x5) := by
  intro j k
  unfold k0_pay199 k0_pay6 k0_pay198 k0_pay197 k0_pay196 k0_pay194 k0_pay5 k0_pay4 k0_pay3
  pointwise
  exact Turn.same_column j k

theorem scale_apply (x2 : Vec Ideal S1x128 .f32) (d : Fin 128) : k0_pay2 (F := Ideal) (View.ld x2 r0_0) (ix2 0 d) = x2 (ix2 0 d) * Ideal.ofBits .f32 0x3E0293EE#32 := by
  rw [show View.ld x2 r0_0 = x2 from View.ld_unit_zero Turn.zeros _ x2]
  unfold k0_pay2
  pointwise

theorem out_eq (x0 : Vec Ideal S1x2048x2048 .bf16) (x1 : Vec Ideal S2048x1024 .bf16) (x2 : Vec Ideal S1x128 .f32) (x3 x4 x5 : Vec Ideal S2048x128 .f32) (y : S1x8x2048x128.Idx) :
    out0_6 x0 x1 x2 x3 x4 x5 y = Turn.block x0 x1 (k0_pay2 (View.ld x2 r0_0)) x3 x4 x5 y := by
  unfold out0_6
  refine View.canon_apply_of_pieces (Turn.block x0 x1 (k0_pay2 (View.ld x2 r0_0)) x3 x4 x5) _ ?_ y ?_
  rotate_left
  · exact cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y
  simp only [List.forall_mem_cons]
  have p := Turn.piece x0 x1 (k0_pay2 (View.ld x2 r0_0)) x3 x4 x5 _ (adds x0 x1 x2 x3 x4 x5)
  have c0 := p 0 (by omega) inb_S1x2048x2048_S1x256x2048_0_0_0 inb_S2048x128_S256x128_0_0
  have c1 := p 256 (by omega) inb_S1x2048x2048_S1x256x2048_0_256_0 inb_S2048x128_S256x128_256_0
  have c2 := p 512 (by omega) inb_S1x2048x2048_S1x256x2048_0_512_0 inb_S2048x128_S256x128_512_0
  have c3 := p 768 (by omega) inb_S1x2048x2048_S1x256x2048_0_768_0 inb_S2048x128_S256x128_768_0
  have c4 := p 1024 (by omega) inb_S1x2048x2048_S1x256x2048_0_1024_0 inb_S2048x128_S256x128_1024_0
  have c5 := p 1280 (by omega) inb_S1x2048x2048_S1x256x2048_0_1280_0 inb_S2048x128_S256x128_1280_0
  have c6 := p 1536 (by omega) inb_S1x2048x2048_S1x256x2048_0_1536_0 inb_S2048x128_S256x128_1536_0
  have c7 := p 1792 (by omega) inb_S1x2048x2048_S1x256x2048_0_1792_0 inb_S2048x128_S256x128_1792_0
  exact ⟨c7 7 768 896 128 (by omega) rfl rfl rfl slices_S256x1024_o0_768_S256x256 slices_S256x1024_o0_896_S256x128 slices_S256x256_o0_128_S256x128 inb_S1x8x2048x128_S1x1x256x128_0_7_1792_0,
    c7 6 768 768 0 (by omega) rfl rfl rfl slices_S256x1024_o0_768_S256x256 slices_S256x1024_o0_768_S256x128 slices_S256x256_o0_0_S256x128 inb_S1x8x2048x128_S1x1x256x128_0_6_1792_0,
    c7 5 512 640 128 (by omega) rfl rfl rfl slices_S256x1024_o0_512_S256x256 slices_S256x1024_o0_640_S256x128 slices_S256x256_o0_128_S256x128 inb_S1x8x2048x128_S1x1x256x128_0_5_1792_0,
    c7 4 512 512 0 (by omega) rfl rfl rfl slices_S256x1024_o0_512_S256x256 slices_S256x1024_o0_512_S256x128 slices_S256x256_o0_0_S256x128 inb_S1x8x2048x128_S1x1x256x128_0_4_1792_0,
    c7 3 256 384 128 (by omega) rfl rfl rfl slices_S256x1024_o0_256_S256x256 slices_S256x1024_o0_384_S256x128 slices_S256x256_o0_128_S256x128 inb_S1x8x2048x128_S1x1x256x128_0_3_1792_0,
    c7 2 256 256 0 (by omega) rfl rfl rfl slices_S256x1024_o0_256_S256x256 slices_S256x1024_o0_256_S256x128 slices_S256x256_o0_0_S256x128 inb_S1x8x2048x128_S1x1x256x128_0_2_1792_0,
    c7 1 0 128 128 (by omega) rfl rfl rfl slices_S256x1024_o0_0_S256x256 slices_S256x1024_o0_128_S256x128 slices_S256x256_o0_128_S256x128 inb_S1x8x2048x128_S1x1x256x128_0_1_1792_0,
    c7 0 0 0 0 (by omega) rfl rfl rfl slices_S256x1024_o0_0_S256x256 slices_S256x1024_o0_0_S256x128 slices_S256x256_o0_0_S256x128 inb_S1x8x2048x128_S1x1x256x128_0_0_1792_0,
    c6 7 768 896 128 (by omega) rfl rfl rfl slices_S256x1024_o0_768_S256x256 slices_S256x1024_o0_896_S256x128 slices_S256x256_o0_128_S256x128 inb_S1x8x2048x128_S1x1x256x128_0_7_1536_0,
    c6 6 768 768 0 (by omega) rfl rfl rfl slices_S256x1024_o0_768_S256x256 slices_S256x1024_o0_768_S256x128 slices_S256x256_o0_0_S256x128 inb_S1x8x2048x128_S1x1x256x128_0_6_1536_0,
    c6 5 512 640 128 (by omega) rfl rfl rfl slices_S256x1024_o0_512_S256x256 slices_S256x1024_o0_640_S256x128 slices_S256x256_o0_128_S256x128 inb_S1x8x2048x128_S1x1x256x128_0_5_1536_0,
    c6 4 512 512 0 (by omega) rfl rfl rfl slices_S256x1024_o0_512_S256x256 slices_S256x1024_o0_512_S256x128 slices_S256x256_o0_0_S256x128 inb_S1x8x2048x128_S1x1x256x128_0_4_1536_0,
    c6 3 256 384 128 (by omega) rfl rfl rfl slices_S256x1024_o0_256_S256x256 slices_S256x1024_o0_384_S256x128 slices_S256x256_o0_128_S256x128 inb_S1x8x2048x128_S1x1x256x128_0_3_1536_0,
    c6 2 256 256 0 (by omega) rfl rfl rfl slices_S256x1024_o0_256_S256x256 slices_S256x1024_o0_256_S256x128 slices_S256x256_o0_0_S256x128 inb_S1x8x2048x128_S1x1x256x128_0_2_1536_0,
    c6 1 0 128 128 (by omega) rfl rfl rfl slices_S256x1024_o0_0_S256x256 slices_S256x1024_o0_128_S256x128 slices_S256x256_o0_128_S256x128 inb_S1x8x2048x128_S1x1x256x128_0_1_1536_0,
    c6 0 0 0 0 (by omega) rfl rfl rfl slices_S256x1024_o0_0_S256x256 slices_S256x1024_o0_0_S256x128 slices_S256x256_o0_0_S256x128 inb_S1x8x2048x128_S1x1x256x128_0_0_1536_0,
    c5 7 768 896 128 (by omega) rfl rfl rfl slices_S256x1024_o0_768_S256x256 slices_S256x1024_o0_896_S256x128 slices_S256x256_o0_128_S256x128 inb_S1x8x2048x128_S1x1x256x128_0_7_1280_0,
    c5 6 768 768 0 (by omega) rfl rfl rfl slices_S256x1024_o0_768_S256x256 slices_S256x1024_o0_768_S256x128 slices_S256x256_o0_0_S256x128 inb_S1x8x2048x128_S1x1x256x128_0_6_1280_0,
    c5 5 512 640 128 (by omega) rfl rfl rfl slices_S256x1024_o0_512_S256x256 slices_S256x1024_o0_640_S256x128 slices_S256x256_o0_128_S256x128 inb_S1x8x2048x128_S1x1x256x128_0_5_1280_0,
    c5 4 512 512 0 (by omega) rfl rfl rfl slices_S256x1024_o0_512_S256x256 slices_S256x1024_o0_512_S256x128 slices_S256x256_o0_0_S256x128 inb_S1x8x2048x128_S1x1x256x128_0_4_1280_0,
    c5 3 256 384 128 (by omega) rfl rfl rfl slices_S256x1024_o0_256_S256x256 slices_S256x1024_o0_384_S256x128 slices_S256x256_o0_128_S256x128 inb_S1x8x2048x128_S1x1x256x128_0_3_1280_0,
    c5 2 256 256 0 (by omega) rfl rfl rfl slices_S256x1024_o0_256_S256x256 slices_S256x1024_o0_256_S256x128 slices_S256x256_o0_0_S256x128 inb_S1x8x2048x128_S1x1x256x128_0_2_1280_0,
    c5 1 0 128 128 (by omega) rfl rfl rfl slices_S256x1024_o0_0_S256x256 slices_S256x1024_o0_128_S256x128 slices_S256x256_o0_128_S256x128 inb_S1x8x2048x128_S1x1x256x128_0_1_1280_0,
    c5 0 0 0 0 (by omega) rfl rfl rfl slices_S256x1024_o0_0_S256x256 slices_S256x1024_o0_0_S256x128 slices_S256x256_o0_0_S256x128 inb_S1x8x2048x128_S1x1x256x128_0_0_1280_0,
    c4 7 768 896 128 (by omega) rfl rfl rfl slices_S256x1024_o0_768_S256x256 slices_S256x1024_o0_896_S256x128 slices_S256x256_o0_128_S256x128 inb_S1x8x2048x128_S1x1x256x128_0_7_1024_0,
    c4 6 768 768 0 (by omega) rfl rfl rfl slices_S256x1024_o0_768_S256x256 slices_S256x1024_o0_768_S256x128 slices_S256x256_o0_0_S256x128 inb_S1x8x2048x128_S1x1x256x128_0_6_1024_0,
    c4 5 512 640 128 (by omega) rfl rfl rfl slices_S256x1024_o0_512_S256x256 slices_S256x1024_o0_640_S256x128 slices_S256x256_o0_128_S256x128 inb_S1x8x2048x128_S1x1x256x128_0_5_1024_0,
    c4 4 512 512 0 (by omega) rfl rfl rfl slices_S256x1024_o0_512_S256x256 slices_S256x1024_o0_512_S256x128 slices_S256x256_o0_0_S256x128 inb_S1x8x2048x128_S1x1x256x128_0_4_1024_0,
    c4 3 256 384 128 (by omega) rfl rfl rfl slices_S256x1024_o0_256_S256x256 slices_S256x1024_o0_384_S256x128 slices_S256x256_o0_128_S256x128 inb_S1x8x2048x128_S1x1x256x128_0_3_1024_0,
    c4 2 256 256 0 (by omega) rfl rfl rfl slices_S256x1024_o0_256_S256x256 slices_S256x1024_o0_256_S256x128 slices_S256x256_o0_0_S256x128 inb_S1x8x2048x128_S1x1x256x128_0_2_1024_0,
    c4 1 0 128 128 (by omega) rfl rfl rfl slices_S256x1024_o0_0_S256x256 slices_S256x1024_o0_128_S256x128 slices_S256x256_o0_128_S256x128 inb_S1x8x2048x128_S1x1x256x128_0_1_1024_0,
    c4 0 0 0 0 (by omega) rfl rfl rfl slices_S256x1024_o0_0_S256x256 slices_S256x1024_o0_0_S256x128 slices_S256x256_o0_0_S256x128 inb_S1x8x2048x128_S1x1x256x128_0_0_1024_0,
    c3 7 768 896 128 (by omega) rfl rfl rfl slices_S256x1024_o0_768_S256x256 slices_S256x1024_o0_896_S256x128 slices_S256x256_o0_128_S256x128 inb_S1x8x2048x128_S1x1x256x128_0_7_768_0,
    c3 6 768 768 0 (by omega) rfl rfl rfl slices_S256x1024_o0_768_S256x256 slices_S256x1024_o0_768_S256x128 slices_S256x256_o0_0_S256x128 inb_S1x8x2048x128_S1x1x256x128_0_6_768_0,
    c3 5 512 640 128 (by omega) rfl rfl rfl slices_S256x1024_o0_512_S256x256 slices_S256x1024_o0_640_S256x128 slices_S256x256_o0_128_S256x128 inb_S1x8x2048x128_S1x1x256x128_0_5_768_0,
    c3 4 512 512 0 (by omega) rfl rfl rfl slices_S256x1024_o0_512_S256x256 slices_S256x1024_o0_512_S256x128 slices_S256x256_o0_0_S256x128 inb_S1x8x2048x128_S1x1x256x128_0_4_768_0,
    c3 3 256 384 128 (by omega) rfl rfl rfl slices_S256x1024_o0_256_S256x256 slices_S256x1024_o0_384_S256x128 slices_S256x256_o0_128_S256x128 inb_S1x8x2048x128_S1x1x256x128_0_3_768_0,
    c3 2 256 256 0 (by omega) rfl rfl rfl slices_S256x1024_o0_256_S256x256 slices_S256x1024_o0_256_S256x128 slices_S256x256_o0_0_S256x128 inb_S1x8x2048x128_S1x1x256x128_0_2_768_0,
    c3 1 0 128 128 (by omega) rfl rfl rfl slices_S256x1024_o0_0_S256x256 slices_S256x1024_o0_128_S256x128 slices_S256x256_o0_128_S256x128 inb_S1x8x2048x128_S1x1x256x128_0_1_768_0,
    c3 0 0 0 0 (by omega) rfl rfl rfl slices_S256x1024_o0_0_S256x256 slices_S256x1024_o0_0_S256x128 slices_S256x256_o0_0_S256x128 inb_S1x8x2048x128_S1x1x256x128_0_0_768_0,
    c2 7 768 896 128 (by omega) rfl rfl rfl slices_S256x1024_o0_768_S256x256 slices_S256x1024_o0_896_S256x128 slices_S256x256_o0_128_S256x128 inb_S1x8x2048x128_S1x1x256x128_0_7_512_0,
    c2 6 768 768 0 (by omega) rfl rfl rfl slices_S256x1024_o0_768_S256x256 slices_S256x1024_o0_768_S256x128 slices_S256x256_o0_0_S256x128 inb_S1x8x2048x128_S1x1x256x128_0_6_512_0,
    c2 5 512 640 128 (by omega) rfl rfl rfl slices_S256x1024_o0_512_S256x256 slices_S256x1024_o0_640_S256x128 slices_S256x256_o0_128_S256x128 inb_S1x8x2048x128_S1x1x256x128_0_5_512_0,
    c2 4 512 512 0 (by omega) rfl rfl rfl slices_S256x1024_o0_512_S256x256 slices_S256x1024_o0_512_S256x128 slices_S256x256_o0_0_S256x128 inb_S1x8x2048x128_S1x1x256x128_0_4_512_0,
    c2 3 256 384 128 (by omega) rfl rfl rfl slices_S256x1024_o0_256_S256x256 slices_S256x1024_o0_384_S256x128 slices_S256x256_o0_128_S256x128 inb_S1x8x2048x128_S1x1x256x128_0_3_512_0,
    c2 2 256 256 0 (by omega) rfl rfl rfl slices_S256x1024_o0_256_S256x256 slices_S256x1024_o0_256_S256x128 slices_S256x256_o0_0_S256x128 inb_S1x8x2048x128_S1x1x256x128_0_2_512_0,
    c2 1 0 128 128 (by omega) rfl rfl rfl slices_S256x1024_o0_0_S256x256 slices_S256x1024_o0_128_S256x128 slices_S256x256_o0_128_S256x128 inb_S1x8x2048x128_S1x1x256x128_0_1_512_0,
    c2 0 0 0 0 (by omega) rfl rfl rfl slices_S256x1024_o0_0_S256x256 slices_S256x1024_o0_0_S256x128 slices_S256x256_o0_0_S256x128 inb_S1x8x2048x128_S1x1x256x128_0_0_512_0,
    c1 7 768 896 128 (by omega) rfl rfl rfl slices_S256x1024_o0_768_S256x256 slices_S256x1024_o0_896_S256x128 slices_S256x256_o0_128_S256x128 inb_S1x8x2048x128_S1x1x256x128_0_7_256_0,
    c1 6 768 768 0 (by omega) rfl rfl rfl slices_S256x1024_o0_768_S256x256 slices_S256x1024_o0_768_S256x128 slices_S256x256_o0_0_S256x128 inb_S1x8x2048x128_S1x1x256x128_0_6_256_0,
    c1 5 512 640 128 (by omega) rfl rfl rfl slices_S256x1024_o0_512_S256x256 slices_S256x1024_o0_640_S256x128 slices_S256x256_o0_128_S256x128 inb_S1x8x2048x128_S1x1x256x128_0_5_256_0,
    c1 4 512 512 0 (by omega) rfl rfl rfl slices_S256x1024_o0_512_S256x256 slices_S256x1024_o0_512_S256x128 slices_S256x256_o0_0_S256x128 inb_S1x8x2048x128_S1x1x256x128_0_4_256_0,
    c1 3 256 384 128 (by omega) rfl rfl rfl slices_S256x1024_o0_256_S256x256 slices_S256x1024_o0_384_S256x128 slices_S256x256_o0_128_S256x128 inb_S1x8x2048x128_S1x1x256x128_0_3_256_0,
    c1 2 256 256 0 (by omega) rfl rfl rfl slices_S256x1024_o0_256_S256x256 slices_S256x1024_o0_256_S256x128 slices_S256x256_o0_0_S256x128 inb_S1x8x2048x128_S1x1x256x128_0_2_256_0,
    c1 1 0 128 128 (by omega) rfl rfl rfl slices_S256x1024_o0_0_S256x256 slices_S256x1024_o0_128_S256x128 slices_S256x256_o0_128_S256x128 inb_S1x8x2048x128_S1x1x256x128_0_1_256_0,
    c1 0 0 0 0 (by omega) rfl rfl rfl slices_S256x1024_o0_0_S256x256 slices_S256x1024_o0_0_S256x128 slices_S256x256_o0_0_S256x128 inb_S1x8x2048x128_S1x1x256x128_0_0_256_0,
    c0 7 768 896 128 (by omega) rfl rfl rfl slices_S256x1024_o0_768_S256x256 slices_S256x1024_o0_896_S256x128 slices_S256x256_o0_128_S256x128 inb_S1x8x2048x128_S1x1x256x128_0_7_0_0,
    c0 6 768 768 0 (by omega) rfl rfl rfl slices_S256x1024_o0_768_S256x256 slices_S256x1024_o0_768_S256x128 slices_S256x256_o0_0_S256x128 inb_S1x8x2048x128_S1x1x256x128_0_6_0_0,
    c0 5 512 640 128 (by omega) rfl rfl rfl slices_S256x1024_o0_512_S256x256 slices_S256x1024_o0_640_S256x128 slices_S256x256_o0_128_S256x128 inb_S1x8x2048x128_S1x1x256x128_0_5_0_0,
    c0 4 512 512 0 (by omega) rfl rfl rfl slices_S256x1024_o0_512_S256x256 slices_S256x1024_o0_512_S256x128 slices_S256x256_o0_0_S256x128 inb_S1x8x2048x128_S1x1x256x128_0_4_0_0,
    c0 3 256 384 128 (by omega) rfl rfl rfl slices_S256x1024_o0_256_S256x256 slices_S256x1024_o0_384_S256x128 slices_S256x256_o0_128_S256x128 inb_S1x8x2048x128_S1x1x256x128_0_3_0_0,
    c0 2 256 256 0 (by omega) rfl rfl rfl slices_S256x1024_o0_256_S256x256 slices_S256x1024_o0_256_S256x128 slices_S256x256_o0_0_S256x128 inb_S1x8x2048x128_S1x1x256x128_0_2_0_0,
    c0 1 0 128 128 (by omega) rfl rfl rfl slices_S256x1024_o0_0_S256x256 slices_S256x1024_o0_128_S256x128 slices_S256x256_o0_128_S256x128 inb_S1x8x2048x128_S1x1x256x128_0_1_0_0,
    c0 0 0 0 0 (by omega) rfl rfl rfl slices_S256x1024_o0_0_S256x256 slices_S256x1024_o0_0_S256x128 slices_S256x256_o0_0_S256x128 inb_S1x8x2048x128_S1x1x256x128_0_0_0_0,
    fun _ h => absurd h List.not_mem_nil⟩

/-- The queries: element `d` of head `n` of token `s` of sequence `b`, times the scale of the scores. -/
def queries (h : FVec Ideal S12x2048x2048 .f32) (w : FVec Ideal S2048x16384 .f32) (g : FVec Ideal S128 .f32) (b : Fin 12) (n : Fin 16) (s : Fin 2048) (d : Fin 128) : EReal :=
  Turn.result h w 0 (by norm_num) (fun e => g (ix1 e)) b n s d * Ideal.ofBits .f32 0x3E0293EE#32

theorem scale_eq : Ideal.ofBits .f32 0x3E0293EE#32 = ((8557550 / 67108864 : ℝ) : EReal) := by
  simp [Ideal.ofBits, Ideal.ieee, -EReal.coe_mul]; norm_num

theorem scaled (cs sn : FVec Ideal S2048x16 .f32) (s : Fin 2048) (x : Fin 128 → EReal) (d : Fin 128) :
    Turn.rope cs sn s (fun e => x e * Ideal.ofBits .f32 0x3E0293EE#32) d = Turn.rope cs sn s x d * Ideal.ofBits .f32 0x3E0293EE#32 :=
  Turn.rope_mul cs sn s x _ (by rw [scale_eq]; exact_mod_cast (by norm_num : (0 : ℝ) ≤ 8557550 / 67108864)) (by rw [scale_eq]; exact EReal.coe_ne_top _) d

variable (m : (ℓ : Loc nD τ sig) → Buf (Elt Ideal) ℓ) (c : Dev nD)

theorem v0_apply (b : Fin 12) (s u : Fin 2048) : V m c main_v0 (ix3 b s u) = m ((c : Thread nD τ).loc main_arg0) (ix3 b s u) := by
  entry_read
  pointwise
theorem v1_apply (u : Fin 2048) (k : Fin 16384) : V m c main_v1 (ix2 u k) = m ((c : Thread nD τ).loc main_arg1) (ix2 u k) := by
  entry_read
  pointwise
theorem v2_apply (d : Fin 128) : V m c main_v2 (ix2 0 d) = m ((c : Thread nD τ).loc main_arg2) (ix1 d) := by
  entry_read
  pointwise

theorem v18_eq : V m c main_v18 = Turn.tableC Turn.cosines := rfl
theorem v21_eq : V m c main_v21 = Turn.table1 Turn.sines := rfl
theorem v24_eq : V m c main_v24 = Turn.table2 Turn.sines := rfl

theorem idx0 : ∀ t : Fin cfg0.N, win0_0.index t = ![t.val / 2, 0, 0] := (by decide +kernel : ∀ t : Fin grid0.N, win0_0.index t = ![t.val / 2, 0, 0])
theorem idx1 : ∀ t : Fin cfg0.N, win0_1.index t = ![0, t.val % 2] := (by decide +kernel : ∀ t : Fin grid0.N, win0_1.index t = ![0, t.val % 2])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 2, t.val % 2, 0, 0] := (by decide +kernel : ∀ t : Fin grid0.N, win0_6.index t = ![t.val / 2, t.val % 2, 0, 0])

variable (t : Fin cfg0.N)

theorem lt24 : t.val < 24 := t.isLt

/-- The sequence of block `t`, and the `k`-th of its heads. -/
abbrev seq : Fin 12 := ⟨t.val / 2, by have := lt24 t; omega⟩
abbrev hd (k : Fin 8) : Fin 16 := ⟨t.val % 2 * 8 + k.val, by omega⟩

theorem iblk0_apply (s u : Fin 2048) : iblk m c 0 t (ix3 0 s u) = V m c main_v0 (ix3 (seq t) s u) := by
  blk_point [iblk, V, idx0 t]
theorem iblk1_apply (u : Fin 2048) (j : Fin 1024) : iblk m c 1 t (ix2 u j) = V m c main_v1 (ix2 u ⟨(t.val % 2) * 1024 + j.val, by omega⟩) := by
  blk_point [iblk, V, idx1 t]
theorem iblk2_apply (d : Fin 128) : iblk m c 2 t (ix2 0 d) = V m c main_v2 (ix2 0 d) := by
  blk_point [iblk, V, idx2 t]
theorem iblk3_apply (s : Fin 2048) (d : Fin 128) : iblk m c 3 t (ix2 s d) = V m c main_v18 (ix2 s d) := by
  blk_point [iblk, V, idx3 t]
theorem iblk4_apply (s : Fin 2048) (d : Fin 128) : iblk m c 4 t (ix2 s d) = V m c main_v21 (ix2 s d) := by
  blk_point [iblk, V, idx4 t]
theorem iblk5_apply (s : Fin 2048) (d : Fin 128) : iblk m c 5 t (ix2 s d) = V m c main_v24 (ix2 s d) := by
  blk_point [iblk, V, idx5 t]

theorem table_eq (s : Fin 2048) : (fun d => iblk m c 3 t (ix2 s d)) = fun d => Turn.tableC Turn.cosines (ix2 s d) :=
  funext fun d => (iblk3_apply m c t s d).trans (congrFun (v18_eq m c) _)
theorem table1_eq (s : Fin 2048) : (fun d => iblk m c 4 t (ix2 s d)) = fun d => Turn.table1 Turn.sines (ix2 s d) :=
  funext fun d => (iblk4_apply m c t s d).trans (congrFun (v21_eq m c) _)
theorem table2_eq (s : Fin 2048) : (fun d => iblk m c 5 t (ix2 s d)) = fun d => Turn.table2 Turn.sines (ix2 s d) :=
  funext fun d => (iblk5_apply m c t s d).trans (congrFun (v24_eq m c) _)

theorem row_eq (k : Fin 8) (s : Fin 2048) : Turn.headRow (iblk m c 0 t) (iblk m c 1 t) k s
    = Turn.head (m ((c : Thread nD τ).loc main_arg0)) (m ((c : Thread nD τ).loc main_arg1)) 0 (by norm_num) (seq t) (hd t k) s := by
  funext e
  unfold Turn.headRow Turn.head
  congr 1 <;> funext u
  · exact (iblk0_apply m c t s u).trans (v0_apply m c _ s u)
  · refine (iblk1_apply m c t u _).trans ((v1_apply m c u _).trans (congrArg (fun j => m ((c : Thread nD τ).loc main_arg1) (ix2 u j)) (Fin.ext ?_)))
    show (t.val % 2) * 1024 + (k.val * 128 + e.val) = 0 + ((t.val % 2 * 8 + k.val) * 128 + e.val)
    omega

theorem gain_eq (g : FVec Ideal S128 .f32) (hg : m ((c : Thread nD τ).loc main_arg2) = g) (e : Fin 128) : k0_pay2 (F := Ideal) (View.ld (iblk m c 2 t) r0_0) (ix2 0 e)
    = g (ix1 e) * Ideal.ofBits .f32 0x3E0293EE#32 := by
  subst hg
  rw [scale_apply]
  exact congrArg (fun x : EReal => x * Ideal.ofBits .f32 0x3E0293EE#32) ((iblk2_apply m c t e).trans (v2_apply m c e))

theorem flushed_apply (z : Fin 1) (k : Fin 8) (s : Fin 2048) (d : Fin 128) : (dats m 0 c).flushed 6 t (ix4 z k s d)
    = queries (m ((c : Thread nD τ).loc main_arg0)) (m ((c : Thread nD τ).loc main_arg1)) (m ((c : Thread nD τ).loc main_arg2)) (seq t) (hd t k) s d := by
  rw [Value.flushed6]
  refine (out_eq _ _ _ _ _ _ _).trans ?_
  show Turn.turn (fun e => Turn.unit (Turn.headRow (iblk m c 0 t) (iblk m c 1 t) k s) e * k0_pay2 (F := Ideal) (View.ld (iblk m c 2 t) r0_0) (ix2 0 e))
    (fun e => iblk m c 3 t (ix2 s e)) (fun e => iblk m c 4 t (ix2 s e)) (fun e => iblk m c 5 t (ix2 s e)) d = _
  rw [table_eq m c t s, table1_eq m c t s, table2_eq m c t s, Turn.turn_eq]
  rw [row_eq m c t k s]
  exact (congrArg (fun x => Turn.rope Turn.cosines Turn.sines s x d) (funext fun e => (congrArg (fun x => Turn.unit _ e * x)
    (gain_eq m c t _ rfl e)).trans (mul_assoc _ _ _).symm)).trans (scaled Turn.cosines Turn.sines s _ d)

theorem final_eq : (dats m 0 c).arrAt 6 cfg0.N = fun z =>
    queries (m ((c : Thread nD τ).loc main_arg0)) (m ((c : Thread nD τ).loc main_arg1)) (m ((c : Thread nD τ).loc main_arg2)) (z 0) (z 1) (z 2) (z 3) := by
  refine (dats m 0 c).arrAt_eq_of_covers 6 _ (by decide +kernel) fun t hf y => ?_
  obtain ⟨z, k, s, d, rfl⟩ : ∃ (z : Fin 1) (k : Fin 8) (s : Fin 2048) (d : Fin 128), y = ix4 z k s d := ⟨y 0, y 1, y 2, y 3, funext fun a => by fin_cases a <;> rfl⟩
  refine (flushed_apply m c t z k s d).trans ?_
  have e : ∀ a, win0_6.index t a = (![t.val / 2, t.val % 2, 0, 0] : Fin 4 → ℕ) a := fun a => congrFun (idx6 t) a
  have e0 : (((cfg0.win 6).blk t).view.emb (ix4 z k s d) 0) = seq t := Fin.ext (by
    show win0_6.index t (0 : Fin 4) * 1 + 1 * z.val = t.val / 2
    rw [e]; show t.val / 2 * 1 + _ = _; omega)
  have e1 : (((cfg0.win 6).blk t).view.emb (ix4 z k s d) 1) = hd t k := Fin.ext (by
    show win0_6.index t (1 : Fin 4) * 8 + 1 * k.val = t.val % 2 * 8 + k.val
    rw [e]; show t.val % 2 * 8 + _ = _; omega)
  have e2 : (((cfg0.win 6).blk t).view.emb (ix4 z k s d) 2) = s := Fin.ext (by
    show win0_6.index t (2 : Fin 4) * 2048 + 1 * s.val = s.val
    rw [e]; show 0 * 2048 + _ = _; omega)
  have e3 : (((cfg0.win 6).blk t).view.emb (ix4 z k s d) 3) = d := Fin.ext (by
    show win0_6.index t (3 : Fin 4) * 128 + 1 * d.val = d.val
    rw [e]; show 0 * 128 + _ = _; omega)
  rw [e0, e1, e2, e3]

open Cert.Reference10Ideal.Read in
theorem reference_head (h : FVec Ideal S12x2048x2048 .f32) (w : FVec Ideal S2048x16384 .f32) (b : Fin 12) (s : Fin 2048) (n : Fin 16) (e : Fin 128) :
    val_main_v2 (F := Ideal) h w (ix4 b s n e) = Turn.head h w 0 (by norm_num) b n s e := by
  pointwise [val_main_v2, val_main_v1, val_main_v0]
  exact Finset.sum_congr rfl fun x _ => congrArg (fun j => h (ix3 b s x) * w (ix2 x j)) (Fin.ext (Nat.zero_add _).symm)

open Cert.Reference10Ideal.Read in
theorem reference_unit (h : FVec Ideal S12x2048x2048 .f32) (w : FVec Ideal S2048x16384 .f32) (g : FVec Ideal S128 .f32) (b : Fin 12) (s : Fin 2048) (n : Fin 16) (e : Fin 128) :
    val_main_v15 (F := Ideal) h w g (ix4 b s n e) = Turn.unit (Turn.head h w 0 (by norm_num) b n s) e * g (ix1 e) := by
  have hh := fun e => reference_head h w b s n e
  unfold val_main_v15 val_main_v14 val_main_v13 val_main_v12 val_main_v11 val_main_v10 val_main_v9 val_main_v8 val_main_v7 val_main_v6 val_main_v5 val_main_v4 val_main_v3
  generalize val_main_v2 (F := Ideal) h w = y at hh ⊢
  pointwise [val_main_cst, val_main_cst_0, val_main_cst_1]
  simp only [hh, Turn.div_128]
  rfl

open Cert.Reference10Ideal.Read in
theorem reference_apply (h : FVec Ideal S12x2048x2048 .f32) (w : FVec Ideal S2048x16384 .f32) (g : FVec Ideal S128 .f32) (b : Fin 12) (n : Fin 16) (s : Fin 2048) (d : Fin 128) :
    val_main_v49 (F := Ideal) h w g (ix4 b n s d) = queries h w g b n s d := by
  have hh := fun e => reference_unit h w g b s n e
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v29
  unfold queries Turn.result
  simp only [← hh]
  generalize val_main_v15 (F := Ideal) h w g = y
  change _ = Turn.rope (val_main_v28 (F := Ideal)) (val_main_v30 (F := Ideal)) s _ d * Ideal.ofBits .f32 0x3E0293EE#32
  generalize val_main_v28 (F := Ideal) = cs
  generalize val_main_v30 (F := Ideal) = sn
  pointwise [val_main_cst_4]
  exact congrArg (fun x => x * Ideal.ofBits .f32 0x3E0293EE#32) (Turn.rope_gather cs sn s (fun e => y (ix4 b s n e)) d)

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem value : Cert.algebraic_Kernel10Ideal_Reference10Ideal := by
  intro m g m' g' _ hagree
  refine ⟨fun c z => queries (m ((c.tc : Thread nD τ).loc main_arg0)) (m ((c.tc : Thread nD τ).loc main_arg1)) (m ((c.tc : Thread nD τ).loc main_arg2))
    (z 0) (z 1) (z 2) (z 3), ?_, ?_⟩
  · exact (θ_run Cert.Kernel10Ideal.defs _ _).mono (fun _ h c => ⟨(h c).1.trans (final_eq m c), (h c).2⟩)
      (Cert.Kernel10Ideal.Value.run_blocks (F := Ideal) m g)
  · refine (θ_run Cert.Reference10Ideal.defs _ _).mono (fun _ h c => ⟨(h c).1.trans ?_, (h c).2⟩)
      (Cert.Reference10Ideal.Value.run (F := Ideal) m' g')
    refine (Cert.Reference10Ideal.Read.val_main_v49_eq m' c).trans ?_
    rw [(hagree c).1, (hagree c).2.1, (hagree c).2.2]
    funext z
    obtain ⟨b, n, s, d, rfl⟩ : ∃ (b : Fin 12) (n : Fin 16) (s : Fin 2048) (d : Fin 128), z = ix4 b n s d := ⟨z 0, z 1, z 2, z 3, funext fun a => by fin_cases a <;> rfl⟩
    exact reference_apply _ _ _ b n s d

end Cert.Queries

end
-- ==== Proof.Conv.lean ====
/- The projection to the Hyena branch with its short convolution. -/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import proofs.«01_k».proof.Proof.Groups
public import Idealize.ShloMosaic.Lib.Pipeline.ValueKit
public import Idealize.ShloMosaic.Lib.Pipeline.ValueKit.Point
public import Idealize.ShloMosaic.Lib.Tactic.RunNames

@[expose] public section

set_option maxRecDepth 16384

noncomputable section

namespace Cert.Conv
open Cert.Kernel11Ideal Cert.Kernel11Ideal.Gen Idealize.ShloMosaic Idealize.ShloMosaic.TcCoe Idealize.SL.Sem

/-- Element `l` of the projection of token `r`. -/
def proj (x0 : Vec Ideal S1x2048x2048 .bf16) (x1 : Vec Ideal S2048x1024 .bf16) (r : Fin 2048) (l : Fin 1024) : EReal :=
  Groups.dot (fun u => x0 (ix3 0 r u)) (fun u => x1 (ix2 u l))

/-- The projection with sixteen rows of zeros before the first token and after the last. -/
def padded (x0 : Vec Ideal S1x2048x2048 .bf16) (x1 : Vec Ideal S2048x1024 .bf16) (r l : ℕ) : EReal :=
  if h : (16 ≤ r ∧ r < 2064) ∧ l < 1024 then proj x0 x1 ⟨r - 16, by omega⟩ ⟨l, h.2⟩ else 0

/-- The columns from `o` on, as one slab of the scratch. -/
def slab (o : ℕ) (h : S1024x1024.Slices ![0, o] S1024x128) (W : FVec Ideal S1024x1024 .f32) : FVec Ideal S1x1024x128 .f32 :=
  shapeCast S1x1024x128 (extractStridedSlice S1024x128 ![0, o] W h) shapeCasts_S1024x128_S1x1024x128

theorem slab_apply (o : ℕ) (ho : o + 128 ≤ 1024) (h : S1024x1024.Slices ![0, o] S1024x128) (W : FVec Ideal S1024x1024 .f32) (z : Fin 1) (r : Fin 1024) (d : Fin 128) :
    slab o h W (ix3 z r d) = W (ix2 r ⟨o + d.val, by omega⟩) := by
  unfold slab
  pointwise

theorem product_apply (a : Vec Ideal S1x1024x2048 .bf16) (b : Vec Ideal S2048x1024 .bf16) (r l : Fin 1024) :
    k0_pay19 (F := Ideal) a b (ix2 r l) = Groups.dot (fun u => a (ix3 0 r u)) (fun u => b (ix2 u l)) := by
  unfold k0_pay19 Groups.dot
  pointwise

/-- What the scratch should hold at an index. -/
def held (x0 : Vec Ideal S1x2048x2048 .bf16) (x1 : Vec Ideal S2048x1024 .bf16) (y : S8x2080x128.Idx) : EReal :=
  padded x0 x1 (y 1).val ((y 0).val * 128 + (y 2).val)

theorem slab_piece (x0 : Vec Ideal S1x2048x2048 .bf16) (x1 : Vec Ideal S2048x1024 .bf16) (r0 : ℕ) (hr : r0 + 1024 ≤ 2048)
    (a : Vec Ideal S1x1024x2048 .bf16) (ha : ∀ (r : Fin 1024) (u : Fin 2048), a (ix3 0 r u) = x0 (ix3 0 ⟨r0 + r.val, by omega⟩ u))
    (b : Vec Ideal S2048x1024 .bf16) (hb : ∀ (u : Fin 2048) (l : Fin 1024), b (ix2 u l) = x1 (ix2 u l))
    (k o q : ℕ) (ho : o = k * 128) (hq : q = 16 + r0) (hs : S1024x1024.Slices ![0, o] S1024x128)
    (h : ∀ i, (![k, q, 0] : Fin 3 → ℕ) i + S1x1024x128.size i ≤ S8x2080x128.size i) (y : S1x1024x128.Idx) :
    slab o hs (k0_pay19 a b) y = held x0 x1 ((Rect.unit (s := S8x2080x128) ![k, q, 0] S1x1024x128.size h).emb y) := by
  obtain ⟨z, r, d, rfl⟩ : ∃ (z : Fin 1) (r : Fin 1024) (d : Fin 128), y = ix3 z r d := ⟨y 0, y 1, y 2, funext fun a => by fin_cases a <;> rfl⟩
  have h8 : k + 1 ≤ 8 := h 0
  rw [slab_apply o (by omega), product_apply]
  show _ = padded x0 x1 (q + 1 * r.val) ((k + 1 * z.val) * 128 + (0 + 1 * d.val))
  unfold padded
  rw [dif_pos ⟨⟨by omega, by omega⟩, by omega⟩]
  unfold proj
  simp only [ha, hb]
  refine congrArg₂ Groups.dot (funext fun u => congrArg x0 (congrArg (fun i => ix3 0 i u) (Fin.ext ?_))) (funext fun u => congrArg x1 (congrArg (ix2 u) (Fin.ext ?_)))
  · show r0 + r.val = q + 1 * r.val - 16; omega
  · show o + d.val = (k + 1 * z.val) * 128 + (0 + 1 * d.val); omega

theorem zero_piece (x0 : Vec Ideal S1x2048x2048 .bf16) (x1 : Vec Ideal S2048x1024 .bf16) (k q : ℕ) (hq : q + 16 ≤ 16 ∨ 2064 ≤ q)
    (h : ∀ i, (![k, q, 0] : Fin 3 → ℕ) i + S1x16x128.size i ≤ S8x2080x128.size i) (y : S1x16x128.Idx) :
    k0_pay3 (F := Ideal) y = held x0 x1 ((Rect.unit (s := S8x2080x128) ![k, q, 0] S1x16x128.size h).emb y) := by
  obtain ⟨z, r, d, rfl⟩ : ∃ (z : Fin 1) (r : Fin 16) (d : Fin 128), y = ix3 z r d := ⟨y 0, y 1, y 2, funext fun a => by fin_cases a <;> rfl⟩
  show _ = padded x0 x1 (q + 1 * r.val) ((k + 1 * z.val) * 128 + (0 + 1 * d.val))
  unfold padded
  rw [dif_neg (by omega)]
  unfold k0_pay3 k0_pay2
  pointwise

/-- The slab, the first row and the number of rows of a write that covers a slab's width. -/
def cells (p : View.Piece (Elt Ideal) S8x2080x128 .f32) : (ℕ × ℕ × ℕ) × (ℕ × ℕ × ℕ) × (ℕ × ℕ × ℕ) :=
  ((p.1.off 0, p.1.off 1, p.1.off 2), (p.1.stride 0, p.1.stride 1, p.1.stride 2), (p.1.size 0, p.1.size 1, p.1.size 2))

theorem covered (L : List (View.Piece (Elt Ideal) S8x2080x128 .f32)) (R : List (ℕ × ℕ × ℕ))
    (h : L.map cells = R.map fun q => ((q.1, q.2.1, 0), (1, 1, 1), (1, q.2.2, 128)))
    (hR : ∀ k < 8, (k, 0, 16) ∈ R ∧ (k, 16, 1024) ∈ R ∧ (k, 1040, 1024) ∈ R ∧ (k, 2064, 16) ∈ R) (y : S8x2080x128.Idx) : ∃ p ∈ L, y ∈ p.1.set := by
  have h0 : (y 0).val < 8 := (y 0).isLt
  have h1 : (y 1).val < 2080 := (y 1).isLt
  have h2 : (y 2).val < 128 := (y 2).isLt
  obtain ⟨o, n, ho, h3, h4⟩ : ∃ o n, ((y 0).val, o, n) ∈ R ∧ o ≤ (y 1).val ∧ (y 1).val < o + n := by
    obtain ⟨a, b, c, d⟩ := hR _ h0
    by_cases e1 : (y 1).val < 16
    · exact ⟨_, _, a, by omega, by omega⟩
    by_cases e2 : (y 1).val < 1040
    · exact ⟨_, _, b, by omega, by omega⟩
    by_cases e3 : (y 1).val < 2064
    · exact ⟨_, _, c, by omega, by omega⟩
    · exact ⟨_, _, d, by omega, by omega⟩
  obtain ⟨p, hp, e⟩ := List.mem_map.1 (h ▸ List.mem_map.2 ⟨_, ho, rfl⟩ : _ ∈ L.map cells)
  refine ⟨p, hp, ?_⟩
  unfold cells at e
  simp only [Prod.mk.injEq] at e
  obtain ⟨⟨a1, a2, a3⟩, ⟨b1, b2, b3⟩, c1, c2, c3⟩ := e
  rw [LoadRect.mem_set]
  intro a
  match a with
  | ⟨0, _⟩ =>
    refine ⟨0, lt_of_lt_of_eq Nat.one_pos c1.symm, ?_⟩
    show (y 0).val = p.1.off 0 + p.1.stride 0 * _
    rw [a1]; rfl
  | ⟨1, _⟩ =>
    refine ⟨(y 1).val - o, lt_of_lt_of_eq (by omega) c2.symm, ?_⟩
    show (y 1).val = p.1.off 1 + p.1.stride 1 * _
    rw [a2, b2]; omega
  | ⟨2, _⟩ =>
    refine ⟨(y 2).val, lt_of_lt_of_eq h2 c3.symm, ?_⟩
    show (y 2).val = p.1.off 2 + p.1.stride 2 * _
    rw [a3, b3]; omega

variable (c : Dev nD) (arg2 : Memref sig .tc .vmem S1x2048x2048 .bf16) (harg2 : arg2.IsWhole) (arg3 : Memref sig .tc .vmem S2048x1024 .bf16) (harg3 : arg3.IsWhole)
    (x0 : Vec Ideal S1x2048x2048 .bf16) (x1 : Vec Ideal S2048x1024 .bf16)

theorem rows_apply (r0 : ℕ) (hr : r0 + 1024 ≤ 2048) (h : ∀ i, (![0, r0, 0] : Fin 3 → ℕ) i + S1x1024x2048.size i ≤ S1x2048x2048.size i) (r : Fin 1024) (u : Fin 2048) :
    View.readAt (Elt Ideal) arg2.view (Rect.unit (s := S1x2048x2048) ![0, r0, 0] S1x1024x2048.size h).toLoadRect (harg2.unread x0) (ix3 0 r u) = x0 (ix3 0 ⟨r0 + r.val, by omega⟩ u) := by
  rw [View.readAt_eq_ld, Memref.IsWhole.read_unread]
  refine congrArg x0 (funext fun a => Fin.ext ?_)
  match a with
  | ⟨0, _⟩ => rfl
  | ⟨1, _⟩ => show r0 + 1 * r.val = r0 + r.val; omega
  | ⟨2, _⟩ => show 0 + 1 * u.val = u.val; omega

theorem cols_apply (u : Fin 2048) (l : Fin 1024) :
    View.readAt (Elt Ideal) arg3.view (Rect.unit (s := S2048x1024) ![0, 0] S2048x1024.size inb_S2048x1024_S2048x1024_0_0).toLoadRect (harg3.unread x1) (ix2 u l) = x1 (ix2 u l) := by
  rw [View.readAt_eq_ld, Memref.IsWhole.read_unread]
  refine congrArg x1 (funext fun a => Fin.ext ?_)
  match a with
  | ⟨0, _⟩ => show 0 + 1 * u.val = u.val; omega
  | ⟨1, _⟩ => show 0 + 1 * l.val = l.val; omega

/-- The scratch's regions, in the order of the writes, newest first. -/
def regions : List (ℕ × ℕ × ℕ) := [(7, 1040, 1024), (6, 1040, 1024), (5, 1040, 1024), (4, 1040, 1024), (3, 1040, 1024), (2, 1040, 1024), (1, 1040, 1024), (0, 1040, 1024), (7, 16, 1024), (6, 16, 1024), (5, 16, 1024), (4, 16, 1024), (3, 16, 1024), (2, 16, 1024), (1, 16, 1024), (0, 16, 1024), (7, 2064, 16), (7, 0, 16), (6, 2064, 16), (6, 0, 16), (5, 2064, 16), (5, 0, 16), (4, 2064, 16), (4, 0, 16), (3, 2064, 16), (3, 0, 16), (2, 2064, 16), (2, 0, 16), (1, 2064, 16), (1, 0, 16), (0, 2064, 16), (0, 0, 16)]

theorem regions_all : ∀ k < 8, (k, 0, 16) ∈ regions ∧ (k, 16, 1024) ∈ regions ∧ (k, 1040, 1024) ∈ regions ∧ (k, 2064, 16) ∈ regions := by
  intro k hk
  interval_cases k <;> simp [regions]

theorem scratch_covered (y : S8x2080x128.Idx) : ∃ p ∈ kernelRun0_A.sl.HS0_32 (F := Ideal) c arg2 harg2 arg3 harg3 x0 x1, y ∈ p.1.set :=
  covered _ regions rfl regions_all y

theorem scratch (y : S8x2080x128.Idx) : View.canon (kernelRun0_A.sl.HS0_32 (F := Ideal) c arg2 harg2 arg3 harg3 x0 x1) y = held x0 x1 y := by
  refine View.canon_apply_of_pieces (held x0 x1) _ ?_ y (scratch_covered c arg2 harg2 arg3 harg3 x0 x1 y)
  unfold kernelRun0_A.sl.HS0_32
  simp only [List.forall_mem_cons]
  have p0 := slab_piece x0 x1 0 (by omega) _ (rows_apply arg2 harg2 x0 0 (by omega) inb_S1x2048x2048_S1x1024x2048_0_0_0) _ (cols_apply arg3 harg3 x1)
  have p1 := slab_piece x0 x1 1024 (by omega) _ (rows_apply arg2 harg2 x0 1024 (by omega) inb_S1x2048x2048_S1x1024x2048_0_1024_0) _ (cols_apply arg3 harg3 x1)
  have z := zero_piece x0 x1
  exact ⟨p1 7 896 1040 rfl rfl slices_S1024x1024_o0_896_S1024x128 inb_S8x2080x128_S1x1024x128_7_1040_0,
    p1 6 768 1040 rfl rfl slices_S1024x1024_o0_768_S1024x128 inb_S8x2080x128_S1x1024x128_6_1040_0,
    p1 5 640 1040 rfl rfl slices_S1024x1024_o0_640_S1024x128 inb_S8x2080x128_S1x1024x128_5_1040_0,
    p1 4 512 1040 rfl rfl slices_S1024x1024_o0_512_S1024x128 inb_S8x2080x128_S1x1024x128_4_1040_0,
    p1 3 384 1040 rfl rfl slices_S1024x1024_o0_384_S1024x128 inb_S8x2080x128_S1x1024x128_3_1040_0,
    p1 2 256 1040 rfl rfl slices_S1024x1024_o0_256_S1024x128 inb_S8x2080x128_S1x1024x128_2_1040_0,
    p1 1 128 1040 rfl rfl slices_S1024x1024_o0_128_S1024x128 inb_S8x2080x128_S1x1024x128_1_1040_0,
    p1 0 0 1040 rfl rfl slices_S1024x1024_o0_0_S1024x128 inb_S8x2080x128_S1x1024x128_0_1040_0,
    p0 7 896 16 rfl rfl slices_S1024x1024_o0_896_S1024x128 inb_S8x2080x128_S1x1024x128_7_16_0,
    p0 6 768 16 rfl rfl slices_S1024x1024_o0_768_S1024x128 inb_S8x2080x128_S1x1024x128_6_16_0,
    p0 5 640 16 rfl rfl slices_S1024x1024_o0_640_S1024x128 inb_S8x2080x128_S1x1024x128_5_16_0,
    p0 4 512 16 rfl rfl slices_S1024x1024_o0_512_S1024x128 inb_S8x2080x128_S1x1024x128_4_16_0,
    p0 3 384 16 rfl rfl slices_S1024x1024_o0_384_S1024x128 inb_S8x2080x128_S1x1024x128_3_16_0,
    p0 2 256 16 rfl rfl slices_S1024x1024_o0_256_S1024x128 inb_S8x2080x128_S1x1024x128_2_16_0,
    p0 1 128 16 rfl rfl slices_S1024x1024_o0_128_S1024x128 inb_S8x2080x128_S1x1024x128_1_16_0,
    p0 0 0 16 rfl rfl slices_S1024x1024_o0_0_S1024x128 inb_S8x2080x128_S1x1024x128_0_16_0,
    z 7 2064 (by omega) inb_S8x2080x128_S1x16x128_7_2064_0,
    z 7 0 (by omega) inb_S8x2080x128_S1x16x128_7_0_0,
    z 6 2064 (by omega) inb_S8x2080x128_S1x16x128_6_2064_0,
    z 6 0 (by omega) inb_S8x2080x128_S1x16x128_6_0_0,
    z 5 2064 (by omega) inb_S8x2080x128_S1x16x128_5_2064_0,
    z 5 0 (by omega) inb_S8x2080x128_S1x16x128_5_0_0,
    z 4 2064 (by omega) inb_S8x2080x128_S1x16x128_4_2064_0,
    z 4 0 (by omega) inb_S8x2080x128_S1x16x128_4_0_0,
    z 3 2064 (by omega) inb_S8x2080x128_S1x16x128_3_2064_0,
    z 3 0 (by omega) inb_S8x2080x128_S1x16x128_3_0_0,
    z 2 2064 (by omega) inb_S8x2080x128_S1x16x128_2_2064_0,
    z 2 0 (by omega) inb_S8x2080x128_S1x16x128_2_0_0,
    z 1 2064 (by omega) inb_S8x2080x128_S1x16x128_1_2064_0,
    z 1 0 (by omega) inb_S8x2080x128_S1x16x128_1_0_0,
    z 0 2064 (by omega) inb_S8x2080x128_S1x16x128_0_2064_0,
    z 0 0 (by omega) inb_S8x2080x128_S1x16x128_0_0_0, fun _ h => absurd h List.not_mem_nil⟩

/-! ## The short convolution -/

/-- Three taps and the bias, at token `s` of a column whose rows are `P`. -/
def taps (P : ℕ → EReal) (w : Fin 3 → EReal) (b : EReal) (s : ℕ) : EReal :=
  P s * w 0 + P (s + 1) * w 1 + P (s + 2) * w 2 + b

/-- What the kernel computes of three runs of rows. -/
def sums (w0 w1 w2 b : Vec Ideal S1x128 .f32) (p q r : Vec Ideal S1x256x128 .f32) : FVec Ideal S1x256x128 .bf16 :=
  k0_pay46 w0 w1 w2 (k0_pay39 b) (k0_pay40 p) (k0_pay40 q) (k0_pay40 r)

theorem sums_apply (w0 w1 w2 b : Vec Ideal S1x128 .f32) (p q r : Vec Ideal S1x256x128 .f32) (z : Fin 1) (k : Fin 256) (d : Fin 128) :
    sums w0 w1 w2 b p q r (ix3 z k d) = p (ix3 0 k d) * w0 (ix2 0 d) + q (ix3 0 k d) * w1 (ix2 0 d) + r (ix3 0 k d) * w2 (ix2 0 d) + b (ix2 0 d) := by
  unfold sums k0_pay46 k0_pay39 k0_pay40
  pointwise

/-- The kernel's block: its rows are the tokens ordered by their remainder modulo four. -/
def block (x2 : Vec Ideal S3x1024 .f32) (x3 : Vec Ideal S1x1024 .f32) (y : S1x2048x1024.Idx) : EReal :=
  taps (fun s => padded x0 x1 (15 + s) (y 2).val) (fun k => x2 (ix2 k (y 2))) (x3 (ix2 0 (y 2))) (4 * ((y 1).val % 512) + (y 1).val / 512)

theorem load_apply (arg7 : Memref sig .tc .vmem S8x2080x128 .f32) (k q : ℕ) (z : Fin 1) (r : Fin 256) (d : Fin 128)
    (h : ∀ i, S1x256x128.size i = 0 ∨ (![k, q, 0] : Fin 3 → ℕ) i + (![1, 4, 1] : Fin 3 → ℕ) i * (S1x256x128.size i - 1) < S8x2080x128.size i) :
    arg7.view.readCov (kernelRun0_A.sl.HS0_32 (F := Ideal) c arg2 harg2 arg3 harg3 x0 x1) ⟨![k, q, 0], S1x256x128.size, ![1, 4, 1], h⟩ (ix3 z r d)
      = padded x0 x1 (q + 4 * r.val) (k * 128 + d.val) := by
  rw [View.readCov_eq_canon']
  refine (scratch c arg2 harg2 arg3 harg3 x0 x1 _).trans ?_
  show padded x0 x1 (q + 4 * r.val) ((k + 1 * z.val) * 128 + (0 + 1 * d.val)) = _
  congr 1; omega

variable (arg4 : Memref sig .tc .vmem S3x1024 .f32) (harg4 : arg4.IsWhole) (arg5 : Memref sig .tc .vmem S1x1024 .f32) (harg5 : arg5.IsWhole)
    (x2 : Vec Ideal S3x1024 .f32) (x3 : Vec Ideal S1x1024 .f32)

theorem weight_apply (i o : ℕ) (hi : i < 3) (ho : o + 128 ≤ 1024) (h : ∀ a, (![i, o] : Fin 2 → ℕ) a + S1x128.size a ≤ S3x1024.size a) (d : Fin 128) :
    View.readAt (Elt Ideal) arg4.view (Rect.unit (s := S3x1024) ![i, o] S1x128.size h).toLoadRect (harg4.unread x2) (ix2 0 d) = x2 (ix2 ⟨i, hi⟩ ⟨o + d.val, by omega⟩) := by
  rw [View.readAt_eq_ld, Memref.IsWhole.read_unread]
  refine congrArg x2 (funext fun a => Fin.ext ?_)
  match a with
  | ⟨0, _⟩ => rfl
  | ⟨1, _⟩ => show o + 1 * d.val = o + d.val; omega

theorem bias_apply (o : ℕ) (ho : o + 128 ≤ 1024) (h : ∀ a, (![0, o] : Fin 2 → ℕ) a + S1x128.size a ≤ S1x1024.size a) (d : Fin 128) :
    View.readAt (Elt Ideal) arg5.view (Rect.unit (s := S1x1024) ![0, o] S1x128.size h).toLoadRect (harg5.unread x3) (ix2 0 d) = x3 (ix2 0 ⟨o + d.val, by omega⟩) := by
  rw [View.readAt_eq_ld, Memref.IsWhole.read_unread]
  refine congrArg x3 (funext fun a => Fin.ext ?_)
  match a with
  | ⟨0, _⟩ => rfl
  | ⟨1, _⟩ => show o + 1 * d.val = o + d.val; omega

theorem piece (arg7 : Memref sig .tc .vmem S8x2080x128 .f32) (k o : ℕ) (hk : k < 8) (ho : o = k * 128)
    (i0 : ∀ a, (![0, o] : Fin 2 → ℕ) a + S1x128.size a ≤ S3x1024.size a) (i1 : ∀ a, (![1, o] : Fin 2 → ℕ) a + S1x128.size a ≤ S3x1024.size a)
    (i2 : ∀ a, (![2, o] : Fin 2 → ℕ) a + S1x128.size a ≤ S3x1024.size a) (ib : ∀ a, (![0, o] : Fin 2 → ℕ) a + S1x128.size a ≤ S1x1024.size a)
    (q n p0 p1 p2 w : ℕ) (hq : q + 256 ≤ 512) (e0 : p0 = 15 + 4 * q + n) (e1 : p1 = 16 + 4 * q + n) (e2 : p2 = 17 + 4 * q + n) (hw : w = n * 512 + q)
    (h0 : ∀ i, S1x256x128.size i = 0 ∨ (![k, p0, 0] : Fin 3 → ℕ) i + (![1, 4, 1] : Fin 3 → ℕ) i * (S1x256x128.size i - 1) < S8x2080x128.size i)
    (h1 : ∀ i, S1x256x128.size i = 0 ∨ (![k, p1, 0] : Fin 3 → ℕ) i + (![1, 4, 1] : Fin 3 → ℕ) i * (S1x256x128.size i - 1) < S8x2080x128.size i)
    (h2 : ∀ i, S1x256x128.size i = 0 ∨ (![k, p2, 0] : Fin 3 → ℕ) i + (![1, 4, 1] : Fin 3 → ℕ) i * (S1x256x128.size i - 1) < S8x2080x128.size i)
    (h : ∀ i, (![0, w, o] : Fin 3 → ℕ) i + S1x256x128.size i ≤ S1x2048x1024.size i) (y : S1x256x128.Idx) :
    sums (View.readAt (Elt Ideal) arg4.view (Rect.unit (s := S3x1024) ![0, o] S1x128.size i0).toLoadRect (harg4.unread x2))
      (View.readAt (Elt Ideal) arg4.view (Rect.unit (s := S3x1024) ![1, o] S1x128.size i1).toLoadRect (harg4.unread x2))
      (View.readAt (Elt Ideal) arg4.view (Rect.unit (s := S3x1024) ![2, o] S1x128.size i2).toLoadRect (harg4.unread x2))
      (View.readAt (Elt Ideal) arg5.view (Rect.unit (s := S1x1024) ![0, o] S1x128.size ib).toLoadRect (harg5.unread x3))
      (arg7.view.readCov (kernelRun0_A.sl.HS0_32 (F := Ideal) c arg2 harg2 arg3 harg3 x0 x1) ⟨![k, p0, 0], S1x256x128.size, ![1, 4, 1], h0⟩)
      (arg7.view.readCov (kernelRun0_A.sl.HS0_32 (F := Ideal) c arg2 harg2 arg3 harg3 x0 x1) ⟨![k, p1, 0], S1x256x128.size, ![1, 4, 1], h1⟩)
      (arg7.view.readCov (kernelRun0_A.sl.HS0_32 (F := Ideal) c arg2 harg2 arg3 harg3 x0 x1) ⟨![k, p2, 0], S1x256x128.size, ![1, 4, 1], h2⟩) y
      = block x0 x1 x2 x3 ((Rect.unit (s := S1x2048x1024) ![0, w, o] S1x256x128.size h).emb y) := by
  obtain ⟨z, r, d, rfl⟩ : ∃ (z : Fin 1) (r : Fin 256) (d : Fin 128), y = ix3 z r d := ⟨y 0, y 1, y 2, funext fun a => by fin_cases a <;> rfl⟩
  have hr : r.val < 256 := r.isLt
  rw [sums_apply, load_apply, load_apply, load_apply, weight_apply _ _ _ 0 o (by omega) (by omega), weight_apply _ _ _ 1 o (by omega) (by omega), weight_apply _ _ _ 2 o (by omega) (by omega), bias_apply _ _ _ o (by omega)]
  have el : ((Rect.unit (s := S1x2048x1024) ![0, w, o] S1x256x128.size h).emb (ix3 z r d)) 2 = (⟨o + d.val, by omega⟩ : Fin 1024) := Fin.ext (by show o + 1 * d.val = o + d.val; omega)
  have er : (((Rect.unit (s := S1x2048x1024) ![0, w, o] S1x256x128.size h).emb (ix3 z r d)) 1).val = w + r.val := by show w + 1 * r.val = w + r.val; omega
  unfold block
  rw [el, er]
  have es : 4 * ((w + r.val) % 512) + (w + r.val) / 512 = 4 * (q + r.val) + n := by omega
  rw [es]
  show _ = padded x0 x1 (15 + (4 * (q + r.val) + n)) (o + d.val) * x2 (ix2 0 ⟨o + d.val, _⟩) + padded x0 x1 (15 + (4 * (q + r.val) + n + 1)) (o + d.val) * x2 (ix2 1 ⟨o + d.val, _⟩) + padded x0 x1 (15 + (4 * (q + r.val) + n + 2)) (o + d.val) * x2 (ix2 2 ⟨o + d.val, _⟩) + x3 (ix2 0 ⟨o + d.val, _⟩)
  rw [show 15 + (4 * (q + r.val) + n) = p0 + 4 * r.val by omega, show 15 + (4 * (q + r.val) + n + 1) = p1 + 4 * r.val by omega, show 15 + (4 * (q + r.val) + n + 2) = p2 + 4 * r.val by omega, ← ho]
  rfl

theorem outA4 (i : grid0.Coords) (arg6 : Memref sig .tc .vmem S1x2048x1024 .bf16) (harg6 : arg6.IsWhole) (arg7 : Memref sig .tc .vmem S8x2080x128 .f32) (harg7 : arg7.IsWhole) (y : S1x2048x1024.Idx) :
    out0_A_4 (F := Ideal) c i arg2 harg2 arg3 harg3 arg4 harg4 arg5 harg5 arg6 harg6 arg7 harg7 x0 x1 x2 x3 y = block x0 x1 x2 x3 y := by
  unfold out0_A_4
  refine (View.read_writes_junk_apply_eq_canon _ _ _).trans ?_
  refine View.canon_apply_of_pieces (block x0 x1 x2 x3) _ ?_ y
    (cover0_A_4 (F := Ideal) c i arg2 harg2 arg3 harg3 arg4 harg4 arg5 harg5 arg6 harg6 arg7 harg7 x0 x1 x2 x3 y)
  unfold kernelRun0_A
  sl_unfold_run_values
  dsimp only
  simp only [List.forall_mem_cons]
  have p := piece c arg2 harg2 arg3 harg3 x0 x1 arg4 harg4 arg5 harg5 x2 x3 arg7
  have c0 := p 0 0 (by omega) rfl inb_S3x1024_S1x128_0_0 inb_S3x1024_S1x128_1_0 inb_S3x1024_S1x128_2_0 inb_S1x1024_S1x128_0_0
  have c1 := p 1 128 (by omega) rfl inb_S3x1024_S1x128_0_128 inb_S3x1024_S1x128_1_128 inb_S3x1024_S1x128_2_128 inb_S1x1024_S1x128_0_128
  have c2 := p 2 256 (by omega) rfl inb_S3x1024_S1x128_0_256 inb_S3x1024_S1x128_1_256 inb_S3x1024_S1x128_2_256 inb_S1x1024_S1x128_0_256
  have c3 := p 3 384 (by omega) rfl inb_S3x1024_S1x128_0_384 inb_S3x1024_S1x128_1_384 inb_S3x1024_S1x128_2_384 inb_S1x1024_S1x128_0_384
  have c4 := p 4 512 (by omega) rfl inb_S3x1024_S1x128_0_512 inb_S3x1024_S1x128_1_512 inb_S3x1024_S1x128_2_512 inb_S1x1024_S1x128_0_512
  have c5 := p 5 640 (by omega) rfl inb_S3x1024_S1x128_0_640 inb_S3x1024_S1x128_1_640 inb_S3x1024_S1x128_2_640 inb_S1x1024_S1x128_0_640
  have c6 := p 6 768 (by omega) rfl inb_S3x1024_S1x128_0_768 inb_S3x1024_S1x128_1_768 inb_S3x1024_S1x128_2_768 inb_S1x1024_S1x128_0_768
  have c7 := p 7 896 (by omega) rfl inb_S3x1024_S1x128_0_896 inb_S3x1024_S1x128_1_896 inb_S3x1024_S1x128_2_896 inb_S1x1024_S1x128_0_896
  exact ⟨c7 256 3 1042 1043 1044 1792 (by omega) rfl rfl rfl rfl inb_S8x2080x128_S1x256x128_7_1042_0_s_1_4_1 inb_S8x2080x128_S1x256x128_7_1043_0_s_1_4_1 inb_S8x2080x128_S1x256x128_7_1044_0_s_1_4_1 inb_S1x2048x1024_S1x256x128_0_1792_896,
    c7 256 2 1041 1042 1043 1280 (by omega) rfl rfl rfl rfl inb_S8x2080x128_S1x256x128_7_1041_0_s_1_4_1 inb_S8x2080x128_S1x256x128_7_1042_0_s_1_4_1 inb_S8x2080x128_S1x256x128_7_1043_0_s_1_4_1 inb_S1x2048x1024_S1x256x128_0_1280_896,
    c7 256 1 1040 1041 1042 768 (by omega) rfl rfl rfl rfl inb_S8x2080x128_S1x256x128_7_1040_0_s_1_4_1 inb_S8x2080x128_S1x256x128_7_1041_0_s_1_4_1 inb_S8x2080x128_S1x256x128_7_1042_0_s_1_4_1 inb_S1x2048x1024_S1x256x128_0_768_896,
    c7 256 0 1039 1040 1041 256 (by omega) rfl rfl rfl rfl inb_S8x2080x128_S1x256x128_7_1039_0_s_1_4_1 inb_S8x2080x128_S1x256x128_7_1040_0_s_1_4_1 inb_S8x2080x128_S1x256x128_7_1041_0_s_1_4_1 inb_S1x2048x1024_S1x256x128_0_256_896,
    c6 256 3 1042 1043 1044 1792 (by omega) rfl rfl rfl rfl inb_S8x2080x128_S1x256x128_6_1042_0_s_1_4_1 inb_S8x2080x128_S1x256x128_6_1043_0_s_1_4_1 inb_S8x2080x128_S1x256x128_6_1044_0_s_1_4_1 inb_S1x2048x1024_S1x256x128_0_1792_768,
    c6 256 2 1041 1042 1043 1280 (by omega) rfl rfl rfl rfl inb_S8x2080x128_S1x256x128_6_1041_0_s_1_4_1 inb_S8x2080x128_S1x256x128_6_1042_0_s_1_4_1 inb_S8x2080x128_S1x256x128_6_1043_0_s_1_4_1 inb_S1x2048x1024_S1x256x128_0_1280_768,
    c6 256 1 1040 1041 1042 768 (by omega) rfl rfl rfl rfl inb_S8x2080x128_S1x256x128_6_1040_0_s_1_4_1 inb_S8x2080x128_S1x256x128_6_1041_0_s_1_4_1 inb_S8x2080x128_S1x256x128_6_1042_0_s_1_4_1 inb_S1x2048x1024_S1x256x128_0_768_768,
    c6 256 0 1039 1040 1041 256 (by omega) rfl rfl rfl rfl inb_S8x2080x128_S1x256x128_6_1039_0_s_1_4_1 inb_S8x2080x128_S1x256x128_6_1040_0_s_1_4_1 inb_S8x2080x128_S1x256x128_6_1041_0_s_1_4_1 inb_S1x2048x1024_S1x256x128_0_256_768,
    c5 256 3 1042 1043 1044 1792 (by omega) rfl rfl rfl rfl inb_S8x2080x128_S1x256x128_5_1042_0_s_1_4_1 inb_S8x2080x128_S1x256x128_5_1043_0_s_1_4_1 inb_S8x2080x128_S1x256x128_5_1044_0_s_1_4_1 inb_S1x2048x1024_S1x256x128_0_1792_640,
    c5 256 2 1041 1042 1043 1280 (by omega) rfl rfl rfl rfl inb_S8x2080x128_S1x256x128_5_1041_0_s_1_4_1 inb_S8x2080x128_S1x256x128_5_1042_0_s_1_4_1 inb_S8x2080x128_S1x256x128_5_1043_0_s_1_4_1 inb_S1x2048x1024_S1x256x128_0_1280_640,
    c5 256 1 1040 1041 1042 768 (by omega) rfl rfl rfl rfl inb_S8x2080x128_S1x256x128_5_1040_0_s_1_4_1 inb_S8x2080x128_S1x256x128_5_1041_0_s_1_4_1 inb_S8x2080x128_S1x256x128_5_1042_0_s_1_4_1 inb_S1x2048x1024_S1x256x128_0_768_640,
    c5 256 0 1039 1040 1041 256 (by omega) rfl rfl rfl rfl inb_S8x2080x128_S1x256x128_5_1039_0_s_1_4_1 inb_S8x2080x128_S1x256x128_5_1040_0_s_1_4_1 inb_S8x2080x128_S1x256x128_5_1041_0_s_1_4_1 inb_S1x2048x1024_S1x256x128_0_256_640,
    c4 256 3 1042 1043 1044 1792 (by omega) rfl rfl rfl rfl inb_S8x2080x128_S1x256x128_4_1042_0_s_1_4_1 inb_S8x2080x128_S1x256x128_4_1043_0_s_1_4_1 inb_S8x2080x128_S1x256x128_4_1044_0_s_1_4_1 inb_S1x2048x1024_S1x256x128_0_1792_512,
    c4 256 2 1041 1042 1043 1280 (by omega) rfl rfl rfl rfl inb_S8x2080x128_S1x256x128_4_1041_0_s_1_4_1 inb_S8x2080x128_S1x256x128_4_1042_0_s_1_4_1 inb_S8x2080x128_S1x256x128_4_1043_0_s_1_4_1 inb_S1x2048x1024_S1x256x128_0_1280_512,
    c4 256 1 1040 1041 1042 768 (by omega) rfl rfl rfl rfl inb_S8x2080x128_S1x256x128_4_1040_0_s_1_4_1 inb_S8x2080x128_S1x256x128_4_1041_0_s_1_4_1 inb_S8x2080x128_S1x256x128_4_1042_0_s_1_4_1 inb_S1x2048x1024_S1x256x128_0_768_512,
    c4 256 0 1039 1040 1041 256 (by omega) rfl rfl rfl rfl inb_S8x2080x128_S1x256x128_4_1039_0_s_1_4_1 inb_S8x2080x128_S1x256x128_4_1040_0_s_1_4_1 inb_S8x2080x128_S1x256x128_4_1041_0_s_1_4_1 inb_S1x2048x1024_S1x256x128_0_256_512,
    c3 256 3 1042 1043 1044 1792 (by omega) rfl rfl rfl rfl inb_S8x2080x128_S1x256x128_3_1042_0_s_1_4_1 inb_S8x2080x128_S1x256x128_3_1043_0_s_1_4_1 inb_S8x2080x128_S1x256x128_3_1044_0_s_1_4_1 inb_S1x2048x1024_S1x256x128_0_1792_384,
    c3 256 2 1041 1042 1043 1280 (by omega) rfl rfl rfl rfl inb_S8x2080x128_S1x256x128_3_1041_0_s_1_4_1 inb_S8x2080x128_S1x256x128_3_1042_0_s_1_4_1 inb_S8x2080x128_S1x256x128_3_1043_0_s_1_4_1 inb_S1x2048x1024_S1x256x128_0_1280_384,
    c3 256 1 1040 1041 1042 768 (by omega) rfl rfl rfl rfl inb_S8x2080x128_S1x256x128_3_1040_0_s_1_4_1 inb_S8x2080x128_S1x256x128_3_1041_0_s_1_4_1 inb_S8x2080x128_S1x256x128_3_1042_0_s_1_4_1 inb_S1x2048x1024_S1x256x128_0_768_384,
    c3 256 0 1039 1040 1041 256 (by omega) rfl rfl rfl rfl inb_S8x2080x128_S1x256x128_3_1039_0_s_1_4_1 inb_S8x2080x128_S1x256x128_3_1040_0_s_1_4_1 inb_S8x2080x128_S1x256x128_3_1041_0_s_1_4_1 inb_S1x2048x1024_S1x256x128_0_256_384,
    c2 256 3 1042 1043 1044 1792 (by omega) rfl rfl rfl rfl inb_S8x2080x128_S1x256x128_2_1042_0_s_1_4_1 inb_S8x2080x128_S1x256x128_2_1043_0_s_1_4_1 inb_S8x2080x128_S1x256x128_2_1044_0_s_1_4_1 inb_S1x2048x1024_S1x256x128_0_1792_256,
    c2 256 2 1041 1042 1043 1280 (by omega) rfl rfl rfl rfl inb_S8x2080x128_S1x256x128_2_1041_0_s_1_4_1 inb_S8x2080x128_S1x256x128_2_1042_0_s_1_4_1 inb_S8x2080x128_S1x256x128_2_1043_0_s_1_4_1 inb_S1x2048x1024_S1x256x128_0_1280_256,
    c2 256 1 1040 1041 1042 768 (by omega) rfl rfl rfl rfl inb_S8x2080x128_S1x256x128_2_1040_0_s_1_4_1 inb_S8x2080x128_S1x256x128_2_1041_0_s_1_4_1 inb_S8x2080x128_S1x256x128_2_1042_0_s_1_4_1 inb_S1x2048x1024_S1x256x128_0_768_256,
    c2 256 0 1039 1040 1041 256 (by omega) rfl rfl rfl rfl inb_S8x2080x128_S1x256x128_2_1039_0_s_1_4_1 inb_S8x2080x128_S1x256x128_2_1040_0_s_1_4_1 inb_S8x2080x128_S1x256x128_2_1041_0_s_1_4_1 inb_S1x2048x1024_S1x256x128_0_256_256,
    c1 256 3 1042 1043 1044 1792 (by omega) rfl rfl rfl rfl inb_S8x2080x128_S1x256x128_1_1042_0_s_1_4_1 inb_S8x2080x128_S1x256x128_1_1043_0_s_1_4_1 inb_S8x2080x128_S1x256x128_1_1044_0_s_1_4_1 inb_S1x2048x1024_S1x256x128_0_1792_128,
    c1 256 2 1041 1042 1043 1280 (by omega) rfl rfl rfl rfl inb_S8x2080x128_S1x256x128_1_1041_0_s_1_4_1 inb_S8x2080x128_S1x256x128_1_1042_0_s_1_4_1 inb_S8x2080x128_S1x256x128_1_1043_0_s_1_4_1 inb_S1x2048x1024_S1x256x128_0_1280_128,
    c1 256 1 1040 1041 1042 768 (by omega) rfl rfl rfl rfl inb_S8x2080x128_S1x256x128_1_1040_0_s_1_4_1 inb_S8x2080x128_S1x256x128_1_1041_0_s_1_4_1 inb_S8x2080x128_S1x256x128_1_1042_0_s_1_4_1 inb_S1x2048x1024_S1x256x128_0_768_128,
    c1 256 0 1039 1040 1041 256 (by omega) rfl rfl rfl rfl inb_S8x2080x128_S1x256x128_1_1039_0_s_1_4_1 inb_S8x2080x128_S1x256x128_1_1040_0_s_1_4_1 inb_S8x2080x128_S1x256x128_1_1041_0_s_1_4_1 inb_S1x2048x1024_S1x256x128_0_256_128,
    c0 256 3 1042 1043 1044 1792 (by omega) rfl rfl rfl rfl inb_S8x2080x128_S1x256x128_0_1042_0_s_1_4_1 inb_S8x2080x128_S1x256x128_0_1043_0_s_1_4_1 inb_S8x2080x128_S1x256x128_0_1044_0_s_1_4_1 inb_S1x2048x1024_S1x256x128_0_1792_0,
    c0 256 2 1041 1042 1043 1280 (by omega) rfl rfl rfl rfl inb_S8x2080x128_S1x256x128_0_1041_0_s_1_4_1 inb_S8x2080x128_S1x256x128_0_1042_0_s_1_4_1 inb_S8x2080x128_S1x256x128_0_1043_0_s_1_4_1 inb_S1x2048x1024_S1x256x128_0_1280_0,
    c0 256 1 1040 1041 1042 768 (by omega) rfl rfl rfl rfl inb_S8x2080x128_S1x256x128_0_1040_0_s_1_4_1 inb_S8x2080x128_S1x256x128_0_1041_0_s_1_4_1 inb_S8x2080x128_S1x256x128_0_1042_0_s_1_4_1 inb_S1x2048x1024_S1x256x128_0_768_0,
    c0 256 0 1039 1040 1041 256 (by omega) rfl rfl rfl rfl inb_S8x2080x128_S1x256x128_0_1039_0_s_1_4_1 inb_S8x2080x128_S1x256x128_0_1040_0_s_1_4_1 inb_S8x2080x128_S1x256x128_0_1041_0_s_1_4_1 inb_S1x2048x1024_S1x256x128_0_256_0,
    c7 0 3 18 19 20 1536 (by omega) rfl rfl rfl rfl inb_S8x2080x128_S1x256x128_7_18_0_s_1_4_1 inb_S8x2080x128_S1x256x128_7_19_0_s_1_4_1 inb_S8x2080x128_S1x256x128_7_20_0_s_1_4_1 inb_S1x2048x1024_S1x256x128_0_1536_896,
    c7 0 2 17 18 19 1024 (by omega) rfl rfl rfl rfl inb_S8x2080x128_S1x256x128_7_17_0_s_1_4_1 inb_S8x2080x128_S1x256x128_7_18_0_s_1_4_1 inb_S8x2080x128_S1x256x128_7_19_0_s_1_4_1 inb_S1x2048x1024_S1x256x128_0_1024_896,
    c7 0 1 16 17 18 512 (by omega) rfl rfl rfl rfl inb_S8x2080x128_S1x256x128_7_16_0_s_1_4_1 inb_S8x2080x128_S1x256x128_7_17_0_s_1_4_1 inb_S8x2080x128_S1x256x128_7_18_0_s_1_4_1 inb_S1x2048x1024_S1x256x128_0_512_896,
    c7 0 0 15 16 17 0 (by omega) rfl rfl rfl rfl inb_S8x2080x128_S1x256x128_7_15_0_s_1_4_1 inb_S8x2080x128_S1x256x128_7_16_0_s_1_4_1 inb_S8x2080x128_S1x256x128_7_17_0_s_1_4_1 inb_S1x2048x1024_S1x256x128_0_0_896,
    c6 0 3 18 19 20 1536 (by omega) rfl rfl rfl rfl inb_S8x2080x128_S1x256x128_6_18_0_s_1_4_1 inb_S8x2080x128_S1x256x128_6_19_0_s_1_4_1 inb_S8x2080x128_S1x256x128_6_20_0_s_1_4_1 inb_S1x2048x1024_S1x256x128_0_1536_768,
    c6 0 2 17 18 19 1024 (by omega) rfl rfl rfl rfl inb_S8x2080x128_S1x256x128_6_17_0_s_1_4_1 inb_S8x2080x128_S1x256x128_6_18_0_s_1_4_1 inb_S8x2080x128_S1x256x128_6_19_0_s_1_4_1 inb_S1x2048x1024_S1x256x128_0_1024_768,
    c6 0 1 16 17 18 512 (by omega) rfl rfl rfl rfl inb_S8x2080x128_S1x256x128_6_16_0_s_1_4_1 inb_S8x2080x128_S1x256x128_6_17_0_s_1_4_1 inb_S8x2080x128_S1x256x128_6_18_0_s_1_4_1 inb_S1x2048x1024_S1x256x128_0_512_768,
    c6 0 0 15 16 17 0 (by omega) rfl rfl rfl rfl inb_S8x2080x128_S1x256x128_6_15_0_s_1_4_1 inb_S8x2080x128_S1x256x128_6_16_0_s_1_4_1 inb_S8x2080x128_S1x256x128_6_17_0_s_1_4_1 inb_S1x2048x1024_S1x256x128_0_0_768,
    c5 0 3 18 19 20 1536 (by omega) rfl rfl rfl rfl inb_S8x2080x128_S1x256x128_5_18_0_s_1_4_1 inb_S8x2080x128_S1x256x128_5_19_0_s_1_4_1 inb_S8x2080x128_S1x256x128_5_20_0_s_1_4_1 inb_S1x2048x1024_S1x256x128_0_1536_640,
    c5 0 2 17 18 19 1024 (by omega) rfl rfl rfl rfl inb_S8x2080x128_S1x256x128_5_17_0_s_1_4_1 inb_S8x2080x128_S1x256x128_5_18_0_s_1_4_1 inb_S8x2080x128_S1x256x128_5_19_0_s_1_4_1 inb_S1x2048x1024_S1x256x128_0_1024_640,
    c5 0 1 16 17 18 512 (by omega) rfl rfl rfl rfl inb_S8x2080x128_S1x256x128_5_16_0_s_1_4_1 inb_S8x2080x128_S1x256x128_5_17_0_s_1_4_1 inb_S8x2080x128_S1x256x128_5_18_0_s_1_4_1 inb_S1x2048x1024_S1x256x128_0_512_640,
    c5 0 0 15 16 17 0 (by omega) rfl rfl rfl rfl inb_S8x2080x128_S1x256x128_5_15_0_s_1_4_1 inb_S8x2080x128_S1x256x128_5_16_0_s_1_4_1 inb_S8x2080x128_S1x256x128_5_17_0_s_1_4_1 inb_S1x2048x1024_S1x256x128_0_0_640,
    c4 0 3 18 19 20 1536 (by omega) rfl rfl rfl rfl inb_S8x2080x128_S1x256x128_4_18_0_s_1_4_1 inb_S8x2080x128_S1x256x128_4_19_0_s_1_4_1 inb_S8x2080x128_S1x256x128_4_20_0_s_1_4_1 inb_S1x2048x1024_S1x256x128_0_1536_512,
    c4 0 2 17 18 19 1024 (by omega) rfl rfl rfl rfl inb_S8x2080x128_S1x256x128_4_17_0_s_1_4_1 inb_S8x2080x128_S1x256x128_4_18_0_s_1_4_1 inb_S8x2080x128_S1x256x128_4_19_0_s_1_4_1 inb_S1x2048x1024_S1x256x128_0_1024_512,
    c4 0 1 16 17 18 512 (by omega) rfl rfl rfl rfl inb_S8x2080x128_S1x256x128_4_16_0_s_1_4_1 inb_S8x2080x128_S1x256x128_4_17_0_s_1_4_1 inb_S8x2080x128_S1x256x128_4_18_0_s_1_4_1 inb_S1x2048x1024_S1x256x128_0_512_512,
    c4 0 0 15 16 17 0 (by omega) rfl rfl rfl rfl inb_S8x2080x128_S1x256x128_4_15_0_s_1_4_1 inb_S8x2080x128_S1x256x128_4_16_0_s_1_4_1 inb_S8x2080x128_S1x256x128_4_17_0_s_1_4_1 inb_S1x2048x1024_S1x256x128_0_0_512,
    c3 0 3 18 19 20 1536 (by omega) rfl rfl rfl rfl inb_S8x2080x128_S1x256x128_3_18_0_s_1_4_1 inb_S8x2080x128_S1x256x128_3_19_0_s_1_4_1 inb_S8x2080x128_S1x256x128_3_20_0_s_1_4_1 inb_S1x2048x1024_S1x256x128_0_1536_384,
    c3 0 2 17 18 19 1024 (by omega) rfl rfl rfl rfl inb_S8x2080x128_S1x256x128_3_17_0_s_1_4_1 inb_S8x2080x128_S1x256x128_3_18_0_s_1_4_1 inb_S8x2080x128_S1x256x128_3_19_0_s_1_4_1 inb_S1x2048x1024_S1x256x128_0_1024_384,
    c3 0 1 16 17 18 512 (by omega) rfl rfl rfl rfl inb_S8x2080x128_S1x256x128_3_16_0_s_1_4_1 inb_S8x2080x128_S1x256x128_3_17_0_s_1_4_1 inb_S8x2080x128_S1x256x128_3_18_0_s_1_4_1 inb_S1x2048x1024_S1x256x128_0_512_384,
    c3 0 0 15 16 17 0 (by omega) rfl rfl rfl rfl inb_S8x2080x128_S1x256x128_3_15_0_s_1_4_1 inb_S8x2080x128_S1x256x128_3_16_0_s_1_4_1 inb_S8x2080x128_S1x256x128_3_17_0_s_1_4_1 inb_S1x2048x1024_S1x256x128_0_0_384,
    c2 0 3 18 19 20 1536 (by omega) rfl rfl rfl rfl inb_S8x2080x128_S1x256x128_2_18_0_s_1_4_1 inb_S8x2080x128_S1x256x128_2_19_0_s_1_4_1 inb_S8x2080x128_S1x256x128_2_20_0_s_1_4_1 inb_S1x2048x1024_S1x256x128_0_1536_256,
    c2 0 2 17 18 19 1024 (by omega) rfl rfl rfl rfl inb_S8x2080x128_S1x256x128_2_17_0_s_1_4_1 inb_S8x2080x128_S1x256x128_2_18_0_s_1_4_1 inb_S8x2080x128_S1x256x128_2_19_0_s_1_4_1 inb_S1x2048x1024_S1x256x128_0_1024_256,
    c2 0 1 16 17 18 512 (by omega) rfl rfl rfl rfl inb_S8x2080x128_S1x256x128_2_16_0_s_1_4_1 inb_S8x2080x128_S1x256x128_2_17_0_s_1_4_1 inb_S8x2080x128_S1x256x128_2_18_0_s_1_4_1 inb_S1x2048x1024_S1x256x128_0_512_256,
    c2 0 0 15 16 17 0 (by omega) rfl rfl rfl rfl inb_S8x2080x128_S1x256x128_2_15_0_s_1_4_1 inb_S8x2080x128_S1x256x128_2_16_0_s_1_4_1 inb_S8x2080x128_S1x256x128_2_17_0_s_1_4_1 inb_S1x2048x1024_S1x256x128_0_0_256,
    c1 0 3 18 19 20 1536 (by omega) rfl rfl rfl rfl inb_S8x2080x128_S1x256x128_1_18_0_s_1_4_1 inb_S8x2080x128_S1x256x128_1_19_0_s_1_4_1 inb_S8x2080x128_S1x256x128_1_20_0_s_1_4_1 inb_S1x2048x1024_S1x256x128_0_1536_128,
    c1 0 2 17 18 19 1024 (by omega) rfl rfl rfl rfl inb_S8x2080x128_S1x256x128_1_17_0_s_1_4_1 inb_S8x2080x128_S1x256x128_1_18_0_s_1_4_1 inb_S8x2080x128_S1x256x128_1_19_0_s_1_4_1 inb_S1x2048x1024_S1x256x128_0_1024_128,
    c1 0 1 16 17 18 512 (by omega) rfl rfl rfl rfl inb_S8x2080x128_S1x256x128_1_16_0_s_1_4_1 inb_S8x2080x128_S1x256x128_1_17_0_s_1_4_1 inb_S8x2080x128_S1x256x128_1_18_0_s_1_4_1 inb_S1x2048x1024_S1x256x128_0_512_128,
    c1 0 0 15 16 17 0 (by omega) rfl rfl rfl rfl inb_S8x2080x128_S1x256x128_1_15_0_s_1_4_1 inb_S8x2080x128_S1x256x128_1_16_0_s_1_4_1 inb_S8x2080x128_S1x256x128_1_17_0_s_1_4_1 inb_S1x2048x1024_S1x256x128_0_0_128,
    c0 0 3 18 19 20 1536 (by omega) rfl rfl rfl rfl inb_S8x2080x128_S1x256x128_0_18_0_s_1_4_1 inb_S8x2080x128_S1x256x128_0_19_0_s_1_4_1 inb_S8x2080x128_S1x256x128_0_20_0_s_1_4_1 inb_S1x2048x1024_S1x256x128_0_1536_0,
    c0 0 2 17 18 19 1024 (by omega) rfl rfl rfl rfl inb_S8x2080x128_S1x256x128_0_17_0_s_1_4_1 inb_S8x2080x128_S1x256x128_0_18_0_s_1_4_1 inb_S8x2080x128_S1x256x128_0_19_0_s_1_4_1 inb_S1x2048x1024_S1x256x128_0_1024_0,
    c0 0 1 16 17 18 512 (by omega) rfl rfl rfl rfl inb_S8x2080x128_S1x256x128_0_16_0_s_1_4_1 inb_S8x2080x128_S1x256x128_0_17_0_s_1_4_1 inb_S8x2080x128_S1x256x128_0_18_0_s_1_4_1 inb_S1x2048x1024_S1x256x128_0_512_0,
    c0 0 0 15 16 17 0 (by omega) rfl rfl rfl rfl inb_S8x2080x128_S1x256x128_0_15_0_s_1_4_1 inb_S8x2080x128_S1x256x128_0_16_0_s_1_4_1 inb_S8x2080x128_S1x256x128_0_17_0_s_1_4_1 inb_S1x2048x1024_S1x256x128_0_0_0, fun _ h => absurd h List.not_mem_nil⟩

/-! ## The whole result -/

/-- Column `l` of the projection of sequence `b`, with a row of zeros before the first token and after the last. -/
def column (h : FVec Ideal S12x2048x2048 .f32) (w : FVec Ideal S2048x16384 .f32) (b : Fin 12) (l : Fin 6144) (s : ℕ) : EReal :=
  if e : 1 ≤ s ∧ s < 2049 then Groups.dot (fun u => h (ix3 b ⟨s - 1, by omega⟩ u)) (fun u => w (ix2 u ⟨6144 + l.val, by omega⟩)) else 0

/-- The result: row `r` of the order by remainder modulo four, column `l`. -/
def conv (h : FVec Ideal S12x2048x2048 .f32) (w : FVec Ideal S2048x16384 .f32) (k : FVec Ideal S3x6144 .f32) (g : FVec Ideal S6144 .f32) (b : Fin 12) (r : Fin 2048) (l : Fin 6144) : EReal :=
  taps (column h w b l) (fun i => k (ix2 i l)) (g (ix1 l)) (4 * (r.val % 512) + r.val / 512)

section Run
variable (m : (ℓ : Loc nD τ sig) → Buf (Elt Ideal) ℓ) (c : Dev nD)

theorem v0_apply (b : Fin 12) (s u : Fin 2048) : V m c main_v0 (ix3 b s u) = m ((c : Thread nD τ).loc main_arg0) (ix3 b s u) := by
  entry_read
  pointwise
theorem v1_apply (u : Fin 2048) (k : Fin 16384) : V m c main_v1 (ix2 u k) = m ((c : Thread nD τ).loc main_arg1) (ix2 u k) := by
  entry_read
  pointwise
theorem v2_apply (l : Fin 6144) : V m c main_v2 (ix2 0 l) = m ((c : Thread nD τ).loc main_arg3) (ix1 l) := by
  entry_read
  pointwise
theorem arg2_apply (i : Fin 3) (l : Fin 6144) : V m c main_arg2 (ix2 i l) = m ((c : Thread nD τ).loc main_arg2) (ix2 i l) := by
  entry_read
  rfl

theorem idx0 : ∀ t : Fin cfg0.N, win0_0.index t = ![t.val / 6, 0, 0] := (by decide +kernel : ∀ t : Fin grid0.N, win0_0.index t = ![t.val / 6, 0, 0])
theorem idx1 : ∀ t : Fin cfg0.N, win0_1.index t = ![0, 6 + t.val % 6] := (by decide +kernel : ∀ t : Fin grid0.N, win0_1.index t = ![0, 6 + t.val % 6])
theorem idx2 : ∀ t : Fin cfg0.N, win0_2.index t = ![0, t.val % 6] := (by decide +kernel : ∀ t : Fin grid0.N, win0_2.index t = ![0, t.val % 6])
theorem idx3 : ∀ t : Fin cfg0.N, win0_3.index t = ![0, t.val % 6] := (by decide +kernel : ∀ t : Fin grid0.N, win0_3.index t = ![0, t.val % 6])
theorem idx4 : ∀ t : Fin cfg0.N, win0_4.index t = ![t.val / 6, 0, t.val % 6] := (by decide +kernel : ∀ t : Fin grid0.N, win0_4.index t = ![t.val / 6, 0, t.val % 6])

variable (t : Fin cfg0.N)

theorem lt72 : t.val < 72 := t.isLt

/-- The sequence of block `t`, and the `l`-th of its columns. -/
abbrev seq : Fin 12 := ⟨t.val / 6, by have := lt72 t; omega⟩
abbrev col (l : Fin 1024) : Fin 6144 := ⟨t.val % 6 * 1024 + l.val, by omega⟩

theorem iblk0_apply (s u : Fin 2048) : iblk m c 0 t (ix3 0 s u) = V m c main_v0 (ix3 (seq t) s u) := by
  blk_point [iblk, V, idx0 t]
theorem iblk1_apply (u : Fin 2048) (l : Fin 1024) : iblk m c 1 t (ix2 u l) = V m c main_v1 (ix2 u ⟨(6 + t.val % 6) * 1024 + l.val, by omega⟩) := by
  blk_point [iblk, V, idx1 t]
theorem iblk2_apply (i : Fin 3) (l : Fin 1024) : iblk m c 2 t (ix2 i l) = V m c main_arg2 (ix2 i (col t l)) := by
  blk_point [iblk, V, idx2 t]
theorem iblk3_apply (l : Fin 1024) : iblk m c 3 t (ix2 0 l) = V m c main_v2 (ix2 0 (col t l)) := by
  blk_point [iblk, V, idx3 t]

theorem column_eq (l : Fin 1024) : (fun s => padded (iblk m c 0 t) (iblk m c 1 t) (15 + s) l.val)
    = column (m ((c : Thread nD τ).loc main_arg0)) (m ((c : Thread nD τ).loc main_arg1)) (seq t) (col t l) := by
  funext s
  have hl : l.val < 1024 := l.isLt
  unfold padded column
  by_cases hs : 1 ≤ s ∧ s < 2049
  · rw [dif_pos hs, dif_pos ⟨⟨by omega, by omega⟩, hl⟩]
    unfold proj
    refine congrArg₂ Groups.dot (funext fun u => ?_) (funext fun u => ?_)
    · refine (iblk0_apply m c t _ u).trans ((v0_apply m c _ _ u).trans (congrArg (fun j => m ((c : Thread nD τ).loc main_arg0) (ix3 (seq t) j u)) (Fin.ext ?_)))
      show 15 + s - 16 = s - 1
      omega
    · refine (iblk1_apply m c t u _).trans ((v1_apply m c u _).trans (congrArg (fun j => m ((c : Thread nD τ).loc main_arg1) (ix2 u j)) (Fin.ext ?_)))
      show (6 + t.val % 6) * 1024 + l.val = 6144 + (t.val % 6 * 1024 + l.val)
      omega
  · rw [dif_neg hs, dif_neg (by omega)]

theorem flushed_apply (z : Fin 1) (r : Fin 2048) (l : Fin 1024) : (dats m 0 c).flushed 4 t (ix3 z r l)
    = conv (m ((c : Thread nD τ).loc main_arg0)) (m ((c : Thread nD τ).loc main_arg1)) (m ((c : Thread nD τ).loc main_arg2)) (m ((c : Thread nD τ).loc main_arg3)) (seq t) r (col t l) := by
  rw [Value.flushed4_A]
  refine (outA4 c _ _ _ _ _ _ _ _ _ _ _ _ _ _ _ _ _ _).trans ?_
  show taps (fun s => padded (iblk m c 0 t) (iblk m c 1 t) (15 + s) l.val) (fun k => iblk m c 2 t (ix2 k l)) (iblk m c 3 t (ix2 0 l)) (4 * (r.val % 512) + r.val / 512) = _
  rw [column_eq m c t l, show (fun k => iblk m c 2 t (ix2 k l)) = fun k => m ((c : Thread nD τ).loc main_arg2) (ix2 k (col t l)) from
    funext fun k => (iblk2_apply m c t k l).trans (arg2_apply m c k _)]
  exact congrArg (fun x => taps _ _ x _) ((iblk3_apply m c t l).trans (v2_apply m c _))

theorem final_eq : (dats m 0 c).arrAt 4 cfg0.N = fun z =>
    conv (m ((c : Thread nD τ).loc main_arg0)) (m ((c : Thread nD τ).loc main_arg1)) (m ((c : Thread nD τ).loc main_arg2)) (m ((c : Thread nD τ).loc main_arg3)) (z 0) (z 1) (z 2) := by
  refine (dats m 0 c).arrAt_eq_of_covers 4 _ (by decide +kernel) fun t hf y => ?_
  obtain ⟨z, r, l, rfl⟩ : ∃ (z : Fin 1) (r : Fin 2048) (l : Fin 1024), y = ix3 z r l := ⟨y 0, y 1, y 2, funext fun a => by fin_cases a <;> rfl⟩
  refine (flushed_apply m c t z r l).trans ?_
  have e : ∀ a, win0_4.index t a = (![t.val / 6, 0, t.val % 6] : Fin 3 → ℕ) a := fun a => congrFun (idx4 t) a
  have e0 : (((cfg0.win 4).blk t).view.emb (ix3 z r l) 0) = seq t := Fin.ext (by
    show win0_4.index t (0 : Fin 3) * 1 + 1 * z.val = t.val / 6
    rw [e]; show t.val / 6 * 1 + _ = _; omega)
  have e1 : (((cfg0.win 4).blk t).view.emb (ix3 z r l) 1) = r := Fin.ext (by
    show win0_4.index t (1 : Fin 3) * 2048 + 1 * r.val = r.val
    rw [e]; show 0 * 2048 + _ = _; omega)
  have e2 : (((cfg0.win 4).blk t).view.emb (ix3 z r l) 2) = col t l := Fin.ext (by
    show win0_4.index t (2 : Fin 3) * 1024 + 1 * l.val = t.val % 6 * 1024 + l.val
    rw [e]; show t.val % 6 * 1024 + _ = _; omega)
  rw [e0, e1, e2]
end Run

section Reference
open Cert.Reference11Ideal.Read

theorem reference_project (h : FVec Ideal S12x2048x2048 .f32) (w : FVec Ideal S2048x16384 .f32) (b : Fin 12) (s : Fin 2048) (l : Fin 6144) :
    val_main_v1 (F := Ideal) h w (ix3 b s l) = Groups.dot (fun u => h (ix3 b s u)) (fun u => w (ix2 u ⟨6144 + l.val, by omega⟩)) := by
  pointwise [val_main_v1, val_main_v0]
  rfl

theorem no_integer : (FloatOps.sitofp (F := Ideal) .f32 0#32 : EReal) = 0 := by
  show ((((0#32 : BitVec 32).toInt : ℝ)) : EReal) = 0
  simp

theorem reference_column (h : FVec Ideal S12x2048x2048 .f32) (w : FVec Ideal S2048x16384 .f32) (b : Fin 12) (s : Fin 2050) (l : Fin 6144) :
    val_main_v2 (F := Ideal) h w (ix3 b s l) = column h w b l s.val := by
  have hh := fun s => reference_project h w b s l
  unfold val_main_v2
  unfold column
  simp only [← hh]
  generalize val_main_v1 (F := Ideal) h w = y
  pointwise [val_main_call0_v0, val_main_c]
  by_cases e : 1 ≤ s.val ∧ s.val < 2049
  · rw [dif_pos e, dif_pos ⟨e.1, by omega⟩]
  · rw [dif_neg e, dif_neg (by omega)]
    exact no_integer

theorem reference_apply (h : FVec Ideal S12x2048x2048 .f32) (w : FVec Ideal S2048x16384 .f32) (k : FVec Ideal S3x6144 .f32) (g : FVec Ideal S6144 .f32) (b : Fin 12) (r : Fin 2048) (l : Fin 6144) :
    val_main_v29 (F := Ideal) h w k g (ix3 b r l) = conv h w k g b r l := by
  have hh := fun s => reference_column h w b s l
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3
  generalize val_main_v2 (F := Ideal) h w = y at hh ⊢
  pointwise
  rw [hh, hh, hh]
  unfold conv taps
  rw [show 4 * (r.val % 512) + r.val / 512 = r.val % 512 * 4 + r.val / 512 by omega]
  show column h w b l _ * _ + column h w b l (1 + (r.val % 512 * 4 + r.val / 512)) * _ + column h w b l (2 + (r.val % 512 * 4 + r.val / 512)) * _ + _ = _
  rw [Nat.add_comm 1 (r.val % 512 * 4 + r.val / 512), Nat.add_comm 2 (r.val % 512 * 4 + r.val / 512)]
end Reference

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem value : Cert.algebraic_Kernel11Ideal_Reference11Ideal := by
  intro m g m' g' _ hagree
  refine ⟨fun c z => conv (m ((c.tc : Thread nD τ).loc main_arg0)) (m ((c.tc : Thread nD τ).loc main_arg1)) (m ((c.tc : Thread nD τ).loc main_arg2))
    (m ((c.tc : Thread nD τ).loc main_arg3)) (z 0) (z 1) (z 2), ?_, ?_⟩
  · exact (θ_run Cert.Kernel11Ideal.defs _ _).mono (fun _ h c => ⟨(h c).1.trans (final_eq m c), (h c).2⟩)
      (Cert.Kernel11Ideal.Value.run_blocks (F := Ideal) m g)
  · refine (θ_run Cert.Reference11Ideal.defs _ _).mono (fun _ h c => ⟨(h c).1.trans ?_, (h c).2⟩)
      (Cert.Reference11Ideal.Value.run (F := Ideal) m' g')
    refine (Cert.Reference11Ideal.Read.val_main_v29_eq _ _ _ _).trans ?_
    rw [(hagree c).1, (hagree c).2.1, (hagree c).2.2.1, (hagree c).2.2.2]
    funext z
    obtain ⟨b, r, l, rfl⟩ : ∃ (b : Fin 12) (r : Fin 2048) (l : Fin 6144), z = ix3 b r l := ⟨z 0, z 1, z 2, funext fun a => by fin_cases a <;> rfl⟩
    exact reference_apply _ _ _ _ b r l

end Cert.Conv

end
-- ==== Proof.lean ====
module

public import proofs.«01_k».proof.Defs
public import proofs.«01_k».proof.Proof.Attention
public import proofs.«01_k».proof.Proof.Mlp
public import proofs.«01_k».proof.Proof.Ple
public import proofs.«01_k».proof.Proof.Merge
public import proofs.«01_k».proof.Proof.Residual
public import proofs.«01_k».proof.Proof.Gates
public import proofs.«01_k».proof.Proof.Rows
public import proofs.«01_k».proof.Proof.First
public import proofs.«01_k».proof.Proof.Keys
public import proofs.«01_k».proof.Proof.Queries
public import proofs.«01_k».proof.Proof.Conv

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Att.finiteFacts,
    fun m ρ _ => Cert.Kernel.Gen.frame m ρ, Cert.Att.frame_ideal, fun m ρ _ => Cert.Att.frame_ideal m ρ trivial,
    Cert.Att.frame_reference, fun m ρ _ => Cert.Att.frame_reference m ρ trivial,
    Cert.Mlp.frame_kernel, Cert.Mlp.frame_ideal, Cert.Mlp.frame_reference,
    Cert.Ple.frame_kernel, Cert.Ple.frame_ideal, Cert.Ple.frame_reference,
    Cert.Merge.frame_kernel, Cert.Merge.frame_ideal, Cert.Merge.frame_reference,
    Cert.Residual.frame_kernel, Cert.Residual.frame_ideal, Cert.Residual.frame_reference,
    Cert.Gates.frame_kernel, Cert.Gates.frame_ideal, Cert.Gates.frame_reference,
    Cert.Rows.frame_kernel, Cert.Rows.frame_ideal, Cert.Rows.frame_reference,
    Cert.First.frame_kernel, Cert.First.frame_ideal, Cert.First.frame_reference,
    Cert.Keys.frame_kernel, Cert.Keys.frame_ideal, Cert.Keys.frame_reference,
    Cert.Queries.frame_kernel, Cert.Queries.frame_ideal, Cert.Queries.frame_reference,
    Cert.Conv.frame_kernel, Cert.Conv.frame_ideal, Cert.Conv.frame_reference,
    Cert.Att.named, Cert.Att.value, trivial, Cert.Mlp.value, trivial, Cert.Ple.value,
    trivial, Cert.Merge.value, trivial, Cert.Residual.value, trivial, Cert.Gates.value, trivial, Cert.Rows.value,
    trivial, Cert.First.value, trivial, Cert.Keys.value, trivial, Cert.Queries.value, trivial, Cert.Conv.value⟩

end Cert.Proof

end
